-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_token [hPre_finite_token : Cert.Pre_finite_token.Facts] (m : (ℓ : Loc Cert.KernelIdeal.nD Cert.KernelIdeal.τ Cert.KernelIdeal.sig) → Buf (Elt Ideal) ℓ) : Prop :=
  ∀ c : Dev Cert.KernelIdeal.nD,
    (Cert.Pre_finite_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_token.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_token [hPre_finite_token : Cert.Pre_finite_token.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_token.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_token.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_token [hKernelIdeal : Cert.KernelIdeal.Facts] [hPre_finite_token : Cert.Pre_finite_token.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_token m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_token [hReferenceIdeal : Cert.ReferenceIdeal.Facts] [hPre_finite_token : Cert.Pre_finite_token.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_token m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_over_softcap" .f32 0x3B23D70A#32 ((1 / 400 : ℝ) : EReal)
  ∧ IdealRules.named_const.Statement Cert.KernelIdeal.κ "softcap_log2e" .f32 0x429044FE#32 ((50 * (Real.log 2)⁻¹ : ℝ) : EReal)

def algebraic_KernelIdeal_ReferenceIdeal_pre_finite_token [hKernelIdeal : Cert.KernelIdeal.Facts] [hReferenceIdeal : Cert.ReferenceIdeal.Facts] [hPre_finite_token : Cert.Pre_finite_token.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_token m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149_0) = v0 c
          ∧ r.2.mem ((c.tc : Thread Cert.ReferenceIdeal.nD Cert.ReferenceIdeal.τ).loc Cert.ReferenceIdeal.main_v149_1) = v1 c
          ∧ r.2.mem ((c.tc : Thread Cert.ReferenceIdeal.nD Cert.ReferenceIdeal.τ).loc Cert.ReferenceIdeal.main_v149_2) = v2 c
          ∧ r.2.mem ((c.tc : Thread Cert.ReferenceIdeal.nD Cert.ReferenceIdeal.τ).loc Cert.ReferenceIdeal.main_v149_3) = v3 c
          ∧ r.2.mem ((c.tc : Thread Cert.ReferenceIdeal.nD Cert.ReferenceIdeal.τ).loc Cert.ReferenceIdeal.main_v149_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_token : Cert.Pre_finite_token.Facts),
    quiescent_Kernel (hKernel := hKernel)
    ∧ quiescent_KernelIdeal (hKernelIdeal := hKernelIdeal)
    ∧ quiescent_KernelIdeal_pre_finite_token (hKernelIdeal := hKernelIdeal) (hPre_finite_token := hPre_finite_token)
    ∧ quiescent_ReferenceIdeal (hReferenceIdeal := hReferenceIdeal)
    ∧ quiescent_ReferenceIdeal_pre_finite_token (hReferenceIdeal := hReferenceIdeal) (hPre_finite_token := hPre_finite_token)
    ∧ preserves_Kernel_KernelIdeal
    ∧ algebraic_KernelIdeal_ReferenceIdeal_pre_finite_token (hKernelIdeal := hKernelIdeal) (hReferenceIdeal := hReferenceIdeal) (hPre_finite_token := hPre_finite_token)
-- ==== Pre_finite_token.lean ====
abbrev S4x1x64x64 : Shape := ⟨4, ![4, 1, 64, 64]⟩
abbrev S4x1x8x64 : Shape := ⟨4, ![4, 1, 8, 64]⟩
abbrev S4x131072x8x64 : Shape := ⟨4, ![4, 131072, 8, 64]⟩
abbrev S4x131072x8 : Shape := ⟨3, ![4, 131072, 8]⟩
abbrev S4 : Shape := ⟨1, ![4]⟩
abbrev S_ : Shape := ⟨0, ![]⟩

class Facts : Prop where
  bcast_S_S4x1x8x64 : S_.BroadcastsInDim S4x1x8x64 (![] : Fin 0 → Fin S4x1x8x64.rank)

variable [Facts]

def fn {F : FTy → Type} [FloatOps F] (main_arg0 : FVec F S4x1x64x64 .bf16) (main_arg1 : FVec F S4x1x8x64 .bf16) (main_arg2 : FVec F S4x1x8x64 .bf16) (main_arg3 : FVec F S4x131072x8x64 .fp8e4m3) (main_arg4 : FVec F S4x131072x8x64 .fp8e4m3) (main_arg5 : FVec F S4x131072x8 .f32) (main_arg6 : FVec F S4x131072x8 .f32) (main_arg7 : IVec S4 32) : IVec S4x1x8x64 1 × IVec S4x1x8x64 1 :=
  let main_v0 : FVec F S4x1x8x64 .bf16 := Host.absf main_arg1
  let main_cst : FVec F S_ .bf16 := constant S_ .bf16 0x7F7F#16
  let main_v1 : FVec F S4x1x8x64 .bf16 := broadcastInDim S4x1x8x64 ![] bcast_S_S4x1x8x64 main_cst
  let main_v2 : IVec S4x1x8x64 1 := cmpf .ole main_v0 main_v1
  let main_v3 : FVec F S4x1x8x64 .bf16 := Host.absf main_arg2
  let main_cst_0 : FVec F S_ .bf16 := constant S_ .bf16 0x7F7F#16
  let main_v4 : FVec F S4x1x8x64 .bf16 := broadcastInDim S4x1x8x64 ![] bcast_S_S4x1x8x64 main_cst_0
  let main_v5 : IVec S4x1x8x64 1 := cmpf .ole main_v3 main_v4
  (main_v2, main_v5)
-- ==== Kernel.lean ====
abbrev S4x1x64x64 : Shape := ⟨4, ![4, 1, 64, 64]⟩
abbrev S4x1x8x64 : Shape := ⟨4, ![4, 1, 8, 64]⟩
abbrev S4x131072x8x64 : Shape := ⟨4, ![4, 131072, 8, 64]⟩
abbrev S4x131072x8 : Shape := ⟨3, ![4, 131072, 8]⟩
abbrev S4 : Shape := ⟨1, ![4]⟩
abbrev S4x8x64x131072 : Shape := ⟨4, ![4, 8, 64, 131072]⟩
abbrev S4x512x131072 : Shape := ⟨3, ![4, 512, 131072]⟩
abbrev S4x8x131072 : Shape := ⟨3, ![4, 8, 131072]⟩
abbrev S4x1x8 : Shape := ⟨3, ![4, 1, 8]⟩
abbrev S4x512x1152 : Shape := ⟨3, ![4, 512, 1152]⟩
abbrev S4x8x1152 : Shape := ⟨3, ![4, 8, 1152]⟩
abbrev S4x64x1152 : Shape := ⟨3, ![4, 64, 1152]⟩
abbrev S_ : Shape := ⟨0, ![]⟩
abbrev S3 : Shape := ⟨1, ![3]⟩
abbrev S1 : Shape := ⟨1, ![1]⟩
abbrev S1x512x1152 : Shape := ⟨3, ![1, 512, 1152]⟩
abbrev S512x1152 : Shape := ⟨2, ![512, 1152]⟩
abbrev S1x8x1152 : Shape := ⟨3, ![1, 8, 1152]⟩
abbrev S8x1152 : Shape := ⟨2, ![8, 1152]⟩
abbrev S1x1x8x64 : Shape := ⟨4, ![1, 1, 8, 64]⟩
abbrev S8x64 : Shape := ⟨2, ![8, 64]⟩
abbrev S8 : Shape := ⟨1, ![8]⟩
abbrev S8x1 : Shape := ⟨2, ![8, 1]⟩
abbrev S8x256 : Shape := ⟨2, ![8, 256]⟩
abbrev S8x8 : Shape := ⟨2, ![8, 8]⟩
abbrev S1x8 : Shape := ⟨2, ![1, 8]⟩
abbrev S1x1x8 : Shape := ⟨3, ![1, 1, 8]⟩
abbrev S1x1x64x64 : Shape := ⟨4, ![1, 1, 64, 64]⟩
abbrev S64x64 : Shape := ⟨2, ![64, 64]⟩
abbrev S8x8x64 : Shape := ⟨3, ![8, 8, 64]⟩
abbrev S8x1x64 : Shape := ⟨3, ![8, 1, 64]⟩
abbrev S8x8x1 : Shape := ⟨3, ![8, 8, 1]⟩
abbrev S8x1x1 : Shape := ⟨3, ![8, 1, 1]⟩
abbrev S32x256 : Shape := ⟨2, ![32, 256]⟩
abbrev S1x1152 : Shape := ⟨2, ![1, 1152]⟩
abbrev S1x1x32x64 : Shape := ⟨4, ![1, 1, 32, 64]⟩
abbrev S32x64 : Shape := ⟨2, ![32, 64]⟩
abbrev S1x256x1152 : Shape := ⟨3, ![1, 256, 1152]⟩
abbrev S256x1152 : Shape := ⟨2, ![256, 1152]⟩
abbrev S32x1152 : Shape := ⟨2, ![32, 1152]⟩
abbrev S1x1x1152 : Shape := ⟨3, ![1, 1, 1152]⟩
abbrev S1x8x1 : Shape := ⟨3, ![1, 8, 1]⟩
abbrev S1x1 : Shape := ⟨2, ![1, 1]⟩
abbrev S1x32x1152 : Shape := ⟨3, ![1, 32, 1152]⟩
abbrev S1x64 : Shape := ⟨2, ![1, 64]⟩
abbrev S1x64x64 : Shape := ⟨3, ![1, 64, 64]⟩

abbrev nBuf : Space → Nat
  | .hbm => 19
  | .vmem => 13
  | .smem => 1
  | _ => 0

abbrev bufTy : (tb : Table) → Fin (tcTables nBuf tb) → BufTy
  | .hbm, ⟨0, _⟩ => ⟨S4x1x64x64, .bf16⟩
  | .hbm, ⟨1, _⟩ => ⟨S4x1x8x64, .bf16⟩
  | .hbm, ⟨2, _⟩ => ⟨S4x1x8x64, .bf16⟩
  | .hbm, ⟨3, _⟩ => ⟨S4x131072x8x64, .fp8e4m3⟩
  | .hbm, ⟨4, _⟩ => ⟨S4x131072x8x64, .fp8e4m3⟩
  | .hbm, ⟨5, _⟩ => ⟨S4x131072x8, .f32⟩
  | .hbm, ⟨6, _⟩ => ⟨S4x131072x8, .f32⟩
  | .hbm, ⟨7, _⟩ => ⟨S4, .i32⟩
  | .hbm, ⟨8, _⟩ => ⟨S4x8x64x131072, .fp8e4m3⟩
  | .hbm, ⟨9, _⟩ => ⟨S4x512x131072, .fp8e4m3⟩
  | .hbm, ⟨10, _⟩ => ⟨S4x8x64x131072, .fp8e4m3⟩
  | .hbm, ⟨11, _⟩ => ⟨S4x512x131072, .fp8e4m3⟩
  | .hbm, ⟨12, _⟩ => ⟨S4x8x131072, .f32⟩
  | .hbm, ⟨13, _⟩ => ⟨S4x8x131072, .f32⟩
  | .hbm, ⟨14, _⟩ => ⟨S4x1x64x64, .bf16⟩
  | .hbm, ⟨15, _⟩ => ⟨S4x1x8x64, .fp8e4m3⟩
  | .hbm, ⟨16, _⟩ => ⟨S4x1x8, .f32⟩
  | .hbm, ⟨17, _⟩ => ⟨S4x1x8x64, .fp8e4m3⟩
  | .hbm, ⟨18, _⟩ => ⟨S4x1x8, .f32⟩
  | .local _ .vmem, ⟨0, _⟩ => ⟨S4x1x64x64, .bf16⟩
  | .local _ .vmem, ⟨1, _⟩ => ⟨S4x1x8x64, .bf16⟩
  | .local _ .vmem, ⟨2, _⟩ => ⟨S4x1x8x64, .bf16⟩
  | .local _ .vmem, ⟨3, _⟩ => ⟨S4x512x1152, .fp8e4m3⟩
  | .local _ .vmem, ⟨4, _⟩ => ⟨S4x512x1152, .fp8e4m3⟩
  | .local _ .vmem, ⟨5, _⟩ => ⟨S4x8x1152, .f32⟩
  | .local _ .vmem, ⟨6, _⟩ => ⟨S4x8x1152, .f32⟩
  | .local _ .vmem, ⟨7, _⟩ => ⟨S4x64x1152, .bf16⟩
  | .local _ .vmem, ⟨8, _⟩ => ⟨S4x1x64x64, .bf16⟩
  | .local _ .vmem, ⟨9, _⟩ => ⟨S4x1x8x64, .fp8e4m3⟩
  | .local _ .vmem, ⟨10, _⟩ => ⟨S4x1x8, .f32⟩
  | .local _ .vmem, ⟨11, _⟩ => ⟨S4x1x8x64, .fp8e4m3⟩
  | .local _ .vmem, ⟨12, _⟩ => ⟨S4x1x8, .f32⟩
  | .local _ .smem, ⟨0, _⟩ => ⟨S4, .i32⟩
  | _, _ => ⟨S4x1x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch7 : Ref sig .tc := ⟨.smem, 0, rfl⟩

abbrev nD : Nat := 1
abbrev τ : Topo := Topo.v7x

variable {F : FTy → Type} [FloatOps F]

abbrev grid0 : Pipeline.Grid := .none

def k0_mult1 (v0 : BitVec 32) : BitVec 32 :=
  let c1023_i32 : BitVec 32 := 1023#32
  let v1 : BitVec 32 := Scalar.subi v0 c1023_i32
  let c0_i32 : BitVec 32 := 0#32
  let v2 : BitVec 32 := Scalar.maxsi v1 c0_i32
  let c_m128_i32 : BitVec 32 := 4294967168#32
  let v3 : BitVec 32 := Scalar.andi v2 c_m128_i32
  let c129920_i32 : BitVec 32 := 129920#32
  let v4 : BitVec 32 := Scalar.minsi v3 c129920_i32
  v4

def k0_mult2 (v6 : BitVec 32) : BitVec 32 :=
  let c1023_i32_0 : BitVec 32 := 1023#32
  let v7 : BitVec 32 := Scalar.subi v6 c1023_i32_0
  let c0_i32_1 : BitVec 32 := 0#32
  let v8 : BitVec 32 := Scalar.maxsi v7 c0_i32_1
  let c_m128_i32_2 : BitVec 32 := 4294967168#32
  let v9 : BitVec 32 := Scalar.andi v8 c_m128_i32_2
  let c129920_i32_3 : BitVec 32 := 129920#32
  let v10 : BitVec 32 := Scalar.minsi v9 c129920_i32_3
  v10

def k0_mult3 (v12 : BitVec 32) : BitVec 32 :=
  let c1023_i32_4 : BitVec 32 := 1023#32
  let v13 : BitVec 32 := Scalar.subi v12 c1023_i32_4
  let c0_i32_5 : BitVec 32 := 0#32
  let v14 : BitVec 32 := Scalar.maxsi v13 c0_i32_5
  let c_m128_i32_6 : BitVec 32 := 4294967168#32
  let v15 : BitVec 32 := Scalar.andi v14 c_m128_i32_6
  let c129920_i32_7 : BitVec 32 := 129920#32
  let v16 : BitVec 32 := Scalar.minsi v15 c129920_i32_7
  v16

def k0_mult4 (v18 : BitVec 32) : BitVec 32 :=
  let c1023_i32_8 : BitVec 32 := 1023#32
  let v19 : BitVec 32 := Scalar.subi v18 c1023_i32_8
  let c0_i32_9 : BitVec 32 := 0#32
  let v20 : BitVec 32 := Scalar.maxsi v19 c0_i32_9
  let c_m128_i32_10 : BitVec 32 := 4294967168#32
  let v21 : BitVec 32 := Scalar.andi v20 c_m128_i32_10
  let c129920_i32_11 : BitVec 32 := 129920#32
  let v22 : BitVec 32 := Scalar.minsi v21 c129920_i32_11
  v22

def k0_off1 (v0 : BitVec 32) : Fin 3 → Nat :=
  let c0_i32_13 : BitVec 32 := 0#32
  let c0_i32_18 : BitVec 32 := 0#32
  let c1023_i32 : BitVec 32 := 1023#32
  let v1 : BitVec 32 := Scalar.subi v0 c1023_i32
  let c0_i32 : BitVec 32 := 0#32
  let v2 : BitVec 32 := Scalar.maxsi v1 c0_i32
  let c_m128_i32 : BitVec 32 := 4294967168#32
  let v3 : BitVec 32 := Scalar.andi v2 c_m128_i32
  let c129920_i32 : BitVec 32 := 129920#32
  let v4 : BitVec 32 := Scalar.minsi v3 c129920_i32
  let v5 : BitVec 32 := v4
  ![0, 0, v5.toNat]
def k0_off2 (v0 : BitVec 32) : Fin 3 → Nat :=
  let c0_i32_19 : BitVec 32 := 0#32
  let c0_i32_24 : BitVec 32 := 0#32
  let c1023_i32 : BitVec 32 := 1023#32
  let v1 : BitVec 32 := Scalar.subi v0 c1023_i32
  let c0_i32 : BitVec 32 := 0#32
  let v2 : BitVec 32 := Scalar.maxsi v1 c0_i32
  let c_m128_i32 : BitVec 32 := 4294967168#32
  let v3 : BitVec 32 := Scalar.andi v2 c_m128_i32
  let c129920_i32 : BitVec 32 := 129920#32
  let v4 : BitVec 32 := Scalar.minsi v3 c129920_i32
  let v5 : BitVec 32 := v4
  ![0, 0, v5.toNat]

def k0_chk1 (v0 : BitVec 32) : Prop :=
  (128 ∣ (k0_mult1 v0).toNat) ∧
  (∀ a, (k0_off1 v0) a + S1x512x1152.size a ≤ S4x512x131072.size a) ∧
  (∀ (hinb : ∀ a, (k0_off1 v0) a + S1x512x1152.size a ≤ S4x512x131072.size a), (Rect.unit (s := S4x512x131072) (k0_off1 v0) S1x512x1152.size hinb).WholeWords (EltTy.packing .fp8e4m3)) ∧
  (∀ a, (k0_off2 v0) a + S1x8x1152.size a ≤ S4x8x131072.size a)
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S1x512x1152.size a ≤ S4x512x131072.size a := fun v0 k0_hw1 => k0_hw1.2.1
theorem k0_off1_wordsfp8e4m3 : ∀ (v0 : BitVec 32) (k0_hw1 : k0_chk1 v0), (Rect.unit (s := S4x512x131072) (k0_off1 v0) S1x512x1152.size (k0_off1_inb v0 k0_hw1)).WholeWords (EltTy.packing .fp8e4m3) := fun v0 k0_hw1 => k0_hw1.2.2.1 (k0_off1_inb v0 k0_hw1)
theorem k0_off2_inb : ∀ (v0 : BitVec 32) (k0_hw1 : k0_chk1 v0), ∀ a, (k0_off2 v0) a + S1x8x1152.size a ≤ S4x8x131072.size a := fun v0 k0_hw1 => k0_hw1.2.2.2

def k0_off3 (v6 : BitVec 32) : Fin 3 → Nat :=
  let c1_i32_31 : BitVec 32 := 1#32
  let c0_i32_36 : BitVec 32 := 0#32
  let c1023_i32_0 : BitVec 32 := 1023#32
  let v7 : BitVec 32 := Scalar.subi v6 c1023_i32_0
  let c0_i32_1 : BitVec 32 := 0#32
  let v8 : BitVec 32 := Scalar.maxsi v7 c0_i32_1
  let c_m128_i32_2 : BitVec 32 := 4294967168#32
  let v9 : BitVec 32 := Scalar.andi v8 c_m128_i32_2
  let c129920_i32_3 : BitVec 32 := 129920#32
  let v10 : BitVec 32 := Scalar.minsi v9 c129920_i32_3
  let v11 : BitVec 32 := v10
  ![1, 0, v11.toNat]
def k0_off4 (v6 : BitVec 32) : Fin 3 → Nat :=
  let c1_i32_37 : BitVec 32 := 1#32
  let c0_i32_42 : BitVec 32 := 0#32
  let c1023_i32_0 : BitVec 32 := 1023#32
  let v7 : BitVec 32 := Scalar.subi v6 c1023_i32_0
  let c0_i32_1 : BitVec 32 := 0#32
  let v8 : BitVec 32 := Scalar.maxsi v7 c0_i32_1
  let c_m128_i32_2 : BitVec 32 := 4294967168#32
  let v9 : BitVec 32 := Scalar.andi v8 c_m128_i32_2
  let c129920_i32_3 : BitVec 32 := 129920#32
  let v10 : BitVec 32 := Scalar.minsi v9 c129920_i32_3
  let v11 : BitVec 32 := v10
  ![1, 0, v11.toNat]

def k0_chk2 (v6 : BitVec 32) : Prop :=
  (128 ∣ (k0_mult2 v6).toNat) ∧
  (∀ a, (k0_off3 v6) a + S1x512x1152.size a ≤ S4x512x131072.size a) ∧
  (∀ (hinb : ∀ a, (k0_off3 v6) a + S1x512x1152.size a ≤ S4x512x131072.size a), (Rect.unit (s := S4x512x131072) (k0_off3 v6) S1x512x1152.size hinb).WholeWords (EltTy.packing .fp8e4m3)) ∧
  (∀ a, (k0_off4 v6) a + S1x8x1152.size a ≤ S4x8x131072.size a)
theorem k0_mult2_dvd : ∀ (v6 : BitVec 32) (k0_hw2 : k0_chk2 v6), 128 ∣ (k0_mult2 v6).toNat := fun v6 k0_hw2 => k0_hw2.1
theorem k0_off3_inb : ∀ (v6 : BitVec 32) (k0_hw2 : k0_chk2 v6), ∀ a, (k0_off3 v6) a + S1x512x1152.size a ≤ S4x512x131072.size a := fun v6 k0_hw2 => k0_hw2.2.1
theorem k0_off3_wordsfp8e4m3 : ∀ (v6 : BitVec 32) (k0_hw2 : k0_chk2 v6), (Rect.unit (s := S4x512x131072) (k0_off3 v6) S1x512x1152.size (k0_off3_inb v6 k0_hw2)).WholeWords (EltTy.packing .fp8e4m3) := fun v6 k0_hw2 => k0_hw2.2.2.1 (k0_off3_inb v6 k0_hw2)
theorem k0_off4_inb : ∀ (v6 : BitVec 32) (k0_hw2 : k0_chk2 v6), ∀ a, (k0_off4 v6) a + S1x8x1152.size a ≤ S4x8x131072.size a := fun v6 k0_hw2 => k0_hw2.2.2.2

def k0_off5 (v12 : BitVec 32) : Fin 3 → Nat :=
  let c2_i32_49 : BitVec 32 := 2#32
  let c0_i32_54 : BitVec 32 := 0#32
  let c1023_i32_4 : BitVec 32 := 1023#32
  let v13 : BitVec 32 := Scalar.subi v12 c1023_i32_4
  let c0_i32_5 : BitVec 32 := 0#32
  let v14 : BitVec 32 := Scalar.maxsi v13 c0_i32_5
  let c_m128_i32_6 : BitVec 32 := 4294967168#32
  let v15 : BitVec 32 := Scalar.andi v14 c_m128_i32_6
  let c129920_i32_7 : BitVec 32 := 129920#32
  let v16 : BitVec 32 := Scalar.minsi v15 c129920_i32_7
  let v17 : BitVec 32 := v16
  ![2, 0, v17.toNat]
def k0_off6 (v12 : BitVec 32) : Fin 3 → Nat :=
  let c2_i32_55 : BitVec 32 := 2#32
  let c0_i32_60 : BitVec 32 := 0#32
  let c1023_i32_4 : BitVec 32 := 1023#32
  let v13 : BitVec 32 := Scalar.subi v12 c1023_i32_4
  let c0_i32_5 : BitVec 32 := 0#32
  let v14 : BitVec 32 := Scalar.maxsi v13 c0_i32_5
  let c_m128_i32_6 : BitVec 32 := 4294967168#32
  let v15 : BitVec 32 := Scalar.andi v14 c_m128_i32_6
  let c129920_i32_7 : BitVec 32 := 129920#32
  let v16 : BitVec 32 := Scalar.minsi v15 c129920_i32_7
  let v17 : BitVec 32 := v16
  ![2, 0, v17.toNat]

def k0_chk3 (v12 : BitVec 32) : Prop :=
  (128 ∣ (k0_mult3 v12).toNat) ∧
  (∀ a, (k0_off5 v12) a + S1x512x1152.size a ≤ S4x512x131072.size a) ∧
  (∀ (hinb : ∀ a, (k0_off5 v12) a + S1x512x1152.size a ≤ S4x512x131072.size a), (Rect.unit (s := S4x512x131072) (k0_off5 v12) S1x512x1152.size hinb).WholeWords (EltTy.packing .fp8e4m3)) ∧
  (∀ a, (k0_off6 v12) a + S1x8x1152.size a ≤ S4x8x131072.size a)
theorem k0_mult3_dvd : ∀ (v12 : BitVec 32) (k0_hw3 : k0_chk3 v12), 128 ∣ (k0_mult3 v12).toNat := fun v12 k0_hw3 => k0_hw3.1
theorem k0_off5_inb : ∀ (v12 : BitVec 32) (k0_hw3 : k0_chk3 v12), ∀ a, (k0_off5 v12) a + S1x512x1152.size a ≤ S4x512x131072.size a := fun v12 k0_hw3 => k0_hw3.2.1
theorem k0_off5_wordsfp8e4m3 : ∀ (v12 : BitVec 32) (k0_hw3 : k0_chk3 v12), (Rect.unit (s := S4x512x131072) (k0_off5 v12) S1x512x1152.size (k0_off5_inb v12 k0_hw3)).WholeWords (EltTy.packing .fp8e4m3) := fun v12 k0_hw3 => k0_hw3.2.2.1 (k0_off5_inb v12 k0_hw3)
theorem k0_off6_inb : ∀ (v12 : BitVec 32) (k0_hw3 : k0_chk3 v12), ∀ a, (k0_off6 v12) a + S1x8x1152.size a ≤ S4x8x131072.size a := fun v12 k0_hw3 => k0_hw3.2.2.2

def k0_off7 (v18 : BitVec 32) : Fin 3 → Nat :=
  let c3_i32 : BitVec 32 := 3#32
  let c0_i32_71 : BitVec 32 := 0#32
  let c1023_i32_8 : BitVec 32 := 1023#32
  let v19 : BitVec 32 := Scalar.subi v18 c1023_i32_8
  let c0_i32_9 : BitVec 32 := 0#32
  let v20 : BitVec 32 := Scalar.maxsi v19 c0_i32_9
  let c_m128_i32_10 : BitVec 32 := 4294967168#32
  let v21 : BitVec 32 := Scalar.andi v20 c_m128_i32_10
  let c129920_i32_11 : BitVec 32 := 129920#32
  let v22 : BitVec 32 := Scalar.minsi v21 c129920_i32_11
  let v23 : BitVec 32 := v22
  ![3, 0, v23.toNat]
def k0_off8 (v18 : BitVec 32) : Fin 3 → Nat :=
  let c3_i32_72 : BitVec 32 := 3#32
  let c0_i32_77 : BitVec 32 := 0#32
  let c1023_i32_8 : BitVec 32 := 1023#32
  let v19 : BitVec 32 := Scalar.subi v18 c1023_i32_8
  let c0_i32_9 : BitVec 32 := 0#32
  let v20 : BitVec 32 := Scalar.maxsi v19 c0_i32_9
  let c_m128_i32_10 : BitVec 32 := 4294967168#32
  let v21 : BitVec 32 := Scalar.andi v20 c_m128_i32_10
  let c129920_i32_11 : BitVec 32 := 129920#32
  let v22 : BitVec 32 := Scalar.minsi v21 c129920_i32_11
  let v23 : BitVec 32 := v22
  ![3, 0, v23.toNat]

def k0_chk4 (v18 : BitVec 32) : Prop :=
  (128 ∣ (k0_mult4 v18).toNat) ∧
  (∀ a, (k0_off7 v18) a + S1x512x1152.size a ≤ S4x512x131072.size a) ∧
  (∀ (hinb : ∀ a, (k0_off7 v18) a + S1x512x1152.size a ≤ S4x512x131072.size a), (Rect.unit (s := S4x512x131072) (k0_off7 v18) S1x512x1152.size hinb).WholeWords (EltTy.packing .fp8e4m3)) ∧
  (∀ a, (k0_off8 v18) a + S1x8x1152.size a ≤ S4x8x131072.size a)
theorem k0_mult4_dvd : ∀ (v18 : BitVec 32) (k0_hw4 : k0_chk4 v18), 128 ∣ (k0_mult4 v18).toNat := fun v18 k0_hw4 => k0_hw4.1
theorem k0_off7_inb : ∀ (v18 : BitVec 32) (k0_hw4 : k0_chk4 v18), ∀ a, (k0_off7 v18) a + S1x512x1152.size a ≤ S4x512x131072.size a := fun v18 k0_hw4 => k0_hw4.2.1
theorem k0_off7_wordsfp8e4m3 : ∀ (v18 : BitVec 32) (k0_hw4 : k0_chk4 v18), (Rect.unit (s := S4x512x131072) (k0_off7 v18) S1x512x1152.size (k0_off7_inb v18 k0_hw4)).WholeWords (EltTy.packing .fp8e4m3) := fun v18 k0_hw4 => k0_hw4.2.2.1 (k0_off7_inb v18 k0_hw4)
theorem k0_off8_inb : ∀ (v18 : BitVec 32) (k0_hw4 : k0_chk4 v18), ∀ a, (k0_off8 v18) a + S1x8x1152.size a ≤ S4x8x131072.size a := fun v18 k0_hw4 => k0_hw4.2.2.2
-- ==== KernelIdeal.lean ====
variable {F : FTy → Type} [FloatOps F] [Named F]
def κ : String → Option EReal := fun
  | "scale_over_softcap" => some ((1 / 400 : ℝ) : EReal)
  | "softcap_log2e" => some ((50 * (Real.log 2)⁻¹ : ℝ) : EReal)
  | _ => none
-- ==== ReferenceIdeal.lean ====
abbrev S4x1x64x64 : Shape := ⟨4, ![4, 1, 64, 64]⟩
abbrev S4x1x8x64 : Shape := ⟨4, ![4, 1, 8, 64]⟩
abbrev S4x131072x8x64 : Shape := ⟨4, ![4, 131072, 8, 64]⟩
abbrev S4x131072x8 : Shape := ⟨3, ![4, 131072, 8]⟩
abbrev S4 : Shape := ⟨1, ![4]⟩
abbrev S_ : Shape := ⟨0, ![]⟩
abbrev S1x131072x8x64 : Shape := ⟨4, ![1, 131072, 8, 64]⟩
abbrev S1 : Shape := ⟨1, ![1]⟩
abbrev S1x1024x8x64 : Shape := ⟨4, ![1, 1024, 8, 64]⟩
abbrev S4x1024x8x64 : Shape := ⟨4, ![4, 1024, 8, 64]⟩
abbrev S4x8x1024x64 : Shape := ⟨4, ![4, 8, 1024, 64]⟩
abbrev S32x1024x64 : Shape := ⟨3, ![32, 1024, 64]⟩
abbrev S1x131072x8 : Shape := ⟨3, ![1, 131072, 8]⟩
abbrev S1x1024x8 : Shape := ⟨3, ![1, 1024, 8]⟩
abbrev S4x1024x8 : Shape := ⟨3, ![4, 1024, 8]⟩
abbrev S4x8x1024 : Shape := ⟨3, ![4, 8, 1024]⟩
abbrev S32x1x1024 : Shape := ⟨3, ![32, 1, 1024]⟩
abbrev S4x1 : Shape := ⟨2, ![4, 1]⟩
abbrev S1024 : Shape := ⟨1, ![1024]⟩
abbrev S1x1024 : Shape := ⟨2, ![1, 1024]⟩
abbrev S4x1024 : Shape := ⟨2, ![4, 1024]⟩
abbrev S4x1x1024 : Shape := ⟨3, ![4, 1, 1024]⟩
abbrev S32x8x64 : Shape := ⟨3, ![32, 8, 64]⟩
abbrev S32x64 : Shape := ⟨2, ![32, 64]⟩
abbrev S4x1x8 : Shape := ⟨3, ![4, 1, 8]⟩
abbrev S32 : Shape := ⟨1, ![32]⟩
abbrev S32x1 : Shape := ⟨2, ![32, 1]⟩
abbrev S32x256 : Shape := ⟨2, ![32, 256]⟩
abbrev S32x8x1024 : Shape := ⟨3, ![32, 8, 1024]⟩
abbrev S32x1x64 : Shape := ⟨3, ![32, 1, 64]⟩
abbrev S32x8x1 : Shape := ⟨3, ![32, 8, 1]⟩
abbrev S32x1x1 : Shape := ⟨3, ![32, 1, 1]⟩
abbrev S32x8x1025 : Shape := ⟨3, ![32, 8, 1025]⟩
abbrev S32x8 : Shape := ⟨2, ![32, 8]⟩

abbrev nBuf : Space → Nat
  | .hbm => 243
  | .vmem => 13
  | .smem => 0
  | _ => 0

abbrev hbmTy0_0 (i : Nat) : BufTy := match i % 128 with
  | 0 => ⟨S4x1x64x64, .bf16⟩
  | 1 => ⟨S4x1x8x64, .bf16⟩
  | 2 => ⟨S4x1x8x64, .bf16⟩
  | 3 => ⟨S4x131072x8x64, .fp8e4m3⟩
  | 4 => ⟨S4x131072x8x64, .fp8e4m3⟩
  | 5 => ⟨S4x131072x8, .f32⟩
  | 6 => ⟨S4x131072x8, .f32⟩
  | 7 => ⟨S4, .i32⟩
  | 8 => ⟨S_, .i32⟩
  | 9 => ⟨S4, .i32⟩
  | 10 => ⟨S4, .i32⟩
  | 11 => ⟨S_, .i32⟩
  | 12 => ⟨S_, .i32⟩
  | 13 => ⟨S_, .i32⟩
  | 14 => ⟨S4, .i32⟩
  | 15 => ⟨S4, .i32⟩
  | 16 => ⟨S_, .i32⟩
  | 17 => ⟨S4, .i32⟩
  | 18 => ⟨S4, .i32⟩
  | 19 => ⟨S1x131072x8x64, .fp8e4m3⟩
  | 20 => ⟨S1, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S1x1024x8x64, .fp8e4m3⟩
  | 31 => ⟨S1x131072x8x64, .fp8e4m3⟩
  | 32 => ⟨S1, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S1x1024x8x64, .fp8e4m3⟩
  | 43 => ⟨S1x131072x8x64, .fp8e4m3⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S1x1024x8x64, .fp8e4m3⟩
  | 55 => ⟨S1x131072x8x64, .fp8e4m3⟩
  | 56 => ⟨S1, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x1024x8x64, .fp8e4m3⟩
  | 67 => ⟨S4x1024x8x64, .fp8e4m3⟩
  | 68 => ⟨S4x8x1024x64, .fp8e4m3⟩
  | 69 => ⟨S32x1024x64, .fp8e4m3⟩
  | 70 => ⟨S1x131072x8x64, .fp8e4m3⟩
  | 71 => ⟨S1, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S1x1024x8x64, .fp8e4m3⟩
  | 82 => ⟨S1x131072x8x64, .fp8e4m3⟩
  | 83 => ⟨S1, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S1x1024x8x64, .fp8e4m3⟩
  | 94 => ⟨S1x131072x8x64, .fp8e4m3⟩
  | 95 => ⟨S1, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S1x1024x8x64, .fp8e4m3⟩
  | 106 => ⟨S1x131072x8x64, .fp8e4m3⟩
  | 107 => ⟨S1, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S1x1024x8x64, .fp8e4m3⟩
  | 118 => ⟨S4x1024x8x64, .fp8e4m3⟩
  | 119 => ⟨S4x8x1024x64, .fp8e4m3⟩
  | 120 => ⟨S32x1024x64, .fp8e4m3⟩
  | 121 => ⟨S1x131072x8, .f32⟩
  | 122 => ⟨S1, .i32⟩
  | 123 => ⟨S_, .i32⟩
  | 124 => ⟨S_, .i32⟩
  | 125 => ⟨S_, .i1⟩
  | 126 => ⟨S_, .i32⟩
  | 127 => ⟨S_, .i32⟩
  | _ => ⟨S4x1x64x64, .bf16⟩

abbrev hbmTy0_1 (i : Nat) : BufTy := match i % 128 with
  | 0 => ⟨S_, .i32⟩
  | 1 => ⟨S_, .i32⟩
  | 2 => ⟨S_, .i32⟩
  | 3 => ⟨S1x1024x8, .f32⟩
  | 4 => ⟨S1x131072x8, .f32⟩
  | 5 => ⟨S1, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S1x1024x8, .f32⟩
  | 15 => ⟨S1x131072x8, .f32⟩
  | 16 => ⟨S1, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S1x1024x8, .f32⟩
  | 26 => ⟨S1x131072x8, .f32⟩
  | 27 => ⟨S1, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S1x1024x8, .f32⟩
  | 37 => ⟨S4x1024x8, .f32⟩
  | 38 => ⟨S4x8x1024, .f32⟩
  | 39 => ⟨S32x1x1024, .f32⟩
  | 40 => ⟨S1x131072x8, .f32⟩
  | 41 => ⟨S1, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x1024x8, .f32⟩
  | 51 => ⟨S1x131072x8, .f32⟩
  | 52 => ⟨S1, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x1024x8, .f32⟩
  | 62 => ⟨S1x131072x8, .f32⟩
  | 63 => ⟨S1, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x1024x8, .f32⟩
  | 73 => ⟨S1x131072x8, .f32⟩
  | 74 => ⟨S1, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x1024x8, .f32⟩
  | 84 => ⟨S4x1024x8, .f32⟩
  | 85 => ⟨S4x8x1024, .f32⟩
  | 86 => ⟨S32x1x1024, .f32⟩
  | 87 => ⟨S4x1, .i32⟩
  | 88 => ⟨S1024, .i32⟩
  | 89 => ⟨S1x1024, .i32⟩
  | 90 => ⟨S4x1024, .i32⟩
  | 91 => ⟨S4x1024, .i32⟩
  | 92 => ⟨S4x1024, .i32⟩
  | 93 => ⟨S4x1, .i32⟩
  | 94 => ⟨S4x1024, .i32⟩
  | 95 => ⟨S4x1024, .i1⟩
  | 96 => ⟨S4x1, .i32⟩
  | 97 => ⟨S_, .i32⟩
  | 98 => ⟨S4x1, .i32⟩
  | 99 => ⟨S4x1, .i32⟩
  | 100 => ⟨S4x1024, .i32⟩
  | 101 => ⟨S4x1024, .i1⟩
  | 102 => ⟨S4x1024, .i1⟩
  | 103 => ⟨S4x1x1024, .i1⟩
  | 104 => ⟨S4x8x1024, .i1⟩
  | 105 => ⟨S32x1x1024, .i1⟩
  | 106 => ⟨S32x1x1024, .i32⟩
  | 107 => ⟨S32x8x64, .bf16⟩
  | 108 => ⟨S32x64, .bf16⟩
  | 109 => ⟨S32x64, .bf16⟩
  | 110 => ⟨S4x1x64x64, .bf16⟩
  | 111 => ⟨S4x1x8x64, .fp8e4m3⟩
  | 112 => ⟨S4x1x8, .f32⟩
  | 113 => ⟨S4x1x8x64, .fp8e4m3⟩
  | 114 => ⟨S4x1x8, .f32⟩
  | _ => ⟨S4x1x64x64, .bf16⟩

abbrev hbmTy (i : Nat) : BufTy := match i / 128 with
  | 0 => hbmTy0_0 i
  | 1 => hbmTy0_1 i
  | _ => ⟨S4x1x64x64, .bf16⟩

abbrev bufTy : (tb : Table) → Fin (tcTables nBuf tb) → BufTy
  | .hbm, ⟨i, _⟩ => hbmTy i
  | .local _ .vmem, ⟨0, _⟩ => ⟨S32x8x64, .bf16⟩
  | .local _ .vmem, ⟨1, _⟩ => ⟨S32x64, .bf16⟩
  | .local _ .vmem, ⟨2, _⟩ => ⟨S32x64, .bf16⟩
  | .local _ .vmem, ⟨3, _⟩ => ⟨S32x1024x64, .fp8e4m3⟩
  | .local _ .vmem, ⟨4, _⟩ => ⟨S32x1024x64, .fp8e4m3⟩
  | .local _ .vmem, ⟨5, _⟩ => ⟨S32x1x1024, .f32⟩
  | .local _ .vmem, ⟨6, _⟩ => ⟨S32x1x1024, .f32⟩
  | .local _ .vmem, ⟨7, _⟩ => ⟨S32x1x1024, .i32⟩
  | .local _ .vmem, ⟨8, _⟩ => ⟨S4x1x64x64, .bf16⟩
  | .local _ .vmem, ⟨9, _⟩ => ⟨S4x1x8x64, .fp8e4m3⟩
  | .local _ .vmem, ⟨10, _⟩ => ⟨S4x1x8, .f32⟩
  | .local _ .vmem, ⟨11, _⟩ => ⟨S4x1x8x64, .fp8e4m3⟩
  | .local _ .vmem, ⟨12, _⟩ => ⟨S4x1x8, .f32⟩
  | _, _ => ⟨S4x1x64x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_c_4 : Ref sig .tc := ⟨.hbm, 27, rfl⟩
abbrev main_c_5 : Ref sig .tc := ⟨.hbm, 28, rfl⟩
abbrev main_c_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_7 : Ref sig .tc := ⟨.hbm, 34, rfl⟩
abbrev main_v13 : Ref sig .tc := ⟨.hbm, 35, rfl⟩
abbrev main_c_8 : Ref sig .tc := ⟨.hbm, 36, rfl⟩
abbrev main_v14 : Ref sig .tc := ⟨.hbm, 37, rfl⟩
abbrev main_v15 : Ref sig .tc := ⟨.hbm, 38, rfl⟩
abbrev main_c_9 : Ref sig .tc := ⟨.hbm, 39, rfl⟩
abbrev main_c_10 : Ref sig .tc := ⟨.hbm, 40, rfl⟩
abbrev main_c_11 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_12 : Ref sig .tc := ⟨.hbm, 46, rfl⟩
abbrev main_v20 : Ref sig .tc := ⟨.hbm, 47, rfl⟩
abbrev main_c_13 : Ref sig .tc := ⟨.hbm, 48, rfl⟩
abbrev main_v21 : Ref sig .tc := ⟨.hbm, 49, rfl⟩
abbrev main_v22 : Ref sig .tc := ⟨.hbm, 50, rfl⟩
abbrev main_c_14 : Ref sig .tc := ⟨.hbm, 51, rfl⟩
abbrev main_c_15 : Ref sig .tc := ⟨.hbm, 52, rfl⟩
abbrev main_c_16 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_17 : Ref sig .tc := ⟨.hbm, 58, rfl⟩
abbrev main_v27 : Ref sig .tc := ⟨.hbm, 59, rfl⟩
abbrev main_c_18 : Ref sig .tc := ⟨.hbm, 60, rfl⟩
abbrev main_v28 : Ref sig .tc := ⟨.hbm, 61, rfl⟩
abbrev main_v29 : Ref sig .tc := ⟨.hbm, 62, rfl⟩
abbrev main_c_19 : Ref sig .tc := ⟨.hbm, 63, rfl⟩
abbrev main_c_20 : Ref sig .tc := ⟨.hbm, 64, rfl⟩
abbrev main_c_21 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_22 : Ref sig .tc := ⟨.hbm, 73, rfl⟩
abbrev main_v37 : Ref sig .tc := ⟨.hbm, 74, rfl⟩
abbrev main_c_23 : Ref sig .tc := ⟨.hbm, 75, rfl⟩
abbrev main_v38 : Ref sig .tc := ⟨.hbm, 76, rfl⟩
abbrev main_v39 : Ref sig .tc := ⟨.hbm, 77, rfl⟩
abbrev main_c_24 : Ref sig .tc := ⟨.hbm, 78, rfl⟩
abbrev main_c_25 : Ref sig .tc := ⟨.hbm, 79, rfl⟩
abbrev main_c_26 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_27 : Ref sig .tc := ⟨.hbm, 85, rfl⟩
abbrev main_v44 : Ref sig .tc := ⟨.hbm, 86, rfl⟩
abbrev main_c_28 : Ref sig .tc := ⟨.hbm, 87, rfl⟩
abbrev main_v45 : Ref sig .tc := ⟨.hbm, 88, rfl⟩
abbrev main_v46 : Ref sig .tc := ⟨.hbm, 89, rfl⟩
abbrev main_c_29 : Ref sig .tc := ⟨.hbm, 90, rfl⟩
abbrev main_c_30 : Ref sig .tc := ⟨.hbm, 91, rfl⟩
abbrev main_c_31 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_32 : Ref sig .tc := ⟨.hbm, 97, rfl⟩
abbrev main_v51 : Ref sig .tc := ⟨.hbm, 98, rfl⟩
abbrev main_c_33 : Ref sig .tc := ⟨.hbm, 99, rfl⟩
abbrev main_v52 : Ref sig .tc := ⟨.hbm, 100, rfl⟩
abbrev main_v53 : Ref sig .tc := ⟨.hbm, 101, rfl⟩
abbrev main_c_34 : Ref sig .tc := ⟨.hbm, 102, rfl⟩
abbrev main_c_35 : Ref sig .tc := ⟨.hbm, 103, rfl⟩
abbrev main_c_36 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_c_37 : Ref sig .tc := ⟨.hbm, 109, rfl⟩
abbrev main_v58 : Ref sig .tc := ⟨.hbm, 110, rfl⟩
abbrev main_c_38 : Ref sig .tc := ⟨.hbm, 111, rfl⟩
abbrev main_v59 : Ref sig .tc := ⟨.hbm, 112, rfl⟩
abbrev main_v60 : Ref sig .tc := ⟨.hbm, 113, rfl⟩
abbrev main_c_39 : Ref sig .tc := ⟨.hbm, 114, rfl⟩
abbrev main_c_40 : Ref sig .tc := ⟨.hbm, 115, rfl⟩
abbrev main_c_41 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_c_42 : Ref sig .tc := ⟨.hbm, 124, rfl⟩
abbrev main_v68 : Ref sig .tc := ⟨.hbm, 125, rfl⟩
abbrev main_c_43 : Ref sig .tc := ⟨.hbm, 126, rfl⟩
abbrev main_v69 : Ref sig .tc := ⟨.hbm, 127, rfl⟩
abbrev main_v70 : Ref sig .tc := ⟨.hbm, 128, rfl⟩
abbrev main_c_44 : Ref sig .tc := ⟨.hbm, 129, rfl⟩
abbrev main_c_45 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_c_46 : Ref sig .tc := ⟨.hbm, 135, rfl⟩
abbrev main_v75 : Ref sig .tc := ⟨.hbm, 136, rfl⟩
abbrev main_c_47 : Ref sig .tc := ⟨.hbm, 137, rfl⟩
abbrev main_v76 : Ref sig .tc := ⟨.hbm, 138, rfl⟩
abbrev main_v77 : Ref sig .tc := ⟨.hbm, 139, rfl⟩
abbrev main_c_48 : Ref sig .tc := ⟨.hbm, 140, rfl⟩
abbrev main_c_49 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_c_50 : Ref sig .tc := ⟨.hbm, 146, rfl⟩
abbrev main_v82 : Ref sig .tc := ⟨.hbm, 147, rfl⟩
abbrev main_c_51 : Ref sig .tc := ⟨.hbm, 148, rfl⟩
abbrev main_v83 : Ref sig .tc := ⟨.hbm, 149, rfl⟩
abbrev main_v84 : Ref sig .tc := ⟨.hbm, 150, rfl⟩
abbrev main_c_52 : Ref sig .tc := ⟨.hbm, 151, rfl⟩
abbrev main_c_53 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_c_54 : Ref sig .tc := ⟨.hbm, 157, rfl⟩
abbrev main_v89 : Ref sig .tc := ⟨.hbm, 158, rfl⟩
abbrev main_c_55 : Ref sig .tc := ⟨.hbm, 159, rfl⟩
abbrev main_v90 : Ref sig .tc := ⟨.hbm, 160, rfl⟩
abbrev main_v91 : Ref sig .tc := ⟨.hbm, 161, rfl⟩
abbrev main_c_56 : Ref sig .tc := ⟨.hbm, 162, rfl⟩
abbrev main_c_57 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_c_58 : Ref sig .tc := ⟨.hbm, 171, rfl⟩
abbrev main_v99 : Ref sig .tc := ⟨.hbm, 172, rfl⟩
abbrev main_c_59 : Ref sig .tc := ⟨.hbm, 173, rfl⟩
abbrev main_v100 : Ref sig .tc := ⟨.hbm, 174, rfl⟩
abbrev main_v101 : Ref sig .tc := ⟨.hbm, 175, rfl⟩
abbrev main_c_60 : Ref sig .tc := ⟨.hbm, 176, rfl⟩
abbrev main_c_61 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_c_62 : Ref sig .tc := ⟨.hbm, 182, rfl⟩
abbrev main_v106 : Ref sig .tc := ⟨.hbm, 183, rfl⟩
abbrev main_c_63 : Ref sig .tc := ⟨.hbm, 184, rfl⟩
abbrev main_v107 : Ref sig .tc := ⟨.hbm, 185, rfl⟩
abbrev main_v108 : Ref sig .tc := ⟨.hbm, 186, rfl⟩
abbrev main_c_64 : Ref sig .tc := ⟨.hbm, 187, rfl⟩
abbrev main_c_65 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_c_66 : Ref sig .tc := ⟨.hbm, 193, rfl⟩
abbrev main_v113 : Ref sig .tc := ⟨.hbm, 194, rfl⟩
abbrev main_c_67 : Ref sig .tc := ⟨.hbm, 195, rfl⟩
abbrev main_v114 : Ref sig .tc := ⟨.hbm, 196, rfl⟩
abbrev main_v115 : Ref sig .tc := ⟨.hbm, 197, rfl⟩
abbrev main_c_68 : Ref sig .tc := ⟨.hbm, 198, rfl⟩
abbrev main_c_69 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_c_70 : Ref sig .tc := ⟨.hbm, 204, rfl⟩
abbrev main_v120 : Ref sig .tc := ⟨.hbm, 205, rfl⟩
abbrev main_c_71 : Ref sig .tc := ⟨.hbm, 206, rfl⟩
abbrev main_v121 : Ref sig .tc := ⟨.hbm, 207, rfl⟩
abbrev main_v122 : Ref sig .tc := ⟨.hbm, 208, rfl⟩
abbrev main_c_72 : Ref sig .tc := ⟨.hbm, 209, rfl⟩
abbrev main_c_73 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_c_74 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149_0 : Ref sig .tc := ⟨.hbm, 238, rfl⟩
abbrev main_v149_1 : Ref sig .tc := ⟨.hbm, 239, rfl⟩
abbrev main_v149_2 : Ref sig .tc := ⟨.hbm, 240, rfl⟩
abbrev main_v149_3 : Ref sig .tc := ⟨.hbm, 241, rfl⟩
abbrev main_v149_4 : Ref sig .tc := ⟨.hbm, 242, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x8x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x1x8x64 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Start.lean ====
/-
  The window start the kernel computes from a length: a multiple of 128 in `[0, 131072 - 1152]` whatever the length.
-/
module

public import Idealize.ShloMosaic.Lib.Tactic

@[expose] public section

noncomputable section

namespace Cert.Win

open Idealize.ShloMosaic

/-- The window start of a length. -/
def start (w : BitVec 32) : BitVec 32 :=
  Scalar.minsi (Scalar.andi (Scalar.maxsi (Scalar.subi w 1023#32) 0#32) 4294967168#32) 129920#32

theorem and_neg128 (m : BitVec 32) : m &&& 4294967168#32 = (m >>> 7) <<< 7 := by
  refine BitVec.eq_of_getLsbD_eq fun i hi => ?_
  rw [BitVec.getLsbD_and, BitVec.getLsbD_shiftLeft, BitVec.getLsbD_ushiftRight]
  have h : (4294967168#32).getLsbD i = !decide (i < 7) := by
    revert i; decide
  rw [h]
  by_cases h7 : i < 7
  · simp [h7]
  · simp [h7, hi, show 7 + (i - 7) = i by omega]

theorem toNat_and_neg128 (m : BitVec 32) : (m &&& 4294967168#32).toNat = m.toNat / 128 * 128 := by
  rw [and_neg128, BitVec.toNat_shiftLeft, BitVec.toNat_ushiftRight, Nat.shiftLeft_eq, Nat.shiftRight_eq_div_pow]
  have := m.isLt
  rw [Nat.mod_eq_of_lt] <;> omega

theorem toNat_max0 (d : BitVec 32) : (Scalar.maxsi d 0#32).toNat = d.toInt.toNat := by
  show (if (0#32).slt d then d else 0#32).toNat = _
  have h := BitVec.toInt_eq_toNat_cond d
  have := d.isLt
  split
  · rename_i hs
    rw [BitVec.slt_eq_decide, decide_eq_true_eq] at hs
    simp at hs
    split at h <;> omega
  · rename_i hs
    rw [BitVec.slt_eq_decide, decide_eq_true_eq] at hs
    simp at hs
    rw [Int.toNat_of_nonpos hs]; rfl

/-- The window start as a number. -/
theorem toNat_start (w : BitVec 32) : (start w).toNat = min ((w - 1023#32).toInt.toNat / 128 * 128) 129920 := by
  have hm : (Scalar.andi (Scalar.maxsi (Scalar.subi w 1023#32) 0#32) 4294967168#32).toNat = (w - 1023#32).toInt.toNat / 128 * 128 := by
    show (Scalar.maxsi (Scalar.subi w 1023#32) 0#32 &&& 4294967168#32).toNat = _
    rw [toNat_and_neg128, toNat_max0]; rfl
  have hlt : (w - 1023#32).toInt.toNat < 2 ^ 31 := by
    have := BitVec.toInt_lt (x := w - 1023#32); omega
  unfold start
  generalize Scalar.andi (Scalar.maxsi (Scalar.subi w 1023#32) 0#32) 4294967168#32 = a at hm ⊢
  show (if a.slt 129920#32 then a else 129920#32).toNat = _
  have ha : a.toInt = a.toNat := by rw [BitVec.toInt_eq_toNat_cond, if_pos (by omega)]
  split
  · rename_i hs
    rw [BitVec.slt_eq_decide, decide_eq_true_eq, ha] at hs
    have : (129920#32 : BitVec 32).toInt = 129920 := by decide
    omega
  · rename_i hs
    rw [BitVec.slt_eq_decide, decide_eq_true_eq, ha] at hs
    have : (129920#32 : BitVec 32).toInt = 129920 := by decide
    simp only [BitVec.toNat_ofNat]
    omega

theorem start_le (w : BitVec 32) : (start w).toNat ≤ 129920 := by rw [toNat_start]; omega
theorem dvd_start (w : BitVec 32) : 128 ∣ (start w).toNat := by rw [toNat_start]; omega

end Cert.Win

end
-- ==== Proof.BodyK.lean ====
/-
  The kernel body, run once at symbolic contents by `sl_exec_parts!`: the transfers in, the quantisers, the softmax
  weights, the products, the transfers out.
-/
module

public import proofs.«01_k».proof.Proof.Start
public import proofs.«01_k».proof.Proof.Gen.Kernel.Skeleton
public import proofs.«01_k».proof.Proof.Gen.Kernel.Points
public import proofs.«01_k».proof.Proof.Gen.Kernel.Launch
public import Idealize.ShloMosaic.Lib.Tactic
public import Idealize.ShloMosaic.Lib.Pipeline.Kit

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem chk1 (w : BitVec 32) : k0_chk1 w := by
  have h1 := Cert.Win.start_le w
  have h2 := Cert.Win.dvd_start w
  refine ⟨h2, fun a => ?_, fun hinb => .inr ⟨by decide, rfl, rfl, rfl⟩, fun a => ?_⟩
  · fin_cases a
    · exact (by decide : 0 + 1 ≤ 4)
    · exact (by decide : 0 + 512 ≤ 512)
    · show (Cert.Win.start w).toNat + 1152 ≤ 131072
      omega
  · fin_cases a
    · exact (by decide : 0 + 1 ≤ 4)
    · exact (by decide : 0 + 8 ≤ 8)
    · show (Cert.Win.start w).toNat + 1152 ≤ 131072
      omega

theorem chk2 (w : BitVec 32) : k0_chk2 w := by
  have h1 := Cert.Win.start_le w
  have h2 := Cert.Win.dvd_start w
  refine ⟨h2, fun a => ?_, fun hinb => .inr ⟨by decide, rfl, rfl, rfl⟩, fun a => ?_⟩
  · fin_cases a
    · exact (by decide : 1 + 1 ≤ 4)
    · exact (by decide : 0 + 512 ≤ 512)
    · show (Cert.Win.start w).toNat + 1152 ≤ 131072
      omega
  · fin_cases a
    · exact (by decide : 1 + 1 ≤ 4)
    · exact (by decide : 0 + 8 ≤ 8)
    · show (Cert.Win.start w).toNat + 1152 ≤ 131072
      omega

theorem chk3 (w : BitVec 32) : k0_chk3 w := by
  have h1 := Cert.Win.start_le w
  have h2 := Cert.Win.dvd_start w
  refine ⟨h2, fun a => ?_, fun hinb => .inr ⟨by decide, rfl, rfl, rfl⟩, fun a => ?_⟩
  · fin_cases a
    · exact (by decide : 2 + 1 ≤ 4)
    · exact (by decide : 0 + 512 ≤ 512)
    · show (Cert.Win.start w).toNat + 1152 ≤ 131072
      omega
  · fin_cases a
    · exact (by decide : 2 + 1 ≤ 4)
    · exact (by decide : 0 + 8 ≤ 8)
    · show (Cert.Win.start w).toNat + 1152 ≤ 131072
      omega

theorem chk4 (w : BitVec 32) : k0_chk4 w := by
  have h1 := Cert.Win.start_le w
  have h2 := Cert.Win.dvd_start w
  refine ⟨h2, fun a => ?_, fun hinb => .inr ⟨by decide, rfl, rfl, rfl⟩, fun a => ?_⟩
  · fin_cases a
    · exact (by decide : 3 + 1 ≤ 4)
    · exact (by decide : 0 + 512 ≤ 512)
    · show (Cert.Win.start w).toNat + 1152 ≤ 131072
      omega
  · fin_cases a
    · exact (by decide : 3 + 1 ≤ 4)
    · exact (by decide : 0 + 8 ≤ 8)
    · show (Cert.Win.start w).toNat + 1152 ≤ 131072
      omega

variable {F : FTy → Type} [FloatOps F]

/-- The resource algebra: the rounds library's beside the counters the transfers' invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own DMA semaphores, all twenty-eight. -/
abbrev osem (i : Fin 28) : SemLoc sig := .dma i

/-- Their counters at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0
     ∗ semVal ((c : Thread nD τ), osem 5) 0 ∗ semVal ((c : Thread nD τ), osem 6) 0 ∗ semVal ((c : Thread nD τ), osem 7) 0 ∗ semVal ((c : Thread nD τ), osem 8) 0
     ∗ semVal ((c : Thread nD τ), osem 9) 0 ∗ semVal ((c : Thread nD τ), osem 10) 0 ∗ semVal ((c : Thread nD τ), osem 11) 0 ∗ semVal ((c : Thread nD τ), osem 12) 0
     ∗ semVal ((c : Thread nD τ), osem 13) 0 ∗ semVal ((c : Thread nD τ), osem 14) 0 ∗ semVal ((c : Thread nD τ), osem 15) 0 ∗ semVal ((c : Thread nD τ), osem 16) 0
     ∗ semVal ((c : Thread nD τ), osem 17) 0 ∗ semVal ((c : Thread nD τ), osem 18) 0 ∗ semVal ((c : Thread nD τ), osem 19) 0 ∗ semVal ((c : Thread nD τ), osem 20) 0
     ∗ semVal ((c : Thread nD τ), osem 21) 0 ∗ semVal ((c : Thread nD τ), osem 22) 0 ∗ semVal ((c : Thread nD τ), osem 23) 0 ∗ semVal ((c : Thread nD τ), osem 24) 0
     ∗ semVal ((c : Thread nD τ), osem 25) 0 ∗ semVal ((c : Thread nD τ), osem 26) 0 ∗ semVal ((c : Thread nD τ), osem 27) 0)

set_option maxHeartbeats 2000000 in
/-- What the body leaves in the five results, with the run that leaves it. -/
def kernelRun (c : Dev nD)
    (f0 : Bf (F := F) c (Memref.whole main_arg0)) (f1 : Bf (F := F) c (Memref.whole main_arg1)) (f2 : Bf (F := F) c (Memref.whole main_arg2))
    (f3 : Bf (F := F) c (Memref.whole main_v1)) (f4 : Bf (F := F) c (Memref.whole main_v3)) (f5 : Bf (F := F) c (Memref.whole main_v4))
    (f6 : Bf (F := F) c (Memref.whole main_v5)) (f7 : Bf (F := F) c (Memref.whole main_arg7))
    (r0 : Bf (F := F) c (Memref.whole main_v6_0)) (r1 : Bf (F := F) c (Memref.whole main_v6_1)) (r2 : Bf (F := F) c (Memref.whole main_v6_2))
    (r3 : Bf (F := F) c (Memref.whole main_v6_3)) (r4 : Bf (F := F) c (Memref.whole main_v6_4))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) :
    { R : Bf (F := F) c (Memref.whole main_v6_0) × Bf (F := F) c (Memref.whole main_v6_1) × Bf (F := F) c (Memref.whole main_v6_2)
        × Bf (F := F) c (Memref.whole main_v6_3) × Bf (F := F) c (Memref.whole main_v6_4) //
      ∀ (W : Waits sig Unit) (Q : PUnit → sProp 𝕄),
        iprop(pt c (Memref.whole main_arg0) f0 ∗ pt c (Memref.whole main_arg1) f1 ∗ pt c (Memref.whole main_arg2) f2 ∗ pt c (Memref.whole main_v1) f3
          ∗ pt c (Memref.whole main_v3) f4 ∗ pt c (Memref.whole main_v4) f5 ∗ pt c (Memref.whole main_v5) f6 ∗ pt c (Memref.whole main_arg7) f7
          ∗ pt c (Memref.whole main_v6_0) r0 ∗ pt c (Memref.whole main_v6_1) r1 ∗ pt c (Memref.whole main_v6_2) r2
          ∗ pt c (Memref.whole main_v6_3) r3 ∗ pt c (Memref.whole main_v6_4) r4
          ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ sems0 c ∗ owes (c : Thread nD τ) 0 W
          ∗ (iprop(pt c (Memref.whole main_arg0) f0 ∗ pt c (Memref.whole main_arg1) f1 ∗ pt c (Memref.whole main_arg2) f2 ∗ pt c (Memref.whole main_v1) f3
              ∗ pt c (Memref.whole main_v3) f4 ∗ pt c (Memref.whole main_v4) f5 ∗ pt c (Memref.whole main_v5) f6 ∗ pt c (Memref.whole main_arg7) f7
              ∗ pt c (Memref.whole main_v6_0) R.1 ∗ pt c (Memref.whole main_v6_1) R.2.1 ∗ pt c (Memref.whole main_v6_2) R.2.2.1
              ∗ pt c (Memref.whole main_v6_3) R.2.2.2.1 ∗ pt c (Memref.whole main_v6_4) R.2.2.2.2
              ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ sems0 c ∗ ∃ W, owes (c : Thread nD τ) 0 W) -∗ Q ⟨⟩))
        ⊢ wp frame (wpE (defs₀ (F := F)) Variants.none c none) Set.univ (bodyAt0 (F := F) t0_0) Q } := by
  refine ⟨⟨?_, ?_, ?_, ?_, ?_⟩, fun W Q => ?run⟩
  case run =>
    iintro ⟨HA0, HA1, HA2, HA3, HA4, HA5, HA6, HA7, HR0, HR1, HR2, HR3, HR4, HS0, HS1, HS2, HS3, HS4, HS5, HS6, HS7, HS8, HS9, HS10, HS11, HS12, HS13, ⟨HD0, HD1, HD2, HD3, HD4, HD5, HD6, HD7, HD8, HD9, HD10, HD11, HD12, HD13, HD14, HD15, HD16, HD17, HD18, HD19, HD20, HD21, HD22, HD23, HD24, HD25, HD26, HD27⟩, HO, Hk⟩
    unfold bodyAt0
    set_option sl_exec.dmaWindow true in
    set_option sl_exec.rejoinFuel 64 in
    sl_exec_parts! (disch := first | exact chk1 _ | exact chk2 _ | exact chk3 _ | exact chk4 _)
    sl_step
    iapply Hk
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HR0]; · iexact HR0
    isplitl [HR1]; · iexact HR1
    isplitl [HR2]; · iexact HR2
    isplitl [HR3]; · iexact HR3
    isplitl [HR4]; · iexact HR4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HD0 HD1 HD2 HD3 HD4 HD5 HD6 HD7 HD8 HD9 HD10 HD11 HD12 HD13 HD14 HD15 HD16 HD17 HD18 HD19 HD20 HD21 HD22 HD23 HD24 HD25 HD26 HD27]
    · isplitl [HD0]; · iexact HD0
      isplitl [HD1]; · iexact HD1
      isplitl [HD2]; · iexact HD2
      isplitl [HD3]; · iexact HD3
      isplitl [HD4]; · iexact HD4
      isplitl [HD5]; · iexact HD5
      isplitl [HD6]; · iexact HD6
      isplitl [HD7]; · iexact HD7
      isplitl [HD8]; · iexact HD8
      isplitl [HD9]; · iexact HD9
      isplitl [HD10]; · iexact HD10
      isplitl [HD11]; · iexact HD11
      isplitl [HD12]; · iexact HD12
      isplitl [HD13]; · iexact HD13
      isplitl [HD14]; · iexact HD14
      isplitl [HD15]; · iexact HD15
      isplitl [HD16]; · iexact HD16
      isplitl [HD17]; · iexact HD17
      isplitl [HD18]; · iexact HD18
      isplitl [HD19]; · iexact HD19
      isplitl [HD20]; · iexact HD20
      isplitl [HD21]; · iexact HD21
      isplitl [HD22]; · iexact HD22
      isplitl [HD23]; · iexact HD23
      isplitl [HD24]; · iexact HD24
      isplitl [HD25]; · iexact HD25
      isplitl [HD26]; · iexact HD26
      iexact HD27
    iexists _; iexact HO

end Cert.Kernel.Body

end
-- ==== Proof.RunK.lean ====
/-
  The run of `main`: the host operations, then the one region, whose body is `kernelRun`. From any memory with zero counters it
  ends with the arguments as launched, the results as the body leaves them, and every semaphore counter at zero.
-/
module

public import proofs.«01_k».proof.Proof.BodyK
public import proofs.«01_k».proof.Proof.Gen.Kernel.Frame
public import Idealize.ShloMosaic.Lib.Pipeline.Regions

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The TensorCore's unscoped references, as device buffers. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The five results' contents. -/
abbrev Results (c : Dev nD) : Type := Bf (F := F) c (Memref.whole main_v6_0) × Bf (F := F) c (Memref.whole main_v6_1) × Bf (F := F) c (Memref.whole main_v6_2) × Bf (F := F) c (Memref.whole main_v6_3) × Bf (F := F) c (Memref.whole main_v6_4)

/-- What the body can leave in the results: `kernelRun`'s contents, from any contents of results and scratches. -/
def Left (c : Dev nD) (R : Results (F := F) c) : Prop :=
  ∃ r0 r1 r2 r3 r4 s0 s1 s2 s3 s4 s5 s6 s7 s8 s9 s10 s11 s12 s13, R = (kernelRun c (V m c main_arg0) (V m c main_arg1) (V m c main_arg2) (V m c main_v1) (V m c main_v3) (V m c main_v4) (V m c main_v5) (V m c main_arg7) r0 r1 r2 r3 r4 s0 s1 s2 s3 s4 s5 s6 s7 s8 s9 s10 s11 s12 s13).1

/-- The results, as the body left them. -/
abbrev done (c : Dev nD) : sProp 𝕄 :=
  iprop(∃ R : Results (F := F) c, ⌜Left m c R⌝ ∗ pt c (Memref.whole main_v6_0) R.1 ∗ pt c (Memref.whole main_v6_1) R.2.1 ∗ pt c (Memref.whole main_v6_2) R.2.2.1 ∗ pt c (Memref.whole main_v6_3) R.2.2.2.1 ∗ pt c (Memref.whole main_v6_4) R.2.2.2.2)

/-- The operands the body reads, at the region's entry contents. -/
abbrev ops (c : Dev nD) : sProp 𝕄 := iprop(pt c (Memref.whole main_arg0) (V m c main_arg0) ∗ pt c (Memref.whole main_arg1) (V m c main_arg1) ∗ pt c (Memref.whole main_arg2) (V m c main_arg2) ∗ pt c (Memref.whole main_v1) (V m c main_v1) ∗ pt c (Memref.whole main_v3) (V m c main_v3) ∗ pt c (Memref.whole main_v4) (V m c main_v4) ∗ pt c (Memref.whole main_v5) (V m c main_v5) ∗ pt c (Memref.whole main_arg7) (V m c main_arg7))

/-- The results at the region's entry. -/
abbrev fresh (c : Dev nD) : sProp 𝕄 := iprop(pt c (Memref.whole main_v6_0) (V m c main_v6_0) ∗ pt c (Memref.whole main_v6_1) (V m c main_v6_1) ∗ pt c (Memref.whole main_v6_2) (V m c main_v6_2) ∗ pt c (Memref.whole main_v6_3) (V m c main_v6_3) ∗ pt c (Memref.whole main_v6_4) (V m c main_v6_4))

def Φ₀ (c : Dev nD) : sProp 𝕄 :=
  iprop(ops m c ∗ fresh m c ∗ sems0 c ∗ Pipeline.scopedRest (Ix := Unit) (Name := ℕ) (U := UU nD τ) (Lvl := ℕ) (Val := Elt F) cfg0.spec c)

def Φ₁ (c : Dev nD) : sProp 𝕄 :=
  iprop(ops m c ∗ done m c ∗ sems0 c ∗ Pipeline.scopedRest (Ix := Unit) (Name := ℕ) (U := UU nD τ) (Lvl := ℕ) (Val := Elt F) cfg0.spec c)

/-- The proof data: no window; the invariant before and after the body. -/
def dats (_ : Fin 1) (c : Dev nD) : Dat τ (Elt F) Unit ℕ (UU nD τ) ℕ cfg0 c where
  A w := V m c (Pipeline.arrRef cfg0.spec w)
  after w _ := w.elim0
  Φ t := if t.val = 0 then Φ₀ m c else Φ₁ m c
  q _ := fullShare
  owed _ := 0

theorem A_eq (c : Dev nD) (w : Fin cfg0.W) : (dats m 0 c).A w = V m c (Pipeline.arrRef cfg0.spec w) := by
  dsimp only [dats]

theorem Φ_first (c : Dev nD) : (dats m 0 c).Φ 0 = Φ₀ m c := rfl
theorem Φ_last (c : Dev nD) : (dats m 0 c).Φ (Fin.last cfg0.N) = Φ₁ m c := rfl

abbrev 𝒱₀ : Variants := Variants.none

theorem bigSep_none (f : Fin cfg0.W → sProp 𝕄) : bigSep (Finset.univ : Finset (Fin cfg0.W)) f = iprop(emp) := by
  rw [show (Finset.univ : Finset (Fin cfg0.W)) = ∅ from rfl, BI.bigSep_empty]; rfl

attribute [local irreducible] kernelRun

set_option maxHeartbeats 4000000 in
theorem body_obligation (c : Dev nD) : BodyObligation (dats m 0 c) (defs₀ (F := F)) 𝒱₀ () Set.univ := fun t => by
  obtain rfl := fin_N0 t
  rw [bigSep_none, bigSep_none]
  rw [show (dats m 0 c).Φ t0_0.castSucc = Φ₀ m c from rfl, show (dats m 0 c).Φ t0_0.succ = Φ₁ m c from rfl]
  unfold Φ₀ Φ₁ Dat.owesAt Pipeline.owesWithin
  rw [scopedRest0_eq]
  rw [show (dats m 0 c).owed t0_0.castSucc = 0 from rfl, show (dats m 0 c).owed t0_0.succ = 0 from rfl]
  iintro ⟨⟨⟨HA0, HA1, HA2, HA3, HA4, HA5, HA6, HA7⟩, ⟨HR0, HR1, HR2, HR3, HR4⟩, Hsems, ⟨⟨%s0, HS0⟩, ⟨%s1, HS1⟩, ⟨%s2, HS2⟩, ⟨%s3, HS3⟩, ⟨%s4, HS4⟩, ⟨%s5, HS5⟩, ⟨%s6, HS6⟩, ⟨%s8, HS8⟩, ⟨%s9, HS9⟩, ⟨%s10, HS10⟩, ⟨%s11, HS11⟩, ⟨%s12, HS12⟩, ⟨%s13, HS13⟩, ⟨%s7, HS7⟩⟩⟩, ⟨%W, %hW, HO⟩, -⟩
  iapply (kernelRun c (V m c main_arg0) (V m c main_arg1) (V m c main_arg2) (V m c main_v1) (V m c main_v3) (V m c main_v4) (V m c main_v5) (V m c main_arg7) (V m c main_v6_0) (V m c main_v6_1) (V m c main_v6_2) (V m c main_v6_3) (V m c main_v6_4) s0 s1 s2 s3 s4 s5 s6 s7 s8 s9 s10 s11 s12 s13).2 W
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HR0]; · iexact HR0
  isplitl [HR1]; · iexact HR1
  isplitl [HR2]; · iexact HR2
  isplitl [HR3]; · iexact HR3
  isplitl [HR4]; · iexact HR4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [Hsems]; · iexact Hsems
  isplitl [HO]; · iexact HO
  iintro ⟨HA0, HA1, HA2, HA3, HA4, HA5, HA6, HA7, HR0, HR1, HR2, HR3, HR4, HS0, HS1, HS2, HS3, HS4, HS5, HS6, HS7, HS8, HS9, HS10, HS11, HS12, HS13, Hsems, ⟨%W', HO⟩⟩
  isplitl [HA0 HA1 HA2 HA3 HA4 HA5 HA6 HA7 HR0 HR1 HR2 HR3 HR4 HS0 HS1 HS2 HS3 HS4 HS5 HS6 HS7 HS8 HS9 HS10 HS11 HS12 HS13 Hsems]
  · isplitl [HA0 HA1 HA2 HA3 HA4 HA5 HA6 HA7]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      iexact HA7
    isplitl [HR0 HR1 HR2 HR3 HR4]
    · iexists (kernelRun c (V m c main_arg0) (V m c main_arg1) (V m c main_arg2) (V m c main_v1) (V m c main_v3) (V m c main_v4) (V m c main_v5) (V m c main_arg7) (V m c main_v6_0) (V m c main_v6_1) (V m c main_v6_2) (V m c main_v6_3) (V m c main_v6_4) s0 s1 s2 s3 s4 s5 s6 s7 s8 s9 s10 s11 s12 s13).1; isplitr; · ipureintro; exact ⟨(V m c main_v6_0), (V m c main_v6_1), (V m c main_v6_2), (V m c main_v6_3), (V m c main_v6_4), s0, s1, s2, s3, s4, s5, s6, s7, s8, s9, s10, s11, s12, s13, rfl⟩
      isplitl [HR0]; · iexact HR0
      isplitl [HR1]; · iexact HR1
      isplitl [HR2]; · iexact HR2
      isplitl [HR3]; · iexact HR3
      iexact HR4
    isplitl [Hsems]; · iexact Hsems
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS8]; · iexact HS8
    isplitl [HS9]; · iexact HS9
    isplitl [HS10]; · iexact HS10
    isplitl [HS11]; · iexact HS11
    isplitl [HS12]; · iexact HS12
    isplitl [HS13]; · iexact HS13
    iexact HS7
  isplitl [HO]
  · iexists W'; isplitr; · ipureintro; exact fun _ _ => Or.inl trivial
    iexact HO
  iempintro

theorem ownSemFacts : Pipeline.OwnSemFacts cfg0.spec osem := by decide

/-- The launch element: the pipeline library's, no counter yet. -/
def u₀ : UU nD τ := (initOf (Pipeline.cells cfgs cellOf_inj) (Pipeline.launchToks cfgs cellOf_inj), 1)

/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23, 24, 25, 26, 27] (by decide) (by decide)

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations. -/
abbrev owing (c : Dev nD) : sProp 𝕄 := iprop(∃ W, owes (c : Thread nD τ) (0 : CellTallies nD τ sig Unit) W)

/-- The host operations, over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (fun c b => m (c, b)) owing

/-- The arguments the region does not touch. -/
abbrev byp (c : Dev nD) : sProp 𝕄 := iprop(pt c (Memref.whole main_arg3) (V m c main_arg3) ∗ pt c (Memref.whole main_arg4) (V m c main_arg4) ∗ pt c (Memref.whole main_arg5) (V m c main_arg5) ∗ pt c (Memref.whole main_arg6) (V m c main_arg6))

/-- What the region leaves for the end. -/
abbrev Tₙ (c : Dev nD) : sProp 𝕄 := iprop(byp m c ∗ ops m c ∗ done m c)

set_option backward.isDefEq.respectTransparency.types false in
def reg0 : Pipeline.RegionSeg (pcfgs (F := F)) adm (dats m) () defs₀ 𝒱₀ L lv 0 where
  win := launch0.win.to₀
  block_pos := launch0.block_pos
  stage_whole := launch0.stage_whole
  K := Fin 28
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (fun b => m (c, b))) ∗ owing c)
  post c := iprop(Tₙ m c ∗ owing c)
  X c := iprop(ops m c ∗ fresh m c ∗ sems0 c)
  Y c := iprop(ops m c ∗ done m c)
  Z c := byp m c
  hentry c := by
    rw [show StableHlo.held (c : Thread nD τ) ucRefs (StableHlo.after hostOps0 (fun b => m (c, b))) = unscopedBufs c (V m c) from (unscopedBufs_held c _).symm,
      ownSems0_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    iintro ⟨⟨Hub, HO⟩, Hos, -⟩
    ihave H := hsplit $$ Hub
    icases H with ⟨Ha, HA0, HA1, HA2, HB0, HB1, HB2, HB3, HA7, -, HA3, -, HA4, HA5, HA6, HR0, HR1, HR2, HR3, HR4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HA0 HA1 HA2 HA3 HA4 HA5 HA6 HA7 HR0 HR1 HR2 HR3 HR4 Hos]
    · isplitl [HA0 HA1 HA2 HA3 HA4 HA5 HA6 HA7]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        iexact HA7
      isplitl [HR0 HR1 HR2 HR3 HR4]
      · isplitl [HR0]; · iexact HR0
        isplitl [HR1]; · iexact HR1
        isplitl [HR2]; · iexact HR2
        isplitl [HR3]; · iexact HR3
        iexact HR4
      iexact Hos
    isplitl [HB0]; · iexact HB0
    isplitl [HB1]; · iexact HB1
    isplitl [HB2]; · iexact HB2
    iexact HB3
  hin c := by
    rw [Φ_first]; unfold Φ₀
    iintro ⟨⟨Ho, Hf, Hos⟩, -, Hr⟩
    isplitl [Ho]; · iexact Ho
    isplitl [Hf]; · iexact Hf
    isplitl [Hos]; · iexact Hos
    iexact Hr
  hout c := by
    rw [ownSems0_eq, Φ_last]; unfold Φ₁
    iintro ⟨Ho, Hd, Hos, Hr⟩
    isplitl [Ho Hd]
    · isplitl [Ho]; · iexact Ho
      iexact Hd
    isplitl [Hos]; · iexact Hos
    iexact Hr
  hexit c := by
    iintro ⟨-, HO, ⟨Ho, Hd⟩, HZ⟩
    imodintro
    isplitr [HO]
    · isplitl [HZ]; · iexact HZ
      isplitl [Ho]; · iexact Ho
      iexact Hd
    · unfold Pipeline.Dat.owesAt Pipeline.owesWithin
      icases HO with ⟨%W, -, HO⟩; iexists W; iexact HO

abbrev segs : List (Pipeline.Seg (pcfgs (F := F)) adm (dats m) () defs₀ 𝒱₀ L lv) := [.host (seg0 m), .region (reg0 m)]

/-- Every final state: the arguments as launched, the results as the body leaves them. -/
def Post (s : MemSt nD τ sig (Elt F)) (c : Dev nD) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7))
    ∧ ∃ R : Results (F := F) c, Left m c R ∧ s.mem ((c.tc : Thread nD τ).loc main_v6_0) = R.1 ∧ s.mem ((c.tc : Thread nD τ).loc main_v6_1) = R.2.1 ∧ s.mem ((c.tc : Thread nD τ).loc main_v6_2) = R.2.2.1 ∧ s.mem ((c.tc : Thread nD τ).loc main_v6_3) = R.2.2.2.1 ∧ s.mem ((c.tc : Thread nD τ).loc main_v6_4) = R.2.2.2.2

set_option maxHeartbeats 4000000 in
set_option backward.isDefEq.respectTransparency.types false in
theorem run_main : θ_run defs (onTc (τ := τ) (main (F := F))) (s₀ m ρ) (fun r => (∀ c, Post m r.2 c) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (fun b => m (c, b)) ∗ owing c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (fun b => m (c, b)) from unscopedBufs_held c (fun b => m (c, b))]
      iintro ⟨⟨Hh, -, HO, -, -, -⟩, -⟩
      imodintro
      isplitl [Hh]; · iexact Hh
      iexists ∅; iexact HO)
    (QY := fun c s => Post m s c)
    (hfin := fun c s' => by
      dsimp only [Tₙ, byp, ops, done]
      rw [V_main_arg0, V_main_arg1, V_main_arg2, V_main_arg3, V_main_arg4, V_main_arg5, V_main_arg6, V_main_arg7]
      iintro ⟨⟨⟨HB0, HB1, HB2, HB3⟩, ⟨HA0, HA1, HA2, HA3, HA4, HA5, HA6, HA7⟩, ⟨%R, %hR, HR0, HR1, HR2, HR3, HR4⟩⟩, HSI⟩
      icombine HSI HA0 gives %hHA0
      icombine HSI HA1 gives %hHA1
      icombine HSI HA2 gives %hHA2
      icombine HSI HB0 gives %hHB0
      icombine HSI HB1 gives %hHB1
      icombine HSI HB2 gives %hHB2
      icombine HSI HB3 gives %hHB3
      icombine HSI HA7 gives %hHA7
      icombine HSI HR0 gives %hHR0
      icombine HSI HR1 gives %hHR1
      icombine HSI HR2 gives %hHR2
      icombine HSI HR3 gives %hHR3
      icombine HSI HR4 gives %hHR4
      imodintro
      isplitr
      · ipureintro
        refine ⟨⟨Buf.eq_of_forall_mem_univ hHA0, Buf.eq_of_forall_mem_univ hHA1, Buf.eq_of_forall_mem_univ hHA2, Buf.eq_of_forall_mem_univ hHB0, Buf.eq_of_forall_mem_univ hHB1, Buf.eq_of_forall_mem_univ hHB2, Buf.eq_of_forall_mem_univ hHB3, Buf.eq_of_forall_mem_univ hHA7⟩, R, hR, Buf.eq_of_forall_mem_univ hHR0, Buf.eq_of_forall_mem_univ hHR1, Buf.eq_of_forall_mem_univ hHR2, Buf.eq_of_forall_mem_univ hHR3, Buf.eq_of_forall_mem_univ hHR4⟩
      iexact HSI)
    (hQ := fun _ h hz => ⟨h, funext fun g => hz g (.inr (by revert g; decide))⟩)

/-- The frame, with the counters. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).1, h.2⟩) (run_main m ρ)

end Cert.Kernel.Body

end
-- ==== Proof.BodyI.lean ====
/-
  The kernel body, run once at symbolic contents by `sl_exec_parts!`: the transfers in, the quantisers, the softmax
  weights, the products, the transfers out.
-/
module

public import proofs.«01_k».proof.Proof.Start
public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic
public import Idealize.ShloMosaic.Lib.Pipeline.Kit

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem chk1 (w : BitVec 32) : k0_chk1 w := by
  have h1 := Cert.Win.start_le w
  have h2 := Cert.Win.dvd_start w
  refine ⟨h2, fun a => ?_, fun hinb => .inr ⟨by decide, rfl, rfl, rfl⟩, fun a => ?_⟩
  · fin_cases a
    · exact (by decide : 0 + 1 ≤ 4)
    · exact (by decide : 0 + 512 ≤ 512)
    · show (Cert.Win.start w).toNat + 1152 ≤ 131072
      omega
  · fin_cases a
    · exact (by decide : 0 + 1 ≤ 4)
    · exact (by decide : 0 + 8 ≤ 8)
    · show (Cert.Win.start w).toNat + 1152 ≤ 131072
      omega

theorem chk2 (w : BitVec 32) : k0_chk2 w := by
  have h1 := Cert.Win.start_le w
  have h2 := Cert.Win.dvd_start w
  refine ⟨h2, fun a => ?_, fun hinb => .inr ⟨by decide, rfl, rfl, rfl⟩, fun a => ?_⟩
  · fin_cases a
    · exact (by decide : 1 + 1 ≤ 4)
    · exact (by decide : 0 + 512 ≤ 512)
    · show (Cert.Win.start w).toNat + 1152 ≤ 131072
      omega
  · fin_cases a
    · exact (by decide : 1 + 1 ≤ 4)
    · exact (by decide : 0 + 8 ≤ 8)
    · show (Cert.Win.start w).toNat + 1152 ≤ 131072
      omega

theorem chk3 (w : BitVec 32) : k0_chk3 w := by
  have h1 := Cert.Win.start_le w
  have h2 := Cert.Win.dvd_start w
  refine ⟨h2, fun a => ?_, fun hinb => .inr ⟨by decide, rfl, rfl, rfl⟩, fun a => ?_⟩
  · fin_cases a
    · exact (by decide : 2 + 1 ≤ 4)
    · exact (by decide : 0 + 512 ≤ 512)
    · show (Cert.Win.start w).toNat + 1152 ≤ 131072
      omega
  · fin_cases a
    · exact (by decide : 2 + 1 ≤ 4)
    · exact (by decide : 0 + 8 ≤ 8)
    · show (Cert.Win.start w).toNat + 1152 ≤ 131072
      omega

theorem chk4 (w : BitVec 32) : k0_chk4 w := by
  have h1 := Cert.Win.start_le w
  have h2 := Cert.Win.dvd_start w
  refine ⟨h2, fun a => ?_, fun hinb => .inr ⟨by decide, rfl, rfl, rfl⟩, fun a => ?_⟩
  · fin_cases a
    · exact (by decide : 3 + 1 ≤ 4)
    · exact (by decide : 0 + 512 ≤ 512)
    · show (Cert.Win.start w).toNat + 1152 ≤ 131072
      omega
  · fin_cases a
    · exact (by decide : 3 + 1 ≤ 4)
    · exact (by decide : 0 + 8 ≤ 8)
    · show (Cert.Win.start w).toNat + 1152 ≤ 131072
      omega

variable {F : FTy → Type} [FloatOps F] [Named F]

/-- The resource algebra: the rounds library's beside the counters the transfers' invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own DMA semaphores, all twenty-eight. -/
abbrev osem (i : Fin 28) : SemLoc sig := .dma i

/-- Their counters at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0
     ∗ semVal ((c : Thread nD τ), osem 5) 0 ∗ semVal ((c : Thread nD τ), osem 6) 0 ∗ semVal ((c : Thread nD τ), osem 7) 0 ∗ semVal ((c : Thread nD τ), osem 8) 0
     ∗ semVal ((c : Thread nD τ), osem 9) 0 ∗ semVal ((c : Thread nD τ), osem 10) 0 ∗ semVal ((c : Thread nD τ), osem 11) 0 ∗ semVal ((c : Thread nD τ), osem 12) 0
     ∗ semVal ((c : Thread nD τ), osem 13) 0 ∗ semVal ((c : Thread nD τ), osem 14) 0 ∗ semVal ((c : Thread nD τ), osem 15) 0 ∗ semVal ((c : Thread nD τ), osem 16) 0
     ∗ semVal ((c : Thread nD τ), osem 17) 0 ∗ semVal ((c : Thread nD τ), osem 18) 0 ∗ semVal ((c : Thread nD τ), osem 19) 0 ∗ semVal ((c : Thread nD τ), osem 20) 0
     ∗ semVal ((c : Thread nD τ), osem 21) 0 ∗ semVal ((c : Thread nD τ), osem 22) 0 ∗ semVal ((c : Thread nD τ), osem 23) 0 ∗ semVal ((c : Thread nD τ), osem 24) 0
     ∗ semVal ((c : Thread nD τ), osem 25) 0 ∗ semVal ((c : Thread nD τ), osem 26) 0 ∗ semVal ((c : Thread nD τ), osem 27) 0)

set_option maxHeartbeats 2000000 in
/-- What the body leaves in the five results, with the run that leaves it. -/
def kernelRun (c : Dev nD)
    (f0 : Bf (F := F) c (Memref.whole main_arg0)) (f1 : Bf (F := F) c (Memref.whole main_arg1)) (f2 : Bf (F := F) c (Memref.whole main_arg2))
    (f3 : Bf (F := F) c (Memref.whole main_v1)) (f4 : Bf (F := F) c (Memref.whole main_v3)) (f5 : Bf (F := F) c (Memref.whole main_v4))
    (f6 : Bf (F := F) c (Memref.whole main_v5)) (f7 : Bf (F := F) c (Memref.whole main_arg7))
    (r0 : Bf (F := F) c (Memref.whole main_v6_0)) (r1 : Bf (F := F) c (Memref.whole main_v6_1)) (r2 : Bf (F := F) c (Memref.whole main_v6_2))
    (r3 : Bf (F := F) c (Memref.whole main_v6_3)) (r4 : Bf (F := F) c (Memref.whole main_v6_4))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) :
    { R : Bf (F := F) c (Memref.whole main_v6_0) × Bf (F := F) c (Memref.whole main_v6_1) × Bf (F := F) c (Memref.whole main_v6_2)
        × Bf (F := F) c (Memref.whole main_v6_3) × Bf (F := F) c (Memref.whole main_v6_4) //
      ∀ (W : Waits sig Unit) (Q : PUnit → sProp 𝕄),
        iprop(pt c (Memref.whole main_arg0) f0 ∗ pt c (Memref.whole main_arg1) f1 ∗ pt c (Memref.whole main_arg2) f2 ∗ pt c (Memref.whole main_v1) f3
          ∗ pt c (Memref.whole main_v3) f4 ∗ pt c (Memref.whole main_v4) f5 ∗ pt c (Memref.whole main_v5) f6 ∗ pt c (Memref.whole main_arg7) f7
          ∗ pt c (Memref.whole main_v6_0) r0 ∗ pt c (Memref.whole main_v6_1) r1 ∗ pt c (Memref.whole main_v6_2) r2
          ∗ pt c (Memref.whole main_v6_3) r3 ∗ pt c (Memref.whole main_v6_4) r4
          ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ sems0 c ∗ owes (c : Thread nD τ) 0 W
          ∗ (iprop(pt c (Memref.whole main_arg0) f0 ∗ pt c (Memref.whole main_arg1) f1 ∗ pt c (Memref.whole main_arg2) f2 ∗ pt c (Memref.whole main_v1) f3
              ∗ pt c (Memref.whole main_v3) f4 ∗ pt c (Memref.whole main_v4) f5 ∗ pt c (Memref.whole main_v5) f6 ∗ pt c (Memref.whole main_arg7) f7
              ∗ pt c (Memref.whole main_v6_0) R.1 ∗ pt c (Memref.whole main_v6_1) R.2.1 ∗ pt c (Memref.whole main_v6_2) R.2.2.1
              ∗ pt c (Memref.whole main_v6_3) R.2.2.2.1 ∗ pt c (Memref.whole main_v6_4) R.2.2.2.2
              ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ sems0 c ∗ ∃ W, owes (c : Thread nD τ) 0 W) -∗ Q ⟨⟩))
        ⊢ wp frame (wpE (defs₀ (F := F)) Variants.none c none) Set.univ (bodyAt0 (F := F) t0_0) Q } := by
  refine ⟨⟨?_, ?_, ?_, ?_, ?_⟩, fun W Q => ?run⟩
  case run =>
    iintro ⟨HA0, HA1, HA2, HA3, HA4, HA5, HA6, HA7, HR0, HR1, HR2, HR3, HR4, HS0, HS1, HS2, HS3, HS4, HS5, HS6, HS7, HS8, HS9, HS10, HS11, HS12, HS13, ⟨HD0, HD1, HD2, HD3, HD4, HD5, HD6, HD7, HD8, HD9, HD10, HD11, HD12, HD13, HD14, HD15, HD16, HD17, HD18, HD19, HD20, HD21, HD22, HD23, HD24, HD25, HD26, HD27⟩, HO, Hk⟩
    unfold bodyAt0
    set_option sl_exec.dmaWindow true in
    set_option sl_exec.rejoinFuel 64 in
    sl_exec_parts! (disch := first | exact chk1 _ | exact chk2 _ | exact chk3 _ | exact chk4 _)
    sl_step
    iapply Hk
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HR0]; · iexact HR0
    isplitl [HR1]; · iexact HR1
    isplitl [HR2]; · iexact HR2
    isplitl [HR3]; · iexact HR3
    isplitl [HR4]; · iexact HR4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HD0 HD1 HD2 HD3 HD4 HD5 HD6 HD7 HD8 HD9 HD10 HD11 HD12 HD13 HD14 HD15 HD16 HD17 HD18 HD19 HD20 HD21 HD22 HD23 HD24 HD25 HD26 HD27]
    · isplitl [HD0]; · iexact HD0
      isplitl [HD1]; · iexact HD1
      isplitl [HD2]; · iexact HD2
      isplitl [HD3]; · iexact HD3
      isplitl [HD4]; · iexact HD4
      isplitl [HD5]; · iexact HD5
      isplitl [HD6]; · iexact HD6
      isplitl [HD7]; · iexact HD7
      isplitl [HD8]; · iexact HD8
      isplitl [HD9]; · iexact HD9
      isplitl [HD10]; · iexact HD10
      isplitl [HD11]; · iexact HD11
      isplitl [HD12]; · iexact HD12
      isplitl [HD13]; · iexact HD13
      isplitl [HD14]; · iexact HD14
      isplitl [HD15]; · iexact HD15
      isplitl [HD16]; · iexact HD16
      isplitl [HD17]; · iexact HD17
      isplitl [HD18]; · iexact HD18
      isplitl [HD19]; · iexact HD19
      isplitl [HD20]; · iexact HD20
      isplitl [HD21]; · iexact HD21
      isplitl [HD22]; · iexact HD22
      isplitl [HD23]; · iexact HD23
      isplitl [HD24]; · iexact HD24
      isplitl [HD25]; · iexact HD25
      isplitl [HD26]; · iexact HD26
      iexact HD27
    iexists _; iexact HO

end Cert.KernelIdeal.Body

end
-- ==== Proof.RunI.lean ====
/-
  The run of `main`: the host operations, then the one region, whose body is `kernelRun`. From any memory with zero counters it
  ends with the arguments as launched, the results as the body leaves them, and every semaphore counter at zero.
-/
module

public import proofs.«01_k».proof.Proof.BodyI
public import proofs.«01_k».proof.Proof.Gen.KernelIdeal.Frame
public import Idealize.ShloMosaic.Lib.Pipeline.Regions

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The TensorCore's unscoped references, as device buffers. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The five results' contents. -/
abbrev Results (c : Dev nD) : Type := Bf (F := F) c (Memref.whole main_v6_0) × Bf (F := F) c (Memref.whole main_v6_1) × Bf (F := F) c (Memref.whole main_v6_2) × Bf (F := F) c (Memref.whole main_v6_3) × Bf (F := F) c (Memref.whole main_v6_4)

/-- What the body can leave in the results: `kernelRun`'s contents, from any contents of results and scratches. -/
def Left (c : Dev nD) (R : Results (F := F) c) : Prop :=
  ∃ r0 r1 r2 r3 r4 s0 s1 s2 s3 s4 s5 s6 s7 s8 s9 s10 s11 s12 s13, R = (kernelRun c (V m c main_arg0) (V m c main_arg1) (V m c main_arg2) (V m c main_v1) (V m c main_v3) (V m c main_v4) (V m c main_v5) (V m c main_arg7) r0 r1 r2 r3 r4 s0 s1 s2 s3 s4 s5 s6 s7 s8 s9 s10 s11 s12 s13).1

/-- The results, as the body left them. -/
abbrev done (c : Dev nD) : sProp 𝕄 :=
  iprop(∃ R : Results (F := F) c, ⌜Left m c R⌝ ∗ pt c (Memref.whole main_v6_0) R.1 ∗ pt c (Memref.whole main_v6_1) R.2.1 ∗ pt c (Memref.whole main_v6_2) R.2.2.1 ∗ pt c (Memref.whole main_v6_3) R.2.2.2.1 ∗ pt c (Memref.whole main_v6_4) R.2.2.2.2)

/-- The operands the body reads, at the region's entry contents. -/
abbrev ops (c : Dev nD) : sProp 𝕄 := iprop(pt c (Memref.whole main_arg0) (V m c main_arg0) ∗ pt c (Memref.whole main_arg1) (V m c main_arg1) ∗ pt c (Memref.whole main_arg2) (V m c main_arg2) ∗ pt c (Memref.whole main_v1) (V m c main_v1) ∗ pt c (Memref.whole main_v3) (V m c main_v3) ∗ pt c (Memref.whole main_v4) (V m c main_v4) ∗ pt c (Memref.whole main_v5) (V m c main_v5) ∗ pt c (Memref.whole main_arg7) (V m c main_arg7))

/-- The results at the region's entry. -/
abbrev fresh (c : Dev nD) : sProp 𝕄 := iprop(pt c (Memref.whole main_v6_0) (V m c main_v6_0) ∗ pt c (Memref.whole main_v6_1) (V m c main_v6_1) ∗ pt c (Memref.whole main_v6_2) (V m c main_v6_2) ∗ pt c (Memref.whole main_v6_3) (V m c main_v6_3) ∗ pt c (Memref.whole main_v6_4) (V m c main_v6_4))

def Φ₀ (c : Dev nD) : sProp 𝕄 :=
  iprop(ops m c ∗ fresh m c ∗ sems0 c ∗ Pipeline.scopedRest (Ix := Unit) (Name := ℕ) (U := UU nD τ) (Lvl := ℕ) (Val := Elt F) cfg0.spec c)

def Φ₁ (c : Dev nD) : sProp 𝕄 :=
  iprop(ops m c ∗ done m c ∗ sems0 c ∗ Pipeline.scopedRest (Ix := Unit) (Name := ℕ) (U := UU nD τ) (Lvl := ℕ) (Val := Elt F) cfg0.spec c)

/-- The proof data: no window; the invariant before and after the body. -/
def dats (_ : Fin 1) (c : Dev nD) : Dat τ (Elt F) Unit ℕ (UU nD τ) ℕ cfg0 c where
  A w := V m c (Pipeline.arrRef cfg0.spec w)
  after w _ := w.elim0
  Φ t := if t.val = 0 then Φ₀ m c else Φ₁ m c
  q _ := fullShare
  owed _ := 0

theorem A_eq (c : Dev nD) (w : Fin cfg0.W) : (dats m 0 c).A w = V m c (Pipeline.arrRef cfg0.spec w) := by
  dsimp only [dats]

theorem Φ_first (c : Dev nD) : (dats m 0 c).Φ 0 = Φ₀ m c := rfl
theorem Φ_last (c : Dev nD) : (dats m 0 c).Φ (Fin.last cfg0.N) = Φ₁ m c := rfl

abbrev 𝒱₀ : Variants := Variants.none

theorem bigSep_none (f : Fin cfg0.W → sProp 𝕄) : bigSep (Finset.univ : Finset (Fin cfg0.W)) f = iprop(emp) := by
  rw [show (Finset.univ : Finset (Fin cfg0.W)) = ∅ from rfl, BI.bigSep_empty]; rfl

attribute [local irreducible] kernelRun

set_option maxHeartbeats 4000000 in
theorem body_obligation (c : Dev nD) : BodyObligation (dats m 0 c) (defs₀ (F := F)) 𝒱₀ () Set.univ := fun t => by
  obtain rfl := fin_N0 t
  rw [bigSep_none, bigSep_none]
  rw [show (dats m 0 c).Φ t0_0.castSucc = Φ₀ m c from rfl, show (dats m 0 c).Φ t0_0.succ = Φ₁ m c from rfl]
  unfold Φ₀ Φ₁ Dat.owesAt Pipeline.owesWithin
  rw [scopedRest0_eq]
  rw [show (dats m 0 c).owed t0_0.castSucc = 0 from rfl, show (dats m 0 c).owed t0_0.succ = 0 from rfl]
  iintro ⟨⟨⟨HA0, HA1, HA2, HA3, HA4, HA5, HA6, HA7⟩, ⟨HR0, HR1, HR2, HR3, HR4⟩, Hsems, ⟨⟨%s0, HS0⟩, ⟨%s1, HS1⟩, ⟨%s2, HS2⟩, ⟨%s3, HS3⟩, ⟨%s4, HS4⟩, ⟨%s5, HS5⟩, ⟨%s6, HS6⟩, ⟨%s8, HS8⟩, ⟨%s9, HS9⟩, ⟨%s10, HS10⟩, ⟨%s11, HS11⟩, ⟨%s12, HS12⟩, ⟨%s13, HS13⟩, ⟨%s7, HS7⟩⟩⟩, ⟨%W, %hW, HO⟩, -⟩
  iapply (kernelRun c (V m c main_arg0) (V m c main_arg1) (V m c main_arg2) (V m c main_v1) (V m c main_v3) (V m c main_v4) (V m c main_v5) (V m c main_arg7) (V m c main_v6_0) (V m c main_v6_1) (V m c main_v6_2) (V m c main_v6_3) (V m c main_v6_4) s0 s1 s2 s3 s4 s5 s6 s7 s8 s9 s10 s11 s12 s13).2 W
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HR0]; · iexact HR0
  isplitl [HR1]; · iexact HR1
  isplitl [HR2]; · iexact HR2
  isplitl [HR3]; · iexact HR3
  isplitl [HR4]; · iexact HR4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [Hsems]; · iexact Hsems
  isplitl [HO]; · iexact HO
  iintro ⟨HA0, HA1, HA2, HA3, HA4, HA5, HA6, HA7, HR0, HR1, HR2, HR3, HR4, HS0, HS1, HS2, HS3, HS4, HS5, HS6, HS7, HS8, HS9, HS10, HS11, HS12, HS13, Hsems, ⟨%W', HO⟩⟩
  isplitl [HA0 HA1 HA2 HA3 HA4 HA5 HA6 HA7 HR0 HR1 HR2 HR3 HR4 HS0 HS1 HS2 HS3 HS4 HS5 HS6 HS7 HS8 HS9 HS10 HS11 HS12 HS13 Hsems]
  · isplitl [HA0 HA1 HA2 HA3 HA4 HA5 HA6 HA7]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      iexact HA7
    isplitl [HR0 HR1 HR2 HR3 HR4]
    · iexists (kernelRun c (V m c main_arg0) (V m c main_arg1) (V m c main_arg2) (V m c main_v1) (V m c main_v3) (V m c main_v4) (V m c main_v5) (V m c main_arg7) (V m c main_v6_0) (V m c main_v6_1) (V m c main_v6_2) (V m c main_v6_3) (V m c main_v6_4) s0 s1 s2 s3 s4 s5 s6 s7 s8 s9 s10 s11 s12 s13).1; isplitr; · ipureintro; exact ⟨(V m c main_v6_0), (V m c main_v6_1), (V m c main_v6_2), (V m c main_v6_3), (V m c main_v6_4), s0, s1, s2, s3, s4, s5, s6, s7, s8, s9, s10, s11, s12, s13, rfl⟩
      isplitl [HR0]; · iexact HR0
      isplitl [HR1]; · iexact HR1
      isplitl [HR2]; · iexact HR2
      isplitl [HR3]; · iexact HR3
      iexact HR4
    isplitl [Hsems]; · iexact Hsems
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS8]; · iexact HS8
    isplitl [HS9]; · iexact HS9
    isplitl [HS10]; · iexact HS10
    isplitl [HS11]; · iexact HS11
    isplitl [HS12]; · iexact HS12
    isplitl [HS13]; · iexact HS13
    iexact HS7
  isplitl [HO]
  · iexists W'; isplitr; · ipureintro; exact fun _ _ => Or.inl trivial
    iexact HO
  iempintro

theorem ownSemFacts : Pipeline.OwnSemFacts cfg0.spec osem := by decide

/-- The launch element: the pipeline library's, no counter yet. -/
def u₀ : UU nD τ := (initOf (Pipeline.cells cfgs cellOf_inj) (Pipeline.launchToks cfgs cellOf_inj), 1)

/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23, 24, 25, 26, 27] (by decide) (by decide)

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through the host operations. -/
abbrev owing (c : Dev nD) : sProp 𝕄 := iprop(∃ W, owes (c : Thread nD τ) (0 : CellTallies nD τ sig Unit) W)

/-- The host operations, over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (fun c b => m (c, b)) owing

/-- The arguments the region does not touch. -/
abbrev byp (c : Dev nD) : sProp 𝕄 := iprop(pt c (Memref.whole main_arg3) (V m c main_arg3) ∗ pt c (Memref.whole main_arg4) (V m c main_arg4) ∗ pt c (Memref.whole main_arg5) (V m c main_arg5) ∗ pt c (Memref.whole main_arg6) (V m c main_arg6))

/-- What the region leaves for the end. -/
abbrev Tₙ (c : Dev nD) : sProp 𝕄 := iprop(byp m c ∗ ops m c ∗ done m c)

set_option backward.isDefEq.respectTransparency.types false in
def reg0 : Pipeline.RegionSeg (pcfgs (F := F)) adm (dats m) () defs₀ 𝒱₀ L lv 0 where
  win := launch0.win.to₀
  block_pos := launch0.block_pos
  stage_whole := launch0.stage_whole
  K := Fin 28
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (fun b => m (c, b))) ∗ owing c)
  post c := iprop(Tₙ m c ∗ owing c)
  X c := iprop(ops m c ∗ fresh m c ∗ sems0 c)
  Y c := iprop(ops m c ∗ done m c)
  Z c := byp m c
  hentry c := by
    rw [show StableHlo.held (c : Thread nD τ) ucRefs (StableHlo.after hostOps0 (fun b => m (c, b))) = unscopedBufs c (V m c) from (unscopedBufs_held c _).symm,
      ownSems0_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    iintro ⟨⟨Hub, HO⟩, Hos, -⟩
    ihave H := hsplit $$ Hub
    icases H with ⟨Ha, HA0, HA1, HA2, HB0, HB1, HB2, HB3, HA7, -, HA3, -, HA4, HA5, HA6, HR0, HR1, HR2, HR3, HR4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HA0 HA1 HA2 HA3 HA4 HA5 HA6 HA7 HR0 HR1 HR2 HR3 HR4 Hos]
    · isplitl [HA0 HA1 HA2 HA3 HA4 HA5 HA6 HA7]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        iexact HA7
      isplitl [HR0 HR1 HR2 HR3 HR4]
      · isplitl [HR0]; · iexact HR0
        isplitl [HR1]; · iexact HR1
        isplitl [HR2]; · iexact HR2
        isplitl [HR3]; · iexact HR3
        iexact HR4
      iexact Hos
    isplitl [HB0]; · iexact HB0
    isplitl [HB1]; · iexact HB1
    isplitl [HB2]; · iexact HB2
    iexact HB3
  hin c := by
    rw [Φ_first]; unfold Φ₀
    iintro ⟨⟨Ho, Hf, Hos⟩, -, Hr⟩
    isplitl [Ho]; · iexact Ho
    isplitl [Hf]; · iexact Hf
    isplitl [Hos]; · iexact Hos
    iexact Hr
  hout c := by
    rw [ownSems0_eq, Φ_last]; unfold Φ₁
    iintro ⟨Ho, Hd, Hos, Hr⟩
    isplitl [Ho Hd]
    · isplitl [Ho]; · iexact Ho
      iexact Hd
    isplitl [Hos]; · iexact Hos
    iexact Hr
  hexit c := by
    iintro ⟨-, HO, ⟨Ho, Hd⟩, HZ⟩
    imodintro
    isplitr [HO]
    · isplitl [HZ]; · iexact HZ
      isplitl [Ho]; · iexact Ho
      iexact Hd
    · unfold Pipeline.Dat.owesAt Pipeline.owesWithin
      icases HO with ⟨%W, -, HO⟩; iexists W; iexact HO

abbrev segs : List (Pipeline.Seg (pcfgs (F := F)) adm (dats m) () defs₀ 𝒱₀ L lv) := [.host (seg0 m), .region (reg0 m)]

/-- Every final state: the arguments as launched, the results as the body leaves them. -/
def Post (s : MemSt nD τ sig (Elt F)) (c : Dev nD) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7))
    ∧ ∃ R : Results (F := F) c, Left m c R ∧ s.mem ((c.tc : Thread nD τ).loc main_v6_0) = R.1 ∧ s.mem ((c.tc : Thread nD τ).loc main_v6_1) = R.2.1 ∧ s.mem ((c.tc : Thread nD τ).loc main_v6_2) = R.2.2.1 ∧ s.mem ((c.tc : Thread nD τ).loc main_v6_3) = R.2.2.2.1 ∧ s.mem ((c.tc : Thread nD τ).loc main_v6_4) = R.2.2.2.2

set_option maxHeartbeats 4000000 in
set_option backward.isDefEq.respectTransparency.types false in
theorem run_main : θ_run defs (onTc (τ := τ) (main (F := F))) (s₀ m ρ) (fun r => (∀ c, Post m r.2 c) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (fun b => m (c, b)) ∗ owing c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (fun b => m (c, b)) from unscopedBufs_held c (fun b => m (c, b))]
      iintro ⟨⟨Hh, -, HO, -, -, -⟩, -⟩
      imodintro
      isplitl [Hh]; · iexact Hh
      iexists ∅; iexact HO)
    (QY := fun c s => Post m s c)
    (hfin := fun c s' => by
      dsimp only [Tₙ, byp, ops, done]
      rw [V_main_arg0, V_main_arg1, V_main_arg2, V_main_arg3, V_main_arg4, V_main_arg5, V_main_arg6, V_main_arg7]
      iintro ⟨⟨⟨HB0, HB1, HB2, HB3⟩, ⟨HA0, HA1, HA2, HA3, HA4, HA5, HA6, HA7⟩, ⟨%R, %hR, HR0, HR1, HR2, HR3, HR4⟩⟩, HSI⟩
      icombine HSI HA0 gives %hHA0
      icombine HSI HA1 gives %hHA1
      icombine HSI HA2 gives %hHA2
      icombine HSI HB0 gives %hHB0
      icombine HSI HB1 gives %hHB1
      icombine HSI HB2 gives %hHB2
      icombine HSI HB3 gives %hHB3
      icombine HSI HA7 gives %hHA7
      icombine HSI HR0 gives %hHR0
      icombine HSI HR1 gives %hHR1
      icombine HSI HR2 gives %hHR2
      icombine HSI HR3 gives %hHR3
      icombine HSI HR4 gives %hHR4
      imodintro
      isplitr
      · ipureintro
        refine ⟨⟨Buf.eq_of_forall_mem_univ hHA0, Buf.eq_of_forall_mem_univ hHA1, Buf.eq_of_forall_mem_univ hHA2, Buf.eq_of_forall_mem_univ hHB0, Buf.eq_of_forall_mem_univ hHB1, Buf.eq_of_forall_mem_univ hHB2, Buf.eq_of_forall_mem_univ hHB3, Buf.eq_of_forall_mem_univ hHA7⟩, R, hR, Buf.eq_of_forall_mem_univ hHR0, Buf.eq_of_forall_mem_univ hHR1, Buf.eq_of_forall_mem_univ hHR2, Buf.eq_of_forall_mem_univ hHR3, Buf.eq_of_forall_mem_univ hHR4⟩
      iexact HSI)
    (hQ := fun _ h hz => ⟨h, funext fun g => hz g (.inr (by revert g; decide))⟩)

/-- The frame, with the counters. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).1, h.2⟩) (run_main m ρ)

end Cert.KernelIdeal.Body

end
-- ==== Proof.Spec.lean ====
/-
  The kernel's arithmetic at one index, as scalars: the quantiser's field, scale and code of a row, and what attention makes of them.
-/
module

public import Idealize.ShloMosaic.Lib.Pointwise

@[expose] public section

noncomputable section

namespace Cert.Spec

open Idealize.ShloMosaic

/-- The largest magnitude of a row, times the reciprocal of the largest code. -/
def peak (w : Fin 64 → EReal) : EReal :=
  Finset.fold max (Ideal.ofBits .f32 4286578688#32) (fun x => FloatOps.absf (F := Ideal) (φ := .f32) (w x)) Finset.univ * Ideal.ofBits .f32 991054117#32

/-- The kernel's exponent field of a peak. -/
def field₀ (f : EReal) : BitVec 32 :=
  Finset.fold IntOp.maxsi 2147483648#32 (fun x : Fin 256 => if Ideal.ofBits .f32 (IntOp.shli ArithUnit.vector (BitVec.ofNat 32 x) 23#32) ≤ f then BitVec.ofNat 32 x else 0#32) Finset.univ

/-- The field it uses: 126 where the exponent field is all zeros or all ones. -/
def field (f : EReal) : BitVec 32 :=
  Scalar.select (IntOp.ori (IntOp.cmpi .eq (field₀ f) 0#32) (IntOp.cmpi .eq (field₀ f) 255#32)) 126#32 (field₀ f)

/-- The kernel's scale of a peak. -/
def scaleK (f : EReal) : EReal := Ideal.ofBits .f32 (IntOp.shli ArithUnit.vector (IntOp.addi (field f) 1#32) 23#32)

/-- Its reciprocal. -/
def inverseK (f : EReal) : EReal := Ideal.ofBits .f32 (IntOp.shli ArithUnit.vector (IntOp.subi 253#32 (field f)) 23#32)

/-- The kernel's code of a value. -/
def codeK (f x : EReal) : EReal := min (Ideal.ofBits .f32 1138753536#32) (max (Ideal.ofBits .f32 3286237184#32) (x * inverseK f))

/-- The reference's scale of a peak. -/
def scaleR (f : EReal) : EReal :=
  if f < Ideal.ofBits .f32 8388608#32 then 1 else
    Finset.fold min (Ideal.ofBits .f32 2139095040#32)
      (fun x : Fin 256 =>
        if f < FloatOps.exp2 (F := Ideal) (φ := .f32) (FloatOps.sitofp (F := Ideal) .f32 (IntOp.subi (BitVec.ofNat 32 x) 126#32)) then
          FloatOps.exp2 (F := Ideal) (φ := .f32) (FloatOps.sitofp (F := Ideal) .f32 (IntOp.subi (BitVec.ofNat 32 x) 126#32))
        else Ideal.ofBits .f32 2139095040#32) Finset.univ

/-- The reference's code of a value. -/
def codeR (f x : EReal) : EReal := min (Ideal.ofBits .f32 1138753536#32) (max (Ideal.ofBits .f32 3286237184#32) (Ideal.div x (scaleR f)))

end Cert.Spec

end
-- ==== Proof.Loads.lean ====
/-
  What a load reads of a scratch the body filled by whole copies, or by four copies of one row each.
-/
module

public import proofs.«01_k».proof.Proof.BodyI
public import proofs.«01_k».proof.Proof.Start
public import Idealize.ShloMosaic.Lib.Pointwise
public import Idealize.ShloMosaic.Lib.Pipeline.Value

@[expose] public section

set_option maxRecDepth 16384

noncomputable section

namespace Cert.KernelIdeal.Val

open Cert.KernelIdeal Cert.KernelIdeal.Gen Cert.KernelIdeal.Body
open Idealize.ShloMosaic
open Idealize.ShloMosaic.TcCoe Idealize.ShloMosaic.Tactic

variable {F : FTy → Type} [FloatOps F] [Named F]

section General

variable {sig : RefSig} {κ κ' : Kind} {cs cs' : Space} {e : EltTy} {Val : EltTy → Type} {R N T : ℕ}

/-- One copy of the rows of one batch: the slice `[b, 0, 0] [1, R, N]` of the destination from the slice `[b, 0, o] [1, R, N]` of the source. -/
theorem four (M : Memref sig κ cs ⟨3, ![4, R, N]⟩ e) (f : M.view.ty.Contents Val) (S : Memref sig κ' cs' ⟨3, ![4, R, T]⟩ e) (g : S.view.ty.Contents Val)
    {o0 o1 o2 o3 : Fin 3 → ℕ} (st : Fin 4 → ℕ) (hst : ∀ b, st b + N ≤ T) (ho0 : o0 = ![0, 0, st 0]) (ho1 : o1 = ![1, 0, st 1]) (ho2 : o2 = ![2, 0, st 2]) (ho3 : o3 = ![3, 0, st 3])
    (i0 : ∀ a, (![0, 0, 0] : Fin 3 → ℕ) a + (![1, R, N] : Fin 3 → ℕ) a ≤ (![4, R, N] : Fin 3 → ℕ) a) (i1 : ∀ a, (![1, 0, 0] : Fin 3 → ℕ) a + (![1, R, N] : Fin 3 → ℕ) a ≤ (![4, R, N] : Fin 3 → ℕ) a)
    (i2 : ∀ a, (![2, 0, 0] : Fin 3 → ℕ) a + (![1, R, N] : Fin 3 → ℕ) a ≤ (![4, R, N] : Fin 3 → ℕ) a) (i3 : ∀ a, (![3, 0, 0] : Fin 3 → ℕ) a + (![1, R, N] : Fin 3 → ℕ) a ≤ (![4, R, N] : Fin 3 → ℕ) a)
    (j0 : ∀ a, o0 a + (![1, R, N] : Fin 3 → ℕ) a ≤ (![4, R, T] : Fin 3 → ℕ) a) (j1 : ∀ a, o1 a + (![1, R, N] : Fin 3 → ℕ) a ≤ (![4, R, T] : Fin 3 → ℕ) a)
    (j2 : ∀ a, o2 a + (![1, R, N] : Fin 3 → ℕ) a ≤ (![4, R, T] : Fin 3 → ℕ) a) (j3 : ∀ a, o3 a + (![1, R, N] : Fin 3 → ℕ) a ≤ (![4, R, T] : Fin 3 → ℕ) a)
    (h : (⟨3, ![1, R, N]⟩ : Shape).Squeezes ⟨2, ![R, N]⟩) (u : ∀ (o : Fin 3 → ℕ) (i : ∀ a, o a + (![1, R, N] : Fin 3 → ℕ) a ≤ (![4, R, N] : Fin 3 → ℕ) a) a, (Rect.unit (s := ⟨3, ![4, R, N]⟩) o ![1, R, N] i).stride a = 1)
    (u' : ∀ (o : Fin 3 → ℕ) (i : ∀ a, o a + (![1, R, N] : Fin 3 → ℕ) a ≤ (![4, R, T] : Fin 3 → ℕ) a) a, (Rect.unit (s := ⟨3, ![4, R, T]⟩) o ![1, R, N] i).stride a = 1)
    (b : Fin 4) (r : Fin R) (j : Fin N) :
    M.view.read Val
      (((M.slice (Rect.unit (s := ⟨3, ![4, R, N]⟩) ![3, 0, 0] ![1, R, N] i3) (u _ i3)).squeeze ⟨2, ![R, N]⟩ h).view.write Val
        (((M.slice (Rect.unit (s := ⟨3, ![4, R, N]⟩) ![2, 0, 0] ![1, R, N] i2) (u _ i2)).squeeze ⟨2, ![R, N]⟩ h).view.write Val
          (((M.slice (Rect.unit (s := ⟨3, ![4, R, N]⟩) ![1, 0, 0] ![1, R, N] i1) (u _ i1)).squeeze ⟨2, ![R, N]⟩ h).view.write Val
            (((M.slice (Rect.unit (s := ⟨3, ![4, R, N]⟩) ![0, 0, 0] ![1, R, N] i0) (u _ i0)).squeeze ⟨2, ![R, N]⟩ h).view.write Val f
              (((S.slice (Rect.unit (s := ⟨3, ![4, R, T]⟩) o0 ![1, R, N] j0) (u' _ j0)).squeeze ⟨2, ![R, N]⟩ h).view.read Val g) Finset.univ)
            (((S.slice (Rect.unit (s := ⟨3, ![4, R, T]⟩) o1 ![1, R, N] j1) (u' _ j1)).squeeze ⟨2, ![R, N]⟩ h).view.read Val g) Finset.univ)
          (((S.slice (Rect.unit (s := ⟨3, ![4, R, T]⟩) o2 ![1, R, N] j2) (u' _ j2)).squeeze ⟨2, ![R, N]⟩ h).view.read Val g) Finset.univ)
        (((S.slice (Rect.unit (s := ⟨3, ![4, R, T]⟩) o3 ![1, R, N] j3) (u' _ j3)).squeeze ⟨2, ![R, N]⟩ h).view.read Val g) Finset.univ)
      (ix3 b r j) = S.view.read Val g (ix3 b r ⟨st b + j, by have := hst b; omega⟩) := by
  subst ho0 ho1 ho2 ho3
  have sq : ∀ (o o' : Fin 3 → ℕ) (i : ∀ a, o a + (![1, R, N] : Fin 3 → ℕ) a ≤ (![4, R, N] : Fin 3 → ℕ) a) (i' : ∀ a, o' a + (![1, R, N] : Fin 3 → ℕ) a ≤ (![4, R, T] : Fin 3 → ℕ) a)
      (hr) (hr') (f : M.view.ty.Contents Val),
      ((M.slice (Rect.unit (s := ⟨3, ![4, R, N]⟩) o ![1, R, N] i) hr).squeeze ⟨2, ![R, N]⟩ h).view.write Val f
        (((S.slice (Rect.unit (s := ⟨3, ![4, R, T]⟩) o' ![1, R, N] i') hr').squeeze ⟨2, ![R, N]⟩ h).view.read Val g) Finset.univ
      = (M.view.slice (Rect.unit (s := ⟨3, ![4, R, N]⟩) o ![1, R, N] i)).write Val f (fun x => S.view.read Val g ((Rect.unit (s := ⟨3, ![4, R, T]⟩) o' ![1, R, N] i').emb x)) Finset.univ := by
    intro o o' i i' hr hr' f
    refine (View.write_reshape_univ (M.view.slice (Rect.unit (s := ⟨3, ![4, R, N]⟩) o ![1, R, N] i)) h.numel_eq f _).trans (congrArg (fun w => View.write Val (M.view.slice (Rect.unit (s := ⟨3, ![4, R, N]⟩) o ![1, R, N] i)) f w Finset.univ) (funext fun x => ?_))
    show S.view.read Val g ((Rect.unit (s := ⟨3, ![4, R, T]⟩) o' ![1, R, N] i').emb (Shape.reshapeEquiv h.numel_eq ((Shape.reshapeEquiv h.numel_eq).symm x))) = _
    rw [Equiv.apply_symm_apply]
  rw [sq, sq, sq, sq]
  let G : (⟨3, ![4, R, N]⟩ : Shape).Idx → Val e := fun y => S.view.read Val g (ix3 (y 0) (y 1) ⟨st (y 0) + (y 2).val, by have := hst (y 0); have := (y 2).isLt; simp at this; omega⟩)
  have key1 : ∀ (b : Fin 4) (o o' : Fin 3 → ℕ) (i : ∀ a, o a + (![1, R, N] : Fin 3 → ℕ) a ≤ (![4, R, N] : Fin 3 → ℕ) a) (i' : ∀ a, o' a + (![1, R, N] : Fin 3 → ℕ) a ≤ (![4, R, T] : Fin 3 → ℕ) a)
      (_ : o = ![b.val, 0, 0]) (_ : o' = ![b.val, 0, st b]) (x : (⟨3, ![1, R, N]⟩ : Shape).Idx),
      S.view.read Val g ((Rect.unit (s := ⟨3, ![4, R, T]⟩) o' ![1, R, N] i').emb x) = G ((Rect.unit (s := ⟨3, ![4, R, N]⟩) o ![1, R, N] i).emb x) := by
    rintro b o o' i i' rfl rfl x
    obtain ⟨r, j, rfl⟩ : ∃ (r : Fin R) (j : Fin N), x = ix3 (0 : Fin 1) r j := ⟨x 1, x 2, funext fun a => by
      match a with
      | 0 => exact Fin.ext (by have h0 : (x 0).val < 1 := (x 0).isLt; show (x 0).val = 0; omega)
      | 1 => rfl
      | 2 => rfl⟩
    refine congrArg (S.view.read Val g) (funext fun a => Fin.ext ?_)
    match a with
    | 0 => rfl
    | 1 => show 0 + 1 * r.val = 0 + 1 * r.val; rfl
    | 2 =>
      show st b + 1 * j.val = st ⟨b.val + 1 * 0, _⟩ + (0 + 1 * j.val)
      simp
  refine View.read_writes_apply_of_pieces M.view f G
    [⟨Rect.unit (s := ⟨3, ![4, R, N]⟩) ![3, 0, 0] ![1, R, N] i3, _⟩, ⟨Rect.unit (s := ⟨3, ![4, R, N]⟩) ![2, 0, 0] ![1, R, N] i2, _⟩, ⟨Rect.unit (s := ⟨3, ![4, R, N]⟩) ![1, 0, 0] ![1, R, N] i1, _⟩, ⟨Rect.unit (s := ⟨3, ![4, R, N]⟩) ![0, 0, 0] ![1, R, N] i0, _⟩]
    ?_ (ix3 b r j) ?_
  · intro p hp x
    rw [List.mem_cons, List.mem_cons, List.mem_cons, List.mem_singleton] at hp
    rcases hp with rfl | rfl | rfl | rfl
    · exact key1 3 _ _ i3 j3 rfl rfl x
    · exact key1 2 _ _ i2 j2 rfl rfl x
    · exact key1 1 _ _ i1 j1 rfl rfl x
    · exact key1 0 _ _ i0 j0 rfl rfl x
  · have key : ∀ (o : Fin 3 → ℕ) (i : ∀ a, o a + (![1, R, N] : Fin 3 → ℕ) a ≤ (![4, R, N] : Fin 3 → ℕ) a), o = ![b.val, 0, 0] →
        (ix3 b r j : (⟨3, ![4, R, N]⟩ : Shape).Idx) ∈ (Rect.unit (s := ⟨3, ![4, R, N]⟩) o ![1, R, N] i).set := by
      rintro o i rfl
      refine (LoadRect.mem_set _).mpr fun a => ?_
      match a with
      | 0 => exact ⟨0, Nat.one_pos, by show b.val = b.val + 1 * 0; omega⟩
      | 1 => exact ⟨r.val, r.isLt, by show r.val = 0 + 1 * r.val; omega⟩
      | 2 => exact ⟨j.val, j.isLt, by show j.val = 0 + 1 * j.val; omega⟩
    match b, key with
    | 0, key => exact ⟨_, .tail _ (.tail _ (.tail _ (.head _))), key _ i0 rfl⟩
    | 1, key => exact ⟨_, .tail _ (.tail _ (.head _)), key _ i1 rfl⟩
    | 2, key => exact ⟨_, .tail _ (.head _), key _ i2 rfl⟩
    | 3, key => exact ⟨_, .head _, key _ i3 rfl⟩

end General

/-- The arguments as vectors. -/
abbrev rq (c : Dev nD) (f : Bf (F := F) c (Memref.whole main_arg0)) : S4x1x64x64.Idx → Elt F .bf16 := (Memref.whole main_arg0).view.read (Elt F) f
abbrev rkn (c : Dev nD) (f : Bf (F := F) c (Memref.whole main_arg1)) : S4x1x8x64.Idx → Elt F .bf16 := (Memref.whole main_arg1).view.read (Elt F) f
abbrev rvn (c : Dev nD) (f : Bf (F := F) c (Memref.whole main_arg2)) : S4x1x8x64.Idx → Elt F .bf16 := (Memref.whole main_arg2).view.read (Elt F) f
abbrev rk (c : Dev nD) (f : Bf (F := F) c (Memref.whole main_v1)) : S4x512x131072.Idx → Elt F .fp8e4m3 := (Memref.whole main_v1).view.read (Elt F) f
abbrev rv (c : Dev nD) (f : Bf (F := F) c (Memref.whole main_v3)) : S4x512x131072.Idx → Elt F .fp8e4m3 := (Memref.whole main_v3).view.read (Elt F) f
abbrev rks (c : Dev nD) (f : Bf (F := F) c (Memref.whole main_v4)) : S4x8x131072.Idx → Elt F .f32 := (Memref.whole main_v4).view.read (Elt F) f
abbrev rvs (c : Dev nD) (f : Bf (F := F) c (Memref.whole main_v5)) : S4x8x131072.Idx → Elt F .f32 := (Memref.whole main_v5).view.read (Elt F) f
abbrev rl (c : Dev nD) (f : Bf (F := F) c (Memref.whole main_arg7)) : S4.Idx → Elt F .i32 := (Memref.whole main_arg7).view.read (Elt F) f

/-- Where the window of batch `b` begins. -/
abbrev st (c : Dev nD) (f7 : Bf (F := F) c (Memref.whole main_arg7)) (b : Fin 4) : ℕ := (Cert.Win.start (rl c f7 (ix1 b))).toNat

theorem st_le (c : Dev nD) (f7 : Bf (F := F) c (Memref.whole main_arg7)) (b : Fin 4) : st c f7 b + 1152 ≤ 131072 := by
  have := Cert.Win.start_le (rl c f7 (ix1 b)); show (Cert.Win.start (rl c f7 (ix1 b))).toNat + 1152 ≤ 131072; omega

theorem word0 (c : Dev nD) (f7 : Bf (F := F) c (Memref.whole main_arg7)) (s7) : kernelRun.sl.r c f7 s7 = rl c f7 (ix1 0) := by
  unfold kernelRun.sl.r kernelRun.sl.dma0
  rw [View.readAt_apply, View.read_write_univ]
  refine congrArg (rl c f7) (funext fun a => ?_)
  match a with | 0 => rfl
theorem word1 (c : Dev nD) (f7 : Bf (F := F) c (Memref.whole main_arg7)) (s7) : kernelRun.sl.r_1 c f7 s7 = rl c f7 (ix1 1) := by
  unfold kernelRun.sl.r_1 kernelRun.sl.dma0
  rw [View.readAt_apply, View.read_write_univ]
  refine congrArg (rl c f7) (funext fun a => ?_)
  match a with | 0 => rfl
theorem word2 (c : Dev nD) (f7 : Bf (F := F) c (Memref.whole main_arg7)) (s7) : kernelRun.sl.r_2 c f7 s7 = rl c f7 (ix1 2) := by
  unfold kernelRun.sl.r_2 kernelRun.sl.dma0
  rw [View.readAt_apply, View.read_write_univ]
  refine congrArg (rl c f7) (funext fun a => ?_)
  match a with | 0 => rfl
theorem word3 (c : Dev nD) (f7 : Bf (F := F) c (Memref.whole main_arg7)) (s7) : kernelRun.sl.r_3 c f7 s7 = rl c f7 (ix1 3) := by
  unfold kernelRun.sl.r_3 kernelRun.sl.dma0
  rw [View.readAt_apply, View.read_write_univ]
  refine congrArg (rl c f7) (funext fun a => ?_)
  match a with | 0 => rfl

theorem ld132 (c : Dev nD) (f1 s1) (r : Fin 8) (d : Fin 64) : kernelRun.sl.v132 (F := F) c f1 s1 (ix4 0 0 r d) = rkn c f1 (ix4 0 0 r d) := by
  unfold kernelRun.sl.v132 kernelRun.sl.dma4_1
  rw [View.readAt_apply, View.read_write_univ]
  refine congrArg (rkn c f1) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld190 (c : Dev nD) (f0 s0) (r : Fin 64) (d : Fin 64) : kernelRun.sl.v190 (F := F) c f0 s0 (ix4 0 0 r d) = rq c f0 (ix4 0 0 r d) := by
  unfold kernelRun.sl.v190 kernelRun.sl.dma4
  rw [View.readAt_apply, View.read_write_univ]
  refine congrArg (rq c f0) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld208 (c : Dev nD) (f2 s2) (r : Fin 8) (d : Fin 64) : kernelRun.sl.v208 (F := F) c f2 s2 (ix4 0 0 r d) = rvn c f2 (ix4 0 0 r d) := by
  unfold kernelRun.sl.v208 kernelRun.sl.dma4_2
  rw [View.readAt_apply, View.read_write_univ]
  refine congrArg (rvn c f2) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld266 (c : Dev nD) (f1 s1) (r : Fin 8) (d : Fin 64) : kernelRun.sl.v266 (F := F) c f1 s1 (ix4 0 0 r d) = rkn c f1 (ix4 1 0 r d) := by
  unfold kernelRun.sl.v266 kernelRun.sl.dma4_1
  rw [View.readAt_apply, View.read_write_univ]
  refine congrArg (rkn c f1) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld324 (c : Dev nD) (f0 s0) (r : Fin 64) (d : Fin 64) : kernelRun.sl.v324 (F := F) c f0 s0 (ix4 0 0 r d) = rq c f0 (ix4 1 0 r d) := by
  unfold kernelRun.sl.v324 kernelRun.sl.dma4
  rw [View.readAt_apply, View.read_write_univ]
  refine congrArg (rq c f0) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld342 (c : Dev nD) (f2 s2) (r : Fin 8) (d : Fin 64) : kernelRun.sl.v342 (F := F) c f2 s2 (ix4 0 0 r d) = rvn c f2 (ix4 1 0 r d) := by
  unfold kernelRun.sl.v342 kernelRun.sl.dma4_2
  rw [View.readAt_apply, View.read_write_univ]
  refine congrArg (rvn c f2) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld400 (c : Dev nD) (f1 s1) (r : Fin 8) (d : Fin 64) : kernelRun.sl.v400 (F := F) c f1 s1 (ix4 0 0 r d) = rkn c f1 (ix4 2 0 r d) := by
  unfold kernelRun.sl.v400 kernelRun.sl.dma4_1
  rw [View.readAt_apply, View.read_write_univ]
  refine congrArg (rkn c f1) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld458 (c : Dev nD) (f0 s0) (r : Fin 64) (d : Fin 64) : kernelRun.sl.v458 (F := F) c f0 s0 (ix4 0 0 r d) = rq c f0 (ix4 2 0 r d) := by
  unfold kernelRun.sl.v458 kernelRun.sl.dma4
  rw [View.readAt_apply, View.read_write_univ]
  refine congrArg (rq c f0) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld476 (c : Dev nD) (f2 s2) (r : Fin 8) (d : Fin 64) : kernelRun.sl.v476 (F := F) c f2 s2 (ix4 0 0 r d) = rvn c f2 (ix4 2 0 r d) := by
  unfold kernelRun.sl.v476 kernelRun.sl.dma4_2
  rw [View.readAt_apply, View.read_write_univ]
  refine congrArg (rvn c f2) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld534 (c : Dev nD) (f1 s1) (r : Fin 8) (d : Fin 64) : kernelRun.sl.v534 (F := F) c f1 s1 (ix4 0 0 r d) = rkn c f1 (ix4 3 0 r d) := by
  unfold kernelRun.sl.v534 kernelRun.sl.dma4_1
  rw [View.readAt_apply, View.read_write_univ]
  refine congrArg (rkn c f1) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld592 (c : Dev nD) (f0 s0) (r : Fin 64) (d : Fin 64) : kernelRun.sl.v592 (F := F) c f0 s0 (ix4 0 0 r d) = rq c f0 (ix4 3 0 r d) := by
  unfold kernelRun.sl.v592 kernelRun.sl.dma4
  rw [View.readAt_apply, View.read_write_univ]
  refine congrArg (rq c f0) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld610 (c : Dev nD) (f2 s2) (r : Fin 8) (d : Fin 64) : kernelRun.sl.v610 (F := F) c f2 s2 (ix4 0 0 r d) = rvn c f2 (ix4 3 0 r d) := by
  unfold kernelRun.sl.v610 kernelRun.sl.dma4_2
  rw [View.readAt_apply, View.read_write_univ]
  refine congrArg (rvn c f2) (funext fun a => Fin.ext ?_)
  match a with
  | 0 => rfl
  | 1 => rfl
  | 2 => exact (congrArg (0 + ·) (Nat.one_mul _)).trans (Nat.zero_add _)
  | 3 => exact (congrArg (0 + ·) (Nat.one_mul _)).trans (Nat.zero_add _)

theorem ld756 (c : Dev nD) (f0 s0) (r : Fin 32) (d : Fin 64) : kernelRun.sl.v756 (F := F) c f0 s0 (ix4 0 0 r d) = rq c f0 (ix4 0 0 ⟨0 + r, by omega⟩ d) := by
  unfold kernelRun.sl.v756 kernelRun.sl.dma4
  rw [View.readAt_apply, View.read_write_univ]
  refine congrArg (rq c f0) (funext fun a => Fin.ext ?_)
  match a with
  | 0 => rfl
  | 1 => rfl
  | 2 => exact congrArg (0 + ·) (Nat.one_mul _)
  | 3 => exact (congrArg (0 + ·) (Nat.one_mul _)).trans (Nat.zero_add _)

theorem ld762 (c : Dev nD) (f3 f7 s3 s7) (r : Fin 256) (j : Fin 1152) : kernelRun.sl.v762 (F := F) c f3 f7 s3 s7 (ix3 0 r j) = rk c f3 (ix3 0 ⟨0 + r, by omega⟩ ⟨st c f7 0 + j, by have := st_le c f7 0; omega⟩) := by
  unfold kernelRun.sl.v762
  rw [View.readAt_apply]
  refine Eq.trans (congrArg _ (a₂ := ix3 (0 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld766 (c : Dev nD) (f5 f7 s5 s7) (j : Fin 1152) : kernelRun.sl.v766 (F := F) c f5 f7 s5 s7 (ix3 0 0 j) = rks c f5 (ix3 0 0 ⟨st c f7 0 + j, by have := st_le c f7 0; omega⟩) := by
  unfold kernelRun.sl.v766
  rw [View.readAt_apply]
  refine Eq.trans (congrArg _ (a₂ := ix3 (0 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld789 (c : Dev nD) (f6 f7 s6 s7) (j : Fin 1152) : kernelRun.sl.v789 (F := F) c f6 f7 s6 s7 (ix3 0 0 j) = rvs c f6 (ix3 0 0 ⟨st c f7 0 + j, by have := st_le c f7 0; omega⟩) := by
  unfold kernelRun.sl.v789
  rw [View.readAt_apply]
  refine Eq.trans (congrArg _ (a₂ := ix3 (0 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld805 (c : Dev nD) (f5 f7 s5 s7) (j : Fin 1152) : kernelRun.sl.v805 (F := F) c f5 f7 s5 s7 (ix3 0 0 j) = rks c f5 (ix3 0 1 ⟨st c f7 0 + j, by have := st_le c f7 0; omega⟩) := by
  unfold kernelRun.sl.v805
  rw [View.readAt_apply]
  refine Eq.trans (congrArg _ (a₂ := ix3 (0 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld828 (c : Dev nD) (f6 f7 s6 s7) (j : Fin 1152) : kernelRun.sl.v828 (F := F) c f6 f7 s6 s7 (ix3 0 0 j) = rvs c f6 (ix3 0 1 ⟨st c f7 0 + j, by have := st_le c f7 0; omega⟩) := by
  unfold kernelRun.sl.v828
  rw [View.readAt_apply]
  refine Eq.trans (congrArg _ (a₂ := ix3 (0 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld844 (c : Dev nD) (f5 f7 s5 s7) (j : Fin 1152) : kernelRun.sl.v844 (F := F) c f5 f7 s5 s7 (ix3 0 0 j) = rks c f5 (ix3 0 2 ⟨st c f7 0 + j, by have := st_le c f7 0; omega⟩) := by
  unfold kernelRun.sl.v844
  rw [View.readAt_apply]
  refine Eq.trans (congrArg _ (a₂ := ix3 (0 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld867 (c : Dev nD) (f6 f7 s6 s7) (j : Fin 1152) : kernelRun.sl.v867 (F := F) c f6 f7 s6 s7 (ix3 0 0 j) = rvs c f6 (ix3 0 2 ⟨st c f7 0 + j, by have := st_le c f7 0; omega⟩) := by
  unfold kernelRun.sl.v867
  rw [View.readAt_apply]
  refine Eq.trans (congrArg _ (a₂ := ix3 (0 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld883 (c : Dev nD) (f5 f7 s5 s7) (j : Fin 1152) : kernelRun.sl.v883 (F := F) c f5 f7 s5 s7 (ix3 0 0 j) = rks c f5 (ix3 0 3 ⟨st c f7 0 + j, by have := st_le c f7 0; omega⟩) := by
  unfold kernelRun.sl.v883
  rw [View.readAt_apply]
  refine Eq.trans (congrArg _ (a₂ := ix3 (0 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld906 (c : Dev nD) (f6 f7 s6 s7) (j : Fin 1152) : kernelRun.sl.v906 (F := F) c f6 f7 s6 s7 (ix3 0 0 j) = rvs c f6 (ix3 0 3 ⟨st c f7 0 + j, by have := st_le c f7 0; omega⟩) := by
  unfold kernelRun.sl.v906
  rw [View.readAt_apply]
  refine Eq.trans (congrArg _ (a₂ := ix3 (0 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld921 (c : Dev nD) (f0 s0) (r : Fin 32) (d : Fin 64) : kernelRun.sl.v921 (F := F) c f0 s0 (ix4 0 0 r d) = rq c f0 (ix4 0 0 ⟨32 + r, by omega⟩ d) := by
  unfold kernelRun.sl.v921 kernelRun.sl.dma4
  rw [View.readAt_apply, View.read_write_univ]
  refine congrArg (rq c f0) (funext fun a => Fin.ext ?_)
  match a with
  | 0 => rfl
  | 1 => rfl
  | 2 => exact congrArg (32 + ·) (Nat.one_mul _)
  | 3 => exact (congrArg (0 + ·) (Nat.one_mul _)).trans (Nat.zero_add _)

theorem ld927 (c : Dev nD) (f3 f7 s3 s7) (r : Fin 256) (j : Fin 1152) : kernelRun.sl.v927 (F := F) c f3 f7 s3 s7 (ix3 0 r j) = rk c f3 (ix3 0 ⟨256 + r, by omega⟩ ⟨st c f7 0 + j, by have := st_le c f7 0; omega⟩) := by
  unfold kernelRun.sl.v927
  rw [View.readAt_apply]
  refine Eq.trans (congrArg _ (a₂ := ix3 (0 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld931 (c : Dev nD) (f5 f7 s5 s7) (j : Fin 1152) : kernelRun.sl.v931 (F := F) c f5 f7 s5 s7 (ix3 0 0 j) = rks c f5 (ix3 0 4 ⟨st c f7 0 + j, by have := st_le c f7 0; omega⟩) := by
  unfold kernelRun.sl.v931
  rw [View.readAt_apply]
  refine Eq.trans (congrArg _ (a₂ := ix3 (0 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld954 (c : Dev nD) (f6 f7 s6 s7) (j : Fin 1152) : kernelRun.sl.v954 (F := F) c f6 f7 s6 s7 (ix3 0 0 j) = rvs c f6 (ix3 0 4 ⟨st c f7 0 + j, by have := st_le c f7 0; omega⟩) := by
  unfold kernelRun.sl.v954
  rw [View.readAt_apply]
  refine Eq.trans (congrArg _ (a₂ := ix3 (0 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld970 (c : Dev nD) (f5 f7 s5 s7) (j : Fin 1152) : kernelRun.sl.v970 (F := F) c f5 f7 s5 s7 (ix3 0 0 j) = rks c f5 (ix3 0 5 ⟨st c f7 0 + j, by have := st_le c f7 0; omega⟩) := by
  unfold kernelRun.sl.v970
  rw [View.readAt_apply]
  refine Eq.trans (congrArg _ (a₂ := ix3 (0 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld993 (c : Dev nD) (f6 f7 s6 s7) (j : Fin 1152) : kernelRun.sl.v993 (F := F) c f6 f7 s6 s7 (ix3 0 0 j) = rvs c f6 (ix3 0 5 ⟨st c f7 0 + j, by have := st_le c f7 0; omega⟩) := by
  unfold kernelRun.sl.v993
  rw [View.readAt_apply]
  refine Eq.trans (congrArg _ (a₂ := ix3 (0 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld1009 (c : Dev nD) (f5 f7 s5 s7) (j : Fin 1152) : kernelRun.sl.v1009 (F := F) c f5 f7 s5 s7 (ix3 0 0 j) = rks c f5 (ix3 0 6 ⟨st c f7 0 + j, by have := st_le c f7 0; omega⟩) := by
  unfold kernelRun.sl.v1009
  rw [View.readAt_apply]
  refine Eq.trans (congrArg _ (a₂ := ix3 (0 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld1032 (c : Dev nD) (f6 f7 s6 s7) (j : Fin 1152) : kernelRun.sl.v1032 (F := F) c f6 f7 s6 s7 (ix3 0 0 j) = rvs c f6 (ix3 0 6 ⟨st c f7 0 + j, by have := st_le c f7 0; omega⟩) := by
  unfold kernelRun.sl.v1032
  rw [View.readAt_apply]
  refine Eq.trans (congrArg _ (a₂ := ix3 (0 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld1048 (c : Dev nD) (f5 f7 s5 s7) (j : Fin 1152) : kernelRun.sl.v1048 (F := F) c f5 f7 s5 s7 (ix3 0 0 j) = rks c f5 (ix3 0 7 ⟨st c f7 0 + j, by have := st_le c f7 0; omega⟩) := by
  unfold kernelRun.sl.v1048
  rw [View.readAt_apply]
  refine Eq.trans (congrArg _ (a₂ := ix3 (0 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld1071 (c : Dev nD) (f6 f7 s6 s7) (j : Fin 1152) : kernelRun.sl.v1071 (F := F) c f6 f7 s6 s7 (ix3 0 0 j) = rvs c f6 (ix3 0 7 ⟨st c f7 0 + j, by have := st_le c f7 0; omega⟩) := by
  unfold kernelRun.sl.v1071
  rw [View.readAt_apply]
  refine Eq.trans (congrArg _ (a₂ := ix3 (0 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld1115 (c : Dev nD) (f0 s0) (r : Fin 32) (d : Fin 64) : kernelRun.sl.v1115 (F := F) c f0 s0 (ix4 0 0 r d) = rq c f0 (ix4 1 0 ⟨0 + r, by omega⟩ d) := by
  unfold kernelRun.sl.v1115 kernelRun.sl.dma4
  rw [View.readAt_apply, View.read_write_univ]
  refine congrArg (rq c f0) (funext fun a => Fin.ext ?_)
  match a with
  | 0 => rfl
  | 1 => rfl
  | 2 => exact congrArg (0 + ·) (Nat.one_mul _)
  | 3 => exact (congrArg (0 + ·) (Nat.one_mul _)).trans (Nat.zero_add _)

theorem ld1121 (c : Dev nD) (f3 f7 s3 s7) (r : Fin 256) (j : Fin 1152) : kernelRun.sl.v1121 (F := F) c f3 f7 s3 s7 (ix3 0 r j) = rk c f3 (ix3 1 ⟨0 + r, by omega⟩ ⟨st c f7 1 + j, by have := st_le c f7 1; omega⟩) := by
  unfold kernelRun.sl.v1121
  rw [View.readAt_apply]
  refine Eq.trans (congrArg _ (a₂ := ix3 (1 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1125 (c : Dev nD) (f5 f7 s5 s7) (j : Fin 1152) : kernelRun.sl.v1125 (F := F) c f5 f7 s5 s7 (ix3 0 0 j) = rks c f5 (ix3 1 0 ⟨st c f7 1 + j, by have := st_le c f7 1; omega⟩) := by
  unfold kernelRun.sl.v1125
  rw [View.readAt_apply]
  refine Eq.trans (congrArg _ (a₂ := ix3 (1 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1148 (c : Dev nD) (f6 f7 s6 s7) (j : Fin 1152) : kernelRun.sl.v1148 (F := F) c f6 f7 s6 s7 (ix3 0 0 j) = rvs c f6 (ix3 1 0 ⟨st c f7 1 + j, by have := st_le c f7 1; omega⟩) := by
  unfold kernelRun.sl.v1148
  rw [View.readAt_apply]
  refine Eq.trans (congrArg _ (a₂ := ix3 (1 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1164 (c : Dev nD) (f5 f7 s5 s7) (j : Fin 1152) : kernelRun.sl.v1164 (F := F) c f5 f7 s5 s7 (ix3 0 0 j) = rks c f5 (ix3 1 1 ⟨st c f7 1 + j, by have := st_le c f7 1; omega⟩) := by
  unfold kernelRun.sl.v1164
  rw [View.readAt_apply]
  refine Eq.trans (congrArg _ (a₂ := ix3 (1 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1187 (c : Dev nD) (f6 f7 s6 s7) (j : Fin 1152) : kernelRun.sl.v1187 (F := F) c f6 f7 s6 s7 (ix3 0 0 j) = rvs c f6 (ix3 1 1 ⟨st c f7 1 + j, by have := st_le c f7 1; omega⟩) := by
  unfold kernelRun.sl.v1187
  rw [View.readAt_apply]
  refine Eq.trans (congrArg _ (a₂ := ix3 (1 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1203 (c : Dev nD) (f5 f7 s5 s7) (j : Fin 1152) : kernelRun.sl.v1203 (F := F) c f5 f7 s5 s7 (ix3 0 0 j) = rks c f5 (ix3 1 2 ⟨st c f7 1 + j, by have := st_le c f7 1; omega⟩) := by
  unfold kernelRun.sl.v1203
  rw [View.readAt_apply]
  refine Eq.trans (congrArg _ (a₂ := ix3 (1 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1226 (c : Dev nD) (f6 f7 s6 s7) (j : Fin 1152) : kernelRun.sl.v1226 (F := F) c f6 f7 s6 s7 (ix3 0 0 j) = rvs c f6 (ix3 1 2 ⟨st c f7 1 + j, by have := st_le c f7 1; omega⟩) := by
  unfold kernelRun.sl.v1226
  rw [View.readAt_apply]
  refine Eq.trans (congrArg _ (a₂ := ix3 (1 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1242 (c : Dev nD) (f5 f7 s5 s7) (j : Fin 1152) : kernelRun.sl.v1242 (F := F) c f5 f7 s5 s7 (ix3 0 0 j) = rks c f5 (ix3 1 3 ⟨st c f7 1 + j, by have := st_le c f7 1; omega⟩) := by
  unfold kernelRun.sl.v1242
  rw [View.readAt_apply]
  refine Eq.trans (congrArg _ (a₂ := ix3 (1 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1265 (c : Dev nD) (f6 f7 s6 s7) (j : Fin 1152) : kernelRun.sl.v1265 (F := F) c f6 f7 s6 s7 (ix3 0 0 j) = rvs c f6 (ix3 1 3 ⟨st c f7 1 + j, by have := st_le c f7 1; omega⟩) := by
  unfold kernelRun.sl.v1265
  rw [View.readAt_apply]
  refine Eq.trans (congrArg _ (a₂ := ix3 (1 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1280 (c : Dev nD) (f0 s0) (r : Fin 32) (d : Fin 64) : kernelRun.sl.v1280 (F := F) c f0 s0 (ix4 0 0 r d) = rq c f0 (ix4 1 0 ⟨32 + r, by omega⟩ d) := by
  unfold kernelRun.sl.v1280 kernelRun.sl.dma4
  rw [View.readAt_apply, View.read_write_univ]
  refine congrArg (rq c f0) (funext fun a => Fin.ext ?_)
  match a with
  | 0 => rfl
  | 1 => rfl
  | 2 => exact congrArg (32 + ·) (Nat.one_mul _)
  | 3 => exact (congrArg (0 + ·) (Nat.one_mul _)).trans (Nat.zero_add _)

theorem ld1286 (c : Dev nD) (f3 f7 s3 s7) (r : Fin 256) (j : Fin 1152) : kernelRun.sl.v1286 (F := F) c f3 f7 s3 s7 (ix3 0 r j) = rk c f3 (ix3 1 ⟨256 + r, by omega⟩ ⟨st c f7 1 + j, by have := st_le c f7 1; omega⟩) := by
  unfold kernelRun.sl.v1286
  rw [View.readAt_apply]
  refine Eq.trans (congrArg _ (a₂ := ix3 (1 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1290 (c : Dev nD) (f5 f7 s5 s7) (j : Fin 1152) : kernelRun.sl.v1290 (F := F) c f5 f7 s5 s7 (ix3 0 0 j) = rks c f5 (ix3 1 4 ⟨st c f7 1 + j, by have := st_le c f7 1; omega⟩) := by
  unfold kernelRun.sl.v1290
  rw [View.readAt_apply]
  refine Eq.trans (congrArg _ (a₂ := ix3 (1 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1313 (c : Dev nD) (f6 f7 s6 s7) (j : Fin 1152) : kernelRun.sl.v1313 (F := F) c f6 f7 s6 s7 (ix3 0 0 j) = rvs c f6 (ix3 1 4 ⟨st c f7 1 + j, by have := st_le c f7 1; omega⟩) := by
  unfold kernelRun.sl.v1313
  rw [View.readAt_apply]
  refine Eq.trans (congrArg _ (a₂ := ix3 (1 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1329 (c : Dev nD) (f5 f7 s5 s7) (j : Fin 1152) : kernelRun.sl.v1329 (F := F) c f5 f7 s5 s7 (ix3 0 0 j) = rks c f5 (ix3 1 5 ⟨st c f7 1 + j, by have := st_le c f7 1; omega⟩) := by
  unfold kernelRun.sl.v1329
  rw [View.readAt_apply]
  refine Eq.trans (congrArg _ (a₂ := ix3 (1 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1352 (c : Dev nD) (f6 f7 s6 s7) (j : Fin 1152) : kernelRun.sl.v1352 (F := F) c f6 f7 s6 s7 (ix3 0 0 j) = rvs c f6 (ix3 1 5 ⟨st c f7 1 + j, by have := st_le c f7 1; omega⟩) := by
  unfold kernelRun.sl.v1352
  rw [View.readAt_apply]
  refine Eq.trans (congrArg _ (a₂ := ix3 (1 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1368 (c : Dev nD) (f5 f7 s5 s7) (j : Fin 1152) : kernelRun.sl.v1368 (F := F) c f5 f7 s5 s7 (ix3 0 0 j) = rks c f5 (ix3 1 6 ⟨st c f7 1 + j, by have := st_le c f7 1; omega⟩) := by
  unfold kernelRun.sl.v1368
  rw [View.readAt_apply]
  refine Eq.trans (congrArg _ (a₂ := ix3 (1 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1391 (c : Dev nD) (f6 f7 s6 s7) (j : Fin 1152) : kernelRun.sl.v1391 (F := F) c f6 f7 s6 s7 (ix3 0 0 j) = rvs c f6 (ix3 1 6 ⟨st c f7 1 + j, by have := st_le c f7 1; omega⟩) := by
  unfold kernelRun.sl.v1391
  rw [View.readAt_apply]
  refine Eq.trans (congrArg _ (a₂ := ix3 (1 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1407 (c : Dev nD) (f5 f7 s5 s7) (j : Fin 1152) : kernelRun.sl.v1407 (F := F) c f5 f7 s5 s7 (ix3 0 0 j) = rks c f5 (ix3 1 7 ⟨st c f7 1 + j, by have := st_le c f7 1; omega⟩) := by
  unfold kernelRun.sl.v1407
  rw [View.readAt_apply]
  refine Eq.trans (congrArg _ (a₂ := ix3 (1 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1430 (c : Dev nD) (f6 f7 s6 s7) (j : Fin 1152) : kernelRun.sl.v1430 (F := F) c f6 f7 s6 s7 (ix3 0 0 j) = rvs c f6 (ix3 1 7 ⟨st c f7 1 + j, by have := st_le c f7 1; omega⟩) := by
  unfold kernelRun.sl.v1430
  rw [View.readAt_apply]
  refine Eq.trans (congrArg _ (a₂ := ix3 (1 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld1474 (c : Dev nD) (f0 s0) (r : Fin 32) (d : Fin 64) : kernelRun.sl.v1474 (F := F) c f0 s0 (ix4 0 0 r d) = rq c f0 (ix4 2 0 ⟨0 + r, by omega⟩ d) := by
  unfold kernelRun.sl.v1474 kernelRun.sl.dma4
  rw [View.readAt_apply, View.read_write_univ]
  refine congrArg (rq c f0) (funext fun a => Fin.ext ?_)
  match a with
  | 0 => rfl
  | 1 => rfl
  | 2 => exact congrArg (0 + ·) (Nat.one_mul _)
  | 3 => exact (congrArg (0 + ·) (Nat.one_mul _)).trans (Nat.zero_add _)

theorem ld1480 (c : Dev nD) (f3 f7 s3 s7) (r : Fin 256) (j : Fin 1152) : kernelRun.sl.v1480 (F := F) c f3 f7 s3 s7 (ix3 0 r j) = rk c f3 (ix3 2 ⟨0 + r, by omega⟩ ⟨st c f7 2 + j, by have := st_le c f7 2; omega⟩) := by
  unfold kernelRun.sl.v1480
  rw [View.readAt_apply]
  refine Eq.trans (congrArg _ (a₂ := ix3 (2 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1484 (c : Dev nD) (f5 f7 s5 s7) (j : Fin 1152) : kernelRun.sl.v1484 (F := F) c f5 f7 s5 s7 (ix3 0 0 j) = rks c f5 (ix3 2 0 ⟨st c f7 2 + j, by have := st_le c f7 2; omega⟩) := by
  unfold kernelRun.sl.v1484
  rw [View.readAt_apply]
  refine Eq.trans (congrArg _ (a₂ := ix3 (2 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1507 (c : Dev nD) (f6 f7 s6 s7) (j : Fin 1152) : kernelRun.sl.v1507 (F := F) c f6 f7 s6 s7 (ix3 0 0 j) = rvs c f6 (ix3 2 0 ⟨st c f7 2 + j, by have := st_le c f7 2; omega⟩) := by
  unfold kernelRun.sl.v1507
  rw [View.readAt_apply]
  refine Eq.trans (congrArg _ (a₂ := ix3 (2 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1523 (c : Dev nD) (f5 f7 s5 s7) (j : Fin 1152) : kernelRun.sl.v1523 (F := F) c f5 f7 s5 s7 (ix3 0 0 j) = rks c f5 (ix3 2 1 ⟨st c f7 2 + j, by have := st_le c f7 2; omega⟩) := by
  unfold kernelRun.sl.v1523
  rw [View.readAt_apply]
  refine Eq.trans (congrArg _ (a₂ := ix3 (2 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1546 (c : Dev nD) (f6 f7 s6 s7) (j : Fin 1152) : kernelRun.sl.v1546 (F := F) c f6 f7 s6 s7 (ix3 0 0 j) = rvs c f6 (ix3 2 1 ⟨st c f7 2 + j, by have := st_le c f7 2; omega⟩) := by
  unfold kernelRun.sl.v1546
  rw [View.readAt_apply]
  refine Eq.trans (congrArg _ (a₂ := ix3 (2 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1562 (c : Dev nD) (f5 f7 s5 s7) (j : Fin 1152) : kernelRun.sl.v1562 (F := F) c f5 f7 s5 s7 (ix3 0 0 j) = rks c f5 (ix3 2 2 ⟨st c f7 2 + j, by have := st_le c f7 2; omega⟩) := by
  unfold kernelRun.sl.v1562
  rw [View.readAt_apply]
  refine Eq.trans (congrArg _ (a₂ := ix3 (2 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1585 (c : Dev nD) (f6 f7 s6 s7) (j : Fin 1152) : kernelRun.sl.v1585 (F := F) c f6 f7 s6 s7 (ix3 0 0 j) = rvs c f6 (ix3 2 2 ⟨st c f7 2 + j, by have := st_le c f7 2; omega⟩) := by
  unfold kernelRun.sl.v1585
  rw [View.readAt_apply]
  refine Eq.trans (congrArg _ (a₂ := ix3 (2 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1601 (c : Dev nD) (f5 f7 s5 s7) (j : Fin 1152) : kernelRun.sl.v1601 (F := F) c f5 f7 s5 s7 (ix3 0 0 j) = rks c f5 (ix3 2 3 ⟨st c f7 2 + j, by have := st_le c f7 2; omega⟩) := by
  unfold kernelRun.sl.v1601
  rw [View.readAt_apply]
  refine Eq.trans (congrArg _ (a₂ := ix3 (2 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1624 (c : Dev nD) (f6 f7 s6 s7) (j : Fin 1152) : kernelRun.sl.v1624 (F := F) c f6 f7 s6 s7 (ix3 0 0 j) = rvs c f6 (ix3 2 3 ⟨st c f7 2 + j, by have := st_le c f7 2; omega⟩) := by
  unfold kernelRun.sl.v1624
  rw [View.readAt_apply]
  refine Eq.trans (congrArg _ (a₂ := ix3 (2 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1639 (c : Dev nD) (f0 s0) (r : Fin 32) (d : Fin 64) : kernelRun.sl.v1639 (F := F) c f0 s0 (ix4 0 0 r d) = rq c f0 (ix4 2 0 ⟨32 + r, by omega⟩ d) := by
  unfold kernelRun.sl.v1639 kernelRun.sl.dma4
  rw [View.readAt_apply, View.read_write_univ]
  refine congrArg (rq c f0) (funext fun a => Fin.ext ?_)
  match a with
  | 0 => rfl
  | 1 => rfl
  | 2 => exact congrArg (32 + ·) (Nat.one_mul _)
  | 3 => exact (congrArg (0 + ·) (Nat.one_mul _)).trans (Nat.zero_add _)

theorem ld1645 (c : Dev nD) (f3 f7 s3 s7) (r : Fin 256) (j : Fin 1152) : kernelRun.sl.v1645 (F := F) c f3 f7 s3 s7 (ix3 0 r j) = rk c f3 (ix3 2 ⟨256 + r, by omega⟩ ⟨st c f7 2 + j, by have := st_le c f7 2; omega⟩) := by
  unfold kernelRun.sl.v1645
  rw [View.readAt_apply]
  refine Eq.trans (congrArg _ (a₂ := ix3 (2 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1649 (c : Dev nD) (f5 f7 s5 s7) (j : Fin 1152) : kernelRun.sl.v1649 (F := F) c f5 f7 s5 s7 (ix3 0 0 j) = rks c f5 (ix3 2 4 ⟨st c f7 2 + j, by have := st_le c f7 2; omega⟩) := by
  unfold kernelRun.sl.v1649
  rw [View.readAt_apply]
  refine Eq.trans (congrArg _ (a₂ := ix3 (2 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1672 (c : Dev nD) (f6 f7 s6 s7) (j : Fin 1152) : kernelRun.sl.v1672 (F := F) c f6 f7 s6 s7 (ix3 0 0 j) = rvs c f6 (ix3 2 4 ⟨st c f7 2 + j, by have := st_le c f7 2; omega⟩) := by
  unfold kernelRun.sl.v1672
  rw [View.readAt_apply]
  refine Eq.trans (congrArg _ (a₂ := ix3 (2 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1688 (c : Dev nD) (f5 f7 s5 s7) (j : Fin 1152) : kernelRun.sl.v1688 (F := F) c f5 f7 s5 s7 (ix3 0 0 j) = rks c f5 (ix3 2 5 ⟨st c f7 2 + j, by have := st_le c f7 2; omega⟩) := by
  unfold kernelRun.sl.v1688
  rw [View.readAt_apply]
  refine Eq.trans (congrArg _ (a₂ := ix3 (2 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1711 (c : Dev nD) (f6 f7 s6 s7) (j : Fin 1152) : kernelRun.sl.v1711 (F := F) c f6 f7 s6 s7 (ix3 0 0 j) = rvs c f6 (ix3 2 5 ⟨st c f7 2 + j, by have := st_le c f7 2; omega⟩) := by
  unfold kernelRun.sl.v1711
  rw [View.readAt_apply]
  refine Eq.trans (congrArg _ (a₂ := ix3 (2 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1727 (c : Dev nD) (f5 f7 s5 s7) (j : Fin 1152) : kernelRun.sl.v1727 (F := F) c f5 f7 s5 s7 (ix3 0 0 j) = rks c f5 (ix3 2 6 ⟨st c f7 2 + j, by have := st_le c f7 2; omega⟩) := by
  unfold kernelRun.sl.v1727
  rw [View.readAt_apply]
  refine Eq.trans (congrArg _ (a₂ := ix3 (2 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1750 (c : Dev nD) (f6 f7 s6 s7) (j : Fin 1152) : kernelRun.sl.v1750 (F := F) c f6 f7 s6 s7 (ix3 0 0 j) = rvs c f6 (ix3 2 6 ⟨st c f7 2 + j, by have := st_le c f7 2; omega⟩) := by
  unfold kernelRun.sl.v1750
  rw [View.readAt_apply]
  refine Eq.trans (congrArg _ (a₂ := ix3 (2 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1766 (c : Dev nD) (f5 f7 s5 s7) (j : Fin 1152) : kernelRun.sl.v1766 (F := F) c f5 f7 s5 s7 (ix3 0 0 j) = rks c f5 (ix3 2 7 ⟨st c f7 2 + j, by have := st_le c f7 2; omega⟩) := by
  unfold kernelRun.sl.v1766
  rw [View.readAt_apply]
  refine Eq.trans (congrArg _ (a₂ := ix3 (2 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1789 (c : Dev nD) (f6 f7 s6 s7) (j : Fin 1152) : kernelRun.sl.v1789 (F := F) c f6 f7 s6 s7 (ix3 0 0 j) = rvs c f6 (ix3 2 7 ⟨st c f7 2 + j, by have := st_le c f7 2; omega⟩) := by
  unfold kernelRun.sl.v1789
  rw [View.readAt_apply]
  refine Eq.trans (congrArg _ (a₂ := ix3 (2 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld1833 (c : Dev nD) (f0 s0) (r : Fin 32) (d : Fin 64) : kernelRun.sl.v1833 (F := F) c f0 s0 (ix4 0 0 r d) = rq c f0 (ix4 3 0 ⟨0 + r, by omega⟩ d) := by
  unfold kernelRun.sl.v1833 kernelRun.sl.dma4
  rw [View.readAt_apply, View.read_write_univ]
  refine congrArg (rq c f0) (funext fun a => Fin.ext ?_)
  match a with
  | 0 => rfl
  | 1 => rfl
  | 2 => exact congrArg (0 + ·) (Nat.one_mul _)
  | 3 => exact (congrArg (0 + ·) (Nat.one_mul _)).trans (Nat.zero_add _)

theorem ld1839 (c : Dev nD) (f3 f7 s3 s7) (r : Fin 256) (j : Fin 1152) : kernelRun.sl.v1839 (F := F) c f3 f7 s3 s7 (ix3 0 r j) = rk c f3 (ix3 3 ⟨0 + r, by omega⟩ ⟨st c f7 3 + j, by have := st_le c f7 3; omega⟩) := by
  unfold kernelRun.sl.v1839
  rw [View.readAt_apply]
  refine Eq.trans (congrArg _ (a₂ := ix3 (3 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1843 (c : Dev nD) (f5 f7 s5 s7) (j : Fin 1152) : kernelRun.sl.v1843 (F := F) c f5 f7 s5 s7 (ix3 0 0 j) = rks c f5 (ix3 3 0 ⟨st c f7 3 + j, by have := st_le c f7 3; omega⟩) := by
  unfold kernelRun.sl.v1843
  rw [View.readAt_apply]
  refine Eq.trans (congrArg _ (a₂ := ix3 (3 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1866 (c : Dev nD) (f6 f7 s6 s7) (j : Fin 1152) : kernelRun.sl.v1866 (F := F) c f6 f7 s6 s7 (ix3 0 0 j) = rvs c f6 (ix3 3 0 ⟨st c f7 3 + j, by have := st_le c f7 3; omega⟩) := by
  unfold kernelRun.sl.v1866
  rw [View.readAt_apply]
  refine Eq.trans (congrArg _ (a₂ := ix3 (3 : Fin 4) (0 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1882 (c : Dev nD) (f5 f7 s5 s7) (j : Fin 1152) : kernelRun.sl.v1882 (F := F) c f5 f7 s5 s7 (ix3 0 0 j) = rks c f5 (ix3 3 1 ⟨st c f7 3 + j, by have := st_le c f7 3; omega⟩) := by
  unfold kernelRun.sl.v1882
  rw [View.readAt_apply]
  refine Eq.trans (congrArg _ (a₂ := ix3 (3 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1905 (c : Dev nD) (f6 f7 s6 s7) (j : Fin 1152) : kernelRun.sl.v1905 (F := F) c f6 f7 s6 s7 (ix3 0 0 j) = rvs c f6 (ix3 3 1 ⟨st c f7 3 + j, by have := st_le c f7 3; omega⟩) := by
  unfold kernelRun.sl.v1905
  rw [View.readAt_apply]
  refine Eq.trans (congrArg _ (a₂ := ix3 (3 : Fin 4) (1 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1921 (c : Dev nD) (f5 f7 s5 s7) (j : Fin 1152) : kernelRun.sl.v1921 (F := F) c f5 f7 s5 s7 (ix3 0 0 j) = rks c f5 (ix3 3 2 ⟨st c f7 3 + j, by have := st_le c f7 3; omega⟩) := by
  unfold kernelRun.sl.v1921
  rw [View.readAt_apply]
  refine Eq.trans (congrArg _ (a₂ := ix3 (3 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1944 (c : Dev nD) (f6 f7 s6 s7) (j : Fin 1152) : kernelRun.sl.v1944 (F := F) c f6 f7 s6 s7 (ix3 0 0 j) = rvs c f6 (ix3 3 2 ⟨st c f7 3 + j, by have := st_le c f7 3; omega⟩) := by
  unfold kernelRun.sl.v1944
  rw [View.readAt_apply]
  refine Eq.trans (congrArg _ (a₂ := ix3 (3 : Fin 4) (2 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1960 (c : Dev nD) (f5 f7 s5 s7) (j : Fin 1152) : kernelRun.sl.v1960 (F := F) c f5 f7 s5 s7 (ix3 0 0 j) = rks c f5 (ix3 3 3 ⟨st c f7 3 + j, by have := st_le c f7 3; omega⟩) := by
  unfold kernelRun.sl.v1960
  rw [View.readAt_apply]
  refine Eq.trans (congrArg _ (a₂ := ix3 (3 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1983 (c : Dev nD) (f6 f7 s6 s7) (j : Fin 1152) : kernelRun.sl.v1983 (F := F) c f6 f7 s6 s7 (ix3 0 0 j) = rvs c f6 (ix3 3 3 ⟨st c f7 3 + j, by have := st_le c f7 3; omega⟩) := by
  unfold kernelRun.sl.v1983
  rw [View.readAt_apply]
  refine Eq.trans (congrArg _ (a₂ := ix3 (3 : Fin 4) (3 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld1998 (c : Dev nD) (f0 s0) (r : Fin 32) (d : Fin 64) : kernelRun.sl.v1998 (F := F) c f0 s0 (ix4 0 0 r d) = rq c f0 (ix4 3 0 ⟨32 + r, by omega⟩ d) := by
  unfold kernelRun.sl.v1998 kernelRun.sl.dma4
  rw [View.readAt_apply, View.read_write_univ]
  refine congrArg (rq c f0) (funext fun a => Fin.ext ?_)
  match a with
  | 0 => rfl
  | 1 => rfl
  | 2 => exact congrArg (32 + ·) (Nat.one_mul _)
  | 3 => exact (congrArg (0 + ·) (Nat.one_mul _)).trans (Nat.zero_add _)

theorem ld2004 (c : Dev nD) (f3 f7 s3 s7) (r : Fin 256) (j : Fin 1152) : kernelRun.sl.v2004 (F := F) c f3 f7 s3 s7 (ix3 0 r j) = rk c f3 (ix3 3 ⟨256 + r, by omega⟩ ⟨st c f7 3 + j, by have := st_le c f7 3; omega⟩) := by
  unfold kernelRun.sl.v2004
  rw [View.readAt_apply]
  refine Eq.trans (congrArg _ (a₂ := ix3 (3 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch3) s3 (Memref.whole main_v1) f3 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2008 (c : Dev nD) (f5 f7 s5 s7) (j : Fin 1152) : kernelRun.sl.v2008 (F := F) c f5 f7 s5 s7 (ix3 0 0 j) = rks c f5 (ix3 3 4 ⟨st c f7 3 + j, by have := st_le c f7 3; omega⟩) := by
  unfold kernelRun.sl.v2008
  rw [View.readAt_apply]
  refine Eq.trans (congrArg _ (a₂ := ix3 (3 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2031 (c : Dev nD) (f6 f7 s6 s7) (j : Fin 1152) : kernelRun.sl.v2031 (F := F) c f6 f7 s6 s7 (ix3 0 0 j) = rvs c f6 (ix3 3 4 ⟨st c f7 3 + j, by have := st_le c f7 3; omega⟩) := by
  unfold kernelRun.sl.v2031
  rw [View.readAt_apply]
  refine Eq.trans (congrArg _ (a₂ := ix3 (3 : Fin 4) (4 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2047 (c : Dev nD) (f5 f7 s5 s7) (j : Fin 1152) : kernelRun.sl.v2047 (F := F) c f5 f7 s5 s7 (ix3 0 0 j) = rks c f5 (ix3 3 5 ⟨st c f7 3 + j, by have := st_le c f7 3; omega⟩) := by
  unfold kernelRun.sl.v2047
  rw [View.readAt_apply]
  refine Eq.trans (congrArg _ (a₂ := ix3 (3 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2070 (c : Dev nD) (f6 f7 s6 s7) (j : Fin 1152) : kernelRun.sl.v2070 (F := F) c f6 f7 s6 s7 (ix3 0 0 j) = rvs c f6 (ix3 3 5 ⟨st c f7 3 + j, by have := st_le c f7 3; omega⟩) := by
  unfold kernelRun.sl.v2070
  rw [View.readAt_apply]
  refine Eq.trans (congrArg _ (a₂ := ix3 (3 : Fin 4) (5 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2086 (c : Dev nD) (f5 f7 s5 s7) (j : Fin 1152) : kernelRun.sl.v2086 (F := F) c f5 f7 s5 s7 (ix3 0 0 j) = rks c f5 (ix3 3 6 ⟨st c f7 3 + j, by have := st_le c f7 3; omega⟩) := by
  unfold kernelRun.sl.v2086
  rw [View.readAt_apply]
  refine Eq.trans (congrArg _ (a₂ := ix3 (3 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2109 (c : Dev nD) (f6 f7 s6 s7) (j : Fin 1152) : kernelRun.sl.v2109 (F := F) c f6 f7 s6 s7 (ix3 0 0 j) = rvs c f6 (ix3 3 6 ⟨st c f7 3 + j, by have := st_le c f7 3; omega⟩) := by
  unfold kernelRun.sl.v2109
  rw [View.readAt_apply]
  refine Eq.trans (congrArg _ (a₂ := ix3 (3 : Fin 4) (6 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2125 (c : Dev nD) (f5 f7 s5 s7) (j : Fin 1152) : kernelRun.sl.v2125 (F := F) c f5 f7 s5 s7 (ix3 0 0 j) = rks c f5 (ix3 3 7 ⟨st c f7 3 + j, by have := st_le c f7 3; omega⟩) := by
  unfold kernelRun.sl.v2125
  rw [View.readAt_apply]
  refine Eq.trans (congrArg _ (a₂ := ix3 (3 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch5) s5 (Memref.whole main_v4) f5 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2148 (c : Dev nD) (f6 f7 s6 s7) (j : Fin 1152) : kernelRun.sl.v2148 (F := F) c f6 f7 s6 s7 (ix3 0 0 j) = rvs c f6 (ix3 3 7 ⟨st c f7 3 + j, by have := st_le c f7 3; omega⟩) := by
  unfold kernelRun.sl.v2148
  rw [View.readAt_apply]
  refine Eq.trans (congrArg _ (a₂ := ix3 (3 : Fin 4) (7 : Fin 8) j) (funext fun a => Fin.ext ?_)) ?_
  · match a with
    | 0 => rfl
    | 1 => rfl
    | 2 => exact (congrArg (0 + ·) (Nat.one_mul _)).trans (Nat.zero_add _)
  · exact four (Memref.whole cc0_scratch6) s6 (Memref.whole main_v5) f6 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2171 (c : Dev nD) (f4 f7 s4 s7) (r : Fin 256) (j : Fin 1152) : kernelRun.sl.v2171 (F := F) c f4 f7 s4 s7 (ix3 0 r j) = rv c f4 (ix3 0 ⟨0 + r, by omega⟩ ⟨st c f7 0 + j, by have := st_le c f7 0; omega⟩) := by
  unfold kernelRun.sl.v2171
  rw [View.readAt_apply]
  refine Eq.trans (congrArg _ (a₂ := ix3 (0 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld2220 (c : Dev nD) (f4 f7 s4 s7) (r : Fin 256) (j : Fin 1152) : kernelRun.sl.v2220 (F := F) c f4 f7 s4 s7 (ix3 0 r j) = rv c f4 (ix3 0 ⟨256 + r, by omega⟩ ⟨st c f7 0 + j, by have := st_le c f7 0; omega⟩) := by
  unfold kernelRun.sl.v2220
  rw [View.readAt_apply]
  refine Eq.trans (congrArg _ (a₂ := ix3 (0 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 0 _ j

theorem ld2281 (c : Dev nD) (f4 f7 s4 s7) (r : Fin 256) (j : Fin 1152) : kernelRun.sl.v2281 (F := F) c f4 f7 s4 s7 (ix3 0 r j) = rv c f4 (ix3 1 ⟨0 + r, by omega⟩ ⟨st c f7 1 + j, by have := st_le c f7 1; omega⟩) := by
  unfold kernelRun.sl.v2281
  rw [View.readAt_apply]
  refine Eq.trans (congrArg _ (a₂ := ix3 (1 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld2330 (c : Dev nD) (f4 f7 s4 s7) (r : Fin 256) (j : Fin 1152) : kernelRun.sl.v2330 (F := F) c f4 f7 s4 s7 (ix3 0 r j) = rv c f4 (ix3 1 ⟨256 + r, by omega⟩ ⟨st c f7 1 + j, by have := st_le c f7 1; omega⟩) := by
  unfold kernelRun.sl.v2330
  rw [View.readAt_apply]
  refine Eq.trans (congrArg _ (a₂ := ix3 (1 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 1 _ j

theorem ld2391 (c : Dev nD) (f4 f7 s4 s7) (r : Fin 256) (j : Fin 1152) : kernelRun.sl.v2391 (F := F) c f4 f7 s4 s7 (ix3 0 r j) = rv c f4 (ix3 2 ⟨0 + r, by omega⟩ ⟨st c f7 2 + j, by have := st_le c f7 2; omega⟩) := by
  unfold kernelRun.sl.v2391
  rw [View.readAt_apply]
  refine Eq.trans (congrArg _ (a₂ := ix3 (2 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld2440 (c : Dev nD) (f4 f7 s4 s7) (r : Fin 256) (j : Fin 1152) : kernelRun.sl.v2440 (F := F) c f4 f7 s4 s7 (ix3 0 r j) = rv c f4 (ix3 2 ⟨256 + r, by omega⟩ ⟨st c f7 2 + j, by have := st_le c f7 2; omega⟩) := by
  unfold kernelRun.sl.v2440
  rw [View.readAt_apply]
  refine Eq.trans (congrArg _ (a₂ := ix3 (2 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 2 _ j

theorem ld2501 (c : Dev nD) (f4 f7 s4 s7) (r : Fin 256) (j : Fin 1152) : kernelRun.sl.v2501 (F := F) c f4 f7 s4 s7 (ix3 0 r j) = rv c f4 (ix3 3 ⟨0 + r, by omega⟩ ⟨st c f7 3 + j, by have := st_le c f7 3; omega⟩) := by
  unfold kernelRun.sl.v2501
  rw [View.readAt_apply]
  refine Eq.trans (congrArg _ (a₂ := ix3 (3 : Fin 4) (⟨0 + r, by omega⟩ : Fin 512) j) (funext fun a => Fin.ext ?_)) ?_
  · match a with
    | 0 => rfl
    | 1 => exact congrArg (0 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 3 _ j

theorem ld2550 (c : Dev nD) (f4 f7 s4 s7) (r : Fin 256) (j : Fin 1152) : kernelRun.sl.v2550 (F := F) c f4 f7 s4 s7 (ix3 0 r j) = rv c f4 (ix3 3 ⟨256 + r, by omega⟩ ⟨st c f7 3 + j, by have := st_le c f7 3; omega⟩) := by
  unfold kernelRun.sl.v2550
  rw [View.readAt_apply]
  refine Eq.trans (congrArg _ (a₂ := ix3 (3 : Fin 4) (⟨256 + r, by omega⟩ : Fin 512) j) (funext fun a => Fin.ext ?_)) ?_
  · match a with
    | 0 => rfl
    | 1 => exact congrArg (256 + ·) (Nat.one_mul _)
    | 2 => exact (congrArg (0 + ·) (Nat.one_mul _)).trans (Nat.zero_add _)
  · exact four (Memref.whole cc0_scratch4) s4 (Memref.whole main_v3) f4 (st c f7) (st_le c f7)
      (by rw [word0]; rfl) (by rw [word1]; rfl) (by rw [word2]; rfl) (by rw [word3]; rfl) _ _ _ _ _ _ _ _ _ (fun _ _ _ => rfl) (fun _ _ _ => rfl) 3 _ j

end Cert.KernelIdeal.Val

end
-- ==== Proof.Rows.lean ====
/-
  A row of the kernel's attention weights, as the vector operations spell it.
-/
module

public import proofs.«01_k».proof.Proof.Spec
public import proofs.«01_k».proof.Proof.Loads

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

/-- Whether the length and the width let the window's place `j` be seen. -/
def sees (start len : BitVec 32) (j : ℕ) : BitVec 1 :=
  IntOp.andi (IntOp.cmpi .slt (IntOp.addi start (BitVec.ofNat 32 j)) len) (IntOp.cmpi .sgt (IntOp.addi start (BitVec.ofNat 32 j)) (Scalar.subi len 1024#32))

/-- A row's product with the keys: the row set against the block its group names, among four. -/
def rawDot (q : Fin 64 → EReal) (k : Fin 256 → EReal) (r : ℕ) : EReal :=
  ∑ x : Fin 256,
    Scalar.select (IntOp.cmpi .eq (BitVec.ofNat 32 (r / 8)) (BitVec.ofNat 32 (x.val / 64)))
        (if h : x.val < 64 then q ⟨x.val, h⟩
        else if h : x.val - 64 < 64 then q ⟨x.val - 64, h⟩
        else if h : x.val - 64 - 64 < 64 then q ⟨x.val - 64 - 64, h⟩
        else q ⟨x.val - 64 - 64 - 64, by omega⟩)
        (((0#32 : BitVec 32).toInt : ℝ) : EReal) * k x

/-- The exponential of a capped product. -/
def expo (s : EReal) : EReal :=
  FloatOps.exp2 (F := Ideal) (φ := .f32) (Ideal.tanh (s * Named.named (F := Ideal) κ "scale_over_softcap" (φ := .f32) 992204554#32) * Named.named (F := Ideal) κ "softcap_log2e" (φ := .f32) 1116751102#32)

/-- A row of weights. -/
def rawRow (q : Fin 64 → EReal) (k : Fin 1152 → Fin 256 → EReal) (ks vs : Fin 1152 → EReal) (r : ℕ) (start len : BitVec 32) (new : EReal) (j : Fin 1152) : EReal :=
  Scalar.select (sees start len j)
    (expo (rawDot q (k j) r * ks j) *
      Ideal.div 1 ((∑ x : Fin 1152, Scalar.select (sees start len x) (expo (rawDot q (k x) r * ks x)) 0) + new) * vs j)
    0

/-- The peaks of the new keys and of the new values of a head. -/
def kpk (c : Dev nD) (f1 : Bf (F := Ideal) c (Memref.whole main_arg1)) (b : Fin 4) (h : Fin 8) : EReal := Spec.peak fun d => rkn c f1 (ix4 b 0 h d)
def vpk (c : Dev nD) (f2 : Bf (F := Ideal) c (Memref.whole main_arg2)) (b : Fin 4) (h : Fin 8) : EReal := Spec.peak fun d => rvn c f2 (ix4 b 0 h d)

/-- The weight of the new position, before it is normalised. -/
def newW (c : Dev nD) (f0 : Bf (F := Ideal) c (Memref.whole main_arg0)) (f1 : Bf (F := Ideal) c (Memref.whole main_arg1)) (b : Fin 4) (h g : Fin 8) : EReal :=
  expo ((∑ x : Fin 64, rq c f0 (ix4 b 0 ⟨h.val * 8 + g.val, by omega⟩ x) * Spec.codeK (kpk c f1 b h) (rkn c f1 (ix4 b 0 h x))) * Spec.scaleK (kpk c f1 b h))

/-- A sum over the heads that keeps one head's term. -/
theorem diag (h : Fin 8) (a : Fin 8 → EReal) :
    (∑ x : Fin 8, Scalar.select (IntOp.cmpi .eq (BitVec.ofNat 32 x.val) (BitVec.ofNat 32 h.val)) (a x) 0) = a h := by
  have e : ∀ x : Fin 8, IntOp.cmpi .eq (BitVec.ofNat 32 x.val) (BitVec.ofNat 32 h.val) = if x = h then 1#1 else 0#1 := by
    revert h; decide
  rw [Finset.sum_eq_single h]
  · rw [e, if_pos rfl]; rfl
  · intro x _ hx
    rw [e, if_neg hx]; rfl
  · intro hx; exact absurd (Finset.mem_univ _) hx

theorem v700_at (r : Fin 32) (x : Fin 256) : kernelRun.sl.v700 (ix2 r x) = BitVec.ofNat 32 (r.val / 8) := by
  pointwise [kernelRun.sl.v700, kernelRun.sl.v699, kernelRun.sl.v676, kernelRun.sl.v691, kernelRun.sl.v677, kernelRun.sl.v692, kernelRun.sl.v681, kernelRun.sl.v679, kernelRun.sl.v684, kernelRun.sl.v696]
  revert r; decide
theorem v725_at (r : Fin 32) (x : Fin 256) : kernelRun.sl.v725 (ix2 r x) = BitVec.ofNat 32 (x.val / 64) := by
  pointwise [kernelRun.sl.v725, kernelRun.sl.v721, kernelRun.sl.v701, kernelRun.sl.v679, kernelRun.sl.v702, kernelRun.sl.v724, kernelRun.sl.v691, kernelRun.sl.v717, kernelRun.sl.v709, kernelRun.sl.v706]
  revert x; decide

theorem word0' (c : Dev nD) (f7 : Bf (F := Ideal) c (Memref.whole main_arg7)) (s7) : kernelRun.sl.r_16 c f7 s7 = rl c f7 (ix1 0) := by
  unfold kernelRun.sl.r_16 kernelRun.sl.dma0
  rw [View.readAt_apply, View.read_write_univ]
  refine congrArg (rl c f7) (funext fun a => ?_)
  match a with | 0 => rfl
theorem word3' (c : Dev nD) (f7 : Bf (F := Ideal) c (Memref.whole main_arg7)) (s7) : kernelRun.sl.r_83 c f7 s7 = rl c f7 (ix1 3) := by
  unfold kernelRun.sl.r_83 kernelRun.sl.dma0
  rw [View.readAt_apply, View.read_write_univ]
  refine congrArg (rl c f7) (funext fun a => ?_)
  match a with | 0 => rfl

end Cert.KernelIdeal.Val

end
-- ==== Proof.PieceQ.lean ====
/-
  The quantiser's pieces and the new position's weight, at an index.
-/
module

public import proofs.«01_k».proof.Proof.Rows

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem nw0 (c : Dev nD) (f0 f1 s0 s1) (h g : Fin 8) : kernelRun.sl.r_4 (F := Ideal) c f0 f1 s0 s1 (ix3 h g 0) = newW c f0 f1 0 h g := by
  pointwise [kernelRun.sl.r_4, kernelRun.sl.v174, kernelRun.sl.v173, kernelRun.sl.v172, kernelRun.sl.v171, kernelRun.sl.cst_123, kernelRun.sl.v170, kernelRun.sl.v168, kernelRun.sl.v134, kernelRun.sl.v133, kernelRun.sl.v167, kernelRun.sl.v166, kernelRun.sl.v165, kernelRun.sl.v159, kernelRun.sl.v163, kernelRun.sl.v156, kernelRun.sl.v149, kernelRun.sl.v148, kernelRun.sl.v147, kernelRun.sl.v146, kernelRun.sl.v140, kernelRun.sl.v145, kernelRun.sl.v144, kernelRun.sl.v139, kernelRun.sl.v138, kernelRun.sl.cst_115, kernelRun.sl.v137, kernelRun.sl.v136, kernelRun.sl.v135, kernelRun.sl.v143, kernelRun.sl.v141, kernelRun.sl.v155, kernelRun.sl.v154, kernelRun.sl.v151, kernelRun.sl.v150, kernelRun.sl.v153, kernelRun.sl.v152, kernelRun.sl.v162, kernelRun.sl.v169, kernelRun.sl.cst_122, k0_pay11, kernelRun.sl.v161, kernelRun.sl.v160, kernelRun.sl.v158, kernelRun.sl.v157]
  simp only [ld132, ld190]
  rfl

theorem kc0 (c : Dev nD) (f1 s1) (h : Fin 8) (d : Fin 64) : (kernelRun.sl.v177 (F := Ideal) c f1 s1) (ix4 0 0 h d) = Spec.codeK (kpk c f1 0 h) (rkn c f1 (ix4 0 0 h d)) := by
  pointwise [kernelRun.sl.v177, kernelRun.sl.v173, kernelRun.sl.v172, kernelRun.sl.v171, kernelRun.sl.cst_123, kernelRun.sl.v170, kernelRun.sl.v168, kernelRun.sl.v134, kernelRun.sl.v133, kernelRun.sl.v167, kernelRun.sl.v166, kernelRun.sl.v165, kernelRun.sl.v159, kernelRun.sl.v163, kernelRun.sl.v156, kernelRun.sl.v149, kernelRun.sl.v148, kernelRun.sl.v147, kernelRun.sl.v146, kernelRun.sl.v140, kernelRun.sl.v145, kernelRun.sl.v144, kernelRun.sl.v139, kernelRun.sl.v138, kernelRun.sl.cst_115, kernelRun.sl.v137, kernelRun.sl.v136, kernelRun.sl.v135, kernelRun.sl.v143, kernelRun.sl.v141, kernelRun.sl.v155, kernelRun.sl.v154, kernelRun.sl.v151, kernelRun.sl.v150, kernelRun.sl.v153, kernelRun.sl.v152, kernelRun.sl.v162, kernelRun.sl.v169, kernelRun.sl.cst_122]
  simp only [ld132]
  rfl

theorem ks0 (c : Dev nD) (f1 s1) (h : Fin 8) : (k0_pay10 (F := Ideal) (kernelRun.sl.v184 c f1 s1)) (ix3 0 0 h) = Spec.scaleK (kpk c f1 0 h) := by
  pointwise [kernelRun.sl.v184, kernelRun.sl.v182, kernelRun.sl.v181, kernelRun.sl.v161, kernelRun.sl.v160, kernelRun.sl.v158, kernelRun.sl.v157, kernelRun.sl.v156, kernelRun.sl.v149, kernelRun.sl.v148, kernelRun.sl.v147, kernelRun.sl.v146, kernelRun.sl.v140, kernelRun.sl.v145, kernelRun.sl.v144, kernelRun.sl.v139, kernelRun.sl.v138, kernelRun.sl.cst_115, kernelRun.sl.v137, kernelRun.sl.v136, kernelRun.sl.v135, kernelRun.sl.v134, kernelRun.sl.v133, kernelRun.sl.v143, kernelRun.sl.v141, kernelRun.sl.v155, kernelRun.sl.v154, kernelRun.sl.v151, kernelRun.sl.v150, kernelRun.sl.v153, kernelRun.sl.v152, kernelRun.sl.v159, kernelRun.sl.v183, kernelRun.sl.cst_128, kernelRun.sl.v178, kernelRun.sl.v179, k0_pay10]
  simp only [ld132, diag]
  rfl

theorem vc0 (c : Dev nD) (f2 s2) (h : Fin 8) (d : Fin 64) : (kernelRun.sl.v253 (F := Ideal) c f2 s2) (ix4 0 0 h d) = Spec.codeK (vpk c f2 0 h) (rvn c f2 (ix4 0 0 h d)) := by
  pointwise [kernelRun.sl.v253, kernelRun.sl.v249, kernelRun.sl.v248, kernelRun.sl.v171, kernelRun.sl.cst_123, kernelRun.sl.v246, kernelRun.sl.v244, kernelRun.sl.v243, kernelRun.sl.v242, kernelRun.sl.v241, kernelRun.sl.v239, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v162, kernelRun.sl.v159, kernelRun.sl.r_5, kernelRun.sl.v169, kernelRun.sl.cst_122]
  simp only [ld208]
  rfl

theorem vs0 (c : Dev nD) (f2 s2) (h : Fin 8) : (kernelRun.sl.v265 (F := Ideal) c f2 s2) (ix3 0 0 h) = Spec.scaleK (vpk c f2 0 h) := by
  pointwise [kernelRun.sl.v265, kernelRun.sl.v262, kernelRun.sl.v261, kernelRun.sl.v260, kernelRun.sl.v183, kernelRun.sl.cst_128, kernelRun.sl.v258, kernelRun.sl.v257, kernelRun.sl.v237, kernelRun.sl.v236, kernelRun.sl.v159, kernelRun.sl.v234, kernelRun.sl.v157, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v178, kernelRun.sl.v179]
  simp only [ld208, diag]
  rfl

theorem nw1 (c : Dev nD) (f0 f1 s0 s1) (h g : Fin 8) : kernelRun.sl.r_7 (F := Ideal) c f0 f1 s0 s1 (ix3 h g 0) = newW c f0 f1 1 h g := by
  pointwise [kernelRun.sl.r_7, kernelRun.sl.v295, kernelRun.sl.v294, kernelRun.sl.v159, kernelRun.sl.v292, kernelRun.sl.v157, kernelRun.sl.v290, kernelRun.sl.v283, kernelRun.sl.v282, kernelRun.sl.v281, kernelRun.sl.v146, kernelRun.sl.v140, kernelRun.sl.v279, kernelRun.sl.v278, kernelRun.sl.v273, kernelRun.sl.v271, kernelRun.sl.v270, kernelRun.sl.v269, kernelRun.sl.v268, kernelRun.sl.v267, kernelRun.sl.v138, kernelRun.sl.cst_115, kernelRun.sl.v143, kernelRun.sl.v141, kernelRun.sl.v155, kernelRun.sl.v288, kernelRun.sl.v285, kernelRun.sl.v150, kernelRun.sl.v287, kernelRun.sl.v152, kernelRun.sl.v306, kernelRun.sl.v171, kernelRun.sl.cst_123, kernelRun.sl.v304, kernelRun.sl.v169, kernelRun.sl.cst_122, kernelRun.sl.v302, kernelRun.sl.v301, kernelRun.sl.v300, kernelRun.sl.v299, kernelRun.sl.v297, kernelRun.sl.v162, k0_pay27, k0_pay24]
  simp only [ld266, ld324]
  rfl

theorem kc1 (c : Dev nD) (f1 s1) (h : Fin 8) (d : Fin 64) : (k0_pay25 (F := Ideal) (kernelRun.sl.v306 c f1 s1)) (ix4 0 0 h d) = Spec.codeK (kpk c f1 1 h) (rkn c f1 (ix4 1 0 h d)) := by
  pointwise [kernelRun.sl.v306, kernelRun.sl.v171, kernelRun.sl.cst_123, kernelRun.sl.v304, kernelRun.sl.v169, kernelRun.sl.cst_122, kernelRun.sl.v302, kernelRun.sl.v301, kernelRun.sl.v300, kernelRun.sl.v299, kernelRun.sl.v297, kernelRun.sl.v290, kernelRun.sl.v283, kernelRun.sl.v282, kernelRun.sl.v281, kernelRun.sl.v146, kernelRun.sl.v140, kernelRun.sl.v279, kernelRun.sl.v278, kernelRun.sl.v273, kernelRun.sl.v271, kernelRun.sl.v270, kernelRun.sl.v269, kernelRun.sl.v268, kernelRun.sl.v267, kernelRun.sl.v138, kernelRun.sl.cst_115, kernelRun.sl.v143, kernelRun.sl.v141, kernelRun.sl.v155, kernelRun.sl.v288, kernelRun.sl.v285, kernelRun.sl.v150, kernelRun.sl.v287, kernelRun.sl.v152, kernelRun.sl.v162, kernelRun.sl.v159, k0_pay25, k0_pay24]
  simp only [ld266]
  rfl

theorem ks1 (c : Dev nD) (f1 s1) (h : Fin 8) : (k0_pay26 (F := Ideal) (kernelRun.sl.v295 c f1 s1)) (ix3 0 0 h) = Spec.scaleK (kpk c f1 1 h) := by
  pointwise [kernelRun.sl.v295, kernelRun.sl.v294, kernelRun.sl.v159, kernelRun.sl.v292, kernelRun.sl.v157, kernelRun.sl.v290, kernelRun.sl.v283, kernelRun.sl.v282, kernelRun.sl.v281, kernelRun.sl.v146, kernelRun.sl.v140, kernelRun.sl.v279, kernelRun.sl.v278, kernelRun.sl.v273, kernelRun.sl.v271, kernelRun.sl.v270, kernelRun.sl.v269, kernelRun.sl.v268, kernelRun.sl.v267, kernelRun.sl.v138, kernelRun.sl.cst_115, kernelRun.sl.v143, kernelRun.sl.v141, kernelRun.sl.v155, kernelRun.sl.v288, kernelRun.sl.v285, kernelRun.sl.v150, kernelRun.sl.v287, kernelRun.sl.v152, k0_pay26]
  simp only [ld266, diag]
  rfl

theorem vc1 (c : Dev nD) (f2 s2) (h : Fin 8) (d : Fin 64) : (kernelRun.sl.v387 (F := Ideal) c f2 s2) (ix4 0 0 h d) = Spec.codeK (vpk c f2 1 h) (rvn c f2 (ix4 1 0 h d)) := by
  pointwise [kernelRun.sl.v387, kernelRun.sl.v383, kernelRun.sl.v382, kernelRun.sl.v380, kernelRun.sl.v378, kernelRun.sl.v377, kernelRun.sl.v376, kernelRun.sl.v375, kernelRun.sl.v159, kernelRun.sl.v373, kernelRun.sl.v366, kernelRun.sl.v359, kernelRun.sl.v358, kernelRun.sl.v357, kernelRun.sl.v146, kernelRun.sl.v140, kernelRun.sl.v355, kernelRun.sl.v354, kernelRun.sl.v349, kernelRun.sl.v138, kernelRun.sl.cst_115, kernelRun.sl.v347, kernelRun.sl.v346, kernelRun.sl.v345, kernelRun.sl.r_8, k0_pay28, kernelRun.sl.v143, kernelRun.sl.v141, kernelRun.sl.v155, kernelRun.sl.v364, kernelRun.sl.v361, kernelRun.sl.v150, kernelRun.sl.v363, kernelRun.sl.v152, kernelRun.sl.v162, kernelRun.sl.v169, kernelRun.sl.cst_122, kernelRun.sl.v171, kernelRun.sl.cst_123]
  simp only [ld342]
  rfl

theorem vs1 (c : Dev nD) (f2 s2) (h : Fin 8) : (kernelRun.sl.v399 (F := Ideal) c f2 s2) (ix3 0 0 h) = Spec.scaleK (vpk c f2 1 h) := by
  pointwise [kernelRun.sl.v399, kernelRun.sl.v396, kernelRun.sl.v395, kernelRun.sl.v394, kernelRun.sl.v392, kernelRun.sl.v391, kernelRun.sl.v371, kernelRun.sl.v370, kernelRun.sl.v368, kernelRun.sl.v366, kernelRun.sl.v359, kernelRun.sl.v358, kernelRun.sl.v357, kernelRun.sl.v146, kernelRun.sl.v140, kernelRun.sl.v355, kernelRun.sl.v354, kernelRun.sl.v349, kernelRun.sl.v138, kernelRun.sl.cst_115, kernelRun.sl.v347, kernelRun.sl.v346, kernelRun.sl.v345, kernelRun.sl.r_8, k0_pay28, kernelRun.sl.v143, kernelRun.sl.v141, kernelRun.sl.v155, kernelRun.sl.v364, kernelRun.sl.v361, kernelRun.sl.v150, kernelRun.sl.v363, kernelRun.sl.v152, kernelRun.sl.v157, kernelRun.sl.v159, kernelRun.sl.v183, kernelRun.sl.cst_128, kernelRun.sl.v178, kernelRun.sl.v179]
  simp only [ld342, diag]
  rfl

theorem nw2 (c : Dev nD) (f0 f1 s0 s1) (h g : Fin 8) : kernelRun.sl.r_9 (F := Ideal) c f0 f1 s0 s1 (ix3 h g 0) = newW c f0 f1 2 h g := by
  pointwise [kernelRun.sl.r_9, kernelRun.sl.v465, kernelRun.sl.v464, kernelRun.sl.v463, kernelRun.sl.v462, kernelRun.sl.v442, kernelRun.sl.v441, kernelRun.sl.v440, kernelRun.sl.v438, kernelRun.sl.v436, kernelRun.sl.v402, kernelRun.sl.v401, kernelRun.sl.v435, kernelRun.sl.v434, kernelRun.sl.v433, kernelRun.sl.v431, kernelRun.sl.v424, kernelRun.sl.v155, kernelRun.sl.v417, kernelRun.sl.v416, kernelRun.sl.v415, kernelRun.sl.v146, kernelRun.sl.v140, kernelRun.sl.v413, kernelRun.sl.v412, kernelRun.sl.v407, kernelRun.sl.v138, kernelRun.sl.cst_115, kernelRun.sl.v405, kernelRun.sl.v404, kernelRun.sl.v403, kernelRun.sl.v143, kernelRun.sl.v141, kernelRun.sl.v422, kernelRun.sl.v419, kernelRun.sl.v150, kernelRun.sl.v421, kernelRun.sl.v152, kernelRun.sl.v162, kernelRun.sl.v159, kernelRun.sl.v169, kernelRun.sl.cst_122, kernelRun.sl.v171, kernelRun.sl.cst_123, kernelRun.sl.v461, kernelRun.sl.v460, kernelRun.sl.v459, k0_pay43, kernelRun.sl.v429, kernelRun.sl.v428, kernelRun.sl.v426, kernelRun.sl.v157]
  simp only [ld400, ld458]
  rfl

theorem kc2 (c : Dev nD) (f1 s1) (h : Fin 8) (d : Fin 64) : (kernelRun.sl.v445 (F := Ideal) c f1 s1) (ix4 0 0 h d) = Spec.codeK (kpk c f1 2 h) (rkn c f1 (ix4 2 0 h d)) := by
  pointwise [kernelRun.sl.v445, kernelRun.sl.v441, kernelRun.sl.v440, kernelRun.sl.v438, kernelRun.sl.v436, kernelRun.sl.v402, kernelRun.sl.v401, kernelRun.sl.v435, kernelRun.sl.v434, kernelRun.sl.v433, kernelRun.sl.v431, kernelRun.sl.v424, kernelRun.sl.v155, kernelRun.sl.v417, kernelRun.sl.v416, kernelRun.sl.v415, kernelRun.sl.v146, kernelRun.sl.v140, kernelRun.sl.v413, kernelRun.sl.v412, kernelRun.sl.v407, kernelRun.sl.v138, kernelRun.sl.cst_115, kernelRun.sl.v405, kernelRun.sl.v404, kernelRun.sl.v403, kernelRun.sl.v143, kernelRun.sl.v141, kernelRun.sl.v422, kernelRun.sl.v419, kernelRun.sl.v150, kernelRun.sl.v421, kernelRun.sl.v152, kernelRun.sl.v162, kernelRun.sl.v159, kernelRun.sl.v169, kernelRun.sl.cst_122, kernelRun.sl.v171, kernelRun.sl.cst_123]
  simp only [ld400]
  rfl

theorem ks2 (c : Dev nD) (f1 s1) (h : Fin 8) : (kernelRun.sl.v457 (F := Ideal) c f1 s1) (ix3 0 0 h) = Spec.scaleK (kpk c f1 2 h) := by
  pointwise [kernelRun.sl.v457, kernelRun.sl.v454, kernelRun.sl.v453, kernelRun.sl.v452, kernelRun.sl.v450, kernelRun.sl.v449, kernelRun.sl.v429, kernelRun.sl.v428, kernelRun.sl.v159, kernelRun.sl.v426, kernelRun.sl.v157, kernelRun.sl.v424, kernelRun.sl.v155, kernelRun.sl.v417, kernelRun.sl.v416, kernelRun.sl.v415, kernelRun.sl.v146, kernelRun.sl.v140, kernelRun.sl.v413, kernelRun.sl.v412, kernelRun.sl.v407, kernelRun.sl.v138, kernelRun.sl.cst_115, kernelRun.sl.v405, kernelRun.sl.v404, kernelRun.sl.v403, kernelRun.sl.v402, kernelRun.sl.v401, kernelRun.sl.v143, kernelRun.sl.v141, kernelRun.sl.v422, kernelRun.sl.v419, kernelRun.sl.v150, kernelRun.sl.v421, kernelRun.sl.v152, kernelRun.sl.v183, kernelRun.sl.cst_128, kernelRun.sl.v178, kernelRun.sl.v179]
  simp only [ld400, diag]
  rfl

theorem vc2 (c : Dev nD) (f2 s2) (h : Fin 8) (d : Fin 64) : (kernelRun.sl.v521 (F := Ideal) c f2 s2) (ix4 0 0 h d) = Spec.codeK (vpk c f2 2 h) (rvn c f2 (ix4 2 0 h d)) := by
  pointwise [kernelRun.sl.v521, kernelRun.sl.v517, kernelRun.sl.v516, kernelRun.sl.v514, kernelRun.sl.v169, kernelRun.sl.cst_122, kernelRun.sl.v512, kernelRun.sl.v511, kernelRun.sl.v510, kernelRun.sl.v509, kernelRun.sl.v159, kernelRun.sl.r_12, k0_pay47, k0_pay45, k0_pay44, kernelRun.sl.r_10, kernelRun.sl.v171, kernelRun.sl.cst_123]
  simp only [ld476]
  rfl

theorem vs2 (c : Dev nD) (f2 s2) (h : Fin 8) : (kernelRun.sl.v533 (F := Ideal) c f2 s2) (ix3 0 0 h) = Spec.scaleK (vpk c f2 2 h) := by
  pointwise [kernelRun.sl.v533, kernelRun.sl.v530, kernelRun.sl.v529, kernelRun.sl.v528, kernelRun.sl.v183, kernelRun.sl.cst_128, kernelRun.sl.v526, kernelRun.sl.v525, kernelRun.sl.r_11, k0_pay46, k0_pay45, k0_pay44, kernelRun.sl.v178, kernelRun.sl.v179]
  simp only [ld476, diag]
  rfl

theorem nw3 (c : Dev nD) (f0 f1 s0 s1) (h g : Fin 8) : kernelRun.sl.r_13 (F := Ideal) c f0 f1 s0 s1 (ix3 h g 0) = newW c f0 f1 3 h g := by
  pointwise [kernelRun.sl.r_13, kernelRun.sl.v576, kernelRun.sl.v575, kernelRun.sl.v574, kernelRun.sl.v572, kernelRun.sl.v570, kernelRun.sl.v536, kernelRun.sl.v535, kernelRun.sl.v569, kernelRun.sl.v568, kernelRun.sl.v567, kernelRun.sl.v565, kernelRun.sl.v558, kernelRun.sl.v155, kernelRun.sl.v551, kernelRun.sl.v550, kernelRun.sl.v549, kernelRun.sl.v146, kernelRun.sl.v547, kernelRun.sl.v546, kernelRun.sl.v541, kernelRun.sl.v539, kernelRun.sl.v538, kernelRun.sl.v537, kernelRun.sl.v138, kernelRun.sl.cst_115, kernelRun.sl.v143, kernelRun.sl.v140, kernelRun.sl.v141, kernelRun.sl.v556, kernelRun.sl.v553, kernelRun.sl.v150, kernelRun.sl.v555, kernelRun.sl.v152, kernelRun.sl.v162, kernelRun.sl.v159, kernelRun.sl.v169, kernelRun.sl.cst_122, kernelRun.sl.v171, kernelRun.sl.cst_123, k0_pay61, kernelRun.sl.v563, kernelRun.sl.v562, kernelRun.sl.v560, kernelRun.sl.v157]
  simp only [ld592, ld534]
  rfl

theorem kc3 (c : Dev nD) (f1 s1) (h : Fin 8) (d : Fin 64) : (kernelRun.sl.v579 (F := Ideal) c f1 s1) (ix4 0 0 h d) = Spec.codeK (kpk c f1 3 h) (rkn c f1 (ix4 3 0 h d)) := by
  pointwise [kernelRun.sl.v579, kernelRun.sl.v575, kernelRun.sl.v574, kernelRun.sl.v572, kernelRun.sl.v570, kernelRun.sl.v536, kernelRun.sl.v535, kernelRun.sl.v569, kernelRun.sl.v568, kernelRun.sl.v567, kernelRun.sl.v565, kernelRun.sl.v558, kernelRun.sl.v155, kernelRun.sl.v551, kernelRun.sl.v550, kernelRun.sl.v549, kernelRun.sl.v146, kernelRun.sl.v547, kernelRun.sl.v546, kernelRun.sl.v541, kernelRun.sl.v539, kernelRun.sl.v538, kernelRun.sl.v537, kernelRun.sl.v138, kernelRun.sl.cst_115, kernelRun.sl.v143, kernelRun.sl.v140, kernelRun.sl.v141, kernelRun.sl.v556, kernelRun.sl.v553, kernelRun.sl.v150, kernelRun.sl.v555, kernelRun.sl.v152, kernelRun.sl.v162, kernelRun.sl.v159, kernelRun.sl.v169, kernelRun.sl.cst_122, kernelRun.sl.v171, kernelRun.sl.cst_123]
  simp only [ld534]
  rfl

theorem ks3 (c : Dev nD) (f1 s1) (h : Fin 8) : (k0_pay60 (F := Ideal) (kernelRun.sl.v588 c f1 s1)) (ix3 0 0 h) = Spec.scaleK (kpk c f1 3 h) := by
  pointwise [kernelRun.sl.v588, kernelRun.sl.v587, kernelRun.sl.v586, kernelRun.sl.v584, kernelRun.sl.v583, kernelRun.sl.v563, kernelRun.sl.v562, kernelRun.sl.v560, kernelRun.sl.v558, kernelRun.sl.v155, kernelRun.sl.v551, kernelRun.sl.v550, kernelRun.sl.v549, kernelRun.sl.v146, kernelRun.sl.v547, kernelRun.sl.v546, kernelRun.sl.v541, kernelRun.sl.v539, kernelRun.sl.v538, kernelRun.sl.v537, kernelRun.sl.v536, kernelRun.sl.v535, kernelRun.sl.v138, kernelRun.sl.cst_115, kernelRun.sl.v143, kernelRun.sl.v140, kernelRun.sl.v141, kernelRun.sl.v556, kernelRun.sl.v553, kernelRun.sl.v150, kernelRun.sl.v555, kernelRun.sl.v152, kernelRun.sl.v157, kernelRun.sl.v159, kernelRun.sl.v183, kernelRun.sl.cst_128, kernelRun.sl.v178, kernelRun.sl.v179, k0_pay60]
  simp only [ld534, diag]
  rfl

theorem vc3 (c : Dev nD) (f2 s2) (h : Fin 8) (d : Fin 64) : (kernelRun.sl.v655 (F := Ideal) c f2 s2) (ix4 0 0 h d) = Spec.codeK (vpk c f2 3 h) (rvn c f2 (ix4 3 0 h d)) := by
  pointwise [kernelRun.sl.v655, kernelRun.sl.v651, kernelRun.sl.v650, kernelRun.sl.v648, kernelRun.sl.v646, kernelRun.sl.v645, kernelRun.sl.v644, kernelRun.sl.v643, kernelRun.sl.v159, kernelRun.sl.v641, kernelRun.sl.v634, kernelRun.sl.v155, kernelRun.sl.r_15, k0_pay63, k0_pay62, kernelRun.sl.v632, kernelRun.sl.v629, k0_pay64, kernelRun.sl.v631, kernelRun.sl.v152, kernelRun.sl.v162, kernelRun.sl.r_14, kernelRun.sl.v169, kernelRun.sl.cst_122, kernelRun.sl.v171, kernelRun.sl.cst_123]
  simp only [ld610]
  rfl

theorem vs3 (c : Dev nD) (f2 s2) (h : Fin 8) : (kernelRun.sl.v667 (F := Ideal) c f2 s2) (ix3 0 0 h) = Spec.scaleK (vpk c f2 3 h) := by
  pointwise [kernelRun.sl.v667, kernelRun.sl.v664, kernelRun.sl.v663, kernelRun.sl.v662, kernelRun.sl.v660, kernelRun.sl.v659, kernelRun.sl.v639, kernelRun.sl.v638, kernelRun.sl.v159, kernelRun.sl.v636, kernelRun.sl.v634, kernelRun.sl.v155, kernelRun.sl.r_15, k0_pay63, k0_pay62, kernelRun.sl.v632, kernelRun.sl.v629, k0_pay64, kernelRun.sl.v631, kernelRun.sl.v152, kernelRun.sl.v157, kernelRun.sl.v183, kernelRun.sl.cst_128, kernelRun.sl.v178, kernelRun.sl.v179]
  simp only [ld610, diag]
  rfl

end Cert.KernelIdeal.Val

end
-- ==== Proof.KQuant.lean ====
/-
  The codes and the scales the kernel leaves.
-/
module

public import proofs.«01_k».proof.Proof.PieceQ

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

/-- A place of a unit-strided rectangle. -/
theorem mem_unit {s : Shape} (o n : Fin s.rank → ℕ) (i : ∀ a, o a + n a ≤ s.size a) (y : s.Idx) (h : ∀ a, o a ≤ (y a).val ∧ (y a).val < o a + n a) : y ∈ (Rect.unit o n i).set := by
  refine (LoadRect.mem_set _).mpr fun a => ⟨(y a).val - o a, ?_, ?_⟩
  · have := h a; show (y a).val - o a < n a; omega
  · have := h a; show (y a).val = o a + 1 * ((y a).val - o a); omega

theorem idx4 {n2 n3 : ℕ} (x : (⟨4, ![1, 1, n2, n3]⟩ : Shape).Idx) : ∃ (r : Fin n2) (d : Fin n3), x = ix4 (0 : Fin 1) (0 : Fin 1) r d := ⟨x 2, x 3, funext fun a => by
  match a with
  | 0 => exact Fin.ext (by have h0 : (x 0).val < 1 := (x 0).isLt; show (x 0).val = 0; omega)
  | 1 => exact Fin.ext (by have h0 : (x 1).val < 1 := (x 1).isLt; show (x 1).val = 0; omega)
  | 2 => rfl
  | 3 => rfl⟩

theorem idx3 {n2 : ℕ} (x : (⟨3, ![1, 1, n2]⟩ : Shape).Idx) : ∃ r : Fin n2, x = ix3 (0 : Fin 1) (0 : Fin 1) r := ⟨x 2, funext fun a => by
  match a with
  | 0 => exact Fin.ext (by have h0 : (x 0).val < 1 := (x 0).isLt; show (x 0).val = 0; omega)
  | 1 => exact Fin.ext (by have h0 : (x 1).val < 1 := (x 1).isLt; show (x 1).val = 0; omega)
  | 2 => rfl⟩

theorem emb4 (b : Fin 4) (i) (r : Fin 8) (d : Fin 64) : (Rect.unit (s := S4x1x8x64) ![b.val, 0, 0, 0] S1x1x8x64.size i).emb (ix4 0 0 r d) = ix4 b 0 r d :=
  Rect.emb_eq_of_coords _ _ _ fun a => by
    match a with
    | 0 => show b.val = b.val + 1 * 0; omega
    | 1 => rfl
    | 2 => show r.val = 0 + 1 * r.val; omega
    | 3 => show d.val = 0 + 1 * d.val; omega

theorem emb3 (b : Fin 4) (i) (r : Fin 8) : (Rect.unit (s := S4x1x8) ![b.val, 0, 0] S1x1x8.size i).emb (ix3 0 0 r) = ix3 b 0 r :=
  Rect.emb_eq_of_coords _ _ _ fun a => by
    match a with
    | 0 => show b.val = b.val + 1 * 0; omega
    | 1 => rfl
    | 2 => show r.val = 0 + 1 * r.val; omega

theorem hs10 (c : Dev nD) (f1 : Bf (F := Ideal) c (Memref.whole main_arg1)) (s1) (t : Bf (F := Ideal) c (Memref.whole cc0_scratch10)) (b : Fin 4) (h : Fin 8) (d : Fin 64) :
    (Memref.whole cc0_scratch10).view.read (Elt Ideal) ((Memref.whole cc0_scratch10).view.writes (Elt Ideal) t (kernelRun.sl.HS10_4 c f1 s1)) (ix4 b 0 h d) = Spec.codeK (kpk c f1 b h) (rkn c f1 (ix4 b 0 h d)) := by
  let G : S4x1x8x64.Idx → EReal := fun y => Spec.codeK (kpk c f1 (y 0) (y 2)) (rkn c f1 (ix4 (y 0) 0 (y 2) (y 3)))
  refine View.read_writes_apply_of_pieces (Memref.whole cc0_scratch10).view t G _ ?_ (ix4 b 0 h d) ?_
  · refine List.forall_mem_cons.mpr ⟨?_, List.forall_mem_cons.mpr ⟨?_, List.forall_mem_cons.mpr ⟨?_, List.forall_mem_cons.mpr ⟨?_, List.forall_mem_nil _⟩⟩⟩⟩
    · intro x; obtain ⟨r, d, rfl⟩ := idx4 x; refine (kc3 c f1 s1 r d).trans ?_; exact (congrArg G (emb4 3 (by decide) r d)).symm
    · intro x; obtain ⟨r, d, rfl⟩ := idx4 x; refine (kc2 c f1 s1 r d).trans ?_; exact (congrArg G (emb4 2 (by decide) r d)).symm
    · intro x; obtain ⟨r, d, rfl⟩ := idx4 x; refine (kc1 c f1 s1 r d).trans ?_; exact (congrArg G (emb4 1 (by decide) r d)).symm
    · intro x; obtain ⟨r, d, rfl⟩ := idx4 x; refine (kc0 c f1 s1 r d).trans ?_; exact (congrArg G (emb4 0 (by decide) r d)).symm
  · match b with
    | 0 => exact ⟨_, .tail _ (.tail _ (.tail _ (.head _))), mem_unit (s := S4x1x8x64) ![0, 0, 0, 0] S1x1x8x64.size (by decide) _ fun a => by
        match a with
        | 0 => exact ⟨Nat.le_refl _, by show 0 < 0 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩
    | 1 => exact ⟨_, .tail _ (.tail _ (.head _)), mem_unit (s := S4x1x8x64) ![1, 0, 0, 0] S1x1x8x64.size (by decide) _ fun a => by
        match a with
        | 0 => exact ⟨Nat.le_refl _, by show 1 < 1 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩
    | 2 => exact ⟨_, .tail _ (.head _), mem_unit (s := S4x1x8x64) ![2, 0, 0, 0] S1x1x8x64.size (by decide) _ fun a => by
        match a with
        | 0 => exact ⟨Nat.le_refl _, by show 2 < 2 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩
    | 3 => exact ⟨_, .head _, mem_unit (s := S4x1x8x64) ![3, 0, 0, 0] S1x1x8x64.size (by decide) _ fun a => by
        match a with
        | 0 => exact ⟨Nat.le_refl _, by show 3 < 3 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩

theorem hs11 (c : Dev nD) (f1 : Bf (F := Ideal) c (Memref.whole main_arg1)) (s1) (t : Bf (F := Ideal) c (Memref.whole cc0_scratch11)) (b : Fin 4) (h : Fin 8) :
    (Memref.whole cc0_scratch11).view.read (Elt Ideal) ((Memref.whole cc0_scratch11).view.writes (Elt Ideal) t (kernelRun.sl.HS11_4 c f1 s1)) (ix3 b 0 h) = Spec.scaleK (kpk c f1 b h) := by
  let G : S4x1x8.Idx → EReal := fun y => Spec.scaleK (kpk c f1 (y 0) (y 2))
  refine View.read_writes_apply_of_pieces (Memref.whole cc0_scratch11).view t G _ ?_ (ix3 b 0 h) ?_
  · refine List.forall_mem_cons.mpr ⟨?_, List.forall_mem_cons.mpr ⟨?_, List.forall_mem_cons.mpr ⟨?_, List.forall_mem_cons.mpr ⟨?_, List.forall_mem_nil _⟩⟩⟩⟩
    · intro x; obtain ⟨r, rfl⟩ := idx3 x; refine (ks3 c f1 s1 r).trans ?_; exact (congrArg G (emb3 3 (by decide) r)).symm
    · intro x; obtain ⟨r, rfl⟩ := idx3 x; refine (ks2 c f1 s1 r).trans ?_; exact (congrArg G (emb3 2 (by decide) r)).symm
    · intro x; obtain ⟨r, rfl⟩ := idx3 x; refine (ks1 c f1 s1 r).trans ?_; exact (congrArg G (emb3 1 (by decide) r)).symm
    · intro x; obtain ⟨r, rfl⟩ := idx3 x; refine (ks0 c f1 s1 r).trans ?_; exact (congrArg G (emb3 0 (by decide) r)).symm
  · match b with
    | 0 => exact ⟨_, .tail _ (.tail _ (.tail _ (.head _))), mem_unit (s := S4x1x8) ![0, 0, 0] S1x1x8.size (by decide) _ fun a => by
        match a with
        | 0 => exact ⟨Nat.le_refl _, by show 0 < 0 + 1; omega⟩
        | 1 => exact ⟨Nat.le_refl _, by show 0 < 0 + 1; omega⟩
        | 2 => exact ⟨Nat.zero_le _, by have := h.isLt; show h.val < 0 + 8; omega⟩⟩
    | 1 => exact ⟨_, .tail _ (.tail _ (.head _)), mem_unit (s := S4x1x8) ![1, 0, 0] S1x1x8.size (by decide) _ fun a => by
        match a with
        | 0 => exact ⟨Nat.le_refl _, by show 1 < 1 + 1; omega⟩
        | 1 => exact ⟨Nat.le_refl _, by show 0 < 0 + 1; omega⟩
        | 2 => exact ⟨Nat.zero_le _, by have := h.isLt; show h.val < 0 + 8; omega⟩⟩
    | 2 => exact ⟨_, .tail _ (.head _), mem_unit (s := S4x1x8) ![2, 0, 0] S1x1x8.size (by decide) _ fun a => by
        match a with
        | 0 => exact ⟨Nat.le_refl _, by show 2 < 2 + 1; omega⟩
        | 1 => exact ⟨Nat.le_refl _, by show 0 < 0 + 1; omega⟩
        | 2 => exact ⟨Nat.zero_le _, by have := h.isLt; show h.val < 0 + 8; omega⟩⟩
    | 3 => exact ⟨_, .head _, mem_unit (s := S4x1x8) ![3, 0, 0] S1x1x8.size (by decide) _ fun a => by
        match a with
        | 0 => exact ⟨Nat.le_refl _, by show 3 < 3 + 1; omega⟩
        | 1 => exact ⟨Nat.le_refl _, by show 0 < 0 + 1; omega⟩
        | 2 => exact ⟨Nat.zero_le _, by have := h.isLt; show h.val < 0 + 8; omega⟩⟩

theorem hs12 (c : Dev nD) (f2 : Bf (F := Ideal) c (Memref.whole main_arg2)) (s2) (t : Bf (F := Ideal) c (Memref.whole cc0_scratch12)) (b : Fin 4) (h : Fin 8) (d : Fin 64) :
    (Memref.whole cc0_scratch12).view.read (Elt Ideal) ((Memref.whole cc0_scratch12).view.writes (Elt Ideal) t (kernelRun.sl.HS12_4 c f2 s2)) (ix4 b 0 h d) = Spec.codeK (vpk c f2 b h) (rvn c f2 (ix4 b 0 h d)) := by
  let G : S4x1x8x64.Idx → EReal := fun y => Spec.codeK (vpk c f2 (y 0) (y 2)) (rvn c f2 (ix4 (y 0) 0 (y 2) (y 3)))
  refine View.read_writes_apply_of_pieces (Memref.whole cc0_scratch12).view t G _ ?_ (ix4 b 0 h d) ?_
  · refine List.forall_mem_cons.mpr ⟨?_, List.forall_mem_cons.mpr ⟨?_, List.forall_mem_cons.mpr ⟨?_, List.forall_mem_cons.mpr ⟨?_, List.forall_mem_nil _⟩⟩⟩⟩
    · intro x; obtain ⟨r, d, rfl⟩ := idx4 x; refine (vc3 c f2 s2 r d).trans ?_; exact (congrArg G (emb4 3 (by decide) r d)).symm
    · intro x; obtain ⟨r, d, rfl⟩ := idx4 x; refine (vc2 c f2 s2 r d).trans ?_; exact (congrArg G (emb4 2 (by decide) r d)).symm
    · intro x; obtain ⟨r, d, rfl⟩ := idx4 x; refine (vc1 c f2 s2 r d).trans ?_; exact (congrArg G (emb4 1 (by decide) r d)).symm
    · intro x; obtain ⟨r, d, rfl⟩ := idx4 x; refine (vc0 c f2 s2 r d).trans ?_; exact (congrArg G (emb4 0 (by decide) r d)).symm
  · match b with
    | 0 => exact ⟨_, .tail _ (.tail _ (.tail _ (.head _))), mem_unit (s := S4x1x8x64) ![0, 0, 0, 0] S1x1x8x64.size (by decide) _ fun a => by
        match a with
        | 0 => exact ⟨Nat.le_refl _, by show 0 < 0 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩
    | 1 => exact ⟨_, .tail _ (.tail _ (.head _)), mem_unit (s := S4x1x8x64) ![1, 0, 0, 0] S1x1x8x64.size (by decide) _ fun a => by
        match a with
        | 0 => exact ⟨Nat.le_refl _, by show 1 < 1 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩
    | 2 => exact ⟨_, .tail _ (.head _), mem_unit (s := S4x1x8x64) ![2, 0, 0, 0] S1x1x8x64.size (by decide) _ fun a => by
        match a with
        | 0 => exact ⟨Nat.le_refl _, by show 2 < 2 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩
    | 3 => exact ⟨_, .head _, mem_unit (s := S4x1x8x64) ![3, 0, 0, 0] S1x1x8x64.size (by decide) _ fun a => by
        match a with
        | 0 => exact ⟨Nat.le_refl _, by show 3 < 3 + 1; omega⟩
        | 1 => exact ⟨Nat.le_refl _, by show 0 < 0 + 1; omega⟩
        | 2 => exact ⟨Nat.zero_le _, by have := h.isLt; show h.val < 0 + 8; omega⟩
        | 3 => exact ⟨Nat.zero_le _, by have := d.isLt; show d.val < 0 + 64; omega⟩⟩

theorem hs13 (c : Dev nD) (f2 : Bf (F := Ideal) c (Memref.whole main_arg2)) (s2) (t : Bf (F := Ideal) c (Memref.whole cc0_scratch13)) (b : Fin 4) (h : Fin 8) :
    (Memref.whole cc0_scratch13).view.read (Elt Ideal) ((Memref.whole cc0_scratch13).view.writes (Elt Ideal) t (kernelRun.sl.HS13_4 c f2 s2)) (ix3 b 0 h) = Spec.scaleK (vpk c f2 b h) := by
  let G : S4x1x8.Idx → EReal := fun y => Spec.scaleK (vpk c f2 (y 0) (y 2))
  refine View.read_writes_apply_of_pieces (Memref.whole cc0_scratch13).view t G _ ?_ (ix3 b 0 h) ?_
  · refine List.forall_mem_cons.mpr ⟨?_, List.forall_mem_cons.mpr ⟨?_, List.forall_mem_cons.mpr ⟨?_, List.forall_mem_cons.mpr ⟨?_, List.forall_mem_nil _⟩⟩⟩⟩
    · intro x; obtain ⟨r, rfl⟩ := idx3 x; refine (vs3 c f2 s2 r).trans ?_; exact (congrArg G (emb3 3 (by decide) r)).symm
    · intro x; obtain ⟨r, rfl⟩ := idx3 x; refine (vs2 c f2 s2 r).trans ?_; exact (congrArg G (emb3 2 (by decide) r)).symm
    · intro x; obtain ⟨r, rfl⟩ := idx3 x; refine (vs1 c f2 s2 r).trans ?_; exact (congrArg G (emb3 1 (by decide) r)).symm
    · intro x; obtain ⟨r, rfl⟩ := idx3 x; refine (vs0 c f2 s2 r).trans ?_; exact (congrArg G (emb3 0 (by decide) r)).symm
  · match b with
    | 0 => exact ⟨_, .tail _ (.tail _ (.tail _ (.head _))), mem_unit (s := S4x1x8) ![0, 0, 0] S1x1x8.size (by decide) _ fun a => by
        match a with
        | 0 => exact ⟨Nat.le_refl _, by show 0 < 0 + 1; omega⟩
        | 1 => exact ⟨Nat.le_refl _, by show 0 < 0 + 1; omega⟩
        | 2 => exact ⟨Nat.zero_le _, by have := h.isLt; show h.val < 0 + 8; omega⟩⟩
    | 1 => exact ⟨_, .tail _ (.tail _ (.head _)), mem_unit (s := S4x1x8) ![1, 0, 0] S1x1x8.size (by decide) _ fun a => by
        match a with
        | 0 => exact ⟨Nat.le_refl _, by show 1 < 1 + 1; omega⟩
        | 1 => exact ⟨Nat.le_refl _, by show 0 < 0 + 1; omega⟩
        | 2 => exact ⟨Nat.zero_le _, by have := h.isLt; show h.val < 0 + 8; omega⟩⟩
    | 2 => exact ⟨_, .tail _ (.head _), mem_unit (s := S4x1x8) ![2, 0, 0] S1x1x8.size (by decide) _ fun a => by
        match a with
        | 0 => exact ⟨Nat.le_refl _, by show 2 < 2 + 1; omega⟩
        | 1 => exact ⟨Nat.le_refl _, by show 0 < 0 + 1; omega⟩
        | 2 => exact ⟨Nat.zero_le _, by have := h.isLt; show h.val < 0 + 8; omega⟩⟩
    | 3 => exact ⟨_, .head _, mem_unit (s := S4x1x8) ![3, 0, 0] S1x1x8.size (by decide) _ fun a => by
        match a with
        | 0 => exact ⟨Nat.le_refl _, by show 3 < 3 + 1; omega⟩
        | 1 => exact ⟨Nat.le_refl _, by show 0 < 0 + 1; omega⟩
        | 2 => exact ⟨Nat.zero_le _, by have := h.isLt; show h.val < 0 + 8; omega⟩⟩

/-- Everything the body leaves, by name. -/
abbrev left (c : Dev nD) (f0 f1 f2 f3 f4 f5 f6 f7 r0 r1 r2 r3 r4 s0 s1 s2 s3 s4 s5 s6 s7 s8 s9 s10 s11 s12 s13) :=
  (kernelRun (F := Ideal) c f0 f1 f2 f3 f4 f5 f6 f7 r0 r1 r2 r3 r4 s0 s1 s2 s3 s4 s5 s6 s7 s8 s9 s10 s11 s12 s13).1

theorem res1 (c : Dev nD) (f0 f1 f2 f3 f4 f5 f6 f7 r0 r1 r2 r3 r4 s0 s1 s2 s3 s4 s5 s6 s7 s8 s9 s10 s11 s12 s13) : (left c f0 f1 f2 f3 f4 f5 f6 f7 r0 r1 r2 r3 r4 s0 s1 s2 s3 s4 s5 s6 s7 s8 s9 s10 s11 s12 s13).2.1 = fun y : S4x1x8x64.Idx => Spec.codeK (kpk c f1 (y 0) (y 2)) (rkn c f1 (ix4 (y 0) 0 (y 2) (y 3))) := by
  have e : (left c f0 f1 f2 f3 f4 f5 f6 f7 r0 r1 r2 r3 r4 s0 s1 s2 s3 s4 s5 s6 s7 s8 s9 s10 s11 s12 s13).2.1 = View.write (Elt Ideal) (Memref.whole main_v6_1).view r1 (kernelRun.sl.dma48 c f1 s1 s10) Finset.univ := rfl
  rw [e]
  refine (View.write_whole_univ main_v6_1 _ _).trans (funext fun y => ?_)
  refine Eq.trans ?_ (hs10 c f1 s1 s10 (y 0) (y 2) (y 3))
  refine congrArg ((Memref.whole cc0_scratch10).view.read (Elt Ideal) ((Memref.whole cc0_scratch10).view.writes (Elt Ideal) s10 (kernelRun.sl.HS10_4 c f1 s1))) (funext fun a => ?_)
  match a with
  | 0 => rfl
  | 1 => exact Fin.ext (by have h0 : (y 1).val < 1 := (y 1).isLt; show (y 1).val = 0; omega)
  | 2 => rfl
  | 3 => rfl

theorem res2 (c : Dev nD) (f0 f1 f2 f3 f4 f5 f6 f7 r0 r1 r2 r3 r4 s0 s1 s2 s3 s4 s5 s6 s7 s8 s9 s10 s11 s12 s13) : (left c f0 f1 f2 f3 f4 f5 f6 f7 r0 r1 r2 r3 r4 s0 s1 s2 s3 s4 s5 s6 s7 s8 s9 s10 s11 s12 s13).2.2.1 = fun y : S4x1x8.Idx => Spec.scaleK (kpk c f1 (y 0) (y 2)) := by
  have e : (left c f0 f1 f2 f3 f4 f5 f6 f7 r0 r1 r2 r3 r4 s0 s1 s2 s3 s4 s5 s6 s7 s8 s9 s10 s11 s12 s13).2.2.1 = View.write (Elt Ideal) (Memref.whole main_v6_2).view r2 (kernelRun.sl.dma48_1 c f1 s1 s11) Finset.univ := rfl
  rw [e]
  refine (View.write_whole_univ main_v6_2 _ _).trans (funext fun y => ?_)
  refine Eq.trans ?_ (hs11 c f1 s1 s11 (y 0) (y 2))
  refine congrArg ((Memref.whole cc0_scratch11).view.read (Elt Ideal) ((Memref.whole cc0_scratch11).view.writes (Elt Ideal) s11 (kernelRun.sl.HS11_4 c f1 s1))) (funext fun a => ?_)
  match a with
  | 0 => rfl
  | 1 => exact Fin.ext (by have h0 : (y 1).val < 1 := (y 1).isLt; show (y 1).val = 0; omega)
  | 2 => rfl

theorem res3 (c : Dev nD) (f0 f1 f2 f3 f4 f5 f6 f7 r0 r1 r2 r3 r4 s0 s1 s2 s3 s4 s5 s6 s7 s8 s9 s10 s11 s12 s13) : (left c f0 f1 f2 f3 f4 f5 f6 f7 r0 r1 r2 r3 r4 s0 s1 s2 s3 s4 s5 s6 s7 s8 s9 s10 s11 s12 s13).2.2.2.1 = fun y : S4x1x8x64.Idx => Spec.codeK (vpk c f2 (y 0) (y 2)) (rvn c f2 (ix4 (y 0) 0 (y 2) (y 3))) := by
  have e : (left c f0 f1 f2 f3 f4 f5 f6 f7 r0 r1 r2 r3 r4 s0 s1 s2 s3 s4 s5 s6 s7 s8 s9 s10 s11 s12 s13).2.2.2.1 = View.write (Elt Ideal) (Memref.whole main_v6_3).view r3 (kernelRun.sl.dma48_2 c f2 s2 s12) Finset.univ := rfl
  rw [e]
  refine (View.write_whole_univ main_v6_3 _ _).trans (funext fun y => ?_)
  refine Eq.trans ?_ (hs12 c f2 s2 s12 (y 0) (y 2) (y 3))
  refine congrArg ((Memref.whole cc0_scratch12).view.read (Elt Ideal) ((Memref.whole cc0_scratch12).view.writes (Elt Ideal) s12 (kernelRun.sl.HS12_4 c f2 s2))) (funext fun a => ?_)
  match a with
  | 0 => rfl
  | 1 => exact Fin.ext (by have h0 : (y 1).val < 1 := (y 1).isLt; show (y 1).val = 0; omega)
  | 2 => rfl
  | 3 => rfl

theorem res4 (c : Dev nD) (f0 f1 f2 f3 f4 f5 f6 f7 r0 r1 r2 r3 r4 s0 s1 s2 s3 s4 s5 s6 s7 s8 s9 s10 s11 s12 s13) : (left c f0 f1 f2 f3 f4 f5 f6 f7 r0 r1 r2 r3 r4 s0 s1 s2 s3 s4 s5 s6 s7 s8 s9 s10 s11 s12 s13).2.2.2.2 = fun y : S4x1x8.Idx => Spec.scaleK (vpk c f2 (y 0) (y 2)) := by
  have e : (left c f0 f1 f2 f3 f4 f5 f6 f7 r0 r1 r2 r3 r4 s0 s1 s2 s3 s4 s5 s6 s7 s8 s9 s10 s11 s12 s13).2.2.2.2 = View.write (Elt Ideal) (Memref.whole main_v6_4).view r4 (kernelRun.sl.dma48_3 c f2 s2 s13) Finset.univ := rfl
  rw [e]
  refine (View.write_whole_univ main_v6_4 _ _).trans (funext fun y => ?_)
  refine Eq.trans ?_ (hs13 c f2 s2 s13 (y 0) (y 2))
  refine congrArg ((Memref.whole cc0_scratch13).view.read (Elt Ideal) ((Memref.whole cc0_scratch13).view.writes (Elt Ideal) s13 (kernelRun.sl.HS13_4 c f2 s2))) (funext fun a => ?_)
  match a with
  | 0 => rfl
  | 1 => exact Fin.ext (by have h0 : (y 1).val < 1 := (y 1).isLt; show (y 1).val = 0; omega)
  | 2 => rfl

end Cert.KernelIdeal.Val

end
-- ==== Proof.RefRun.lean ====
/-
  The reference's run with each result array named, and the block each result's window wrote.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x1x64x64.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S4x1x8x64.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S4x1x8.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4x1x8x64.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4x1x8.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v149_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v149_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v149_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v149_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v149_4) = (dats m 0 c).arrAt 12 cfg0.N :=
  (h c).1 12

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v149_0) = (dats m 0 c).arrAt 8 cfg0.N
      ∧ r.2.mem ((c : Thread nD τ).loc main_v149_1) = (dats m 0 c).arrAt 9 cfg0.N
      ∧ r.2.mem ((c : Thread nD τ).loc main_v149_2) = (dats m 0 c).arrAt 10 cfg0.N
      ∧ r.2.mem ((c : Thread nD τ).loc main_v149_3) = (dats m 0 c).arrAt 11 cfg0.N
      ∧ r.2.mem ((c : Thread nD τ).loc main_v149_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.RefElt.lean ====
/-
  The reference's body, one element of each result.
-/
module

public import proofs.«01_k».proof.Proof.RefRun
public import proofs.«01_k».proof.Proof.Spec

@[expose] public section

set_option maxRecDepth 16384
set_option maxHeartbeats 4000000

noncomputable section

namespace Cert.ReferenceIdeal.Value

open Cert.ReferenceIdeal Cert.ReferenceIdeal.Gen
open Idealize.ShloMosaic
open Idealize.ShloMosaic.TcCoe Idealize.ShloMosaic.Tactic

variable (x0 : Vec Ideal S32x8x64 .bf16) (x1 x2 : Vec Ideal S32x64 .bf16) (x3 x4 : Vec Ideal S32x1024x64 .fp8e4m3)
  (x5 x6 : Vec Ideal S32x1x1024 .f32) (x7 : Vec Ideal S32x1x1024 .i32)

theorem ld0 : View.ld x0 r0_1 = x0 := View.ld_unit_zero (S := S32x8x64) (off := ![0, 0, 0]) (by funext a; fin_cases a <;> rfl) _ _
theorem ld1 (x : Vec Ideal S32x64 .bf16) : View.ld x r0_0 = x := View.ld_unit_zero (S := S32x64) (off := ![0, 0]) (by funext a; fin_cases a <;> rfl) _ _
theorem ld3 (x : Vec Ideal S32x1024x64 .fp8e4m3) : View.ld x r0_2 = x := View.ld_unit_zero (S := S32x1024x64) (off := ![0, 0, 0]) (by funext a; fin_cases a <;> rfl) _ _
theorem ld5 (x : Vec Ideal S32x1x1024 .f32) : View.ld x r0_3 = x := View.ld_unit_zero (S := S32x1x1024) (off := ![0, 0, 0]) (by funext a; fin_cases a <;> rfl) _ _
theorem ld7 (x : Vec Ideal S32x1x1024 .i32) : View.ld x r0_3 = x := View.ld_unit_zero (S := S32x1x1024) (off := ![0, 0, 0]) (by funext a; fin_cases a <;> rfl) _ _

theorem pay7_at (x : FVec Ideal S32x64 .bf16) (n : Fin 32) : k0_pay7 (F := Ideal) x (ix2 n 0) = Spec.scaleR (Spec.peak fun d => x (ix2 n d)) := by
  pointwise [k0_pay7, k0_pay6]
  rfl
theorem pay8_at (x : FVec Ideal S32x64 .bf16) (n : Fin 32) (d : Fin 64) : k0_pay8 (F := Ideal) x (ix2 n d) = Spec.codeR (Spec.peak fun d => x (ix2 n d)) (x (ix2 n d)) := by
  have h := pay7_at x n
  pointwise [k0_pay8, k0_pay6]
  rw [h]
  rfl
theorem pay13_at (x : FVec Ideal S32x64 .bf16) (n : Fin 32) : k0_pay13 (F := Ideal) (k0_pay10 x) k0_pay11 (k0_pay12 x) (ix2 n 0) = Spec.scaleR (Spec.peak fun d => x (ix2 n d)) := by
  pointwise [k0_pay13, k0_pay12, k0_pay11, k0_pay10, k0_pay9]
  rfl
theorem pay14_at (x : FVec Ideal S32x64 .bf16) (n : Fin 32) (d : Fin 64) : k0_pay14 (F := Ideal) (k0_pay9 x) (k0_pay10 x) k0_pay11 (k0_pay12 x) (ix2 n d) = Spec.codeR (Spec.peak fun d => x (ix2 n d)) (x (ix2 n d)) := by
  have h := pay13_at x n
  pointwise [k0_pay14, k0_pay9]
  rw [h]
  rfl

theorem out9_at (b : Fin 4) (h : Fin 8) (d : Fin 64) : out0_9 (F := Ideal) x0 x1 x2 x3 x4 x5 x6 x7 (ix4 b 0 h d)
    = Spec.codeR (Spec.peak fun d => x1 (ix2 ⟨b.val * 8 + h.val, by omega⟩ d)) (x1 (ix2 ⟨b.val * 8 + h.val, by omega⟩ d)) := by
  unfold_out out0_9
  rw [View.canon_unit_zero (by funext a; fin_cases a <;> rfl), ld1]
  refine Eq.trans ?_ (pay8_at x1 ⟨b.val * 8 + h.val, by omega⟩ d)
  pointwise [k0_pay2]
theorem out10_at (b : Fin 4) (h : Fin 8) : out0_10 (F := Ideal) x0 x1 x2 x3 x4 x5 x6 x7 (ix3 b 0 h)
    = Spec.scaleR (Spec.peak fun d => x1 (ix2 ⟨b.val * 8 + h.val, by omega⟩ d)) := by
  unfold_out out0_10
  rw [View.canon_unit_zero (by funext a; fin_cases a <;> rfl), ld1]
  refine Eq.trans ?_ (pay7_at x1 ⟨b.val * 8 + h.val, by omega⟩)
  pointwise [k0_pay4]
theorem out11_at (b : Fin 4) (h : Fin 8) (d : Fin 64) : out0_11 (F := Ideal) x0 x1 x2 x3 x4 x5 x6 x7 (ix4 b 0 h d)
    = Spec.codeR (Spec.peak fun d => x2 (ix2 ⟨b.val * 8 + h.val, by omega⟩ d)) (x2 (ix2 ⟨b.val * 8 + h.val, by omega⟩ d)) := by
  unfold_out out0_11
  rw [View.canon_unit_zero (by funext a; fin_cases a <;> rfl), ld1]
  refine Eq.trans ?_ (pay14_at x2 ⟨b.val * 8 + h.val, by omega⟩ d)
  pointwise [k0_pay3]
theorem out12_at (b : Fin 4) (h : Fin 8) : out0_12 (F := Ideal) x0 x1 x2 x3 x4 x5 x6 x7 (ix3 b 0 h)
    = Spec.scaleR (Spec.peak fun d => x2 (ix2 ⟨b.val * 8 + h.val, by omega⟩ d)) := by
  unfold_out out0_12
  rw [View.canon_unit_zero (by funext a; fin_cases a <;> rfl), ld1]
  refine Eq.trans ?_ (pay13_at x2 ⟨b.val * 8 + h.val, by omega⟩)
  pointwise [k0_pay5]

/-- The logit of a product, capped. -/
def cap (z : EReal) : EReal := Ideal.ofBits .f32 1112014848#32 * Ideal.tanh (Ideal.div z (Ideal.ofBits .f32 1112014848#32))

/-- The largest of the cached logits and the new one. -/
def top (l : Fin 1024 → EReal) (ln : EReal) : EReal :=
  max (Ideal.ofBits .f32 4286578688#32) (Finset.fold max (Ideal.ofBits .f32 4286578688#32) (fun x : Fin 1025 => if h : x.val < 1024 then l ⟨x.val, h⟩ else ln) Finset.univ)

/-- The softmax's weight of the logit `e` among them. -/
def soft (l : Fin 1024 → EReal) (ln e : EReal) : EReal :=
  Ideal.div (Ideal.exp (e - top l ln)) (∑ x : Fin 1024, Ideal.exp (l x - top l ln) + ∑ _x : Fin 1, Ideal.exp (ln - top l ln))

theorem pay20_old (a : FVec Ideal S32x8x1024 .f32) (b c : FVec Ideal S32x8x1 .f32) (d : IVec S32x1x1024 32) (n : Fin 32) (g : Fin 8) (j : Fin 1024) :
    k0_pay20 (F := Ideal) a b c d (ix3 n g ⟨j.val, by omega⟩)
      = soft (fun j => Scalar.select (IntOp.cmpi .ne (d (ix3 n 0 j)) 0#32) (cap (a (ix3 n g j))) (Ideal.ofBits .f32 4286578688#32)) (cap (b (ix3 n g 0) * c (ix3 n g 0)))
          (Scalar.select (IntOp.cmpi .ne (d (ix3 n 0 j)) 0#32) (cap (a (ix3 n g j))) (Ideal.ofBits .f32 4286578688#32)) := by
  have e : ∀ (x : ℕ) (hx : x < 1), (⟨x, hx⟩ : Fin 1) = 0 := fun x hx => Fin.ext (by show x = 0; omega)
  have e' : ∀ x : Fin 1, x = 0 := fun x => Fin.ext (by show x.val = 0; omega)
  pointwise [k0_pay20]
  simp only [e, e']
  rfl
theorem pay20_new (a : FVec Ideal S32x8x1024 .f32) (b c : FVec Ideal S32x8x1 .f32) (d : IVec S32x1x1024 32) (n : Fin 32) (g : Fin 8) :
    k0_pay20 (F := Ideal) a b c d (ix3 n g ⟨1024, by omega⟩)
      = soft (fun j => Scalar.select (IntOp.cmpi .ne (d (ix3 n 0 j)) 0#32) (cap (a (ix3 n g j))) (Ideal.ofBits .f32 4286578688#32)) (cap (b (ix3 n g 0) * c (ix3 n g 0)))
          (cap (b (ix3 n g 0) * c (ix3 n g 0))) := by
  have e : ∀ (x : ℕ) (hx : x < 1), (⟨x, hx⟩ : Fin 1) = 0 := fun x hx => Fin.ext (by show x = 0; omega)
  have e' : ∀ x : Fin 1, x = 0 := fun x => Fin.ext (by show x.val = 0; omega)
  pointwise [k0_pay20]
  simp only [e, e']
  rfl

/-- One element of the reference's attention: row `n`, query head `g`. -/
def attn (q kn vn : Fin 64 → EReal) (k v : Fin 1024 → Fin 64 → EReal) (ks vs : Fin 1024 → EReal) (w : Fin 1024 → BitVec 32) (d : Fin 64) : EReal :=
  let l : Fin 1024 → EReal := fun j => Scalar.select (IntOp.cmpi .ne (w j) 0#32) (cap ((∑ x : Fin 64, q x * k j x) * ks j * Ideal.ofBits .f32 0x3E000000#32)) (Ideal.ofBits .f32 4286578688#32)
  let ln : EReal := cap ((∑ x : Fin 64, q x * Spec.codeR (Spec.peak kn) (kn x)) * Spec.scaleR (Spec.peak kn) * Ideal.ofBits .f32 0x3E000000#32)
  (∑ j : Fin 1024, soft l ln (l j) * vs j * v j d) + soft l ln ln * Spec.scaleR (Spec.peak vn) * Spec.codeR (Spec.peak vn) (vn d)

theorem pay17_at (a : FVec Ideal S32x8x64 .bf16) (b : FVec Ideal S32x1024x64 .fp8e4m3) (c : FVec Ideal S32x1x1024 .f32) (n : Fin 32) (g : Fin 8) (j : Fin 1024) :
    k0_pay17 (F := Ideal) a b c (ix3 n g j) = (∑ x : Fin 64, a (ix3 n g x) * b (ix3 n j x)) * c (ix3 n 0 j) * Ideal.ofBits .f32 0x3E000000#32 := by
  pointwise [k0_pay17, k0_pay15]
theorem pay18_at (a : FVec Ideal S32x1 .f32) (b : FVec Ideal S32x64 .fp8e4m3) (c : FVec Ideal S32x8x64 .bf16) (n : Fin 32) (g : Fin 8) :
    k0_pay18 (F := Ideal) a b c (ix3 n g 0) = (∑ x : Fin 64, c (ix3 n g x) * b (ix2 n x)) * a (ix2 n 0) := by
  pointwise [k0_pay18, k0_pay15]
theorem pay21_at (z : FVec Ideal S32x1 .f32) (a : FVec Ideal S32x8x1024 .f32) (b c : FVec Ideal S32x8x1 .f32) (d : IVec S32x1x1024 32) (n : Fin 32) (g : Fin 8) :
    k0_pay21 (F := Ideal) z a b c d (ix3 n g 0) = k0_pay20 (F := Ideal) a b c d (ix3 n g ⟨1024, by omega⟩) * z (ix2 n 0) := by
  pointwise [k0_pay21]
theorem pay22_at (z : FVec Ideal S32x1024x64 .bf16) (a : FVec Ideal S32x8x1024 .f32) (b c : FVec Ideal S32x8x1 .f32) (d : IVec S32x1x1024 32) (e : FVec Ideal S32x1x1024 .f32) (n : Fin 32) (g : Fin 8) (j : Fin 64) :
    k0_pay22 (F := Ideal) z a b c d e (ix3 n g j) = ∑ x : Fin 1024, k0_pay20 (F := Ideal) a b c d (ix3 n g ⟨x.val, by omega⟩) * e (ix3 n 0 x) * z (ix3 n x j) := by
  pointwise [k0_pay22]
theorem pay1_at (z : FVec Ideal S32x8x1 .bf16) (a : FVec Ideal S32x8x64 .f32) (b : FVec Ideal S32x64 .bf16) (n : Fin 4) (h g : Fin 8) (j : Fin 64) :
    k0_pay1 (F := Ideal) z a b (ix4 n 0 ⟨8 * h.val + g.val, by omega⟩ j) = a (ix3 ⟨n.val * 8 + h.val, by omega⟩ g j) + z (ix3 ⟨n.val * 8 + h.val, by omega⟩ g 0) * b (ix2 ⟨n.val * 8 + h.val, by omega⟩ j) := by
  have e1 : (8 * h.val + g.val) / 8 = h.val := by omega
  have e2 : (8 * h.val + g.val) % 8 = g.val := by omega
  pointwise [k0_pay1]
  simp only [Fin.sum_univ_one, e1, e2, Fin.eta]

theorem out8_at (b : Fin 4) (h g : Fin 8) (d : Fin 64) : out0_8 (F := Ideal) x0 x1 x2 x3 x4 x5 x6 x7 (ix4 b 0 ⟨8 * h.val + g.val, by omega⟩ d)
    = attn (fun x => x0 (ix3 ⟨b.val * 8 + h.val, by omega⟩ g x)) (fun x => x1 (ix2 ⟨b.val * 8 + h.val, by omega⟩ x)) (fun x => x2 (ix2 ⟨b.val * 8 + h.val, by omega⟩ x))
        (fun j x => x3 (ix3 ⟨b.val * 8 + h.val, by omega⟩ j x)) (fun j x => x4 (ix3 ⟨b.val * 8 + h.val, by omega⟩ j x))
        (fun j => x5 (ix3 ⟨b.val * 8 + h.val, by omega⟩ 0 j)) (fun j => x6 (ix3 ⟨b.val * 8 + h.val, by omega⟩ 0 j)) (fun j => x7 (ix3 ⟨b.val * 8 + h.val, by omega⟩ 0 j)) d := by
  generalize hn : (⟨b.val * 8 + h.val, by omega⟩ : Fin 32) = n
  unfold_out out0_8
  rw [View.canon_unit_zero (by funext a; fin_cases a <;> rfl), ld1, ld1, ld0, ld3, ld3, ld5, ld5, ld7]
  rw [pay1_at, hn, pay21_at, pay22_at]
  simp only [pay20_old, pay20_new, pay17_at, pay18_at, pay13_at, pay8_at, pay7_at]
  have e16 : ∀ (j : Fin 1024) (x : Fin 64), k0_pay16 (F := Ideal) x4 (ix3 n j x) = x4 (ix3 n j x) := fun j x => by pointwise [k0_pay16]
  have e19 : k0_pay19 (F := Ideal) (ix3 n g 0) = Ideal.ofBits .f32 0x3E000000#32 := by pointwise [k0_pay19]
  have e23 : k0_pay23 (F := Ideal) (k0_pay14 (k0_pay9 x2) (k0_pay10 x2) k0_pay11 (k0_pay12 x2)) (ix2 n d) = Spec.codeR (Spec.peak fun d => x2 (ix2 n d)) (x2 (ix2 n d)) :=
    Eq.trans (by pointwise [k0_pay23]) (pay14_at x2 n d)
  simp only [e16, e19, e23]
  rfl

end Cert.ReferenceIdeal.Value

end
-- ==== Proof.RefNew.lean ====
/-
  The reference's new keys and values: what the host operations hand the body, and the arrays its codes and scales end in.
-/
module

public import proofs.«01_k».proof.Proof.RefRun
public import Idealize.ShloMosaic.Lib.Pipeline.ValueKit.Point
public import Idealize.ShloMosaic.Lib.StableHlo.RunRead

@[expose] public section

set_option maxRecDepth 16384
set_option maxHeartbeats 4000000

noncomputable section

namespace Cert.ReferenceIdeal.Value

open Cert.ReferenceIdeal Cert.ReferenceIdeal.Gen
open Idealize.ShloMosaic
open Idealize.ShloMosaic.TcCoe Idealize.ShloMosaic.Tactic

variable (m : (ℓ : Loc nD τ sig) → Buf (Elt Ideal) ℓ)

theorem blk1 (c : Dev nD) (t : Fin cfg0.N) : iblk m c 1 t = V m c main_v147 := by
  funext y
  have idx : ∀ (t : Fin cfg0.N) (a : Fin 2), win0_1.index t a = 0 := by decide +kernel
  show V m c main_v147 (((cfg0.win 1).rect t).emb y) = _
  refine congrArg _ (funext fun a => Fin.ext ?_)
  exact Pipeline.Window.rect_emb_val_of_index_zero (cfg0.win 1) t a (idx t a) y

theorem blk2 (c : Dev nD) (t : Fin cfg0.N) : iblk m c 2 t = V m c main_v148 := by
  funext y
  have idx : ∀ (t : Fin cfg0.N) (a : Fin 2), win0_2.index t a = 0 := by decide +kernel
  show V m c main_v148 (((cfg0.win 2).rect t).emb y) = _
  refine congrArg _ (funext fun a => Fin.ext ?_)
  exact Pipeline.Window.rect_emb_val_of_index_zero (cfg0.win 2) t a (idx t a) y

theorem v147_at (c : Dev nD) (b : Fin 4) (h : Fin 8) (d : Fin 64) : V m c main_v147 (ix2 ⟨b.val * 8 + h.val, by omega⟩ d) = m ((c : Thread nD τ).loc main_arg1) (ix4 b 0 h d) := by
  show StableHlo.after (hostOps0 ++ (hostOps0_1 ++ (hostOps0_2 ++ []))) _ _ _ = _
  after_reads_simp
  pointwise
theorem v148_at (c : Dev nD) (b : Fin 4) (h : Fin 8) (d : Fin 64) : V m c main_v148 (ix2 ⟨b.val * 8 + h.val, by omega⟩ d) = m ((c : Thread nD τ).loc main_arg2) (ix4 b 0 h d) := by
  show StableHlo.after (hostOps0 ++ (hostOps0_1 ++ (hostOps0_2 ++ []))) _ _ _ = _
  after_reads_simp
  pointwise

/-- The one grid point writes result window 9's whole array. -/
theorem arr9 (c : Dev nD) (t : Fin cfg0.N) : (dats m 0 c).arrAt 9 cfg0.N
    = out0_9 (iblk m c 0 t) (iblk m c 1 t) (iblk m c 2 t) (iblk m c 3 t) (iblk m c 4 t) (iblk m c 5 t) (iblk m c 6 t) (iblk m c 7 t) := by
  funext y
  have idx : ∀ (t : Fin cfg0.N) (a : Fin 4), win0_9.index t a = 0 := by decide +kernel
  have hf : ∀ t : Fin cfg0.N, (cfg0.win 9).flush t = true := by decide +kernel
  have h := congrFun ((blocks9 m c t (hf t)).trans (flushed9 m c t)) y
  have e : ((cfg0.win 9).rect t).emb y = y := funext fun a => Fin.ext (Pipeline.Window.rect_emb_val_of_index_zero (cfg0.win 9) t a (idx t a) y)
  have h' : (dats m 0 c).arrAt 9 cfg0.N (((cfg0.win 9).rect t).emb y) = _ := h
  rw [e] at h'
  exact h'

/-- The one grid point writes result window 10's whole array. -/
theorem arr10 (c : Dev nD) (t : Fin cfg0.N) : (dats m 0 c).arrAt 10 cfg0.N
    = out0_10 (iblk m c 0 t) (iblk m c 1 t) (iblk m c 2 t) (iblk m c 3 t) (iblk m c 4 t) (iblk m c 5 t) (iblk m c 6 t) (iblk m c 7 t) := by
  funext y
  have idx : ∀ (t : Fin cfg0.N) (a : Fin 3), win0_10.index t a = 0 := by decide +kernel
  have hf : ∀ t : Fin cfg0.N, (cfg0.win 10).flush t = true := by decide +kernel
  have h := congrFun ((blocks10 m c t (hf t)).trans (flushed10 m c t)) y
  have e : ((cfg0.win 10).rect t).emb y = y := funext fun a => Fin.ext (Pipeline.Window.rect_emb_val_of_index_zero (cfg0.win 10) t a (idx t a) y)
  have h' : (dats m 0 c).arrAt 10 cfg0.N (((cfg0.win 10).rect t).emb y) = _ := h
  rw [e] at h'
  exact h'

/-- The one grid point writes result window 11's whole array. -/
theorem arr11 (c : Dev nD) (t : Fin cfg0.N) : (dats m 0 c).arrAt 11 cfg0.N
    = out0_11 (iblk m c 0 t) (iblk m c 1 t) (iblk m c 2 t) (iblk m c 3 t) (iblk m c 4 t) (iblk m c 5 t) (iblk m c 6 t) (iblk m c 7 t) := by
  funext y
  have idx : ∀ (t : Fin cfg0.N) (a : Fin 4), win0_11.index t a = 0 := by decide +kernel
  have hf : ∀ t : Fin cfg0.N, (cfg0.win 11).flush t = true := by decide +kernel
  have h := congrFun ((blocks11 m c t (hf t)).trans (flushed11 m c t)) y
  have e : ((cfg0.win 11).rect t).emb y = y := funext fun a => Fin.ext (Pipeline.Window.rect_emb_val_of_index_zero (cfg0.win 11) t a (idx t a) y)
  have h' : (dats m 0 c).arrAt 11 cfg0.N (((cfg0.win 11).rect t).emb y) = _ := h
  rw [e] at h'
  exact h'

/-- The one grid point writes result window 12's whole array. -/
theorem arr12 (c : Dev nD) (t : Fin cfg0.N) : (dats m 0 c).arrAt 12 cfg0.N
    = out0_12 (iblk m c 0 t) (iblk m c 1 t) (iblk m c 2 t) (iblk m c 3 t) (iblk m c 4 t) (iblk m c 5 t) (iblk m c 6 t) (iblk m c 7 t) := by
  funext y
  have idx : ∀ (t : Fin cfg0.N) (a : Fin 3), win0_12.index t a = 0 := by decide +kernel
  have hf : ∀ t : Fin cfg0.N, (cfg0.win 12).flush t = true := by decide +kernel
  have h := congrFun ((blocks12 m c t (hf t)).trans (flushed12 m c t)) y
  have e : ((cfg0.win 12).rect t).emb y = y := funext fun a => Fin.ext (Pipeline.Window.rect_emb_val_of_index_zero (cfg0.win 12) t a (idx t a) y)
  have h' : (dats m 0 c).arrAt 12 cfg0.N (((cfg0.win 12).rect t).emb y) = _ := h
  rw [e] at h'
  exact h'

end Cert.ReferenceIdeal.Value

end
-- ==== Proof.MathQ.lean ====
/-
  The quantiser: the kernel's scale and codes of a row are the reference's.
-/
module

public import proofs.«01_k».proof.Proof.Spec

@[expose] public section

noncomputable section

namespace Cert.Spec

open Idealize.ShloMosaic

/-- The float whose exponent field is `k`. -/
theorem ofBits_shli (k : ℕ) (h0 : 0 < k) (h1 : k < 255) :
    Ideal.ofBits .f32 (IntOp.shli ArithUnit.vector (BitVec.ofNat 32 k) 23#32) = (((2 : ℝ) ^ ((k : ℤ) - 127) : ℝ) : EReal) := by
  have key : ∀ k : Fin 256, ((IntOp.shli ArithUnit.vector (BitVec.ofNat 32 k) 23#32).extractLsb' 31 1 == 1#1) = false
      ∧ ((IntOp.shli ArithUnit.vector (BitVec.ofNat 32 k) 23#32).extractLsb' 23 8).toNat = k.val
      ∧ ((IntOp.shli ArithUnit.vector (BitVec.ofNat 32 k) 23#32).extractLsb' 0 23).toNat = 0 := by decide +kernel
  have key' := key ⟨k, by omega⟩
  clear key
  generalize hb : IntOp.shli ArithUnit.vector (BitVec.ofNat 32 k) 23#32 = w
  rw [show ((⟨k, by omega⟩ : Fin 256) : ℕ) = k from rfl, hb] at key'
  obtain ⟨a, b, c⟩ := key'
  show Ideal.ieee 8 23 w = _
  unfold Ideal.ieee
  simp only [Nat.reduceAdd, a, b, c]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  push_cast
  ring

theorem ofBits_zero : Ideal.ofBits .f32 (IntOp.shli ArithUnit.vector (BitVec.ofNat 32 0) 23#32) = 0 := by
  rw [show IntOp.shli ArithUnit.vector (BitVec.ofNat 32 0) 23#32 = 0#32 by decide]
  simp [Ideal.ofBits, Ideal.ieee]

theorem ofBits_top : Ideal.ofBits .f32 (IntOp.shli ArithUnit.vector (BitVec.ofNat 32 255) 23#32) = ⊤ := by
  rw [show IntOp.shli ArithUnit.vector (BitVec.ofNat 32 255) 23#32 = 2139095040#32 by decide]
  simp [Ideal.ofBits, Ideal.ieee]

/-- The largest exponent field among those at most `K`. -/
theorem fold_le (K : Fin 256) :
    Finset.fold IntOp.maxsi 2147483648#32 (fun x : Fin 256 => if x ≤ K then BitVec.ofNat 32 x else 0#32) Finset.univ = BitVec.ofNat 32 K := by
  revert K; decide +kernel

theorem field₀_of (f : EReal) (K : Fin 256) (h : ∀ x : Fin 256, Ideal.ofBits .f32 (IntOp.shli ArithUnit.vector (BitVec.ofNat 32 x) 23#32) ≤ f ↔ x ≤ K) :
    field₀ f = BitVec.ofNat 32 K := by
  unfold field₀
  simp only [h]
  exact fold_le K

theorem field₀_tiny (r : ℝ) (h0 : 0 ≤ r) (h1 : r < (2 : ℝ) ^ (-126 : ℤ)) : field₀ (r : EReal) = 0#32 := by
  refine field₀_of _ 0 fun x => ?_
  rcases Nat.eq_zero_or_pos x.val with hx | hx
  · rw [show x = 0 from Fin.ext hx]
    exact ⟨fun _ => le_refl _, fun _ => by rw [show ((0 : Fin 256) : ℕ) = 0 from rfl, ofBits_zero]; exact_mod_cast h0⟩
  · refine ⟨fun h => absurd h ?_, fun h => absurd (Fin.le_def.mp h) (not_le.mpr hx)⟩
    rw [not_le]
    by_cases h2 : x.val < 255
    · rw [ofBits_shli _ hx h2, EReal.coe_lt_coe_iff]
      exact lt_of_lt_of_le h1 (zpow_le_zpow_right₀ (by norm_num) (by omega))
    · rw [show x.val = 255 by omega, ofBits_top]
      exact EReal.coe_lt_top r

theorem field₀_normal (r : ℝ) (K : ℕ) (hK0 : 0 < K) (hK1 : K < 255) (h0 : (2 : ℝ) ^ ((K : ℤ) - 127) ≤ r) (h1 : r < (2 : ℝ) ^ ((K : ℤ) - 126)) :
    field₀ (r : EReal) = BitVec.ofNat 32 K := by
  refine field₀_of _ ⟨K, by omega⟩ fun x => ?_
  rw [Fin.le_def]
  show _ ↔ x.val ≤ K
  rcases Nat.eq_zero_or_pos x.val with hx | hx
  · rw [hx, ofBits_zero]
    exact ⟨fun _ => Nat.zero_le _, fun _ => by exact_mod_cast le_trans (zpow_nonneg (by norm_num) _) h0⟩
  · by_cases h2 : x.val < 255
    · rw [ofBits_shli _ hx h2, EReal.coe_le_coe_iff]
      constructor
      · intro h
        by_contra hc
        exact absurd (lt_of_le_of_lt h h1) (not_lt.mpr (zpow_le_zpow_right₀ (by norm_num) (by omega)))
      · intro h
        exact le_trans (zpow_le_zpow_right₀ (by norm_num) (by omega)) h0
    · rw [show x.val = 255 by omega, ofBits_top]
      exact ⟨fun h => absurd (EReal.coe_lt_top r) (not_lt.mpr h), fun h => absurd h (by omega)⟩

/-- The reference's powers. -/
theorem power_eq (x : Fin 256) :
    FloatOps.exp2 (F := Ideal) (φ := .f32) (FloatOps.sitofp (F := Ideal) .f32 (IntOp.subi (BitVec.ofNat 32 x) 126#32)) = (((2 : ℝ) ^ ((x.val : ℤ) - 126) : ℝ) : EReal) := by
  have h : ∀ x : Fin 256, (IntOp.subi (BitVec.ofNat 32 x) 126#32).toInt = (x.val : ℤ) - 126 := by decide +kernel
  show Ideal.exp2 (((IntOp.subi (BitVec.ofNat 32 x) 126#32).toInt : ℝ) : EReal) = _
  rw [h, Ideal.exp2_coe]
  congr 1
  exact Real.rpow_intCast 2 _

theorem inf_bits : Ideal.ofBits .f32 2139095040#32 = ⊤ := by simp [Ideal.ofBits, Ideal.ieee]

theorem tiny_bits : Ideal.ofBits .f32 8388608#32 = (((2 : ℝ) ^ (-126 : ℤ) : ℝ) : EReal) := by
  have := ofBits_shli 1 (by norm_num) (by norm_num)
  rw [show IntOp.shli ArithUnit.vector (BitVec.ofNat 32 1) 23#32 = 8388608#32 by decide] at this
  rw [this]; norm_num

theorem scaleR_tiny (r : ℝ) (h1 : r < (2 : ℝ) ^ (-126 : ℤ)) : scaleR (r : EReal) = 1 := by
  unfold scaleR
  rw [if_pos]
  rw [tiny_bits]; exact_mod_cast h1

theorem scaleR_normal (r : ℝ) (K : ℕ) (hK0 : 0 < K) (hK1 : K < 255) (h0 : (2 : ℝ) ^ ((K : ℤ) - 127) ≤ r) (h1 : r < (2 : ℝ) ^ ((K : ℤ) - 126)) :
    scaleR (r : EReal) = (((2 : ℝ) ^ ((K : ℤ) - 126) : ℝ) : EReal) := by
  unfold scaleR
  rw [if_neg]
  · simp only [power_eq, inf_bits]
    refine le_antisymm ?_ ?_
    · rw [Finset.fold_min_le]
      refine Or.inr ⟨⟨K, by omega⟩, Finset.mem_univ _, ?_⟩
      rw [if_pos (by exact_mod_cast h1)]
    · rw [Finset.le_fold_min]
      refine ⟨le_top, fun x _ => ?_⟩
      by_cases hx : (r : EReal) < (((2 : ℝ) ^ ((x.val : ℤ) - 126) : ℝ) : EReal)
      · rw [if_pos hx, EReal.coe_le_coe_iff]
        rw [EReal.coe_lt_coe_iff] at hx
        refine zpow_le_zpow_right₀ (by norm_num) ?_
        have := (zpow_lt_zpow_iff_right₀ (by norm_num : (1 : ℝ) < 2)).mp (lt_of_le_of_lt h0 hx)
        omega
      · rw [if_neg hx]; exact le_top
  · rw [tiny_bits, not_lt, EReal.coe_le_coe_iff]
    exact le_trans (zpow_le_zpow_right₀ (by norm_num) (by omega)) h0

theorem scaleK_of (f : EReal) (K : ℕ) (h0 : 0 < K) (h1 : K < 253) (h : field f = BitVec.ofNat 32 K) :
    scaleK f = (((2 : ℝ) ^ ((K : ℤ) - 126) : ℝ) : EReal) ∧ inverseK f = (((2 : ℝ) ^ (126 - (K : ℤ)) : ℝ) : EReal) := by
  unfold scaleK inverseK
  rw [h]
  have e : ∀ k : Fin 253, IntOp.addi (BitVec.ofNat 32 k) 1#32 = BitVec.ofNat 32 (k.val + 1) ∧ IntOp.subi 253#32 (BitVec.ofNat 32 k) = BitVec.ofNat 32 (253 - k.val) := by decide +kernel
  obtain ⟨e1, e2⟩ := e ⟨K, h1⟩
  simp only at e1 e2
  rw [e1, e2, ofBits_shli _ (by omega) (by omega), ofBits_shli _ (by omega) (by omega)]
  constructor
  · congr 2; push_cast; ring
  · congr 2; rw [Nat.cast_sub (by omega)]; push_cast; ring

/-- A peak is tiny, or it lies between two powers. -/
theorem peak_cases (r : ℝ) (h0 : 0 ≤ r) (h1 : r < (2 : ℝ) ^ (120 : ℤ)) :
    r < (2 : ℝ) ^ (-126 : ℤ) ∨ ∃ K : ℕ, 0 < K ∧ K < 253 ∧ (2 : ℝ) ^ ((K : ℤ) - 127) ≤ r ∧ r < (2 : ℝ) ^ ((K : ℤ) - 126) := by
  by_cases ht : r < (2 : ℝ) ^ (-126 : ℤ)
  · exact Or.inl ht
  · right
    rw [not_lt] at ht
    have hr : 0 < r := lt_of_lt_of_le (zpow_pos (by norm_num) _) ht
    obtain ⟨n, hn0, hn1⟩ := exists_mem_Ico_zpow hr (by norm_num : (1 : ℝ) < 2)
    have a1 := (zpow_lt_zpow_iff_right₀ (by norm_num : (1 : ℝ) < 2)).mp (lt_of_le_of_lt hn0 h1)
    have a2 := (zpow_lt_zpow_iff_right₀ (by norm_num : (1 : ℝ) < 2)).mp (lt_of_le_of_lt ht hn1)
    refine ⟨(n + 127).toNat, by omega, by omega, ?_, ?_⟩
    · rw [show (((n + 127).toNat : ℕ) : ℤ) - 127 = n by omega]; exact hn0
    · rw [show (((n + 127).toNat : ℕ) : ℤ) - 126 = n + 1 by omega]; exact hn1

/-- What the quantiser computes of a peak in range: a power of two and its reciprocal, the same on both sides. -/
theorem scales (f : EReal) (h0 : 0 ≤ f) (h1 : f < (((2 : ℝ) ^ (120 : ℤ) : ℝ) : EReal)) :
    ∃ s : ℝ, 0 < s ∧ scaleK f = (s : EReal) ∧ scaleR f = (s : EReal) ∧ inverseK f = ((1 / s : ℝ) : EReal) := by
  induction f with
  | bot => exact absurd h0 (by simp)
  | top => exact absurd h1 (by simp)
  | coe r =>
    rw [EReal.coe_lt_coe_iff] at h1
    have h0 : 0 ≤ r := by exact_mod_cast h0
    rcases peak_cases r h0 h1 with ht | ⟨K, k0, k1, a, b⟩
    · have hf : field (r : EReal) = BitVec.ofNat 32 126 := by
        unfold field; rw [field₀_tiny r h0 ht]; decide
      obtain ⟨e1, e2⟩ := scaleK_of _ 126 (by norm_num) (by norm_num) hf
      refine ⟨1, one_pos, by rw [e1]; norm_num, by rw [scaleR_tiny r ht]; rfl, by rw [e2]; norm_num⟩
    · have hf : field (r : EReal) = BitVec.ofNat 32 K := by
        unfold field
        rw [field₀_normal r K k0 (by omega) a b]
        have : ∀ k : Fin 253, 0 < k.val → Scalar.select (IntOp.ori (IntOp.cmpi .eq (BitVec.ofNat 32 k.val) 0#32) (IntOp.cmpi .eq (BitVec.ofNat 32 k.val) 255#32)) 126#32 (BitVec.ofNat 32 k.val) = BitVec.ofNat 32 k.val := by decide +kernel
        exact this ⟨K, k1⟩ k0
      obtain ⟨e1, e2⟩ := scaleK_of _ K k0 k1 hf
      refine ⟨(2 : ℝ) ^ ((K : ℤ) - 126), zpow_pos (by norm_num) _, e1, scaleR_normal r K k0 (by omega) a b, ?_⟩
      rw [e2, one_div, ← zpow_neg]
      congr 2; ring

theorem scale_eq (f : EReal) (h0 : 0 ≤ f) (h1 : f < (((2 : ℝ) ^ (120 : ℤ) : ℝ) : EReal)) : scaleK f = scaleR f := by
  obtain ⟨s, _, a, b, _⟩ := scales f h0 h1
  rw [a, b]

theorem code_eq (f x : EReal) (h0 : 0 ≤ f) (h1 : f < (((2 : ℝ) ^ (120 : ℤ) : ℝ) : EReal)) : codeK f x = codeR f x := by
  obtain ⟨s, hs, _, b, e⟩ := scales f h0 h1
  unfold codeK codeR
  rw [b, e, Ideal.div_coe (ne_of_gt hs)]

end Cert.Spec

end
-- ==== Proof.PreBound.lean ====
/-
  What the precondition gives: the peak of every row of the new token is a real number below `2 ^ 120`.
-/
module

public import proofs.«01_k».proof.Defs
public import proofs.«01_k».proof.Proof.Spec
public import Idealize.ShloMosaic.Lib.Pointwise

@[expose] public section

noncomputable section

namespace Cert.Spec

open Idealize.ShloMosaic

theorem ninf_bits : Ideal.ofBits .f32 4286578688#32 = ⊥ := by simp [Ideal.ofBits, Ideal.ieee]

theorem max_bits : Ideal.ofBits .bf16 0x7F7F#16 ≤ (((2 : ℝ) ^ (128 : ℤ) : ℝ) : EReal) := by
  have a : ((0x7F7F#16 : BitVec 16).extractLsb' 15 1 == 1#1) = false := by decide
  have b : ((0x7F7F#16 : BitVec 16).extractLsb' 7 8).toNat = 254 := by decide
  have c : ((0x7F7F#16 : BitVec 16).extractLsb' 0 7).toNat = 127 := by decide
  show Ideal.ieee 8 7 (0x7F7F#16 : BitVec 16) ≤ _
  generalize (0x7F7F#16 : BitVec 16) = w at a b c
  unfold Ideal.ieee
  simp only [Nat.reduceAdd, a, b, c]
  rw [if_neg (by norm_num), if_neg (by norm_num)]
  refine EReal.coe_le_coe_iff.mpr ?_
  norm_num

theorem inv_bits : ∃ r : ℝ, Ideal.ofBits .f32 991054117#32 = (r : EReal) ∧ 0 < r ∧ r < (2 : ℝ) ^ (-8 : ℤ) := by
  have a : ((991054117#32 : BitVec 32).extractLsb' 31 1 == 1#1) = false := by decide
  have b : ((991054117#32 : BitVec 32).extractLsb' 23 8).toNat = 118 := by decide
  have c : ((991054117#32 : BitVec 32).extractLsb' 0 23).toNat = 1198373 := by decide
  show ∃ r : ℝ, Ideal.ieee 8 23 (991054117#32 : BitVec 32) = _ ∧ _
  generalize (991054117#32 : BitVec 32) = w at a b c
  unfold Ideal.ieee
  simp only [Nat.reduceAdd, a, b, c]
  rw [if_neg (by norm_num), if_neg (by norm_num)]
  refine ⟨_, rfl, ?_, ?_⟩ <;> norm_num

theorem peak_bound (w : Fin 64 → EReal) (hw : ∀ d, FloatOps.absf (F := Ideal) (φ := .bf16) (w d) ≤ Ideal.ofBits .bf16 0x7F7F#16) :
    0 ≤ peak w ∧ peak w < (((2 : ℝ) ^ (120 : ℤ) : ℝ) : EReal) := by
  obtain ⟨r, hr, h0, h1⟩ := inv_bits
  have habs : ∀ d, 0 ≤ FloatOps.absf (F := Ideal) (φ := .f32) (w d) := fun d => by
    show 0 ≤ max (w d) (-(w d))
    rcases le_total 0 (w d) with h | h
    · exact le_max_of_le_left h
    · exact le_max_of_le_right (EReal.neg_nonneg.mpr h)
  have lo : 0 ≤ Finset.fold max (Ideal.ofBits .f32 4286578688#32) (fun x => FloatOps.absf (F := Ideal) (φ := .f32) (w x)) Finset.univ :=
    Finset.le_fold_max _ |>.mpr (Or.inr ⟨0, Finset.mem_univ _, habs 0⟩)
  have hi : Finset.fold max (Ideal.ofBits .f32 4286578688#32) (fun x => FloatOps.absf (F := Ideal) (φ := .f32) (w x)) Finset.univ ≤ (((2 : ℝ) ^ (128 : ℤ) : ℝ) : EReal) :=
    Finset.fold_max_le _ |>.mpr ⟨by rw [ninf_bits]; exact bot_le, fun d _ => (hw d).trans max_bits⟩
  unfold peak
  generalize Finset.fold max (Ideal.ofBits .f32 4286578688#32) (fun x => FloatOps.absf (F := Ideal) (φ := .f32) (w x)) Finset.univ = p at lo hi
  rw [hr]
  lift p to ℝ using ⟨ne_top_of_le_ne_top (EReal.coe_ne_top _) hi, ne_bot_of_le_ne_bot EReal.zero_ne_bot lo⟩
  have lo' : 0 ≤ p := by exact_mod_cast lo
  have hi' : p ≤ (2 : ℝ) ^ (128 : ℤ) := by exact_mod_cast hi
  rw [← EReal.coe_mul]
  refine ⟨by exact_mod_cast mul_nonneg lo' h0.le, EReal.coe_lt_coe_iff.mpr ?_⟩
  calc p * r ≤ (2 : ℝ) ^ (128 : ℤ) * r := mul_le_mul_of_nonneg_right hi' h0.le
    _ < (2 : ℝ) ^ (128 : ℤ) * (2 : ℝ) ^ (-8 : ℤ) := mul_lt_mul_of_pos_left h1 (by positivity)
    _ = (2 : ℝ) ^ (120 : ℤ) := by rw [← zpow_add₀ (by norm_num)]; norm_num

theorem word_of_true (p : Prop) [Decidable p] (h : BitVec.ofBool (decide p) = 1#1) : p := by
  by_contra hp
  rw [decide_eq_false hp] at h
  exact absurd h (by decide)

end Cert.Spec

namespace Cert.Proof

open Idealize.ShloMosaic Idealize.SL.Sem
open Cert.KernelIdeal

theorem pre_k [hP : Cert.Pre_finite_token.Facts] (m : (ℓ : Loc nD τ sig) → Buf (Elt Ideal) ℓ) (hm : Cert.Pre_KernelIdeal_finite_token m) (c : Dev nD) (i : S4x1x8x64.Idx) :
    FloatOps.absf (F := Ideal) (φ := .bf16) (m ((c.tc : Thread nD τ).loc main_arg1) i) ≤ Ideal.ofBits .bf16 0x7F7F#16 := by
  have h := congrFun (hm c).1 i
  exact Cert.Spec.word_of_true _ h

theorem pre_v [hP : Cert.Pre_finite_token.Facts] (m : (ℓ : Loc nD τ sig) → Buf (Elt Ideal) ℓ) (hm : Cert.Pre_KernelIdeal_finite_token m) (c : Dev nD) (i : S4x1x8x64.Idx) :
    FloatOps.absf (F := Ideal) (φ := .bf16) (m ((c.tc : Thread nD τ).loc main_arg2) i) ≤ Ideal.ofBits .bf16 0x7F7F#16 := by
  have h := congrFun (hm c).2 i
  exact Cert.Spec.word_of_true _ h

end Cert.Proof

end
-- ==== Proof.MathA.lean ====
/-
  Attention as mathematics: the kernel's weights over its window are the reference's softmax over its own.
-/
module

public import proofs.«01_k».proof.Proof.Rows
public import proofs.«01_k».proof.Proof.RefElt

@[expose] public section

set_option maxHeartbeats 1000000

noncomputable section

namespace Cert.Attn

open Idealize.ShloMosaic
open Cert.KernelIdeal.Val (expo rawDot sees)
open Cert.ReferenceIdeal.Value (cap top soft)

theorem fifty : Ideal.ofBits .f32 1112014848#32 = ((50 : ℝ) : EReal) := by
  have a : ((1112014848#32 : BitVec 32).extractLsb' 31 1 == 1#1) = false := by decide
  have b : ((1112014848#32 : BitVec 32).extractLsb' 23 8).toNat = 132 := by decide
  have c : ((1112014848#32 : BitVec 32).extractLsb' 0 23).toNat = 4718592 := by decide
  show Ideal.ieee 8 23 (1112014848#32 : BitVec 32) = _
  generalize (1112014848#32 : BitVec 32) = w at a b c
  unfold Ideal.ieee
  simp only [Nat.reduceAdd, a, b, c]
  rw [if_neg (by norm_num), if_neg (by norm_num)]
  refine EReal.coe_eq_coe_iff.mpr ?_
  norm_num

theorem eighth : Ideal.ofBits .f32 0x3E000000#32 = ((1 / 8 : ℝ) : EReal) := by
  have a : ((0x3E000000#32 : BitVec 32).extractLsb' 31 1 == 1#1) = false := by decide
  have b : ((0x3E000000#32 : BitVec 32).extractLsb' 23 8).toNat = 124 := by decide
  have c : ((0x3E000000#32 : BitVec 32).extractLsb' 0 23).toNat = 0 := by decide
  show Ideal.ieee 8 23 (0x3E000000#32 : BitVec 32) = _
  generalize (0x3E000000#32 : BitVec 32) = w at a b c
  unfold Ideal.ieee
  simp only [Nat.reduceAdd, a, b, c]
  rw [if_neg (by norm_num), if_neg (by norm_num)]
  refine EReal.coe_eq_coe_iff.mpr ?_
  norm_num

theorem bottom : Ideal.ofBits .f32 4286578688#32 = ⊥ := by simp [Ideal.ofBits, Ideal.ieee]

theorem tanh_real (x : EReal) : ∃ t : ℝ, Ideal.tanh x = (t : EReal) := by
  induction x using EReal.rec with
  | bot => exact ⟨-1, by rw [Ideal.tanh_bot]; simp⟩
  | top => exact ⟨1, by rw [Ideal.tanh_top]; simp⟩
  | coe r => exact ⟨_, Ideal.tanh_coe r⟩

/-- The kernel's exponential is the exponential of the reference's capped logit, a real number. -/
theorem expo_cap (z : EReal) : ∃ r : ℝ, expo z = ((Real.exp r : ℝ) : EReal) ∧ cap (z * Ideal.ofBits .f32 0x3E000000#32) = (r : EReal) := by
  obtain ⟨t, ht⟩ := tanh_real (z * ((1 / 400 : ℝ) : EReal))
  refine ⟨50 * t, ?_, ?_⟩
  · show Ideal.exp2 (Ideal.tanh (z * ((1 / 400 : ℝ) : EReal)) * ((50 * (Real.log 2)⁻¹ : ℝ) : EReal)) = _
    rw [ht, ← EReal.coe_mul, Ideal.exp2_coe]
    refine EReal.coe_eq_coe_iff.mpr ?_
    show (2 : ℝ) ^ (t * (50 * (Real.log 2)⁻¹)) = _
    rw [Real.rpow_def_of_pos (by norm_num)]
    congr 1
    have : Real.log 2 ≠ 0 := by positivity
    field_simp
  · unfold cap
    rw [fifty, eighth, Ideal.div_coe (by norm_num), mul_assoc, ← EReal.coe_mul, show ((1 / 8 : ℝ) * (1 / 50)) = 1 / 400 by norm_num, ht, ← EReal.coe_mul]

/-- A sum over a window is the sum over everything, of a function that is zero outside it. -/
theorem sum_win (n s : ℕ) (h : s + n ≤ 131072) (g : Fin 131072 → EReal) (hz : ∀ p, ¬(s ≤ p.val ∧ p.val < s + n) → g p = 0) :
    ∑ j : Fin n, g ⟨s + j.val, by omega⟩ = ∑ p, g p := by
  refine Fintype.sum_of_injective (fun j : Fin n => (⟨s + j.val, by omega⟩ : Fin 131072)) (fun a b e => Fin.ext ?_) _ _ (fun p hp => hz p fun hh => hp ⟨⟨p.val - s, by omega⟩, Fin.ext ?_⟩) (fun _ => rfl)
  · have := congrArg Fin.val e; simp at this; exact this
  · show s + (p.val - s) = p.val; omega

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of the logits is real. -/
theorem top_real (l : Fin 1024 → EReal) (hl : ∀ j, l j ≠ ⊤) (n : ℝ) : ∃ μ : ℝ, top l n = (μ : EReal) := by
  have hlo : (n : EReal) ≤ top l n := by
    unfold top
    refine le_max_of_le_right ((Finset.le_fold_max _).mpr (Or.inr ⟨⟨1024, by omega⟩, Finset.mem_univ _, ?_⟩))
    rw [dif_neg (by simp)]
  have hhi : top l n < ⊤ := by
    unfold top
    rw [bottom]
    refine max_lt bot_lt_top ((Finset.fold_max_lt _).mpr ⟨bot_lt_top, fun x _ => ?_⟩)
    split
    · exact lt_top_iff_ne_top.mpr (hl _)
    · exact EReal.coe_lt_top n
  exact ⟨(top l n).toReal, (EReal.coe_toReal hhi.ne (ne_bot_of_le_ne_bot (EReal.coe_ne_bot n) hlo)).symm⟩

section
variable (a : Fin 1024 → ℝ) (ha : ∀ j, 0 ≤ a j) (l : Fin 1024 → EReal) (n : ℝ)
  (hl : ∀ j, l j = if a j = 0 then ⊥ else ((Real.log (a j) : ℝ) : EReal))

include ha hl in
/-- The softmax's weights, as reals. -/
theorem soft_real : (∀ j, soft l n (l j) = ((a j / (∑ j, a j + Real.exp n) : ℝ) : EReal)) ∧ soft l n n = ((Real.exp n / (∑ j, a j + Real.exp n) : ℝ) : EReal) := by
  obtain ⟨μ, hμ⟩ := top_real l (fun j => by rw [hl]; split <;> simp) n
  have e1 : ∀ j, Ideal.exp (l j - (μ : EReal)) = ((a j * Real.exp (-μ) : ℝ) : EReal) := fun j => by
    rw [hl j]
    split
    · rename_i h0
      rw [h0, EReal.bot_sub, Ideal.exp_bot]; simp
    · rename_i h0
      rw [← EReal.coe_sub, Ideal.exp_coe, sub_eq_add_neg, Real.exp_add, Real.exp_log (lt_of_le_of_ne (ha j) (Ne.symm h0))]
  have e2 : Ideal.exp ((n : EReal) - (μ : EReal)) = ((Real.exp n * Real.exp (-μ) : ℝ) : EReal) := by
    rw [← EReal.coe_sub, Ideal.exp_coe, sub_eq_add_neg, Real.exp_add]
  have hA : 0 ≤ ∑ j, a j := Finset.sum_nonneg fun j _ => ha j
  have hn := Real.exp_pos n
  have hm := Real.exp_pos (-μ)
  have den : ∑ x : Fin 1024, Ideal.exp (l x - (μ : EReal)) + ∑ _x : Fin 1, Ideal.exp ((n : EReal) - (μ : EReal)) = (((∑ j, a j + Real.exp n) * Real.exp (-μ) : ℝ) : EReal) := by
    simp only [e1, e2]
    rw [← coe_sum, Fin.sum_univ_one, ← EReal.coe_add, ← Finset.sum_mul, add_mul]
  have hne : (∑ j, a j + Real.exp n) * Real.exp (-μ) ≠ 0 := by positivity
  refine ⟨fun j => ?_, ?_⟩
  · unfold soft
    rw [hμ, den, e1, Ideal.div_coe hne, ← EReal.coe_mul]
    refine EReal.coe_eq_coe_iff.mpr ?_
    field_simp
  · unfold soft
    rw [hμ, den, e2, Ideal.div_coe hne, ← EReal.coe_mul]
    refine EReal.coe_eq_coe_iff.mpr ?_
    field_simp
end

/-- Attention over the kernel's window and over the reference's. -/
theorem attn_eq (vis : Fin 131072 → Prop) [DecidablePred vis] (z vs w : Fin 131072 → EReal) (zn sc code : EReal) (s t : ℕ) (hs : s + 1152 ≤ 131072) (ht : t + 1024 ≤ 131072)
    (vs1 : ∀ p, vis p → s ≤ p.val ∧ p.val < s + 1152) (vs2 : ∀ p, vis p → t ≤ p.val ∧ p.val < t + 1024)
    (l : Fin 1024 → EReal) (hl : l = fun j : Fin 1024 => if vis ⟨t + j.val, by omega⟩ then cap (z ⟨t + j.val, by omega⟩ * Ideal.ofBits .f32 0x3E000000#32) else Ideal.ofBits .f32 4286578688#32)
    (T : EReal) (hT : T = (∑ x : Fin 1152, if vis ⟨s + x.val, by omega⟩ then expo (z ⟨s + x.val, by omega⟩) else 0) + expo zn) :
    (∑ x : Fin 1152, (if vis ⟨s + x.val, by omega⟩ then expo (z ⟨s + x.val, by omega⟩) * Ideal.div 1 T * vs ⟨s + x.val, by omega⟩ else 0) * w ⟨s + x.val, by omega⟩) + expo zn * Ideal.div 1 T * sc * code
    = (∑ j : Fin 1024, soft l (cap (zn * Ideal.ofBits .f32 0x3E000000#32)) (l j) * vs ⟨t + j.val, by omega⟩ * w ⟨t + j.val, by omega⟩)
      + soft l (cap (zn * Ideal.ofBits .f32 0x3E000000#32)) (cap (zn * Ideal.ofBits .f32 0x3E000000#32)) * sc * code := by
  choose r hr1 hr2 using expo_cap
  let a : Fin 131072 → ℝ := fun p => if vis p then Real.exp (r (z p)) else 0
  have ha : ∀ p, 0 ≤ a p := fun p => by show 0 ≤ if vis p then _ else _; split; exacts [(Real.exp_pos _).le, le_rfl]
  have az : ∀ p, ¬ vis p → a p = 0 := fun p h => if_neg h
  have ae : ∀ p, (if vis p then expo (z p) else 0) = (a p : EReal) := fun p => by
    show _ = ((if vis p then Real.exp (r (z p)) else 0 : ℝ) : EReal)
    split; exacts [hr1 _, by simp]
  let n : ℝ := r zn
  let A : ℝ := ∑ p, a p
  have hA : 0 ≤ A := Finset.sum_nonneg fun p _ => ha p
  have hn := Real.exp_pos n
  have eT : T = ((A + Real.exp n : ℝ) : EReal) := by
    rw [hT, hr1 zn]
    simp only [ae]
    rw [sum_win 1152 s hs (fun p => (a p : EReal)) (fun p hp => by rw [az p fun h => hp (vs1 p h)]; simp), ← coe_sum, ← EReal.coe_add]
  have eA : ∑ j : Fin 1024, a ⟨t + j.val, by omega⟩ = A := by
    have := sum_win 1024 t ht (fun p => (a p : EReal)) (fun p hp => by rw [az p fun h => hp (vs2 p h)]; simp)
    rw [← coe_sum, ← coe_sum] at this
    exact EReal.coe_eq_coe_iff.mp this
  have hne : A + Real.exp n ≠ 0 := (add_pos_of_nonneg_of_pos hA hn).ne'
  have eD : Ideal.div 1 T = ((1 / (A + Real.exp n) : ℝ) : EReal) := by rw [eT, Ideal.div_coe hne, one_mul]
  have eN : cap (zn * Ideal.ofBits .f32 0x3E000000#32) = (n : EReal) := hr2 zn
  have el : ∀ j : Fin 1024, l j = if a ⟨t + j.val, by omega⟩ = 0 then ⊥ else ((Real.log (a ⟨t + j.val, by omega⟩) : ℝ) : EReal) := fun j => by
    rw [hl]
    by_cases hv : vis ⟨t + j.val, by omega⟩
    · have e : a ⟨t + j.val, by omega⟩ = Real.exp (r (z ⟨t + j.val, by omega⟩)) := if_pos hv
      rw [e, if_neg (Real.exp_pos _).ne', Real.log_exp]
      show (if vis _ then _ else _) = _
      rw [if_pos hv, hr2]
    · have e : a ⟨t + j.val, by omega⟩ = 0 := if_neg hv
      rw [e, if_pos rfl]
      show (if vis _ then _ else _) = _
      rw [if_neg hv, bottom]
  obtain ⟨sj, sn⟩ := soft_real (fun j : Fin 1024 => a ⟨t + j.val, by omega⟩) (fun j => ha _) l n el
  rw [eN, sn, eA]
  congr 1
  · simp only [sj, eA]
    let g : Fin 131072 → EReal := fun p => ((a p / (A + Real.exp n) : ℝ) : EReal) * vs p * w p
    have gz : ∀ p, ¬ vis p → g p = 0 := fun p h => by show ((a p / (A + Real.exp n) : ℝ) : EReal) * vs p * w p = 0; rw [az p h]; simp
    have k1 : ∀ p, (if vis p then expo (z p) * Ideal.div 1 T * vs p else 0) * w p = g p := fun p => by
      by_cases hv : vis p
      · show _ = ((a p / (A + Real.exp n) : ℝ) : EReal) * vs p * w p
        rw [if_pos hv, eD, hr1, ← EReal.coe_mul, show a p = Real.exp (r (z p)) from if_pos hv, mul_one_div]
      · rw [if_neg hv, gz p hv, zero_mul]
    simp only [k1]
    rw [sum_win 1152 s hs g (fun p hp => gz p fun h => hp (vs1 p h))]
    exact (sum_win 1024 t ht g (fun p hp => gz p fun h => hp (vs2 p h))).symm
  · rw [eD, hr1, ← EReal.coe_mul, mul_one_div]

/-- The product of a row set against its group's block. -/
theorem rawDot_eq (q : Fin 64 → EReal) (k : Fin 256 → EReal) (i : Fin 4) (g : Fin 8) : rawDot q k (8 * i.val + g.val) = ∑ d : Fin 64, q d * k ⟨64 * i.val + d.val, by omega⟩ := by
  unfold rawDot
  have ei : (8 * i.val + g.val) / 8 = i.val := by omega
  rw [ei]
  have cond : ∀ i j : Fin 4, IntOp.cmpi .eq (BitVec.ofNat 32 i.val) (BitVec.ofNat 32 j.val) = if i = j then 1#1 else 0#1 := by decide
  symm
  refine Fintype.sum_of_injective (fun d : Fin 64 => (⟨64 * i.val + d.val, by omega⟩ : Fin 256)) (fun a b e => Fin.ext ?_) _ _ (fun x hx => ?_) (fun d => ?_)
  · have := congrArg Fin.val e; simp at this; exact this
  · have c := cond i ⟨x.val / 64, by omega⟩
    have ne : i ≠ ⟨x.val / 64, by omega⟩ := fun h => hx ⟨⟨x.val % 64, by omega⟩, Fin.ext (by
      have := congrArg Fin.val h
      show 64 * i.val + x.val % 64 = x.val
      simp at this
      omega)⟩
    rw [if_neg ne] at c
    have c' : IntOp.cmpi .eq (BitVec.ofNat 32 i.val) (BitVec.ofNat 32 (x.val / 64)) = 0#1 := c
    rw [c']
    show (((0#32 : BitVec 32).toInt : ℝ) : EReal) * k x = 0
    simp
  · have c := cond i ⟨(64 * i.val + d.val) / 64, by omega⟩
    have eq : i = ⟨(64 * i.val + d.val) / 64, by omega⟩ := Fin.ext (by show i.val = (64 * i.val + d.val) / 64; omega)
    rw [if_pos eq] at c
    have c' : IntOp.cmpi .eq (BitVec.ofNat 32 i.val) (BitVec.ofNat 32 ((64 * i.val + d.val) / 64)) = 1#1 := c
    show q d * k _ = Scalar.select (IntOp.cmpi .eq (BitVec.ofNat 32 i.val) (BitVec.ofNat 32 ((64 * i.val + d.val) / 64))) _ _ * k _
    rw [c']
    refine congrArg (· * k _) ?_
    show q d = dite (64 * i.val + d.val < 64) _ _
    have hi := i.isLt
    have hd := d.isLt
    clear c c' eq cond ei
    by_cases h1 : 64 * i.val + d.val < 64
    · rw [dif_pos h1]; exact congrArg q (Fin.ext (by show d.val = 64 * i.val + d.val; omega))
    rw [dif_neg h1]
    show q d = dite (64 * i.val + d.val - 64 < 64) _ _
    by_cases h2 : 64 * i.val + d.val - 64 < 64
    · rw [dif_pos h2]; exact congrArg q (Fin.ext (by show d.val = 64 * i.val + d.val - 64; omega))
    rw [dif_neg h2]
    show q d = dite (64 * i.val + d.val - 64 - 64 < 64) _ _
    by_cases h3 : 64 * i.val + d.val - 64 - 64 < 64
    · rw [dif_pos h3]; exact congrArg q (Fin.ext (by show d.val = 64 * i.val + d.val - 64 - 64; omega))
    rw [dif_neg h3]
    exact congrArg q (Fin.ext (by show d.val = 64 * i.val + d.val - 64 - 64 - 64; omega))

/-- The positions a length lets be seen. -/
def visible (len : BitVec 32) (p : Fin 131072) : Prop := (BitVec.ofNat 32 p.val).slt len = true ∧ (len - 1024#32).slt (BitVec.ofNat 32 p.val) = true

instance (len : BitVec 32) : DecidablePred (visible len) := fun _ => by unfold visible; infer_instance

theorem select_sees {α : Type} (start len : BitVec 32) (j : ℕ) (h : start.toNat + j < 131072) (x y : α) :
    Scalar.select (sees start len j) x y = if visible len ⟨start.toNat + j, h⟩ then x else y := by
  have e : IntOp.addi start (BitVec.ofNat 32 j) = BitVec.ofNat 32 (start.toNat + j) := by
    show start + BitVec.ofNat 32 j = _
    rw [BitVec.ofNat_add, BitVec.ofNat_toNat]; simp
  unfold sees
  rw [e]
  show (if (BitVec.ofBool ((BitVec.ofNat 32 (start.toNat + j)).slt len) &&& BitVec.ofBool ((len - 1024#32).slt (BitVec.ofNat 32 (start.toNat + j)))) = 1#1 then x else y) = _
  have key : ∀ u v : Bool, (BitVec.ofBool u &&& BitVec.ofBool v = 1#1) ↔ (u = true ∧ v = true) := by decide
  exact if_congr (key _ _) rfl rfl

theorem select_mask {α : Type} (b : BitVec 1) (x y : α) : Scalar.select (IntOp.cmpi .ne (BitVec.setWidth 32 b) 0#32) x y = Scalar.select b x y := by
  have : IntOp.cmpi .ne (BitVec.setWidth 32 b) 0#32 = b := by revert b; decide
  rw [this]

/-- A visible position's length is positive and its bounds are those of the naturals. -/
theorem visible_nat (len : BitVec 32) (p : Fin 131072) (h : visible len p) : p.val < len.toInt ∧ len.toInt - 1024 < p.val ∧ (len - 1024#32).toInt = len.toInt - 1024 ∧ (len - 1023#32).toInt = len.toInt - 1023 := by
  obtain ⟨h1, h2⟩ := h
  have hp : (BitVec.ofNat 32 p.val).toInt = p.val := by
    rw [BitVec.toInt_eq_toNat_of_lt] <;> simp [BitVec.toNat_ofNat] <;> omega
  rw [BitVec.slt_iff_toInt_lt, hp] at h1 h2
  have hl := BitVec.toInt_lt (x := len)
  have e : (len - 1024#32).toInt = len.toInt - 1024 := by
    rw [BitVec.toInt_sub, show (1024#32 : BitVec 32).toInt = 1024 by decide]
    have := p.isLt
    rw [Int.bmod_eq_of_le] <;> omega
  have e' : (len - 1023#32).toInt = len.toInt - 1023 := by
    rw [BitVec.toInt_sub, show (1023#32 : BitVec 32).toInt = 1023 by decide]
    have := p.isLt
    rw [Int.bmod_eq_of_le] <;> omega
  exact ⟨h1, by rw [e] at h2; exact h2, e, e'⟩

theorem visible_start (len : BitVec 32) (p : Fin 131072) (h : visible len p) : (Cert.Win.start len).toNat ≤ p.val ∧ p.val < (Cert.Win.start len).toNat + 1152 := by
  obtain ⟨h1, h2, -, e⟩ := visible_nat len p h
  rw [Cert.Win.toNat_start, e]
  have := p.isLt
  omega

end Cert.Attn

end
-- ==== Proof.PieceP0.lean ====
/-
  The weights' rows of batch 0: each piece the kernel stores, at an index.
-/
module

public import proofs.«01_k».proof.Proof.Rows

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem p0_0 (c : Dev nD) (f0 f1 f3 f5 f6 f7 s0 s1 s3 s5 s6 s7) (g : Fin 8) (j : Fin 1152) : (k0_pay80 (F := Ideal) (kernelRun.sl.r_19 c f0 f3 f5 f7 s0 s3 s5 s7) (kernelRun.sl.r_20 c f0 f1 f3 f5 f7 s0 s1 s3 s5 s7) (kernelRun.sl.v789 c f6 f7 s6 s7)) (ix3 0 g j)
    = rawRow (fun d => rq c f0 (ix4 0 0 ⟨g.val, by omega⟩ d)) (fun j x => rk c f3 (ix3 0 ⟨x.val, by omega⟩ ⟨st c f7 0 + j, by have := st_le c f7 0; omega⟩))
        (fun j => rks c f5 (ix3 0 0 ⟨st c f7 0 + j, by have := st_le c f7 0; omega⟩)) (fun j => rvs c f6 (ix3 0 0 ⟨st c f7 0 + j, by have := st_le c f7 0; omega⟩))
        (g.val) (Cert.Win.start (rl c f7 (ix1 0))) (rl c f7 (ix1 0)) (kernelRun.sl.r_4 (F := Ideal) c f0 f1 s0 s1 (ix3 0 g 0)) j := by
  pointwise [kernelRun.sl.r_20, k0_pay79, k0_pay78, k0_pay77, k0_pay76, kernelRun.sl.v746, kernelRun.sl.v4, kernelRun.sl.v3, kernelRun.sl.v2, kernelRun.sl.v1, kernelRun.sl.v745, kernelRun.sl.r_19, k0_pay80]
  simp only [v700_at, v725_at, word0, word1, word2, word3, word0', word3', ld789, ld756, ld766, ld762, Nat.zero_add]
  rfl

theorem p0_1 (c : Dev nD) (f0 f1 f3 f5 f6 f7 s0 s1 s3 s5 s6 s7) (g : Fin 8) (j : Fin 1152) : (k0_pay85 (F := Ideal) (kernelRun.sl.r_23 c f0 f1 f3 f5 f7 s0 s1 s3 s5 s7) (kernelRun.sl.v828 c f6 f7 s6 s7)) (ix3 0 g j)
    = rawRow (fun d => rq c f0 (ix4 0 0 ⟨8 + g.val, by omega⟩ d)) (fun j x => rk c f3 (ix3 0 ⟨x.val, by omega⟩ ⟨st c f7 0 + j, by have := st_le c f7 0; omega⟩))
        (fun j => rks c f5 (ix3 0 1 ⟨st c f7 0 + j, by have := st_le c f7 0; omega⟩)) (fun j => rvs c f6 (ix3 0 1 ⟨st c f7 0 + j, by have := st_le c f7 0; omega⟩))
        (8 + g.val) (Cert.Win.start (rl c f7 (ix1 0))) (rl c f7 (ix1 0)) (kernelRun.sl.r_4 (F := Ideal) c f0 f1 s0 s1 (ix3 1 g 0)) j := by
  pointwise [kernelRun.sl.r_23, kernelRun.sl.r_17, kernelRun.sl.v745, kernelRun.sl.v746, kernelRun.sl.v4, kernelRun.sl.v3, kernelRun.sl.v2, kernelRun.sl.v1, k0_pay76, kernelRun.sl.r_18, k0_pay77, k0_pay84, k0_pay83, k0_pay82, k0_pay85]
  simp only [v700_at, v725_at, word0, word1, word2, word3, word0', word3', ld828, ld762, ld756, ld805, Nat.zero_add]
  rfl

theorem p0_2 (c : Dev nD) (f0 f1 f3 f5 f6 f7 s0 s1 s3 s5 s6 s7) (g : Fin 8) (j : Fin 1152) : (k0_pay90 (F := Ideal) (kernelRun.sl.r_26 c f0 f1 f3 f5 f6 f7 s0 s1 s3 s5 s6 s7)) (ix3 0 g j)
    = rawRow (fun d => rq c f0 (ix4 0 0 ⟨16 + g.val, by omega⟩ d)) (fun j x => rk c f3 (ix3 0 ⟨x.val, by omega⟩ ⟨st c f7 0 + j, by have := st_le c f7 0; omega⟩))
        (fun j => rks c f5 (ix3 0 2 ⟨st c f7 0 + j, by have := st_le c f7 0; omega⟩)) (fun j => rvs c f6 (ix3 0 2 ⟨st c f7 0 + j, by have := st_le c f7 0; omega⟩))
        (16 + g.val) (Cert.Win.start (rl c f7 (ix1 0))) (rl c f7 (ix1 0)) (kernelRun.sl.r_4 (F := Ideal) c f0 f1 s0 s1 (ix3 2 g 0)) j := by
  pointwise [kernelRun.sl.r_26, kernelRun.sl.r_17, kernelRun.sl.v745, kernelRun.sl.v746, kernelRun.sl.v4, kernelRun.sl.v3, kernelRun.sl.v2, kernelRun.sl.v1, k0_pay76, kernelRun.sl.r_18, k0_pay77, k0_pay89, k0_pay88, k0_pay87, k0_pay90]
  simp only [v700_at, v725_at, word0, word1, word2, word3, word0', word3', ld762, ld756, ld867, ld844, Nat.zero_add]
  rfl

theorem p0_3 (c : Dev nD) (f0 f1 f3 f5 f6 f7 s0 s1 s3 s5 s6 s7) (g : Fin 8) (j : Fin 1152) : (k0_pay94 (F := Ideal) (kernelRun.sl.r_4 c f0 f1 s0 s1) (kernelRun.sl.r_17 c f7 s7) (kernelRun.sl.r_18 c f0 f3 f7 s0 s3 s7) (kernelRun.sl.v883 c f5 f7 s5 s7) (kernelRun.sl.v906 c f6 f7 s6 s7)) (ix3 0 g j)
    = rawRow (fun d => rq c f0 (ix4 0 0 ⟨24 + g.val, by omega⟩ d)) (fun j x => rk c f3 (ix3 0 ⟨x.val, by omega⟩ ⟨st c f7 0 + j, by have := st_le c f7 0; omega⟩))
        (fun j => rks c f5 (ix3 0 3 ⟨st c f7 0 + j, by have := st_le c f7 0; omega⟩)) (fun j => rvs c f6 (ix3 0 3 ⟨st c f7 0 + j, by have := st_le c f7 0; omega⟩))
        (24 + g.val) (Cert.Win.start (rl c f7 (ix1 0))) (rl c f7 (ix1 0)) (kernelRun.sl.r_4 (F := Ideal) c f0 f1 s0 s1 (ix3 3 g 0)) j := by
  pointwise [kernelRun.sl.r_18, k0_pay77, kernelRun.sl.r_17, kernelRun.sl.v745, kernelRun.sl.v746, kernelRun.sl.v4, kernelRun.sl.v3, kernelRun.sl.v2, kernelRun.sl.v1, k0_pay76, k0_pay94, k0_pay92, k0_pay93]
  simp only [v700_at, v725_at, word0, word1, word2, word3, word0', word3', ld906, ld883, ld762, ld756, Nat.zero_add]
  rfl

theorem p0_4 (c : Dev nD) (f0 f1 f3 f5 f6 f7 s0 s1 s3 s5 s6 s7) (g : Fin 8) (j : Fin 1152) : (k0_pay101 (F := Ideal) (kernelRun.sl.r_33 c f0 f1 f3 f5 f7 s0 s1 s3 s5 s7) (kernelRun.sl.v954 c f6 f7 s6 s7)) (ix3 0 g j)
    = rawRow (fun d => rq c f0 (ix4 0 0 ⟨32 + g.val, by omega⟩ d)) (fun j x => rk c f3 (ix3 0 ⟨256 + x.val, by omega⟩ ⟨st c f7 0 + j, by have := st_le c f7 0; omega⟩))
        (fun j => rks c f5 (ix3 0 4 ⟨st c f7 0 + j, by have := st_le c f7 0; omega⟩)) (fun j => rvs c f6 (ix3 0 4 ⟨st c f7 0 + j, by have := st_le c f7 0; omega⟩))
        (g.val) (Cert.Win.start (rl c f7 (ix1 0))) (rl c f7 (ix1 0)) (kernelRun.sl.r_4 (F := Ideal) c f0 f1 s0 s1 (ix3 4 g 0)) j := by
  pointwise [kernelRun.sl.r_33, k0_pay100, k0_pay99, k0_pay98, k0_pay97, kernelRun.sl.r_17, kernelRun.sl.v745, kernelRun.sl.v746, kernelRun.sl.v4, kernelRun.sl.v3, kernelRun.sl.v2, kernelRun.sl.v1, k0_pay76, k0_pay101]
  simp only [v700_at, v725_at, word0, word1, word2, word3, word0', word3', ld954, ld921, ld931, ld927, Nat.zero_add]
  rfl

theorem p0_5 (c : Dev nD) (f0 f1 f3 f5 f6 f7 s0 s1 s3 s5 s6 s7) (g : Fin 8) (j : Fin 1152) : (k0_pay106 (F := Ideal) (kernelRun.sl.r_36 c f0 f1 f3 f5 f6 f7 s0 s1 s3 s5 s6 s7)) (ix3 0 g j)
    = rawRow (fun d => rq c f0 (ix4 0 0 ⟨32 + (8 + g.val), by omega⟩ d)) (fun j x => rk c f3 (ix3 0 ⟨256 + x.val, by omega⟩ ⟨st c f7 0 + j, by have := st_le c f7 0; omega⟩))
        (fun j => rks c f5 (ix3 0 5 ⟨st c f7 0 + j, by have := st_le c f7 0; omega⟩)) (fun j => rvs c f6 (ix3 0 5 ⟨st c f7 0 + j, by have := st_le c f7 0; omega⟩))
        (8 + g.val) (Cert.Win.start (rl c f7 (ix1 0))) (rl c f7 (ix1 0)) (kernelRun.sl.r_4 (F := Ideal) c f0 f1 s0 s1 (ix3 5 g 0)) j := by
  pointwise [kernelRun.sl.r_36, kernelRun.sl.r_31, k0_pay97, k0_pay105, k0_pay104, k0_pay103, kernelRun.sl.r_17, kernelRun.sl.v745, kernelRun.sl.v746, kernelRun.sl.v4, kernelRun.sl.v3, kernelRun.sl.v2, kernelRun.sl.v1, k0_pay76, k0_pay106]
  simp only [v700_at, v725_at, word0, word1, word2, word3, word0', word3', ld921, ld927, ld993, ld970, Nat.zero_add]
  rfl

theorem p0_6 (c : Dev nD) (f0 f1 f3 f5 f6 f7 s0 s1 s3 s5 s6 s7) (g : Fin 8) (j : Fin 1152) : (k0_pay110 (F := Ideal) (kernelRun.sl.r_4 c f0 f1 s0 s1) (kernelRun.sl.r_17 c f7 s7) (kernelRun.sl.r_31 c f0 f3 f7 s0 s3 s7) (kernelRun.sl.v1009 c f5 f7 s5 s7) (kernelRun.sl.v1032 c f6 f7 s6 s7)) (ix3 0 g j)
    = rawRow (fun d => rq c f0 (ix4 0 0 ⟨32 + (16 + g.val), by omega⟩ d)) (fun j x => rk c f3 (ix3 0 ⟨256 + x.val, by omega⟩ ⟨st c f7 0 + j, by have := st_le c f7 0; omega⟩))
        (fun j => rks c f5 (ix3 0 6 ⟨st c f7 0 + j, by have := st_le c f7 0; omega⟩)) (fun j => rvs c f6 (ix3 0 6 ⟨st c f7 0 + j, by have := st_le c f7 0; omega⟩))
        (16 + g.val) (Cert.Win.start (rl c f7 (ix1 0))) (rl c f7 (ix1 0)) (kernelRun.sl.r_4 (F := Ideal) c f0 f1 s0 s1 (ix3 6 g 0)) j := by
  pointwise [kernelRun.sl.r_31, k0_pay97, kernelRun.sl.r_17, kernelRun.sl.v745, kernelRun.sl.v746, kernelRun.sl.v4, kernelRun.sl.v3, kernelRun.sl.v2, kernelRun.sl.v1, k0_pay76, k0_pay110, k0_pay109, k0_pay108]
  simp only [v700_at, v725_at, word0, word1, word2, word3, word0', word3', ld1032, ld1009, ld921, ld927, Nat.zero_add]
  rfl

theorem p0_7 (c : Dev nD) (f0 f1 f3 f5 f6 f7 s0 s1 s3 s5 s6 s7) (g : Fin 8) (j : Fin 1152) : (k0_pay115 (F := Ideal) (kernelRun.sl.r_4 c f0 f1 s0 s1) (kernelRun.sl.r_17 c f7 s7) (kernelRun.sl.r_31 c f0 f3 f7 s0 s3 s7) (kernelRun.sl.v1048 c f5 f7 s5 s7) (kernelRun.sl.v1071 c f6 f7 s6 s7)) (ix3 0 g j)
    = rawRow (fun d => rq c f0 (ix4 0 0 ⟨32 + (24 + g.val), by omega⟩ d)) (fun j x => rk c f3 (ix3 0 ⟨256 + x.val, by omega⟩ ⟨st c f7 0 + j, by have := st_le c f7 0; omega⟩))
        (fun j => rks c f5 (ix3 0 7 ⟨st c f7 0 + j, by have := st_le c f7 0; omega⟩)) (fun j => rvs c f6 (ix3 0 7 ⟨st c f7 0 + j, by have := st_le c f7 0; omega⟩))
        (24 + g.val) (Cert.Win.start (rl c f7 (ix1 0))) (rl c f7 (ix1 0)) (kernelRun.sl.r_4 (F := Ideal) c f0 f1 s0 s1 (ix3 7 g 0)) j := by
  pointwise [kernelRun.sl.r_31, k0_pay97, kernelRun.sl.r_17, kernelRun.sl.v745, kernelRun.sl.v746, kernelRun.sl.v4, kernelRun.sl.v3, kernelRun.sl.v2, kernelRun.sl.v1, k0_pay76, k0_pay115, k0_pay114, k0_pay113]
  simp only [v700_at, v725_at, word0, word1, word2, word3, word0', word3', ld1071, ld1048, ld921, ld927, Nat.zero_add]
  rfl

end Cert.KernelIdeal.Val

end
-- ==== Proof.PieceP1.lean ====
/-
  The weights' rows of batch 1: each piece the kernel stores, at an index.
-/
module

public import proofs.«01_k».proof.Proof.Rows

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem p1_0 (c : Dev nD) (f0 f1 f3 f5 f6 f7 s0 s1 s3 s5 s6 s7) (g : Fin 8) (j : Fin 1152) : (k0_pay122 (F := Ideal) (kernelRun.sl.r_7 c f0 f1 s0 s1) (Idealize.ShloMosaic.cmpi CmpIPredicate.eq kernelRun.sl.v700 kernelRun.sl.v725) (kernelRun.sl.v1114 c f7 s7) (kernelRun.sl.v1117 c f0 s0) (kernelRun.sl.v1121 c f3 f7 s3 s7) (kernelRun.sl.v1125 c f5 f7 s5 s7) (kernelRun.sl.v1148 c f6 f7 s6 s7)) (ix3 0 g j)
    = rawRow (fun d => rq c f0 (ix4 1 0 ⟨g.val, by omega⟩ d)) (fun j x => rk c f3 (ix3 1 ⟨x.val, by omega⟩ ⟨st c f7 1 + j, by have := st_le c f7 1; omega⟩))
        (fun j => rks c f5 (ix3 1 0 ⟨st c f7 1 + j, by have := st_le c f7 1; omega⟩)) (fun j => rvs c f6 (ix3 1 0 ⟨st c f7 1 + j, by have := st_le c f7 1; omega⟩))
        (g.val) (Cert.Win.start (rl c f7 (ix1 1))) (rl c f7 (ix1 1)) (kernelRun.sl.r_7 (F := Ideal) c f0 f1 s0 s1 (ix3 0 g 0)) j := by
  pointwise [kernelRun.sl.v1117, kernelRun.sl.v1116, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay122, k0_pay121, k0_pay120, k0_pay119]
  simp only [v700_at, v725_at, word0, word1, word2, word3, word0', word3', ld1148, ld1125, ld1121, ld1115, Nat.zero_add]
  rfl

theorem p1_1 (c : Dev nD) (f0 f1 f3 f5 f6 f7 s0 s1 s3 s5 s6 s7) (g : Fin 8) (j : Fin 1152) : (k0_pay127 (F := Ideal) (kernelRun.sl.r_7 c f0 f1 s0 s1) (kernelRun.sl.v1114 c f7 s7) (kernelRun.sl.r_42 c f0 f3 f7 s0 s3 s7) (kernelRun.sl.v1164 c f5 f7 s5 s7) (kernelRun.sl.v1187 c f6 f7 s6 s7)) (ix3 0 g j)
    = rawRow (fun d => rq c f0 (ix4 1 0 ⟨8 + g.val, by omega⟩ d)) (fun j x => rk c f3 (ix3 1 ⟨x.val, by omega⟩ ⟨st c f7 1 + j, by have := st_le c f7 1; omega⟩))
        (fun j => rks c f5 (ix3 1 1 ⟨st c f7 1 + j, by have := st_le c f7 1; omega⟩)) (fun j => rvs c f6 (ix3 1 1 ⟨st c f7 1 + j, by have := st_le c f7 1; omega⟩))
        (8 + g.val) (Cert.Win.start (rl c f7 (ix1 1))) (rl c f7 (ix1 1)) (kernelRun.sl.r_7 (F := Ideal) c f0 f1 s0 s1 (ix3 1 g 0)) j := by
  pointwise [kernelRun.sl.r_42, k0_pay119, kernelRun.sl.v1117, kernelRun.sl.v1116, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay127, k0_pay126, k0_pay125]
  simp only [v700_at, v725_at, word0, word1, word2, word3, word0', word3', ld1187, ld1164, ld1121, ld1115, Nat.zero_add]
  rfl

theorem p1_2 (c : Dev nD) (f0 f1 f3 f5 f6 f7 s0 s1 s3 s5 s6 s7) (g : Fin 8) (j : Fin 1152) : (k0_pay132 (F := Ideal) (kernelRun.sl.r_7 c f0 f1 s0 s1) (kernelRun.sl.v1114 c f7 s7) (kernelRun.sl.r_47 c f0 f3 f7 s0 s3 s7) (kernelRun.sl.v1203 c f5 f7 s5 s7) (kernelRun.sl.v1226 c f6 f7 s6 s7)) (ix3 0 g j)
    = rawRow (fun d => rq c f0 (ix4 1 0 ⟨16 + g.val, by omega⟩ d)) (fun j x => rk c f3 (ix3 1 ⟨x.val, by omega⟩ ⟨st c f7 1 + j, by have := st_le c f7 1; omega⟩))
        (fun j => rks c f5 (ix3 1 2 ⟨st c f7 1 + j, by have := st_le c f7 1; omega⟩)) (fun j => rvs c f6 (ix3 1 2 ⟨st c f7 1 + j, by have := st_le c f7 1; omega⟩))
        (16 + g.val) (Cert.Win.start (rl c f7 (ix1 1))) (rl c f7 (ix1 1)) (kernelRun.sl.r_7 (F := Ideal) c f0 f1 s0 s1 (ix3 2 g 0)) j := by
  pointwise [kernelRun.sl.r_47, k0_pay129, kernelRun.sl.r_42, k0_pay119, kernelRun.sl.v1117, kernelRun.sl.v1116, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay132, k0_pay131, k0_pay130]
  simp only [v700_at, v725_at, word0, word1, word2, word3, word0', word3', ld1226, ld1203, ld1121, ld1115, Nat.zero_add]
  rfl

theorem p1_3 (c : Dev nD) (f0 f1 f3 f5 f6 f7 s0 s1 s3 s5 s6 s7) (g : Fin 8) (j : Fin 1152) : (k0_pay138 (F := Ideal) (kernelRun.sl.r_7 c f0 f1 s0 s1) (kernelRun.sl.v1114 c f7 s7) (kernelRun.sl.r_49 c f0 f3 f7 s0 s3 s7) (kernelRun.sl.r_50 c f5 f7 s5 s7) (kernelRun.sl.v1265 c f6 f7 s6 s7)) (ix3 0 g j)
    = rawRow (fun d => rq c f0 (ix4 1 0 ⟨24 + g.val, by omega⟩ d)) (fun j x => rk c f3 (ix3 1 ⟨x.val, by omega⟩ ⟨st c f7 1 + j, by have := st_le c f7 1; omega⟩))
        (fun j => rks c f5 (ix3 1 3 ⟨st c f7 1 + j, by have := st_le c f7 1; omega⟩)) (fun j => rvs c f6 (ix3 1 3 ⟨st c f7 1 + j, by have := st_le c f7 1; omega⟩))
        (24 + g.val) (Cert.Win.start (rl c f7 (ix1 1))) (rl c f7 (ix1 1)) (kernelRun.sl.r_7 (F := Ideal) c f0 f1 s0 s1 (ix3 3 g 0)) j := by
  pointwise [kernelRun.sl.r_50, k0_pay135, kernelRun.sl.r_49, k0_pay134, kernelRun.sl.r_42, k0_pay119, kernelRun.sl.v1117, kernelRun.sl.v1116, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay138, k0_pay137, k0_pay136]
  simp only [v700_at, v725_at, word0, word1, word2, word3, word0', word3', ld1265, ld1242, ld1121, ld1115, Nat.zero_add]
  rfl

theorem p1_4 (c : Dev nD) (f0 f1 f3 f5 f6 f7 s0 s1 s3 s5 s6 s7) (g : Fin 8) (j : Fin 1152) : (k0_pay144 (F := Ideal) (kernelRun.sl.r_7 c f0 f1 s0 s1) (kernelRun.sl.v1114 c f7 s7) (kernelRun.sl.r_52 c f0 s0) (kernelRun.sl.v1286 c f3 f7 s3 s7) (kernelRun.sl.v1290 c f5 f7 s5 s7) (kernelRun.sl.v1313 c f6 f7 s6 s7)) (ix3 0 g j)
    = rawRow (fun d => rq c f0 (ix4 1 0 ⟨32 + g.val, by omega⟩ d)) (fun j x => rk c f3 (ix3 1 ⟨256 + x.val, by omega⟩ ⟨st c f7 1 + j, by have := st_le c f7 1; omega⟩))
        (fun j => rks c f5 (ix3 1 4 ⟨st c f7 1 + j, by have := st_le c f7 1; omega⟩)) (fun j => rvs c f6 (ix3 1 4 ⟨st c f7 1 + j, by have := st_le c f7 1; omega⟩))
        (g.val) (Cert.Win.start (rl c f7 (ix1 1))) (rl c f7 (ix1 1)) (kernelRun.sl.r_7 (F := Ideal) c f0 f1 s0 s1 (ix3 4 g 0)) j := by
  pointwise [kernelRun.sl.r_52, k0_pay140, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay144, k0_pay143, k0_pay142, k0_pay141]
  simp only [v700_at, v725_at, word0, word1, word2, word3, word0', word3', ld1313, ld1290, ld1286, ld1280, Nat.zero_add]
  rfl

theorem p1_5 (c : Dev nD) (f0 f1 f3 f5 f6 f7 s0 s1 s3 s5 s6 s7) (g : Fin 8) (j : Fin 1152) : (k0_pay149 (F := Ideal) (kernelRun.sl.r_7 c f0 f1 s0 s1) (kernelRun.sl.v1114 c f7 s7) (kernelRun.sl.r_55 c f0 f3 f7 s0 s3 s7) (kernelRun.sl.v1329 c f5 f7 s5 s7) (kernelRun.sl.v1352 c f6 f7 s6 s7)) (ix3 0 g j)
    = rawRow (fun d => rq c f0 (ix4 1 0 ⟨32 + (8 + g.val), by omega⟩ d)) (fun j x => rk c f3 (ix3 1 ⟨256 + x.val, by omega⟩ ⟨st c f7 1 + j, by have := st_le c f7 1; omega⟩))
        (fun j => rks c f5 (ix3 1 5 ⟨st c f7 1 + j, by have := st_le c f7 1; omega⟩)) (fun j => rvs c f6 (ix3 1 5 ⟨st c f7 1 + j, by have := st_le c f7 1; omega⟩))
        (8 + g.val) (Cert.Win.start (rl c f7 (ix1 1))) (rl c f7 (ix1 1)) (kernelRun.sl.r_7 (F := Ideal) c f0 f1 s0 s1 (ix3 5 g 0)) j := by
  pointwise [kernelRun.sl.r_55, k0_pay146, k0_pay141, kernelRun.sl.r_52, k0_pay140, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay149, k0_pay148, k0_pay147]
  simp only [v700_at, v725_at, word0, word1, word2, word3, word0', word3', ld1352, ld1329, ld1280, ld1286, Nat.zero_add]
  rfl

theorem p1_6 (c : Dev nD) (f0 f1 f3 f5 f6 f7 s0 s1 s3 s5 s6 s7) (g : Fin 8) (j : Fin 1152) : (k0_pay155 (F := Ideal) (kernelRun.sl.r_7 c f0 f1 s0 s1) (kernelRun.sl.v1114 c f7 s7) (kernelRun.sl.r_57 c f0 f3 f7 s0 s3 s7) (kernelRun.sl.r_58 c f5 f7 s5 s7) (kernelRun.sl.v1391 c f6 f7 s6 s7)) (ix3 0 g j)
    = rawRow (fun d => rq c f0 (ix4 1 0 ⟨32 + (16 + g.val), by omega⟩ d)) (fun j x => rk c f3 (ix3 1 ⟨256 + x.val, by omega⟩ ⟨st c f7 1 + j, by have := st_le c f7 1; omega⟩))
        (fun j => rks c f5 (ix3 1 6 ⟨st c f7 1 + j, by have := st_le c f7 1; omega⟩)) (fun j => rvs c f6 (ix3 1 6 ⟨st c f7 1 + j, by have := st_le c f7 1; omega⟩))
        (16 + g.val) (Cert.Win.start (rl c f7 (ix1 1))) (rl c f7 (ix1 1)) (kernelRun.sl.r_7 (F := Ideal) c f0 f1 s0 s1 (ix3 6 g 0)) j := by
  pointwise [kernelRun.sl.r_58, k0_pay152, kernelRun.sl.r_57, k0_pay151, kernelRun.sl.r_53, kernelRun.sl.r_52, k0_pay140, k0_pay141, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, k0_pay155, k0_pay154, k0_pay153]
  simp only [v700_at, v725_at, word0, word1, word2, word3, word0', word3', ld1391, ld1368, ld1280, ld1286, Nat.zero_add]
  rfl

theorem p1_7 (c : Dev nD) (f0 f1 f3 f5 f6 f7 s0 s1 s3 s5 s6 s7) (g : Fin 8) (j : Fin 1152) : (kernelRun.sl.v1437 (F := Ideal) c f0 f1 f3 f5 f6 f7 s0 s1 s3 s5 s6 s7) (ix3 0 g j)
    = rawRow (fun d => rq c f0 (ix4 1 0 ⟨32 + (24 + g.val), by omega⟩ d)) (fun j x => rk c f3 (ix3 1 ⟨256 + x.val, by omega⟩ ⟨st c f7 1 + j, by have := st_le c f7 1; omega⟩))
        (fun j => rks c f5 (ix3 1 7 ⟨st c f7 1 + j, by have := st_le c f7 1; omega⟩)) (fun j => rvs c f6 (ix3 1 7 ⟨st c f7 1 + j, by have := st_le c f7 1; omega⟩))
        (24 + g.val) (Cert.Win.start (rl c f7 (ix1 1))) (rl c f7 (ix1 1)) (kernelRun.sl.r_7 (F := Ideal) c f0 f1 s0 s1 (ix3 7 g 0)) j := by
  pointwise [kernelRun.sl.v1437, kernelRun.sl.v1434, kernelRun.sl.v1433, kernelRun.sl.v1429, kernelRun.sl.v1420, kernelRun.sl.v1419, kernelRun.sl.cst_128, kernelRun.sl.v1416, kernelRun.sl.v1415, kernelRun.sl.r_60, k0_pay157, kernelRun.sl.r_53, kernelRun.sl.r_52, k0_pay140, k0_pay141, kernelRun.sl.v1414, kernelRun.sl.cst_645, kernelRun.sl.v1418, kernelRun.sl.v1417, kernelRun.sl.v1114, kernelRun.sl.v1109, kernelRun.sl.v1106, kernelRun.sl.v745, kernelRun.sl.v1105, kernelRun.sl.v10, kernelRun.sl.v9, kernelRun.sl.v8, kernelRun.sl.v7, kernelRun.sl.v1108, kernelRun.sl.v1113, kernelRun.sl.v1112, kernelRun.sl.v1111, kernelRun.sl.v1428, kernelRun.sl.v1427, kernelRun.sl.v1425, kernelRun.sl.v1424, kernelRun.sl.v1423, kernelRun.sl.v1422, kernelRun.sl.v1421, kernelRun.sl.v1426, kernelRun.sl.cst_648, kernelRun.sl.v1432, kernelRun.sl.v1431]
  simp only [v700_at, v725_at, word0, word1, word2, word3, word0', word3', ld1407, ld1280, ld1286, ld1430, Nat.zero_add]
  rfl

end Cert.KernelIdeal.Val

end
-- ==== Proof.PieceP2.lean ====
/-
  The weights' rows of batch 2: each piece the kernel stores, at an index.
-/
module

public import proofs.«01_k».proof.Proof.Rows

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem p2_0 (c : Dev nD) (f0 f1 f3 f5 f6 f7 s0 s1 s3 s5 s6 s7) (g : Fin 8) (j : Fin 1152) : (k0_pay167 (F := Ideal) (kernelRun.sl.r_9 c f0 f1 s0 s1) (kernelRun.sl.v1473 c f7 s7) (kernelRun.sl.v1487 c f0 f3 f5 f7 s0 s3 s5 s7) (kernelRun.sl.v1507 c f6 f7 s6 s7)) (ix3 0 g j)
    = rawRow (fun d => rq c f0 (ix4 2 0 ⟨g.val, by omega⟩ d)) (fun j x => rk c f3 (ix3 2 ⟨x.val, by omega⟩ ⟨st c f7 2 + j, by have := st_le c f7 2; omega⟩))
        (fun j => rks c f5 (ix3 2 0 ⟨st c f7 2 + j, by have := st_le c f7 2; omega⟩)) (fun j => rvs c f6 (ix3 2 0 ⟨st c f7 2 + j, by have := st_le c f7 2; omega⟩))
        (g.val) (Cert.Win.start (rl c f7 (ix1 2))) (rl c f7 (ix1 2)) (kernelRun.sl.r_9 (F := Ideal) c f0 f1 s0 s1 (ix3 0 g 0)) j := by
  pointwise [kernelRun.sl.v1487, kernelRun.sl.v1483, kernelRun.sl.v1482, kernelRun.sl.v1481, kernelRun.sl.v1479, kernelRun.sl.v1478, kernelRun.sl.v1477, kernelRun.sl.v1476, kernelRun.sl.v1475, kernelRun.sl.cst_684, kernelRun.sl.v1486, kernelRun.sl.v1485, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay167, k0_pay165, k0_pay166]
  simp only [v700_at, v725_at, word0, word1, word2, word3, word0', word3', ld1507, ld1480, ld1474, ld1484, Nat.zero_add]
  rfl

theorem p2_1 (c : Dev nD) (f0 f1 f3 f5 f6 f7 s0 s1 s3 s5 s6 s7) (g : Fin 8) (j : Fin 1152) : (k0_pay173 (F := Ideal) (kernelRun.sl.r_9 c f0 f1 s0 s1) (kernelRun.sl.v1473 c f7 s7) (kernelRun.sl.r_62 c f0 f3 f5 f7 s0 s3 s5 s7) k0_pay170 (kernelRun.sl.v1546 c f6 f7 s6 s7)) (ix3 0 g j)
    = rawRow (fun d => rq c f0 (ix4 2 0 ⟨8 + g.val, by omega⟩ d)) (fun j x => rk c f3 (ix3 2 ⟨x.val, by omega⟩ ⟨st c f7 2 + j, by have := st_le c f7 2; omega⟩))
        (fun j => rks c f5 (ix3 2 1 ⟨st c f7 2 + j, by have := st_le c f7 2; omega⟩)) (fun j => rvs c f6 (ix3 2 1 ⟨st c f7 2 + j, by have := st_le c f7 2; omega⟩))
        (8 + g.val) (Cert.Win.start (rl c f7 (ix1 2))) (rl c f7 (ix1 2)) (kernelRun.sl.r_9 (F := Ideal) c f0 f1 s0 s1 (ix3 1 g 0)) j := by
  pointwise [k0_pay170, kernelRun.sl.r_62, k0_pay169, kernelRun.sl.v1482, kernelRun.sl.v1481, kernelRun.sl.v1479, kernelRun.sl.v1478, kernelRun.sl.v1477, kernelRun.sl.v1476, kernelRun.sl.v1475, kernelRun.sl.cst_684, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay173, k0_pay171, k0_pay172]
  simp only [v700_at, v725_at, word0, word1, word2, word3, word0', word3', ld1546, ld1480, ld1474, ld1523, Nat.zero_add]
  rfl

theorem p2_2 (c : Dev nD) (f0 f1 f3 f5 f6 f7 s0 s1 s3 s5 s6 s7) (g : Fin 8) (j : Fin 1152) : (k0_pay180 (F := Ideal) (kernelRun.sl.r_9 c f0 f1 s0 s1) (kernelRun.sl.r_64 c f0 f3 f5 f7 s0 s3 s5 s7) (kernelRun.sl.r_65 c f7 s7) k0_pay177 (kernelRun.sl.v1585 c f6 f7 s6 s7)) (ix3 0 g j)
    = rawRow (fun d => rq c f0 (ix4 2 0 ⟨16 + g.val, by omega⟩ d)) (fun j x => rk c f3 (ix3 2 ⟨x.val, by omega⟩ ⟨st c f7 2 + j, by have := st_le c f7 2; omega⟩))
        (fun j => rks c f5 (ix3 2 2 ⟨st c f7 2 + j, by have := st_le c f7 2; omega⟩)) (fun j => rvs c f6 (ix3 2 2 ⟨st c f7 2 + j, by have := st_le c f7 2; omega⟩))
        (16 + g.val) (Cert.Win.start (rl c f7 (ix1 2))) (rl c f7 (ix1 2)) (kernelRun.sl.r_9 (F := Ideal) c f0 f1 s0 s1 (ix3 2 g 0)) j := by
  pointwise [k0_pay177, kernelRun.sl.r_65, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay176, kernelRun.sl.r_64, kernelRun.sl.v1482, kernelRun.sl.v1481, kernelRun.sl.v1479, kernelRun.sl.v1478, kernelRun.sl.v1477, kernelRun.sl.v1476, kernelRun.sl.v1475, kernelRun.sl.cst_684, k0_pay175, k0_pay180, k0_pay178, k0_pay179]
  simp only [v700_at, v725_at, word0, word1, word2, word3, word0', word3', ld1585, ld1480, ld1474, ld1562, Nat.zero_add]
  rfl

theorem p2_3 (c : Dev nD) (f0 f1 f3 f5 f6 f7 s0 s1 s3 s5 s6 s7) (g : Fin 8) (j : Fin 1152) : (k0_pay186 (F := Ideal) (kernelRun.sl.r_67 c f0 f3 f5 f7 s0 s3 s5 s7) (kernelRun.sl.r_68 c f0 f3 f5 f7 s0 s3 s5 s7) (kernelRun.sl.r_69 c f0 f1 s0 s1) (kernelRun.sl.v1624 c f6 f7 s6 s7)) (ix3 0 g j)
    = rawRow (fun d => rq c f0 (ix4 2 0 ⟨24 + g.val, by omega⟩ d)) (fun j x => rk c f3 (ix3 2 ⟨x.val, by omega⟩ ⟨st c f7 2 + j, by have := st_le c f7 2; omega⟩))
        (fun j => rks c f5 (ix3 2 3 ⟨st c f7 2 + j, by have := st_le c f7 2; omega⟩)) (fun j => rvs c f6 (ix3 2 3 ⟨st c f7 2 + j, by have := st_le c f7 2; omega⟩))
        (24 + g.val) (Cert.Win.start (rl c f7 (ix1 2))) (rl c f7 (ix1 2)) (kernelRun.sl.r_9 (F := Ideal) c f0 f1 s0 s1 (ix3 3 g 0)) j := by
  pointwise [kernelRun.sl.r_69, k0_pay184, kernelRun.sl.r_68, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, kernelRun.sl.v1482, kernelRun.sl.v1481, kernelRun.sl.v1479, kernelRun.sl.v1478, kernelRun.sl.v1477, kernelRun.sl.v1476, kernelRun.sl.v1475, kernelRun.sl.cst_684, k0_pay183, k0_pay182, kernelRun.sl.r_67, k0_pay186, k0_pay185]
  simp only [v700_at, v725_at, word0, word1, word2, word3, word0', word3', ld1624, ld1480, ld1474, ld1601, Nat.zero_add]
  rfl

theorem p2_4 (c : Dev nD) (f0 f1 f3 f5 f6 f7 s0 s1 s3 s5 s6 s7) (g : Fin 8) (j : Fin 1152) : (k0_pay193 (F := Ideal) (kernelRun.sl.r_9 c f0 f1 s0 s1) (kernelRun.sl.v1473 c f7 s7) (kernelRun.sl.r_72 c f0 f3 f5 f7 s0 s3 s5 s7) k0_pay190 (kernelRun.sl.v1672 c f6 f7 s6 s7)) (ix3 0 g j)
    = rawRow (fun d => rq c f0 (ix4 2 0 ⟨32 + g.val, by omega⟩ d)) (fun j x => rk c f3 (ix3 2 ⟨256 + x.val, by omega⟩ ⟨st c f7 2 + j, by have := st_le c f7 2; omega⟩))
        (fun j => rks c f5 (ix3 2 4 ⟨st c f7 2 + j, by have := st_le c f7 2; omega⟩)) (fun j => rvs c f6 (ix3 2 4 ⟨st c f7 2 + j, by have := st_le c f7 2; omega⟩))
        (g.val) (Cert.Win.start (rl c f7 (ix1 2))) (rl c f7 (ix1 2)) (kernelRun.sl.r_9 (F := Ideal) c f0 f1 s0 s1 (ix3 4 g 0)) j := by
  pointwise [k0_pay190, kernelRun.sl.r_72, k0_pay189, k0_pay188, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay193, k0_pay191, k0_pay192]
  simp only [v700_at, v725_at, word0, word1, word2, word3, word0', word3', ld1672, ld1645, ld1649, ld1639, Nat.zero_add]
  rfl

theorem p2_5 (c : Dev nD) (f0 f1 f3 f5 f6 f7 s0 s1 s3 s5 s6 s7) (g : Fin 8) (j : Fin 1152) : (k0_pay200 (F := Ideal) (kernelRun.sl.r_9 c f0 f1 s0 s1) (kernelRun.sl.r_74 c f0 f3 f5 f7 s0 s3 s5 s7) (kernelRun.sl.r_75 c f7 s7) k0_pay197 (kernelRun.sl.v1711 c f6 f7 s6 s7)) (ix3 0 g j)
    = rawRow (fun d => rq c f0 (ix4 2 0 ⟨32 + (8 + g.val), by omega⟩ d)) (fun j x => rk c f3 (ix3 2 ⟨256 + x.val, by omega⟩ ⟨st c f7 2 + j, by have := st_le c f7 2; omega⟩))
        (fun j => rks c f5 (ix3 2 5 ⟨st c f7 2 + j, by have := st_le c f7 2; omega⟩)) (fun j => rvs c f6 (ix3 2 5 ⟨st c f7 2 + j, by have := st_le c f7 2; omega⟩))
        (8 + g.val) (Cert.Win.start (rl c f7 (ix1 2))) (rl c f7 (ix1 2)) (kernelRun.sl.r_9 (F := Ideal) c f0 f1 s0 s1 (ix3 5 g 0)) j := by
  pointwise [k0_pay197, kernelRun.sl.r_75, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay196, kernelRun.sl.r_74, kernelRun.sl.r_71, k0_pay188, k0_pay195, k0_pay200, k0_pay199, k0_pay198]
  simp only [v700_at, v725_at, word0, word1, word2, word3, word0', word3', ld1711, ld1645, ld1639, ld1688, Nat.zero_add]
  rfl

theorem p2_6 (c : Dev nD) (f0 f1 f3 f5 f6 f7 s0 s1 s3 s5 s6 s7) (g : Fin 8) (j : Fin 1152) : (k0_pay206 (F := Ideal) (kernelRun.sl.r_77 c f0 f3 f5 f7 s0 s3 s5 s7) (kernelRun.sl.r_78 c f0 f3 f5 f7 s0 s3 s5 s7) (kernelRun.sl.r_79 c f0 f1 s0 s1) (kernelRun.sl.v1750 c f6 f7 s6 s7)) (ix3 0 g j)
    = rawRow (fun d => rq c f0 (ix4 2 0 ⟨32 + (16 + g.val), by omega⟩ d)) (fun j x => rk c f3 (ix3 2 ⟨256 + x.val, by omega⟩ ⟨st c f7 2 + j, by have := st_le c f7 2; omega⟩))
        (fun j => rks c f5 (ix3 2 6 ⟨st c f7 2 + j, by have := st_le c f7 2; omega⟩)) (fun j => rvs c f6 (ix3 2 6 ⟨st c f7 2 + j, by have := st_le c f7 2; omega⟩))
        (16 + g.val) (Cert.Win.start (rl c f7 (ix1 2))) (rl c f7 (ix1 2)) (kernelRun.sl.r_9 (F := Ideal) c f0 f1 s0 s1 (ix3 6 g 0)) j := by
  pointwise [kernelRun.sl.r_79, k0_pay204, kernelRun.sl.r_78, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, kernelRun.sl.r_71, k0_pay188, k0_pay203, k0_pay202, kernelRun.sl.r_77, k0_pay206, k0_pay205]
  simp only [v700_at, v725_at, word0, word1, word2, word3, word0', word3', ld1750, ld1645, ld1639, ld1727, Nat.zero_add]
  rfl

theorem p2_7 (c : Dev nD) (f0 f1 f3 f5 f6 f7 s0 s1 s3 s5 s6 s7) (g : Fin 8) (j : Fin 1152) : (kernelRun.sl.v1796 (F := Ideal) c f0 f1 f3 f5 f6 f7 s0 s1 s3 s5 s6 s7) (ix3 0 g j)
    = rawRow (fun d => rq c f0 (ix4 2 0 ⟨32 + (24 + g.val), by omega⟩ d)) (fun j x => rk c f3 (ix3 2 ⟨256 + x.val, by omega⟩ ⟨st c f7 2 + j, by have := st_le c f7 2; omega⟩))
        (fun j => rks c f5 (ix3 2 7 ⟨st c f7 2 + j, by have := st_le c f7 2; omega⟩)) (fun j => rvs c f6 (ix3 2 7 ⟨st c f7 2 + j, by have := st_le c f7 2; omega⟩))
        (24 + g.val) (Cert.Win.start (rl c f7 (ix1 2))) (rl c f7 (ix1 2)) (kernelRun.sl.r_9 (F := Ideal) c f0 f1 s0 s1 (ix3 7 g 0)) j := by
  pointwise [kernelRun.sl.v1796, kernelRun.sl.v1793, kernelRun.sl.v1792, kernelRun.sl.v1791, kernelRun.sl.v1790, kernelRun.sl.r_82, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay210, k0_pay209, k0_pay208, kernelRun.sl.r_71, k0_pay188]
  simp only [v700_at, v725_at, word0, word1, word2, word3, word0', word3', ld1789, ld1645, ld1639, ld1766, Nat.zero_add]
  rfl

end Cert.KernelIdeal.Val

end
-- ==== Proof.PieceP3.lean ====
/-
  The weights' rows of batch 3: each piece the kernel stores, at an index.
-/
module

public import proofs.«01_k».proof.Proof.Rows

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem p3_0 (c : Dev nD) (f0 f1 f3 f5 f6 f7 s0 s1 s3 s5 s6 s7) (g : Fin 8) (j : Fin 1152) : (k0_pay218 (F := Ideal) (kernelRun.sl.r_86 c f0 f3 f5 f7 s0 s3 s5 s7) (kernelRun.sl.r_87 c f0 f1 f3 f5 f7 s0 s1 s3 s5 s7) (kernelRun.sl.v1866 c f6 f7 s6 s7)) (ix3 0 g j)
    = rawRow (fun d => rq c f0 (ix4 3 0 ⟨g.val, by omega⟩ d)) (fun j x => rk c f3 (ix3 3 ⟨x.val, by omega⟩ ⟨st c f7 3 + j, by have := st_le c f7 3; omega⟩))
        (fun j => rks c f5 (ix3 3 0 ⟨st c f7 3 + j, by have := st_le c f7 3; omega⟩)) (fun j => rvs c f6 (ix3 3 0 ⟨st c f7 3 + j, by have := st_le c f7 3; omega⟩))
        (g.val) (Cert.Win.start (rl c f7 (ix1 3))) (rl c f7 (ix1 3)) (kernelRun.sl.r_13 (F := Ideal) c f0 f1 s0 s1 (ix3 0 g 0)) j := by
  pointwise [kernelRun.sl.r_87, k0_pay216, k0_pay215, k0_pay214, k0_pay213, kernelRun.sl.v22, kernelRun.sl.v21, kernelRun.sl.v20, kernelRun.sl.v19, kernelRun.sl.r_86, k0_pay218, k0_pay217]
  simp only [v700_at, v725_at, word0, word1, word2, word3, word0', word3', ld1866, ld1843, ld1839, ld1833, Nat.zero_add]
  rfl

theorem p3_1 (c : Dev nD) (f0 f1 f3 f5 f6 f7 s0 s1 s3 s5 s6 s7) (g : Fin 8) (j : Fin 1152) : (k0_pay223 (F := Ideal) (kernelRun.sl.r_90 c f0 f1 f3 f5 f7 s0 s1 s3 s5 s7) (kernelRun.sl.v1905 c f6 f7 s6 s7)) (ix3 0 g j)
    = rawRow (fun d => rq c f0 (ix4 3 0 ⟨8 + g.val, by omega⟩ d)) (fun j x => rk c f3 (ix3 3 ⟨x.val, by omega⟩ ⟨st c f7 3 + j, by have := st_le c f7 3; omega⟩))
        (fun j => rks c f5 (ix3 3 1 ⟨st c f7 3 + j, by have := st_le c f7 3; omega⟩)) (fun j => rvs c f6 (ix3 3 1 ⟨st c f7 3 + j, by have := st_le c f7 3; omega⟩))
        (8 + g.val) (Cert.Win.start (rl c f7 (ix1 3))) (rl c f7 (ix1 3)) (kernelRun.sl.r_13 (F := Ideal) c f0 f1 s0 s1 (ix3 1 g 0)) j := by
  pointwise [kernelRun.sl.r_90, k0_pay222, k0_pay221, k0_pay220, kernelRun.sl.r_84, k0_pay213, kernelRun.sl.v22, kernelRun.sl.v21, kernelRun.sl.v20, kernelRun.sl.v19, kernelRun.sl.r_85, k0_pay214, k0_pay223]
  simp only [v700_at, v725_at, word0, word1, word2, word3, word0', word3', ld1905, ld1882, ld1839, ld1833, Nat.zero_add]
  rfl

theorem p3_2 (c : Dev nD) (f0 f1 f3 f5 f6 f7 s0 s1 s3 s5 s6 s7) (g : Fin 8) (j : Fin 1152) : (k0_pay228 (F := Ideal) (kernelRun.sl.r_93 c f0 f1 f3 f5 f6 f7 s0 s1 s3 s5 s6 s7)) (ix3 0 g j)
    = rawRow (fun d => rq c f0 (ix4 3 0 ⟨16 + g.val, by omega⟩ d)) (fun j x => rk c f3 (ix3 3 ⟨x.val, by omega⟩ ⟨st c f7 3 + j, by have := st_le c f7 3; omega⟩))
        (fun j => rks c f5 (ix3 3 2 ⟨st c f7 3 + j, by have := st_le c f7 3; omega⟩)) (fun j => rvs c f6 (ix3 3 2 ⟨st c f7 3 + j, by have := st_le c f7 3; omega⟩))
        (16 + g.val) (Cert.Win.start (rl c f7 (ix1 3))) (rl c f7 (ix1 3)) (kernelRun.sl.r_13 (F := Ideal) c f0 f1 s0 s1 (ix3 2 g 0)) j := by
  pointwise [kernelRun.sl.r_93, k0_pay227, k0_pay225, k0_pay226, kernelRun.sl.r_84, k0_pay213, kernelRun.sl.v22, kernelRun.sl.v21, kernelRun.sl.v20, kernelRun.sl.v19, kernelRun.sl.r_85, k0_pay214, k0_pay228]
  simp only [v700_at, v725_at, word0, word1, word2, word3, word0', word3', ld1944, ld1921, ld1839, ld1833, Nat.zero_add]
  rfl

theorem p3_3 (c : Dev nD) (f0 f1 f3 f5 f6 f7 s0 s1 s3 s5 s6 s7) (g : Fin 8) (j : Fin 1152) : (k0_pay233 (F := Ideal) (kernelRun.sl.r_96 c f0 f1 f3 f5 f6 f7 s0 s1 s3 s5 s6 s7)) (ix3 0 g j)
    = rawRow (fun d => rq c f0 (ix4 3 0 ⟨24 + g.val, by omega⟩ d)) (fun j x => rk c f3 (ix3 3 ⟨x.val, by omega⟩ ⟨st c f7 3 + j, by have := st_le c f7 3; omega⟩))
        (fun j => rks c f5 (ix3 3 3 ⟨st c f7 3 + j, by have := st_le c f7 3; omega⟩)) (fun j => rvs c f6 (ix3 3 3 ⟨st c f7 3 + j, by have := st_le c f7 3; omega⟩))
        (24 + g.val) (Cert.Win.start (rl c f7 (ix1 3))) (rl c f7 (ix1 3)) (kernelRun.sl.r_13 (F := Ideal) c f0 f1 s0 s1 (ix3 3 g 0)) j := by
  pointwise [kernelRun.sl.r_96, k0_pay232, k0_pay230, k0_pay231, kernelRun.sl.r_84, k0_pay213, kernelRun.sl.v22, kernelRun.sl.v21, kernelRun.sl.v20, kernelRun.sl.v19, kernelRun.sl.r_85, k0_pay214, k0_pay233]
  simp only [v700_at, v725_at, word0, word1, word2, word3, word0', word3', ld1983, ld1960, ld1839, ld1833, Nat.zero_add]
  rfl

theorem p3_4 (c : Dev nD) (f0 f1 f3 f5 f6 f7 s0 s1 s3 s5 s6 s7) (g : Fin 8) (j : Fin 1152) : (k0_pay239 (F := Ideal) (kernelRun.sl.r_100 c f0 f1 f3 f5 f7 s0 s1 s3 s5 s7) (kernelRun.sl.v2031 c f6 f7 s6 s7)) (ix3 0 g j)
    = rawRow (fun d => rq c f0 (ix4 3 0 ⟨32 + g.val, by omega⟩ d)) (fun j x => rk c f3 (ix3 3 ⟨256 + x.val, by omega⟩ ⟨st c f7 3 + j, by have := st_le c f7 3; omega⟩))
        (fun j => rks c f5 (ix3 3 4 ⟨st c f7 3 + j, by have := st_le c f7 3; omega⟩)) (fun j => rvs c f6 (ix3 3 4 ⟨st c f7 3 + j, by have := st_le c f7 3; omega⟩))
        (g.val) (Cert.Win.start (rl c f7 (ix1 3))) (rl c f7 (ix1 3)) (kernelRun.sl.r_13 (F := Ideal) c f0 f1 s0 s1 (ix3 4 g 0)) j := by
  pointwise [kernelRun.sl.r_100, kernelRun.sl.r_84, k0_pay213, kernelRun.sl.v22, kernelRun.sl.v21, kernelRun.sl.v20, kernelRun.sl.v19, k0_pay238, k0_pay237, k0_pay236, k0_pay235, k0_pay239]
  simp only [v700_at, v725_at, word0, word1, word2, word3, word0', word3', ld2031, ld2008, ld1998, ld2004, Nat.zero_add]
  rfl

theorem p3_5 (c : Dev nD) (f0 f1 f3 f5 f6 f7 s0 s1 s3 s5 s6 s7) (g : Fin 8) (j : Fin 1152) : (k0_pay244 (F := Ideal) (kernelRun.sl.r_103 c f0 f1 f3 f5 f6 f7 s0 s1 s3 s5 s6 s7)) (ix3 0 g j)
    = rawRow (fun d => rq c f0 (ix4 3 0 ⟨32 + (8 + g.val), by omega⟩ d)) (fun j x => rk c f3 (ix3 3 ⟨256 + x.val, by omega⟩ ⟨st c f7 3 + j, by have := st_le c f7 3; omega⟩))
        (fun j => rks c f5 (ix3 3 5 ⟨st c f7 3 + j, by have := st_le c f7 3; omega⟩)) (fun j => rvs c f6 (ix3 3 5 ⟨st c f7 3 + j, by have := st_le c f7 3; omega⟩))
        (8 + g.val) (Cert.Win.start (rl c f7 (ix1 3))) (rl c f7 (ix1 3)) (kernelRun.sl.r_13 (F := Ideal) c f0 f1 s0 s1 (ix3 5 g 0)) j := by
  pointwise [kernelRun.sl.r_103, k0_pay243, k0_pay242, k0_pay241, kernelRun.sl.r_98, k0_pay235, kernelRun.sl.r_84, k0_pay213, kernelRun.sl.v22, kernelRun.sl.v21, kernelRun.sl.v20, kernelRun.sl.v19, k0_pay244]
  simp only [v700_at, v725_at, word0, word1, word2, word3, word0', word3', ld2070, ld2047, ld1998, ld2004, Nat.zero_add]
  rfl

theorem p3_6 (c : Dev nD) (f0 f1 f3 f5 f6 f7 s0 s1 s3 s5 s6 s7) (g : Fin 8) (j : Fin 1152) : (k0_pay249 (F := Ideal) (kernelRun.sl.r_106 c f0 f1 f3 f5 f6 f7 s0 s1 s3 s5 s6 s7)) (ix3 0 g j)
    = rawRow (fun d => rq c f0 (ix4 3 0 ⟨32 + (16 + g.val), by omega⟩ d)) (fun j x => rk c f3 (ix3 3 ⟨256 + x.val, by omega⟩ ⟨st c f7 3 + j, by have := st_le c f7 3; omega⟩))
        (fun j => rks c f5 (ix3 3 6 ⟨st c f7 3 + j, by have := st_le c f7 3; omega⟩)) (fun j => rvs c f6 (ix3 3 6 ⟨st c f7 3 + j, by have := st_le c f7 3; omega⟩))
        (16 + g.val) (Cert.Win.start (rl c f7 (ix1 3))) (rl c f7 (ix1 3)) (kernelRun.sl.r_13 (F := Ideal) c f0 f1 s0 s1 (ix3 6 g 0)) j := by
  pointwise [kernelRun.sl.r_106, kernelRun.sl.r_98, k0_pay235, kernelRun.sl.r_84, k0_pay213, kernelRun.sl.v22, kernelRun.sl.v21, kernelRun.sl.v20, kernelRun.sl.v19, k0_pay248, k0_pay247, k0_pay246, k0_pay249]
  simp only [v700_at, v725_at, word0, word1, word2, word3, word0', word3', ld1998, ld2004, ld2109, ld2086, Nat.zero_add]
  rfl

theorem p3_7 (c : Dev nD) (f0 f1 f3 f5 f6 f7 s0 s1 s3 s5 s6 s7) (g : Fin 8) (j : Fin 1152) : (k0_pay253 (F := Ideal) (kernelRun.sl.r_13 c f0 f1 s0 s1) (kernelRun.sl.r_84 c f7 s7) (kernelRun.sl.r_98 c f0 f3 f7 s0 s3 s7) (kernelRun.sl.v2125 c f5 f7 s5 s7) (kernelRun.sl.v2148 c f6 f7 s6 s7)) (ix3 0 g j)
    = rawRow (fun d => rq c f0 (ix4 3 0 ⟨32 + (24 + g.val), by omega⟩ d)) (fun j x => rk c f3 (ix3 3 ⟨256 + x.val, by omega⟩ ⟨st c f7 3 + j, by have := st_le c f7 3; omega⟩))
        (fun j => rks c f5 (ix3 3 7 ⟨st c f7 3 + j, by have := st_le c f7 3; omega⟩)) (fun j => rvs c f6 (ix3 3 7 ⟨st c f7 3 + j, by have := st_le c f7 3; omega⟩))
        (24 + g.val) (Cert.Win.start (rl c f7 (ix1 3))) (rl c f7 (ix1 3)) (kernelRun.sl.r_13 (F := Ideal) c f0 f1 s0 s1 (ix3 7 g 0)) j := by
  pointwise [kernelRun.sl.r_98, k0_pay235, kernelRun.sl.r_84, k0_pay213, kernelRun.sl.v22, kernelRun.sl.v21, kernelRun.sl.v20, kernelRun.sl.v19, k0_pay253, k0_pay252, k0_pay251]
  simp only [v700_at, v725_at, word0, word1, word2, word3, word0', word3', ld2148, ld2125, ld1998, ld2004, Nat.zero_add]
  rfl

end Cert.KernelIdeal.Val

end
-- ==== Proof.KRows.lean ====
/-
  The weights' scratch: every row of it, and the loads of it.
-/
module

public import proofs.«01_k».proof.Proof.PieceP0
public import proofs.«01_k».proof.Proof.PieceP1
public import proofs.«01_k».proof.Proof.PieceP2
public import proofs.«01_k».proof.Proof.PieceP3
public import proofs.«01_k».proof.Proof.KQuant

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

/-- The weights of one query row. -/
def prow (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (b : Fin 4) (h g : Fin 8) (j : Fin 1152) : EReal :=
  rawRow (fun d => rq c f0 (ix4 b 0 ⟨8 * h.val + g.val, by omega⟩ d)) (fun j x => rk c f3 (ix3 b ⟨256 * (h.val / 4) + x.val, by omega⟩ ⟨st c f7 b + j, by have := st_le c f7 b; omega⟩))
    (fun j => rks c f5 (ix3 b h ⟨st c f7 b + j, by have := st_le c f7 b; omega⟩)) (fun j => rvs c f6 (ix3 b h ⟨st c f7 b + j, by have := st_le c f7 b; omega⟩))
    (8 * (h.val % 4) + g.val) (Cert.Win.start (rl c f7 (ix1 b))) (rl c f7 (ix1 b)) (newW c f0 f1 b h g) j

theorem prow_of (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (b : Fin 4) (h g : Fin 8) (j : Fin 1152)
    (iq : Fin 64) (hq : iq.val = 8 * h.val + g.val) (kk : Fin 256 → Fin 512) (hk : ∀ x, (kk x).val = 256 * (h.val / 4) + x.val) (r : ℕ) (hr : r = 8 * (h.val % 4) + g.val)
    (new : EReal) (hn : new = newW c f0 f1 b h g) :
    rawRow (fun d => rq c f0 (ix4 b 0 iq d)) (fun j x => rk c f3 (ix3 b (kk x) ⟨st c f7 b + j, by have := st_le c f7 b; omega⟩))
      (fun j => rks c f5 (ix3 b h ⟨st c f7 b + j, by have := st_le c f7 b; omega⟩)) (fun j => rvs c f6 (ix3 b h ⟨st c f7 b + j, by have := st_le c f7 b; omega⟩))
      r (Cert.Win.start (rl c f7 (ix1 b))) (rl c f7 (ix1 b)) new j = prow c f0 f1 f3 f5 f6 f7 b h g j := by
  have e1 : iq = ⟨8 * h.val + g.val, by omega⟩ := Fin.ext hq
  have e2 : kk = fun x => ⟨256 * (h.val / 4) + x.val, by omega⟩ := funext fun x => Fin.ext (hk x)
  subst hr hn
  rw [e1, e2]
  rfl

/-- The scratch of weights, as the stores leave it. -/
def G8 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) : S4x64x1152.Idx → EReal := fun y =>
  prow c f0 f1 f3 f5 f6 f7 (y 0) ⟨(y 1).val / 8, by have h1 : (y 1).val < 64 := (y 1).isLt; omega⟩ ⟨(y 1).val % 8, by omega⟩ (y 2)

theorem G8_emb (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (b : Fin 4) (h : Fin 8) (o : Fin 3 → ℕ) (ho : o = ![b.val, 8 * h.val, 0]) (i) (g : Fin 8) (j : Fin 1152) :
    G8 c f0 f1 f3 f5 f6 f7 ((Rect.unit (s := S4x64x1152) o S1x8x1152.size i).emb (ix3 0 g j)) = prow c f0 f1 f3 f5 f6 f7 b h g j := by
  subst ho
  rw [show (Rect.unit (s := S4x64x1152) ![b.val, 8 * h.val, 0] S1x8x1152.size i).emb (ix3 0 g j) = ix3 b ⟨8 * h.val + g.val, by omega⟩ j from
    Rect.emb_eq_of_coords _ _ _ fun a => by
      match a with
      | 0 => show b.val = b.val + 1 * 0; omega
      | 1 => show 8 * h.val + g.val = 8 * h.val + 1 * g.val; omega
      | 2 => show j.val = 0 + 1 * j.val; omega]
  have e1 : (⟨(8 * h.val + g.val) / 8, by omega⟩ : Fin 8) = h := Fin.ext (by show (8 * h.val + g.val) / 8 = h.val; omega)
  have e2 : (⟨(8 * h.val + g.val) % 8, by omega⟩ : Fin 8) = g := Fin.ext (by show (8 * h.val + g.val) % 8 = g.val; omega)
  show prow c f0 f1 f3 f5 f6 f7 b ⟨(8 * h.val + g.val) / 8, _⟩ ⟨(8 * h.val + g.val) % 8, _⟩ j = _
  rw [e1, e2]

theorem idx3' {n1 n2 : ℕ} (x : (⟨3, ![1, n1, n2]⟩ : Shape).Idx) : ∃ (g : Fin n1) (j : Fin n2), x = ix3 (0 : Fin 1) g j := ⟨x 1, x 2, funext fun a => by
  match a with
  | 0 => exact Fin.ext (by have h0 : (x 0).val < 1 := (x 0).isLt; show (x 0).val = 0; omega)
  | 1 => rfl
  | 2 => rfl⟩

theorem hs8_pieces (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) :
    ∀ p ∈ kernelRun.sl.HS8_32 (F := Ideal) c f0 f1 f3 f5 f6 f7 s0 s1 s3 s5 s6 s7, ∀ x : p.1.shape.Idx, p.2 x = G8 c f0 f1 f3 f5 f6 f7 (p.1.emb x) := by
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩⟩⟩⟩⟩⟩⟩⟩⟩⟩⟩⟩⟩⟩⟩⟩⟩⟩⟩⟩⟩⟩⟩⟩⟩
  · intro x; obtain ⟨g, j, rfl⟩ := idx3' x; refine Eq.trans ?_ (G8_emb c f0 f1 f3 f5 f6 f7 3 7 ![3, 56, 0] rfl (by decide) g j).symm; refine (p3_7 c f0 f1 f3 f5 f6 f7 s0 s1 s3 s5 s6 s7 g j).trans ?_
    exact prow_of c f0 f1 f3 f5 f6 f7 3 7 g j _ (by show 32 + (24 + g.val) = 8 * 7 + g.val; omega) _ (fun x => by show 256 + x.val = 256 * (7 / 4) + x.val; omega) _ (by show 24 + g.val = 8 * (7 % 4) + g.val; omega) _ (nw3 c f0 f1 s0 s1 7 g)
  · intro x; obtain ⟨g, j, rfl⟩ := idx3' x; refine Eq.trans ?_ (G8_emb c f0 f1 f3 f5 f6 f7 3 6 ![3, 48, 0] rfl (by decide) g j).symm; refine (p3_6 c f0 f1 f3 f5 f6 f7 s0 s1 s3 s5 s6 s7 g j).trans ?_
    exact prow_of c f0 f1 f3 f5 f6 f7 3 6 g j _ (by show 32 + (16 + g.val) = 8 * 6 + g.val; omega) _ (fun x => by show 256 + x.val = 256 * (6 / 4) + x.val; omega) _ (by show 16 + g.val = 8 * (6 % 4) + g.val; omega) _ (nw3 c f0 f1 s0 s1 6 g)
  · intro x; obtain ⟨g, j, rfl⟩ := idx3' x; refine Eq.trans ?_ (G8_emb c f0 f1 f3 f5 f6 f7 3 5 ![3, 40, 0] rfl (by decide) g j).symm; refine (p3_5 c f0 f1 f3 f5 f6 f7 s0 s1 s3 s5 s6 s7 g j).trans ?_
    exact prow_of c f0 f1 f3 f5 f6 f7 3 5 g j _ (by show 32 + (8 + g.val) = 8 * 5 + g.val; omega) _ (fun x => by show 256 + x.val = 256 * (5 / 4) + x.val; omega) _ (by show 8 + g.val = 8 * (5 % 4) + g.val; omega) _ (nw3 c f0 f1 s0 s1 5 g)
  · intro x; obtain ⟨g, j, rfl⟩ := idx3' x; refine Eq.trans ?_ (G8_emb c f0 f1 f3 f5 f6 f7 3 4 ![3, 32, 0] rfl (by decide) g j).symm; refine (p3_4 c f0 f1 f3 f5 f6 f7 s0 s1 s3 s5 s6 s7 g j).trans ?_
    exact prow_of c f0 f1 f3 f5 f6 f7 3 4 g j _ (by show 32 + g.val = 8 * 4 + g.val; omega) _ (fun x => by show 256 + x.val = 256 * (4 / 4) + x.val; omega) _ (by show g.val = 8 * (4 % 4) + g.val; omega) _ (nw3 c f0 f1 s0 s1 4 g)
  · intro x; obtain ⟨g, j, rfl⟩ := idx3' x; refine Eq.trans ?_ (G8_emb c f0 f1 f3 f5 f6 f7 3 3 ![3, 24, 0] rfl (by decide) g j).symm; refine (p3_3 c f0 f1 f3 f5 f6 f7 s0 s1 s3 s5 s6 s7 g j).trans ?_
    exact prow_of c f0 f1 f3 f5 f6 f7 3 3 g j _ (by show 24 + g.val = 8 * 3 + g.val; omega) _ (fun x => by show x.val = 256 * (3 / 4) + x.val; omega) _ (by show 24 + g.val = 8 * (3 % 4) + g.val; omega) _ (nw3 c f0 f1 s0 s1 3 g)
  · intro x; obtain ⟨g, j, rfl⟩ := idx3' x; refine Eq.trans ?_ (G8_emb c f0 f1 f3 f5 f6 f7 3 2 ![3, 16, 0] rfl (by decide) g j).symm; refine (p3_2 c f0 f1 f3 f5 f6 f7 s0 s1 s3 s5 s6 s7 g j).trans ?_
    exact prow_of c f0 f1 f3 f5 f6 f7 3 2 g j _ (by show 16 + g.val = 8 * 2 + g.val; omega) _ (fun x => by show x.val = 256 * (2 / 4) + x.val; omega) _ (by show 16 + g.val = 8 * (2 % 4) + g.val; omega) _ (nw3 c f0 f1 s0 s1 2 g)
  · intro x; obtain ⟨g, j, rfl⟩ := idx3' x; refine Eq.trans ?_ (G8_emb c f0 f1 f3 f5 f6 f7 3 1 ![3, 8, 0] rfl (by decide) g j).symm; refine (p3_1 c f0 f1 f3 f5 f6 f7 s0 s1 s3 s5 s6 s7 g j).trans ?_
    exact prow_of c f0 f1 f3 f5 f6 f7 3 1 g j _ (by show 8 + g.val = 8 * 1 + g.val; omega) _ (fun x => by show x.val = 256 * (1 / 4) + x.val; omega) _ (by show 8 + g.val = 8 * (1 % 4) + g.val; omega) _ (nw3 c f0 f1 s0 s1 1 g)
  · intro x; obtain ⟨g, j, rfl⟩ := idx3' x; refine Eq.trans ?_ (G8_emb c f0 f1 f3 f5 f6 f7 3 0 ![3, 0, 0] rfl (by decide) g j).symm; refine (p3_0 c f0 f1 f3 f5 f6 f7 s0 s1 s3 s5 s6 s7 g j).trans ?_
    exact prow_of c f0 f1 f3 f5 f6 f7 3 0 g j _ (by show g.val = 8 * 0 + g.val; omega) _ (fun x => by show x.val = 256 * (0 / 4) + x.val; omega) _ (by show g.val = 8 * (0 % 4) + g.val; omega) _ (nw3 c f0 f1 s0 s1 0 g)
  · intro x; obtain ⟨g, j, rfl⟩ := idx3' x; refine Eq.trans ?_ (G8_emb c f0 f1 f3 f5 f6 f7 2 7 ![2, 56, 0] rfl (by decide) g j).symm; refine (p2_7 c f0 f1 f3 f5 f6 f7 s0 s1 s3 s5 s6 s7 g j).trans ?_
    exact prow_of c f0 f1 f3 f5 f6 f7 2 7 g j _ (by show 32 + (24 + g.val) = 8 * 7 + g.val; omega) _ (fun x => by show 256 + x.val = 256 * (7 / 4) + x.val; omega) _ (by show 24 + g.val = 8 * (7 % 4) + g.val; omega) _ (nw2 c f0 f1 s0 s1 7 g)
  · intro x; obtain ⟨g, j, rfl⟩ := idx3' x; refine Eq.trans ?_ (G8_emb c f0 f1 f3 f5 f6 f7 2 6 ![2, 48, 0] rfl (by decide) g j).symm; refine (p2_6 c f0 f1 f3 f5 f6 f7 s0 s1 s3 s5 s6 s7 g j).trans ?_
    exact prow_of c f0 f1 f3 f5 f6 f7 2 6 g j _ (by show 32 + (16 + g.val) = 8 * 6 + g.val; omega) _ (fun x => by show 256 + x.val = 256 * (6 / 4) + x.val; omega) _ (by show 16 + g.val = 8 * (6 % 4) + g.val; omega) _ (nw2 c f0 f1 s0 s1 6 g)
  · intro x; obtain ⟨g, j, rfl⟩ := idx3' x; refine Eq.trans ?_ (G8_emb c f0 f1 f3 f5 f6 f7 2 5 ![2, 40, 0] rfl (by decide) g j).symm; refine (p2_5 c f0 f1 f3 f5 f6 f7 s0 s1 s3 s5 s6 s7 g j).trans ?_
    exact prow_of c f0 f1 f3 f5 f6 f7 2 5 g j _ (by show 32 + (8 + g.val) = 8 * 5 + g.val; omega) _ (fun x => by show 256 + x.val = 256 * (5 / 4) + x.val; omega) _ (by show 8 + g.val = 8 * (5 % 4) + g.val; omega) _ (nw2 c f0 f1 s0 s1 5 g)
  · intro x; obtain ⟨g, j, rfl⟩ := idx3' x; refine Eq.trans ?_ (G8_emb c f0 f1 f3 f5 f6 f7 2 4 ![2, 32, 0] rfl (by decide) g j).symm; refine (p2_4 c f0 f1 f3 f5 f6 f7 s0 s1 s3 s5 s6 s7 g j).trans ?_
    exact prow_of c f0 f1 f3 f5 f6 f7 2 4 g j _ (by show 32 + g.val = 8 * 4 + g.val; omega) _ (fun x => by show 256 + x.val = 256 * (4 / 4) + x.val; omega) _ (by show g.val = 8 * (4 % 4) + g.val; omega) _ (nw2 c f0 f1 s0 s1 4 g)
  · intro x; obtain ⟨g, j, rfl⟩ := idx3' x; refine Eq.trans ?_ (G8_emb c f0 f1 f3 f5 f6 f7 2 3 ![2, 24, 0] rfl (by decide) g j).symm; refine (p2_3 c f0 f1 f3 f5 f6 f7 s0 s1 s3 s5 s6 s7 g j).trans ?_
    exact prow_of c f0 f1 f3 f5 f6 f7 2 3 g j _ (by show 24 + g.val = 8 * 3 + g.val; omega) _ (fun x => by show x.val = 256 * (3 / 4) + x.val; omega) _ (by show 24 + g.val = 8 * (3 % 4) + g.val; omega) _ (nw2 c f0 f1 s0 s1 3 g)
  · intro x; obtain ⟨g, j, rfl⟩ := idx3' x; refine Eq.trans ?_ (G8_emb c f0 f1 f3 f5 f6 f7 2 2 ![2, 16, 0] rfl (by decide) g j).symm; refine (p2_2 c f0 f1 f3 f5 f6 f7 s0 s1 s3 s5 s6 s7 g j).trans ?_
    exact prow_of c f0 f1 f3 f5 f6 f7 2 2 g j _ (by show 16 + g.val = 8 * 2 + g.val; omega) _ (fun x => by show x.val = 256 * (2 / 4) + x.val; omega) _ (by show 16 + g.val = 8 * (2 % 4) + g.val; omega) _ (nw2 c f0 f1 s0 s1 2 g)
  · intro x; obtain ⟨g, j, rfl⟩ := idx3' x; refine Eq.trans ?_ (G8_emb c f0 f1 f3 f5 f6 f7 2 1 ![2, 8, 0] rfl (by decide) g j).symm; refine (p2_1 c f0 f1 f3 f5 f6 f7 s0 s1 s3 s5 s6 s7 g j).trans ?_
    exact prow_of c f0 f1 f3 f5 f6 f7 2 1 g j _ (by show 8 + g.val = 8 * 1 + g.val; omega) _ (fun x => by show x.val = 256 * (1 / 4) + x.val; omega) _ (by show 8 + g.val = 8 * (1 % 4) + g.val; omega) _ (nw2 c f0 f1 s0 s1 1 g)
  · intro x; obtain ⟨g, j, rfl⟩ := idx3' x; refine Eq.trans ?_ (G8_emb c f0 f1 f3 f5 f6 f7 2 0 ![2, 0, 0] rfl (by decide) g j).symm; refine (p2_0 c f0 f1 f3 f5 f6 f7 s0 s1 s3 s5 s6 s7 g j).trans ?_
    exact prow_of c f0 f1 f3 f5 f6 f7 2 0 g j _ (by show g.val = 8 * 0 + g.val; omega) _ (fun x => by show x.val = 256 * (0 / 4) + x.val; omega) _ (by show g.val = 8 * (0 % 4) + g.val; omega) _ (nw2 c f0 f1 s0 s1 0 g)
  · intro x; obtain ⟨g, j, rfl⟩ := idx3' x; refine Eq.trans ?_ (G8_emb c f0 f1 f3 f5 f6 f7 1 7 ![1, 56, 0] rfl (by decide) g j).symm; refine (p1_7 c f0 f1 f3 f5 f6 f7 s0 s1 s3 s5 s6 s7 g j).trans ?_
    exact prow_of c f0 f1 f3 f5 f6 f7 1 7 g j _ (by show 32 + (24 + g.val) = 8 * 7 + g.val; omega) _ (fun x => by show 256 + x.val = 256 * (7 / 4) + x.val; omega) _ (by show 24 + g.val = 8 * (7 % 4) + g.val; omega) _ (nw1 c f0 f1 s0 s1 7 g)
  · intro x; obtain ⟨g, j, rfl⟩ := idx3' x; refine Eq.trans ?_ (G8_emb c f0 f1 f3 f5 f6 f7 1 6 ![1, 48, 0] rfl (by decide) g j).symm; refine (p1_6 c f0 f1 f3 f5 f6 f7 s0 s1 s3 s5 s6 s7 g j).trans ?_
    exact prow_of c f0 f1 f3 f5 f6 f7 1 6 g j _ (by show 32 + (16 + g.val) = 8 * 6 + g.val; omega) _ (fun x => by show 256 + x.val = 256 * (6 / 4) + x.val; omega) _ (by show 16 + g.val = 8 * (6 % 4) + g.val; omega) _ (nw1 c f0 f1 s0 s1 6 g)
  · intro x; obtain ⟨g, j, rfl⟩ := idx3' x; refine Eq.trans ?_ (G8_emb c f0 f1 f3 f5 f6 f7 1 5 ![1, 40, 0] rfl (by decide) g j).symm; refine (p1_5 c f0 f1 f3 f5 f6 f7 s0 s1 s3 s5 s6 s7 g j).trans ?_
    exact prow_of c f0 f1 f3 f5 f6 f7 1 5 g j _ (by show 32 + (8 + g.val) = 8 * 5 + g.val; omega) _ (fun x => by show 256 + x.val = 256 * (5 / 4) + x.val; omega) _ (by show 8 + g.val = 8 * (5 % 4) + g.val; omega) _ (nw1 c f0 f1 s0 s1 5 g)
  · intro x; obtain ⟨g, j, rfl⟩ := idx3' x; refine Eq.trans ?_ (G8_emb c f0 f1 f3 f5 f6 f7 1 4 ![1, 32, 0] rfl (by decide) g j).symm; refine (p1_4 c f0 f1 f3 f5 f6 f7 s0 s1 s3 s5 s6 s7 g j).trans ?_
    exact prow_of c f0 f1 f3 f5 f6 f7 1 4 g j _ (by show 32 + g.val = 8 * 4 + g.val; omega) _ (fun x => by show 256 + x.val = 256 * (4 / 4) + x.val; omega) _ (by show g.val = 8 * (4 % 4) + g.val; omega) _ (nw1 c f0 f1 s0 s1 4 g)
  · intro x; obtain ⟨g, j, rfl⟩ := idx3' x; refine Eq.trans ?_ (G8_emb c f0 f1 f3 f5 f6 f7 1 3 ![1, 24, 0] rfl (by decide) g j).symm; refine (p1_3 c f0 f1 f3 f5 f6 f7 s0 s1 s3 s5 s6 s7 g j).trans ?_
    exact prow_of c f0 f1 f3 f5 f6 f7 1 3 g j _ (by show 24 + g.val = 8 * 3 + g.val; omega) _ (fun x => by show x.val = 256 * (3 / 4) + x.val; omega) _ (by show 24 + g.val = 8 * (3 % 4) + g.val; omega) _ (nw1 c f0 f1 s0 s1 3 g)
  · intro x; obtain ⟨g, j, rfl⟩ := idx3' x; refine Eq.trans ?_ (G8_emb c f0 f1 f3 f5 f6 f7 1 2 ![1, 16, 0] rfl (by decide) g j).symm; refine (p1_2 c f0 f1 f3 f5 f6 f7 s0 s1 s3 s5 s6 s7 g j).trans ?_
    exact prow_of c f0 f1 f3 f5 f6 f7 1 2 g j _ (by show 16 + g.val = 8 * 2 + g.val; omega) _ (fun x => by show x.val = 256 * (2 / 4) + x.val; omega) _ (by show 16 + g.val = 8 * (2 % 4) + g.val; omega) _ (nw1 c f0 f1 s0 s1 2 g)
  · intro x; obtain ⟨g, j, rfl⟩ := idx3' x; refine Eq.trans ?_ (G8_emb c f0 f1 f3 f5 f6 f7 1 1 ![1, 8, 0] rfl (by decide) g j).symm; refine (p1_1 c f0 f1 f3 f5 f6 f7 s0 s1 s3 s5 s6 s7 g j).trans ?_
    exact prow_of c f0 f1 f3 f5 f6 f7 1 1 g j _ (by show 8 + g.val = 8 * 1 + g.val; omega) _ (fun x => by show x.val = 256 * (1 / 4) + x.val; omega) _ (by show 8 + g.val = 8 * (1 % 4) + g.val; omega) _ (nw1 c f0 f1 s0 s1 1 g)
  · intro x; obtain ⟨g, j, rfl⟩ := idx3' x; refine Eq.trans ?_ (G8_emb c f0 f1 f3 f5 f6 f7 1 0 ![1, 0, 0] rfl (by decide) g j).symm; refine (p1_0 c f0 f1 f3 f5 f6 f7 s0 s1 s3 s5 s6 s7 g j).trans ?_
    exact prow_of c f0 f1 f3 f5 f6 f7 1 0 g j _ (by show g.val = 8 * 0 + g.val; omega) _ (fun x => by show x.val = 256 * (0 / 4) + x.val; omega) _ (by show g.val = 8 * (0 % 4) + g.val; omega) _ (nw1 c f0 f1 s0 s1 0 g)
  · intro x; obtain ⟨g, j, rfl⟩ := idx3' x; refine Eq.trans ?_ (G8_emb c f0 f1 f3 f5 f6 f7 0 7 ![0, 56, 0] rfl (by decide) g j).symm; refine (p0_7 c f0 f1 f3 f5 f6 f7 s0 s1 s3 s5 s6 s7 g j).trans ?_
    exact prow_of c f0 f1 f3 f5 f6 f7 0 7 g j _ (by show 32 + (24 + g.val) = 8 * 7 + g.val; omega) _ (fun x => by show 256 + x.val = 256 * (7 / 4) + x.val; omega) _ (by show 24 + g.val = 8 * (7 % 4) + g.val; omega) _ (nw0 c f0 f1 s0 s1 7 g)
  · intro x; obtain ⟨g, j, rfl⟩ := idx3' x; refine Eq.trans ?_ (G8_emb c f0 f1 f3 f5 f6 f7 0 6 ![0, 48, 0] rfl (by decide) g j).symm; refine (p0_6 c f0 f1 f3 f5 f6 f7 s0 s1 s3 s5 s6 s7 g j).trans ?_
    exact prow_of c f0 f1 f3 f5 f6 f7 0 6 g j _ (by show 32 + (16 + g.val) = 8 * 6 + g.val; omega) _ (fun x => by show 256 + x.val = 256 * (6 / 4) + x.val; omega) _ (by show 16 + g.val = 8 * (6 % 4) + g.val; omega) _ (nw0 c f0 f1 s0 s1 6 g)
  · intro x; obtain ⟨g, j, rfl⟩ := idx3' x; refine Eq.trans ?_ (G8_emb c f0 f1 f3 f5 f6 f7 0 5 ![0, 40, 0] rfl (by decide) g j).symm; refine (p0_5 c f0 f1 f3 f5 f6 f7 s0 s1 s3 s5 s6 s7 g j).trans ?_
    exact prow_of c f0 f1 f3 f5 f6 f7 0 5 g j _ (by show 32 + (8 + g.val) = 8 * 5 + g.val; omega) _ (fun x => by show 256 + x.val = 256 * (5 / 4) + x.val; omega) _ (by show 8 + g.val = 8 * (5 % 4) + g.val; omega) _ (nw0 c f0 f1 s0 s1 5 g)
  · intro x; obtain ⟨g, j, rfl⟩ := idx3' x; refine Eq.trans ?_ (G8_emb c f0 f1 f3 f5 f6 f7 0 4 ![0, 32, 0] rfl (by decide) g j).symm; refine (p0_4 c f0 f1 f3 f5 f6 f7 s0 s1 s3 s5 s6 s7 g j).trans ?_
    exact prow_of c f0 f1 f3 f5 f6 f7 0 4 g j _ (by show 32 + g.val = 8 * 4 + g.val; omega) _ (fun x => by show 256 + x.val = 256 * (4 / 4) + x.val; omega) _ (by show g.val = 8 * (4 % 4) + g.val; omega) _ (nw0 c f0 f1 s0 s1 4 g)
  · intro x; obtain ⟨g, j, rfl⟩ := idx3' x; refine Eq.trans ?_ (G8_emb c f0 f1 f3 f5 f6 f7 0 3 ![0, 24, 0] rfl (by decide) g j).symm; refine (p0_3 c f0 f1 f3 f5 f6 f7 s0 s1 s3 s5 s6 s7 g j).trans ?_
    exact prow_of c f0 f1 f3 f5 f6 f7 0 3 g j _ (by show 24 + g.val = 8 * 3 + g.val; omega) _ (fun x => by show x.val = 256 * (3 / 4) + x.val; omega) _ (by show 24 + g.val = 8 * (3 % 4) + g.val; omega) _ (nw0 c f0 f1 s0 s1 3 g)
  · intro x; obtain ⟨g, j, rfl⟩ := idx3' x; refine Eq.trans ?_ (G8_emb c f0 f1 f3 f5 f6 f7 0 2 ![0, 16, 0] rfl (by decide) g j).symm; refine (p0_2 c f0 f1 f3 f5 f6 f7 s0 s1 s3 s5 s6 s7 g j).trans ?_
    exact prow_of c f0 f1 f3 f5 f6 f7 0 2 g j _ (by show 16 + g.val = 8 * 2 + g.val; omega) _ (fun x => by show x.val = 256 * (2 / 4) + x.val; omega) _ (by show 16 + g.val = 8 * (2 % 4) + g.val; omega) _ (nw0 c f0 f1 s0 s1 2 g)
  · intro x; obtain ⟨g, j, rfl⟩ := idx3' x; refine Eq.trans ?_ (G8_emb c f0 f1 f3 f5 f6 f7 0 1 ![0, 8, 0] rfl (by decide) g j).symm; refine (p0_1 c f0 f1 f3 f5 f6 f7 s0 s1 s3 s5 s6 s7 g j).trans ?_
    exact prow_of c f0 f1 f3 f5 f6 f7 0 1 g j _ (by show 8 + g.val = 8 * 1 + g.val; omega) _ (fun x => by show x.val = 256 * (1 / 4) + x.val; omega) _ (by show 8 + g.val = 8 * (1 % 4) + g.val; omega) _ (nw0 c f0 f1 s0 s1 1 g)
  · intro x; obtain ⟨g, j, rfl⟩ := idx3' x; refine Eq.trans ?_ (G8_emb c f0 f1 f3 f5 f6 f7 0 0 ![0, 0, 0] rfl (by decide) g j).symm; refine (p0_0 c f0 f1 f3 f5 f6 f7 s0 s1 s3 s5 s6 s7 g j).trans ?_
    exact prow_of c f0 f1 f3 f5 f6 f7 0 0 g j _ (by show g.val = 8 * 0 + g.val; omega) _ (fun x => by show x.val = 256 * (0 / 4) + x.val; omega) _ (by show g.val = 8 * (0 % 4) + g.val; omega) _ (nw0 c f0 f1 s0 s1 0 g)

theorem hs8_covers (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (y : S4x64x1152.Idx) : ∃ p ∈ kernelRun.sl.HS8_32 (F := Ideal) c f0 f1 f3 f5 f6 f7 s0 s1 s3 s5 s6 s7, y ∈ p.1.set := by
  have key : ∀ (b : Fin 4) (h : Fin 8), (y 0).val = b.val → (y 1).val / 8 = h.val → ∀ (o : Fin 3 → ℕ) (_ : o = ![b.val, 8 * h.val, 0]) (i), y ∈ (Rect.unit (s := S4x64x1152) o S1x8x1152.size i).set := by
    rintro b h h0 h1 o rfl i
    refine mem_unit (s := S4x64x1152) _ _ _ _ fun a => ?_
    match a with
    | 0 => show b.val ≤ (y 0).val ∧ (y 0).val < b.val + 1; omega
    | 1 => show 8 * h.val ≤ (y 1).val ∧ (y 1).val < 8 * h.val + 8; omega
    | 2 => show 0 ≤ (y 2).val ∧ (y 2).val < 0 + 1152; exact ⟨Nat.zero_le _, by have h2 : (y 2).val < 1152 := (y 2).isLt; omega⟩
  have h1 : (y 1).val < 64 := (y 1).isLt
  obtain ⟨b, hb⟩ : ∃ b : Fin 4, (y 0).val = b.val := ⟨y 0, rfl⟩
  obtain ⟨h, hh⟩ : ∃ h : Fin 8, (y 1).val / 8 = h.val := ⟨⟨(y 1).val / 8, by omega⟩, rfl⟩
  match b, h, hb, hh with
  | 0, 0, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), key 0 0 hb hh ![0, 0, 0] rfl (by decide)⟩
  | 0, 1, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), key 0 1 hb hh ![0, 8, 0] rfl (by decide)⟩
  | 0, 2, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), key 0 2 hb hh ![0, 16, 0] rfl (by decide)⟩
  | 0, 3, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), key 0 3 hb hh ![0, 24, 0] rfl (by decide)⟩
  | 0, 4, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), key 0 4 hb hh ![0, 32, 0] rfl (by decide)⟩
  | 0, 5, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), key 0 5 hb hh ![0, 40, 0] rfl (by decide)⟩
  | 0, 6, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), key 0 6 hb hh ![0, 48, 0] rfl (by decide)⟩
  | 0, 7, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), key 0 7 hb hh ![0, 56, 0] rfl (by decide)⟩
  | 1, 0, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), key 1 0 hb hh ![1, 0, 0] rfl (by decide)⟩
  | 1, 1, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), key 1 1 hb hh ![1, 8, 0] rfl (by decide)⟩
  | 1, 2, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), key 1 2 hb hh ![1, 16, 0] rfl (by decide)⟩
  | 1, 3, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), key 1 3 hb hh ![1, 24, 0] rfl (by decide)⟩
  | 1, 4, hb, hh => exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), key 1 4 hb hh ![1, 32, 0] rfl (by decide)⟩
  | 1, 5, hb, hh => exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), key 1 5 hb hh ![1, 40, 0] rfl (by decide)⟩
  | 1, 6, hb, hh => exact ⟨_, .tail _ (.tail _ (.tail _ (.tail _ (.tail _ (.tail _ (.tail _ (.tail _ (.tail _ (.tail _ (.tail _ (.tail _ (.tail _ (.tail _ (.tail _ (.tail _ (.tail _ (.head _))))))))))))))))), key 1 6 hb hh ![1, 48, 0] rfl (by decide)⟩
  | 1, 7, hb, hh => exact ⟨_, .tail _ (.tail _ (.tail _ (.tail _ (.tail _ (.tail _ (.tail _ (.tail _ (.tail _ (.tail _ (.tail _ (.tail _ (.tail _ (.tail _ (.tail _ (.tail _ (.head _)))))))))))))))), key 1 7 hb hh ![1, 56, 0] rfl (by decide)⟩
  | 2, 0, hb, hh => exact ⟨_, .tail _ (.tail _ (.tail _ (.tail _ (.tail _ (.tail _ (.tail _ (.tail _ (.tail _ (.tail _ (.tail _ (.tail _ (.tail _ (.tail _ (.tail _ (.head _))))))))))))))), key 2 0 hb hh ![2, 0, 0] rfl (by decide)⟩
  | 2, 1, hb, hh => exact ⟨_, .tail _ (.tail _ (.tail _ (.tail _ (.tail _ (.tail _ (.tail _ (.tail _ (.tail _ (.tail _ (.tail _ (.tail _ (.tail _ (.tail _ (.head _)))))))))))))), key 2 1 hb hh ![2, 8, 0] rfl (by decide)⟩
  | 2, 2, hb, hh => exact ⟨_, .tail _ (.tail _ (.tail _ (.tail _ (.tail _ (.tail _ (.tail _ (.tail _ (.tail _ (.tail _ (.tail _ (.tail _ (.tail _ (.head _))))))))))))), key 2 2 hb hh ![2, 16, 0] rfl (by decide)⟩
  | 2, 3, hb, hh => exact ⟨_, .tail _ (.tail _ (.tail _ (.tail _ (.tail _ (.tail _ (.tail _ (.tail _ (.tail _ (.tail _ (.tail _ (.tail _ (.head _)))))))))))), key 2 3 hb hh ![2, 24, 0] rfl (by decide)⟩
  | 2, 4, hb, hh => exact ⟨_, .tail _ (.tail _ (.tail _ (.tail _ (.tail _ (.tail _ (.tail _ (.tail _ (.tail _ (.tail _ (.tail _ (.head _))))))))))), key 2 4 hb hh ![2, 32, 0] rfl (by decide)⟩
  | 2, 5, hb, hh => exact ⟨_, .tail _ (.tail _ (.tail _ (.tail _ (.tail _ (.tail _ (.tail _ (.tail _ (.tail _ (.tail _ (.head _)))))))))), key 2 5 hb hh ![2, 40, 0] rfl (by decide)⟩
  | 2, 6, hb, hh => exact ⟨_, .tail _ (.tail _ (.tail _ (.tail _ (.tail _ (.tail _ (.tail _ (.tail _ (.tail _ (.head _))))))))), key 2 6 hb hh ![2, 48, 0] rfl (by decide)⟩
  | 2, 7, hb, hh => exact ⟨_, .tail _ (.tail _ (.tail _ (.tail _ (.tail _ (.tail _ (.tail _ (.tail _ (.head _)))))))), key 2 7 hb hh ![2, 56, 0] rfl (by decide)⟩
  | 3, 0, hb, hh => exact ⟨_, .tail _ (.tail _ (.tail _ (.tail _ (.tail _ (.tail _ (.tail _ (.head _))))))), key 3 0 hb hh ![3, 0, 0] rfl (by decide)⟩
  | 3, 1, hb, hh => exact ⟨_, .tail _ (.tail _ (.tail _ (.tail _ (.tail _ (.tail _ (.head _)))))), key 3 1 hb hh ![3, 8, 0] rfl (by decide)⟩
  | 3, 2, hb, hh => exact ⟨_, .tail _ (.tail _ (.tail _ (.tail _ (.tail _ (.head _))))), key 3 2 hb hh ![3, 16, 0] rfl (by decide)⟩
  | 3, 3, hb, hh => exact ⟨_, .tail _ (.tail _ (.tail _ (.tail _ (.head _)))), key 3 3 hb hh ![3, 24, 0] rfl (by decide)⟩
  | 3, 4, hb, hh => exact ⟨_, .tail _ (.tail _ (.tail _ (.head _))), key 3 4 hb hh ![3, 32, 0] rfl (by decide)⟩
  | 3, 5, hb, hh => exact ⟨_, .tail _ (.tail _ (.head _)), key 3 5 hb hh ![3, 40, 0] rfl (by decide)⟩
  | 3, 6, hb, hh => exact ⟨_, .tail _ (.head _), key 3 6 hb hh ![3, 48, 0] rfl (by decide)⟩
  | 3, 7, hb, hh => exact ⟨_, .head _, key 3 7 hb hh ![3, 56, 0] rfl (by decide)⟩

theorem ld2169 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2169 (F := Ideal) c f0 f1 f3 f5 f6 f7 s0 s1 s3 s5 s6 s7 (ix3 0 r x) = G8 c f0 f1 f3 f5 f6 f7 (ix3 0 ⟨0 + r, by omega⟩ x) := by
  unfold kernelRun.sl.v2169 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (0 + ·) (Nat.one_mul _)
  | 2 => exact (congrArg (0 + ·) (Nat.one_mul _)).trans (Nat.zero_add _)

theorem ld2218 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2218 (F := Ideal) c f0 f1 f3 f5 f6 f7 s0 s1 s3 s5 s6 s7 (ix3 0 r x) = G8 c f0 f1 f3 f5 f6 f7 (ix3 0 ⟨32 + r, by omega⟩ x) := by
  unfold kernelRun.sl.v2218 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (32 + ·) (Nat.one_mul _)
  | 2 => exact (congrArg (0 + ·) (Nat.one_mul _)).trans (Nat.zero_add _)

theorem ld2279 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2279 (F := Ideal) c f0 f1 f3 f5 f6 f7 s0 s1 s3 s5 s6 s7 (ix3 0 r x) = G8 c f0 f1 f3 f5 f6 f7 (ix3 1 ⟨0 + r, by omega⟩ x) := by
  unfold kernelRun.sl.v2279 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (0 + ·) (Nat.one_mul _)
  | 2 => exact (congrArg (0 + ·) (Nat.one_mul _)).trans (Nat.zero_add _)

theorem ld2328 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2328 (F := Ideal) c f0 f1 f3 f5 f6 f7 s0 s1 s3 s5 s6 s7 (ix3 0 r x) = G8 c f0 f1 f3 f5 f6 f7 (ix3 1 ⟨32 + r, by omega⟩ x) := by
  unfold kernelRun.sl.v2328 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (32 + ·) (Nat.one_mul _)
  | 2 => exact (congrArg (0 + ·) (Nat.one_mul _)).trans (Nat.zero_add _)

theorem ld2389 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2389 (F := Ideal) c f0 f1 f3 f5 f6 f7 s0 s1 s3 s5 s6 s7 (ix3 0 r x) = G8 c f0 f1 f3 f5 f6 f7 (ix3 2 ⟨0 + r, by omega⟩ x) := by
  unfold kernelRun.sl.v2389 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (0 + ·) (Nat.one_mul _)
  | 2 => exact (congrArg (0 + ·) (Nat.one_mul _)).trans (Nat.zero_add _)

theorem ld2438 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2438 (F := Ideal) c f0 f1 f3 f5 f6 f7 s0 s1 s3 s5 s6 s7 (ix3 0 r x) = G8 c f0 f1 f3 f5 f6 f7 (ix3 2 ⟨32 + r, by omega⟩ x) := by
  unfold kernelRun.sl.v2438 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (32 + ·) (Nat.one_mul _)
  | 2 => exact (congrArg (0 + ·) (Nat.one_mul _)).trans (Nat.zero_add _)

theorem ld2499 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2499 (F := Ideal) c f0 f1 f3 f5 f6 f7 s0 s1 s3 s5 s6 s7 (ix3 0 r x) = G8 c f0 f1 f3 f5 f6 f7 (ix3 3 ⟨0 + r, by omega⟩ x) := by
  unfold kernelRun.sl.v2499 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (0 + ·) (Nat.one_mul _)
  | 2 => exact (congrArg (0 + ·) (Nat.one_mul _)).trans (Nat.zero_add _)

theorem ld2548 (c : Dev nD) (f0 : Bf (F := Ideal) c (Memref.whole main_arg0)) (f1 : Bf (F := Ideal) c (Memref.whole main_arg1)) (f3 : Bf (F := Ideal) c (Memref.whole main_v1)) (f5 : Bf (F := Ideal) c (Memref.whole main_v4))
    (f6 : Bf (F := Ideal) c (Memref.whole main_v5)) (f7 : Bf (F := Ideal) c (Memref.whole main_arg7)) (s0 s1 s3 s5 s6 s7) (r : Fin 32) (x : Fin 1152) : kernelRun.sl.v2548 (F := Ideal) c f0 f1 f3 f5 f6 f7 s0 s1 s3 s5 s6 s7 (ix3 0 r x) = G8 c f0 f1 f3 f5 f6 f7 (ix3 3 ⟨32 + r, by omega⟩ x) := by
  unfold kernelRun.sl.v2548 View.readCov
  rw [View.readAt_apply]
  refine (View.read_writes_apply_of_pieces (Memref.whole cc0_scratch8).view _ (G8 c f0 f1 f3 f5 f6 f7) _ (hs8_pieces c f0 f1 f3 f5 f6 f7 s0 s1 s3 s5 s6 s7) _ (hs8_covers c f0 f1 f3 f5 f6 f7 s0 s1 s3 s5 s6 s7 _)).trans ?_
  refine congrArg (G8 c f0 f1 f3 f5 f6 f7) (funext fun a => Fin.ext ?_)
  match a with
  | 0 => rfl
  | 1 => exact congrArg (32 + ·) (Nat.one_mul _)
  | 2 => exact (congrArg (0 + ·) (Nat.one_mul _)).trans (Nat.zero_add _)

end Cert.KernelIdeal.Val

end
-- ==== Proof.KElem.lean ====
/-
  One element of the kernel's attention.
-/
module

public import proofs.«01_k».proof.Proof.KRows

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

/-- The normalised weight of the new position, with its value's scale. -/
def newRow (q : Fin 64 → EReal) (k : Fin 1152 → Fin 256 → EReal) (ks : Fin 1152 → EReal) (r : ℕ) (start len : BitVec 32) (new sc : EReal) : EReal :=
  new * Ideal.div 1 ((∑ x : Fin 1152, Scalar.select (sees start len x) (expo (rawDot q (k x) r * ks x)) 0) + new) * sc

/-- One element of the attention. -/
def orow (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (b : Fin 4) (h g : Fin 8) (d : Fin 64) : EReal :=
  (∑ x : Fin 1152, prow c f0 f1 f3 f5 f6 f7 b h g x * rv c f4 (ix3 b ⟨64 * h.val + d.val, by omega⟩ ⟨st c f7 b + x, by have := st_le c f7 b; omega⟩))
  + newRow (fun d => rq c f0 (ix4 b 0 ⟨8 * h.val + g.val, by omega⟩ d)) (fun j x => rk c f3 (ix3 b ⟨256 * (h.val / 4) + x.val, by omega⟩ ⟨st c f7 b + j, by have := st_le c f7 b; omega⟩))
      (fun j => rks c f5 (ix3 b h ⟨st c f7 b + j, by have := st_le c f7 b; omega⟩))
      (8 * (h.val % 4) + g.val) (Cert.Win.start (rl c f7 (ix1 b))) (rl c f7 (ix1 b)) (newW c f0 f1 b h g) (Spec.scaleK (vpk c f2 b h)) * Spec.codeK (vpk c f2 b h) (rvn c f2 (ix4 b 0 h d))

theorem orow_of (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (b : Fin 4) (h g : Fin 8) (d : Fin 64)
    (iq : Fin 64) (hq : iq.val = 8 * h.val + g.val) (kd : Fin 512) (hd : kd.val = 64 * h.val + d.val) (kk : Fin 256 → Fin 512) (hk : ∀ x, (kk x).val = 256 * (h.val / 4) + x.val) (r : ℕ) (hr : r = 8 * (h.val % 4) + g.val) :
    (∑ x : Fin 1152, G8 c f0 f1 f3 f5 f6 f7 (ix3 b iq x) * rv c f4 (ix3 b kd ⟨st c f7 b + x, by have := st_le c f7 b; omega⟩))
      + newRow (fun d => rq c f0 (ix4 b 0 iq d)) (fun j x => rk c f3 (ix3 b (kk x) ⟨st c f7 b + j, by have := st_le c f7 b; omega⟩))
        (fun j => rks c f5 (ix3 b h ⟨st c f7 b + j, by have := st_le c f7 b; omega⟩))
        r (Cert.Win.start (rl c f7 (ix1 b))) (rl c f7 (ix1 b)) (newW c f0 f1 b h g) (Spec.scaleK (vpk c f2 b h)) * Spec.codeK (vpk c f2 b h) (rvn c f2 (ix4 b 0 h d)) = orow c f0 f1 f2 f3 f4 f5 f6 f7 b h g d := by
  have e1 : iq = ⟨8 * h.val + g.val, by omega⟩ := Fin.ext hq
  have e2 : kk = fun x => ⟨256 * (h.val / 4) + x.val, by omega⟩ := funext fun x => Fin.ext (hk x)
  have e3 : kd = ⟨64 * h.val + d.val, by omega⟩ := Fin.ext hd
  subst hr
  have e4 : ∀ x : Fin 1152, G8 c f0 f1 f3 f5 f6 f7 (ix3 b ⟨8 * h.val + g.val, by omega⟩ x) = prow c f0 f1 f3 f5 f6 f7 b h g x := by
    intro x
    have e1 : (⟨(8 * h.val + g.val) / 8, by omega⟩ : Fin 8) = h := Fin.ext (by show (8 * h.val + g.val) / 8 = h.val; omega)
    have e2 : (⟨(8 * h.val + g.val) % 8, by omega⟩ : Fin 8) = g := Fin.ext (by show (8 * h.val + g.val) % 8 = g.val; omega)
    show prow c f0 f1 f3 f5 f6 f7 b ⟨(8 * h.val + g.val) / 8, _⟩ ⟨(8 * h.val + g.val) % 8, _⟩ x = _
    rw [e1, e2]
  rw [e1, e2, e3]
  simp only [e4]
  rfl

end Cert.KernelIdeal.Val

end
-- ==== Proof.RefWin.lean ====
/-
  The reference's windows: what the host operations hand the body, at an index.
-/
module

public import proofs.«01_k».proof.Proof.RefRun
public import Idealize.ShloMosaic.Lib.Pipeline.ValueKit.Point
public import Idealize.ShloMosaic.Lib.StableHlo.RunRead

@[expose] public section

set_option maxRecDepth 16384
set_option maxHeartbeats 4000000

noncomputable section

namespace Cert.ReferenceIdeal.Value

open Cert.ReferenceIdeal Cert.ReferenceIdeal.Gen
open Idealize.ShloMosaic
open Idealize.ShloMosaic.TcCoe Idealize.ShloMosaic.Tactic

variable (m : (ℓ : Loc nD τ sig) → Buf (Elt Ideal) ℓ)

/-- Where the reference's window of a batch row starts. -/
def rstart (len : BitVec 32) : BitVec 32 := IntOp.minsi 130048#32 (IntOp.maxsi 0#32 (IntOp.subi len 1024#32))

theorem rstart_bounds (len : BitVec 32) : 0 ≤ (rstart len).toInt ∧ (rstart len).toInt ≤ 130048 := by
  unfold rstart IntOp.minsi IntOp.maxsi
  generalize IntOp.subi len 1024#32 = w
  have e0 : (0#32 : BitVec 32).toInt = 0 := by decide
  have e1 : (130048#32 : BitVec 32).toInt = 130048 := by decide
  simp only [BitVec.slt_iff_toInt_lt]
  split_ifs <;> simp only [e0, e1] at * <;> omega

theorem rstart_toNat (len : BitVec 32) : ((rstart len).toNat : ℤ) = (rstart len).toInt ∧ (rstart len).toNat ≤ 130048 := by
  have h := rstart_bounds len
  have e := BitVec.toInt_eq_toNat_cond (rstart len)
  have l := (rstart len).isLt
  split_ifs at e <;> constructor <;> omega

theorem rstart_select (len : BitVec 32) : Scalar.select (IntOp.cmpi .slt (rstart len) 0#32) (IntOp.addi (rstart len) 131072#32) (rstart len) = rstart len := by
  have h : (rstart len).slt 0#32 = false := by
    have h := rstart_bounds len
    rw [Bool.eq_false_iff]; intro hc
    rw [BitVec.slt_iff_toInt_lt] at hc
    have e0 : (0#32 : BitVec 32).toInt = 0 := by decide
    omega
  unfold Scalar.select IntOp.cmpi
  simp only [h]
  rfl

theorem rsel (x len : BitVec 32) (h : x = rstart len) : Scalar.select (IntOp.cmpi .slt x 0#32) (IntOp.addi x 131072#32) x = rstart len := by
  subst h; exact rstart_select len

theorem rlt (len : BitVec 32) (j : Fin 1024) : (rstart len).toNat + j.val < 131072 := by
  have := (rstart_toNat len).2; omega

theorem clamped (s t : Shape) (ht : t.rank = s.rank) (start : Fin s.rank → ℤ) (a : Fin s.rank) (n k : ℕ) (hn : s.size a = n) (hk : t.size (a.cast ht.symm) = k) (r : ℕ)
    (hr : (min (max (start a) 0) ((n - k : ℕ) : ℤ)).toNat = r) : Host.clampedStart s t ht start a = r := by
  subst hn hk hr; rfl

/-- A slice of one batch row at a start in range. -/
theorem dyn4 {e : EltTy} (x : Vec Ideal S1x131072x8x64 e) (s : Fin 4 → ℤ) (fit) (len : BitVec 32) (h0 : s 0 = 0) (h1 : s 1 = (rstart len).toInt) (h2 : s 2 = 0) (h3 : s 3 = 0)
    (b : Fin 1) (j : Fin 1024) (h : Fin 8) (d : Fin 64) : Host.dynamicSlice S1x1024x8x64 x s fit (ix4 b j h d) = x (ix4 0 ⟨(rstart len).toNat + j.val, rlt len j⟩ h d) := by
  have hr := rstart_toNat len
  have hb := rstart_bounds len
  have hb' := b.isLt
  have c0 := clamped S1x131072x8x64 S1x1024x8x64 rfl s 0 1 1 rfl rfl 0 (by rw [h0]; decide)
  have c1 := clamped S1x131072x8x64 S1x1024x8x64 rfl s 1 131072 1024 rfl rfl (rstart len).toNat (by rw [h1]; omega)
  have c2 := clamped S1x131072x8x64 S1x1024x8x64 rfl s 2 8 8 rfl rfl 0 (by rw [h2]; decide)
  have c3 := clamped S1x131072x8x64 S1x1024x8x64 rfl s 3 64 64 rfl rfl 0 (by rw [h3]; decide)
  refine congrArg x (funext fun a => Fin.ext ?_)
  match a with
  | 0 => exact (congrArg (· + b.val) c0).trans (by show 0 + b.val = 0; omega)
  | 1 => exact congrArg (· + j.val) c1
  | 2 => exact (congrArg (· + h.val) c2).trans (Nat.zero_add _)
  | 3 => exact (congrArg (· + d.val) c3).trans (Nat.zero_add _)
/-- A slice of one batch row at a start in range. -/
theorem dyn3 {e : EltTy} (x : Vec Ideal S1x131072x8 e) (s : Fin 3 → ℤ) (fit) (len : BitVec 32) (h0 : s 0 = 0) (h1 : s 1 = (rstart len).toInt) (h2 : s 2 = 0)
    (b : Fin 1) (j : Fin 1024) (h : Fin 8) : Host.dynamicSlice S1x1024x8 x s fit (ix3 b j h) = x (ix3 0 ⟨(rstart len).toNat + j.val, rlt len j⟩ h) := by
  have hr := rstart_toNat len
  have hb := rstart_bounds len
  have hb' := b.isLt
  have c0 := clamped S1x131072x8 S1x1024x8 rfl s 0 1 1 rfl rfl 0 (by rw [h0]; decide)
  have c1 := clamped S1x131072x8 S1x1024x8 rfl s 1 131072 1024 rfl rfl (rstart len).toNat (by rw [h1]; omega)
  have c2 := clamped S1x131072x8 S1x1024x8 rfl s 2 8 8 rfl rfl 0 (by rw [h2]; decide)
  refine congrArg x (funext fun a => Fin.ext ?_)
  match a with
  | 0 => exact (congrArg (· + b.val) c0).trans (by show 0 + b.val = 0; omega)
  | 1 => exact congrArg (· + j.val) c1
  | 2 => exact (congrArg (· + h.val) c2).trans (Nat.zero_add _)

/-- The cache length of a batch row. -/
abbrev len (c : Dev nD) (b : Fin 4) : BitVec 32 := m ((c : Thread nD τ).loc main_arg7) (ix1 b)

theorem ix4_ext {n0 n1 n2 n3 : ℕ} {a a' : Fin n0} {b b' : Fin n1} {c c' : Fin n2} {d d' : Fin n3} (h0 : a = a') (h1 : b = b') (h2 : c = c') (h3 : d = d') : ix4 a b c d = ix4 a' b' c' d' := by
  subst h0 h1 h2 h3; rfl
theorem ix3_ext {n0 n1 n2 : ℕ} {a a' : Fin n0} {b b' : Fin n1} {c c' : Fin n2} (h0 : a = a') (h1 : b = b') (h2 : c = c') : ix3 a b c = ix3 a' b' c' := by
  subst h0 h1 h2; rfl

theorem v145_at (c : Dev nD) (b : Fin 4) (h : Fin 8) (j : Fin 1024) : V m c main_v145 (ix3 ⟨b.val * 8 + h.val, by omega⟩ 0 j)
    = BitVec.setWidth 32 (IntOp.andi (IntOp.cmpi .slt (IntOp.addi (rstart (len m c b)) (BitVec.ofNat 32 j)) (len m c b)) (IntOp.cmpi .sgt (IntOp.addi (rstart (len m c b)) (BitVec.ofNat 32 j)) (IntOp.subi (len m c b) 1024#32))) := by
  show StableHlo.after (hostOps0 ++ (hostOps0_1 ++ (hostOps0_2 ++ []))) _ _ _ = _
  have eb : ∀ hh, (⟨(b.val * 8 + h.val) / 8, hh⟩ : Fin 4) = b := fun hh => Fin.ext (by show (b.val * 8 + h.val) / 8 = b.val; omega)
  after_reads_simp
  pointwise
  simp only [eb]
  rfl
theorem v146_at (c : Dev nD) (b : Fin 4) (h g : Fin 8) (d : Fin 64) : V m c main_v146 (ix3 ⟨b.val * 8 + h.val, by omega⟩ g d) = m ((c : Thread nD τ).loc main_arg0) (ix4 b 0 ⟨8 * h.val + g.val, by omega⟩ d) := by
  show StableHlo.after (hostOps0 ++ (hostOps0_1 ++ (hostOps0_2 ++ []))) _ _ _ = _
  after_reads_simp
  pointwise
  refine congrArg (m _) (congrArg (fun i => ix4 b 0 i d) (Fin.ext ?_))
  show (b.val * 8 + h.val) % 8 * 8 + g.val = 8 * h.val + g.val
  omega
theorem v33_0 (c : Dev nD) (h : Fin 8) (j : Fin 1024) (d : Fin 64) : V m c main_v33 (ix3 ⟨0 * 8 + h.val, by omega⟩ j d) = m ((c : Thread nD τ).loc main_arg3) (ix4 0 ⟨(rstart (len m c 0)).toNat + j.val, rlt _ j⟩ h d) := by
  show StableHlo.after (hostOps0 ++ (hostOps0_1 ++ (hostOps0_2 ++ []))) _ _ _ = _
  have hl := h.isLt
  after_reads_simp
  pointwise
  refine (dif_pos (by omega)).trans ?_
  after_reads_simp
  refine (dyn4 _ _ _ (len m c 0) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
    refine congrArg (m _) ?_
    refine ix4_ext (Fin.ext ?_) rfl (Fin.ext ?_) rfl
    · rfl
    · show h.val % 8 = h.val; omega
theorem v33_1 (c : Dev nD) (h : Fin 8) (j : Fin 1024) (d : Fin 64) : V m c main_v33 (ix3 ⟨1 * 8 + h.val, by omega⟩ j d) = m ((c : Thread nD τ).loc main_arg3) (ix4 1 ⟨(rstart (len m c 1)).toNat + j.val, rlt _ j⟩ h d) := by
  show StableHlo.after (hostOps0 ++ (hostOps0_1 ++ (hostOps0_2 ++ []))) _ _ _ = _
  have hl := h.isLt
  after_reads_simp
  pointwise
  refine (dif_neg (by omega)).trans ?_
  refine (dif_pos (by omega)).trans ?_
  after_reads_simp
  refine (dyn4 _ _ _ (len m c 1) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
theorem v33_2 (c : Dev nD) (h : Fin 8) (j : Fin 1024) (d : Fin 64) : V m c main_v33 (ix3 ⟨2 * 8 + h.val, by omega⟩ j d) = m ((c : Thread nD τ).loc main_arg3) (ix4 2 ⟨(rstart (len m c 2)).toNat + j.val, rlt _ j⟩ h d) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_pos (by omega)).trans ?_
  after_reads_simp
  refine (dyn4 _ _ _ (len m c 2) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
theorem v33_3 (c : Dev nD) (h : Fin 8) (j : Fin 1024) (d : Fin 64) : V m c main_v33 (ix3 ⟨3 * 8 + h.val, by omega⟩ j d) = m ((c : Thread nD τ).loc main_arg3) (ix4 3 ⟨(rstart (len m c 3)).toNat + j.val, rlt _ j⟩ h d) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_neg (by omega)).trans ?_
  after_reads_simp
  refine (dyn4 _ _ _ (len m c 3) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
theorem v64_0 (c : Dev nD) (h : Fin 8) (j : Fin 1024) (d : Fin 64) : V m c main_v64 (ix3 ⟨0 * 8 + h.val, by omega⟩ j d) = m ((c : Thread nD τ).loc main_arg4) (ix4 0 ⟨(rstart (len m c 0)).toNat + j.val, rlt _ j⟩ h d) := by
  show StableHlo.after (hostOps0 ++ (hostOps0_1 ++ (hostOps0_2 ++ []))) _ _ _ = _
  have hl := h.isLt
  after_reads_simp
  pointwise
  refine (dif_pos (by omega)).trans ?_
  after_reads_simp
  refine (dyn4 _ _ _ (len m c 0) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
    refine congrArg (m _) ?_
    refine ix4_ext (Fin.ext ?_) rfl (Fin.ext ?_) rfl
    · rfl
    · show h.val % 8 = h.val; omega
theorem v64_1 (c : Dev nD) (h : Fin 8) (j : Fin 1024) (d : Fin 64) : V m c main_v64 (ix3 ⟨1 * 8 + h.val, by omega⟩ j d) = m ((c : Thread nD τ).loc main_arg4) (ix4 1 ⟨(rstart (len m c 1)).toNat + j.val, rlt _ j⟩ h d) := by
  show StableHlo.after (hostOps0 ++ (hostOps0_1 ++ (hostOps0_2 ++ []))) _ _ _ = _
  have hl := h.isLt
  after_reads_simp
  pointwise
  refine (dif_neg (by omega)).trans ?_
  refine (dif_pos (by omega)).trans ?_
  after_reads_simp
  refine (dyn4 _ _ _ (len m c 1) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
theorem v64_2 (c : Dev nD) (h : Fin 8) (j : Fin 1024) (d : Fin 64) : V m c main_v64 (ix3 ⟨2 * 8 + h.val, by omega⟩ j d) = m ((c : Thread nD τ).loc main_arg4) (ix4 2 ⟨(rstart (len m c 2)).toNat + j.val, rlt _ j⟩ h d) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_pos (by omega)).trans ?_
  after_reads_simp
  refine (dyn4 _ _ _ (len m c 2) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
theorem v64_3 (c : Dev nD) (h : Fin 8) (j : Fin 1024) (d : Fin 64) : V m c main_v64 (ix3 ⟨3 * 8 + h.val, by omega⟩ j d) = m ((c : Thread nD τ).loc main_arg4) (ix4 3 ⟨(rstart (len m c 3)).toNat + j.val, rlt _ j⟩ h d) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_neg (by omega)).trans ?_
  after_reads_simp
  refine (dyn4 _ _ _ (len m c 3) ?_ ?_ ?_ ?_ _ _ _ _).trans ?_
  · after_reads_simp; rfl
  · after_reads_simp; refine congrArg BitVec.toInt ?_; pointwise; after_reads_simp; simp only [cast_eq]; pointwise; exact rsel _ _ rfl
  · after_reads_simp; rfl
  · after_reads_simp; rfl
  · pointwise
theorem v95_0 (c : Dev nD) (h : Fin 8) (j : Fin 1024) : V m c main_v95 (ix3 ⟨0 * 8 + h.val, by omega⟩ 0 j) = m ((c : Thread nD τ).loc main_arg5) (ix3 0 ⟨(rstart (len m c 0)).toNat + j.val, rlt _ j⟩ h) := by
  show StableHlo.after (hostOps0 ++ (hostOps0_1 ++ (hostOps0_2 ++ []))) _ _ _ = _
  have hl := h.isLt
  after_reads_simp
  pointwise
  refine (dif_pos (by omega)).trans ?_
  after_reads_simp
  refine (dyn3 _ _ _ (len m c 0) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
    refine congrArg (m _) ?_
    refine ix3_ext (Fin.ext ?_) rfl (Fin.ext ?_)
    · rfl
    · show h.val % 8 = h.val; omega
theorem v95_1 (c : Dev nD) (h : Fin 8) (j : Fin 1024) : V m c main_v95 (ix3 ⟨1 * 8 + h.val, by omega⟩ 0 j) = m ((c : Thread nD τ).loc main_arg5) (ix3 1 ⟨(rstart (len m c 1)).toNat + j.val, rlt _ j⟩ h) := by
  show StableHlo.after (hostOps0 ++ (hostOps0_1 ++ (hostOps0_2 ++ []))) _ _ _ = _
  have hl := h.isLt
  after_reads_simp
  pointwise
  refine (dif_neg (by omega)).trans ?_
  refine (dif_pos (by omega)).trans ?_
  after_reads_simp
  refine (dyn3 _ _ _ (len m c 1) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
theorem v95_2 (c : Dev nD) (h : Fin 8) (j : Fin 1024) : V m c main_v95 (ix3 ⟨2 * 8 + h.val, by omega⟩ 0 j) = m ((c : Thread nD τ).loc main_arg5) (ix3 2 ⟨(rstart (len m c 2)).toNat + j.val, rlt _ j⟩ h) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_pos (by omega)).trans ?_
  after_reads_simp
  refine (dyn3 _ _ _ (len m c 2) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
theorem v95_3 (c : Dev nD) (h : Fin 8) (j : Fin 1024) : V m c main_v95 (ix3 ⟨3 * 8 + h.val, by omega⟩ 0 j) = m ((c : Thread nD τ).loc main_arg5) (ix3 3 ⟨(rstart (len m c 3)).toNat + j.val, rlt _ j⟩ h) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_neg (by omega)).trans ?_
  after_reads_simp
  refine (dyn3 _ _ _ (len m c 3) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
theorem v126_0 (c : Dev nD) (h : Fin 8) (j : Fin 1024) : V m c main_v126 (ix3 ⟨0 * 8 + h.val, by omega⟩ 0 j) = m ((c : Thread nD τ).loc main_arg6) (ix3 0 ⟨(rstart (len m c 0)).toNat + j.val, rlt _ j⟩ h) := by
  show StableHlo.after (hostOps0 ++ (hostOps0_1 ++ (hostOps0_2 ++ []))) _ _ _ = _
  have hl := h.isLt
  after_reads_simp
  pointwise
  refine (dif_pos (by omega)).trans ?_
  after_reads_simp
  refine (dyn3 _ _ _ (len m c 0) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
    refine congrArg (m _) ?_
    refine ix3_ext (Fin.ext ?_) rfl (Fin.ext ?_)
    · rfl
    · show h.val % 8 = h.val; omega
theorem v126_1 (c : Dev nD) (h : Fin 8) (j : Fin 1024) : V m c main_v126 (ix3 ⟨1 * 8 + h.val, by omega⟩ 0 j) = m ((c : Thread nD τ).loc main_arg6) (ix3 1 ⟨(rstart (len m c 1)).toNat + j.val, rlt _ j⟩ h) := by
  show StableHlo.after (hostOps0 ++ (hostOps0_1 ++ (hostOps0_2 ++ []))) _ _ _ = _
  have hl := h.isLt
  after_reads_simp
  pointwise
  refine (dif_neg (by omega)).trans ?_
  refine (dif_pos (by omega)).trans ?_
  after_reads_simp
  refine (dyn3 _ _ _ (len m c 1) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
theorem v126_2 (c : Dev nD) (h : Fin 8) (j : Fin 1024) : V m c main_v126 (ix3 ⟨2 * 8 + h.val, by omega⟩ 0 j) = m ((c : Thread nD τ).loc main_arg6) (ix3 2 ⟨(rstart (len m c 2)).toNat + j.val, rlt _ j⟩ h) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_pos (by omega)).trans ?_
  after_reads_simp
  refine (dyn3 _ _ _ (len m c 2) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise
theorem v126_3 (c : Dev nD) (h : Fin 8) (j : Fin 1024) : V m c main_v126 (ix3 ⟨3 * 8 + h.val, by omega⟩ 0 j) = m ((c : Thread nD τ).loc main_arg6) (ix3 3 ⟨(rstart (len m c 3)).toNat + j.val, rlt _ j⟩ h) := by
  show StableHlo.after (hostOps0 ++ (hostOps0_1 ++ (hostOps0_2 ++ []))) _ _ _ = _
  have hl := h.isLt
  after_reads_simp
  pointwise
  refine (dif_neg (by omega)).trans ?_
  refine (dif_neg (by omega)).trans ?_
  refine (dif_neg (by omega)).trans ?_
  after_reads_simp
  refine (dyn3 _ _ _ (len m c 3) ?_ ?_ ?_ _ _ _).trans ?_
  · after_reads_simp; rfl
  · after_reads_simp; refine congrArg BitVec.toInt ?_; pointwise; after_reads_simp; simp only [cast_eq]; pointwise; exact rsel _ _ rfl
  · after_reads_simp; rfl
  · pointwise

end Cert.ReferenceIdeal.Value

end
-- ==== Proof.AttnRow.lean ====
/-
  One element of the attention: the kernel's row is the reference's.
-/
module

public import proofs.«01_k».proof.Proof.MathA
public import proofs.«01_k».proof.Proof.MathQ
public import proofs.«01_k».proof.Proof.KElem
public import proofs.«01_k».proof.Proof.RefWin

@[expose] public section

set_option maxHeartbeats 1000000

noncomputable section

namespace Cert.Attn

open Idealize.ShloMosaic
open Cert.KernelIdeal.Val (expo rawDot rawRow newRow sees)
open Cert.ReferenceIdeal.Value (cap top soft attn rstart rstart_bounds rstart_toNat rlt)

theorem rstart_toInt (len : BitVec 32) : (rstart len).toInt = min 130048 (max 0 (len - 1024#32).toInt) := by
  show (IntOp.minsi 130048#32 (IntOp.maxsi 0#32 (len - 1024#32))).toInt = _
  generalize len - 1024#32 = w
  unfold IntOp.minsi IntOp.maxsi
  have e0 : (0#32 : BitVec 32).toInt = 0 := by decide
  have e1 : (130048#32 : BitVec 32).toInt = 130048 := by decide
  simp only [BitVec.slt_iff_toInt_lt]
  split_ifs <;> simp only [e0, e1] at * <;> omega

theorem visible_rstart (len : BitVec 32) (p : Fin 131072) (h : visible len p) : (rstart len).toNat ≤ p.val ∧ p.val < (rstart len).toNat + 1024 := by
  obtain ⟨h1, h2, e, -⟩ := visible_nat len p h
  have a := rstart_toInt len
  have b := (rstart_toNat len).1
  have := p.isLt
  omega

variable (q kn vn : Fin 64 → EReal) (K V : Fin 131072 → Fin 64 → EReal) (KS VS : Fin 131072 → EReal) (len : BitVec 32) (d : Fin 64)

/-- The attention of the reference, from the caches of one batch row and head. -/
def attnAt : EReal :=
  attn q kn vn (fun j x => K ⟨(rstart len).toNat + j.val, rlt len j⟩ x) (fun j x => V ⟨(rstart len).toNat + j.val, rlt len j⟩ x)
    (fun j => KS ⟨(rstart len).toNat + j.val, rlt len j⟩) (fun j => VS ⟨(rstart len).toNat + j.val, rlt len j⟩)
    (fun j => BitVec.setWidth 32 (sees (rstart len) len j)) d

theorem klt (j : Fin 1152) : (Cert.Win.start len).toNat + j.val < 131072 := by
  have := Cert.Win.start_le len; omega

theorem row_eq (i : Fin 4) (g : Fin 8) (k : Fin 1152 → Fin 256 → EReal) (ks vs v : Fin 1152 → EReal) (new : EReal)
    (hk : ∀ j (x : Fin 64), k j ⟨64 * i.val + x.val, by omega⟩ = K ⟨(Cert.Win.start len).toNat + j.val, klt len j⟩ x)
    (hks : ∀ j, ks j = KS ⟨(Cert.Win.start len).toNat + j.val, klt len j⟩) (hvs : ∀ j, vs j = VS ⟨(Cert.Win.start len).toNat + j.val, klt len j⟩)
    (hv : ∀ j, v j = V ⟨(Cert.Win.start len).toNat + j.val, klt len j⟩ d)
    (hnew : new = expo ((∑ x : Fin 64, q x * Cert.Spec.codeK (Cert.Spec.peak kn) (kn x)) * Cert.Spec.scaleK (Cert.Spec.peak kn)))
    (bk : 0 ≤ Cert.Spec.peak kn ∧ Cert.Spec.peak kn < (((2 : ℝ) ^ (120 : ℤ) : ℝ) : EReal)) (bv : 0 ≤ Cert.Spec.peak vn ∧ Cert.Spec.peak vn < (((2 : ℝ) ^ (120 : ℤ) : ℝ) : EReal)) :
    (∑ j : Fin 1152, rawRow q k ks vs (8 * i.val + g.val) (Cert.Win.start len) len new j * v j)
      + newRow q k ks (8 * i.val + g.val) (Cert.Win.start len) len new (Cert.Spec.scaleK (Cert.Spec.peak vn)) * Cert.Spec.codeK (Cert.Spec.peak vn) (vn d)
    = attnAt q kn vn K V KS VS len d := by
  have hkn : (∑ x : Fin 64, q x * Cert.Spec.codeK (Cert.Spec.peak kn) (kn x)) * Cert.Spec.scaleK (Cert.Spec.peak kn)
      = (∑ x : Fin 64, q x * Cert.Spec.codeR (Cert.Spec.peak kn) (kn x)) * Cert.Spec.scaleR (Cert.Spec.peak kn) := by
    rw [Cert.Spec.scale_eq _ bk.1 bk.2]
    refine congrArg (· * _) (Finset.sum_congr rfl fun x _ => ?_)
    rw [Cert.Spec.code_eq _ _ bk.1 bk.2]
  rw [hkn] at hnew
  rw [Cert.Spec.scale_eq _ bv.1 bv.2, Cert.Spec.code_eq _ _ bv.1 bv.2]
  have hs : (Cert.Win.start len).toNat + 1152 ≤ 131072 := by have := Cert.Win.start_le len; omega
  have ht : (rstart len).toNat + 1024 ≤ 131072 := by have := (rstart_toNat len).2; omega
  have main := attn_eq (visible len) (fun p => (∑ x : Fin 64, q x * K p x) * KS p) VS (fun p => V p d)
    ((∑ x : Fin 64, q x * Cert.Spec.codeR (Cert.Spec.peak kn) (kn x)) * Cert.Spec.scaleR (Cert.Spec.peak kn)) (Cert.Spec.scaleR (Cert.Spec.peak vn)) (Cert.Spec.codeR (Cert.Spec.peak vn) (vn d))
    (Cert.Win.start len).toNat (rstart len).toNat hs ht (visible_start len) (visible_rstart len) _ rfl _ rfl
  have hdot : ∀ j, rawDot q (k j) (8 * i.val + g.val) = ∑ x : Fin 64, q x * K ⟨(Cert.Win.start len).toNat + j.val, klt len j⟩ x := fun j => by
    rw [rawDot_eq q (k j) i g]
    exact Finset.sum_congr rfl fun x _ => by rw [hk]
  have sk : ∀ (j : Fin 1152) (a b : EReal), Scalar.select (sees (Cert.Win.start len) len j) a b = if visible len ⟨(Cert.Win.start len).toNat + j.val, klt len j⟩ then a else b :=
    fun j a b => select_sees _ len j.val (klt len j) a b
  have sr : ∀ (j : Fin 1024) (a b : EReal), Scalar.select (IntOp.cmpi .ne (BitVec.setWidth 32 (sees (rstart len) len j)) 0#32) a b = if visible len ⟨(rstart len).toNat + j.val, rlt len j⟩ then a else b :=
    fun j a b => by rw [select_mask]; exact select_sees _ len j.val (rlt len j) a b
  refine Eq.trans ?_ (main.trans ?_)
  · unfold rawRow newRow
    simp only [sk, hdot, hks, hvs, hv, hnew]
  · unfold attnAt attn
    simp only [sr]

end Cert.Attn

end
-- ==== Proof.KHost.lean ====
/-
  The kernel's host operations: the caches transposed, at an index.
-/
module

public import proofs.«01_k».proof.Proof.RunI
public import Idealize.ShloMosaic.Lib.Pipeline.ValueKit.Point
public import Idealize.ShloMosaic.Lib.StableHlo.RunRead

@[expose] public section

set_option maxRecDepth 16384
set_option maxHeartbeats 4000000

noncomputable section

namespace Cert.KernelIdeal.Val

open Cert.KernelIdeal Cert.KernelIdeal.Gen
open Idealize.ShloMosaic
open Idealize.ShloMosaic.TcCoe Idealize.ShloMosaic.Tactic

variable (m : (ℓ : Loc nD τ sig) → Buf (Elt Ideal) ℓ)

theorem V_v1 (c : Dev nD) (b : Fin 4) (h : Fin 8) (d : Fin 64) (p : Fin 131072) : V m c main_v1 (ix3 b ⟨64 * h.val + d.val, by omega⟩ p) = m ((c : Thread nD τ).loc main_arg3) (ix4 b p h d) := by
  show StableHlo.after hostOps0 _ _ _ = _
  after_reads_simp
  pointwise

theorem V_v3 (c : Dev nD) (b : Fin 4) (h : Fin 8) (d : Fin 64) (p : Fin 131072) : V m c main_v3 (ix3 b ⟨64 * h.val + d.val, by omega⟩ p) = m ((c : Thread nD τ).loc main_arg4) (ix4 b p h d) := by
  show StableHlo.after hostOps0 _ _ _ = _
  after_reads_simp
  pointwise

theorem V_v4 (c : Dev nD) (b : Fin 4) (h : Fin 8) (p : Fin 131072) : V m c main_v4 (ix3 b h p) = m ((c : Thread nD τ).loc main_arg5) (ix3 b p h) := by
  show StableHlo.after hostOps0 _ _ _ = _
  after_reads_simp
  pointwise

theorem V_v5 (c : Dev nD) (b : Fin 4) (h : Fin 8) (p : Fin 131072) : V m c main_v5 (ix3 b h p) = m ((c : Thread nD τ).loc main_arg6) (ix3 b p h) := by
  show StableHlo.after hostOps0 _ _ _ = _
  after_reads_simp
  pointwise

end Cert.KernelIdeal.Val

end
-- ==== Proof.PieceO0.lean ====
/-
  The attention's pieces of batch 0.
-/
module

public import proofs.«01_k».proof.Proof.KElem

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem o0_0 (c : Dev nD) (f0 f1 f2 f3 f4 f5 f6 f7 s0 s1 s2 s3 s4 s5 s6 s7) (g : Fin 8) (d : Fin 64) : kernelRun.sl.v2184 (F := Ideal) c f0 f1 f2 f3 f4 f5 f6 f7 s0 s1 s2 s3 s4 s5 s6 s7 (ix4 0 0 g d)
    = (∑ x : Fin 1152, G8 c f0 f1 f3 f5 f6 f7 (ix3 0 ⟨g.val, by omega⟩ x) * rv c f4 (ix3 0 ⟨d.val, by omega⟩ ⟨st c f7 0 + x, by have := st_le c f7 0; omega⟩))
      + newRow (fun d => rq c f0 (ix4 0 0 ⟨g.val, by omega⟩ d)) (fun j x => rk c f3 (ix3 0 ⟨x.val, by omega⟩ ⟨st c f7 0 + j, by have := st_le c f7 0; omega⟩))
        (fun j => rks c f5 (ix3 0 0 ⟨st c f7 0 + j, by have := st_le c f7 0; omega⟩))
        (g.val) (Cert.Win.start (rl c f7 (ix1 0))) (rl c f7 (ix1 0)) (newW c f0 f1 0 0 g) (Spec.scaleK (vpk c f2 0 0)) * Spec.codeK (vpk c f2 0 0) (rvn c f2 (ix4 0 0 0 d)) := by
  pointwise [kernelRun.sl.v2184, kernelRun.sl.v2181, kernelRun.sl.v2180, kernelRun.sl.v2179, kernelRun.sl.v2178, kernelRun.sl.v2176, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v159, kernelRun.sl.r_5, kernelRun.sl.v171, kernelRun.sl.cst_123, kernelRun.sl.v2177, kernelRun.sl.v2175, kernelRun.sl.r_21, kernelRun.sl.v237, kernelRun.sl.v236, kernelRun.sl.v234, kernelRun.sl.v157, kernelRun.sl.r_20, kernelRun.sl.v746, kernelRun.sl.v4, kernelRun.sl.v3, kernelRun.sl.v2, kernelRun.sl.v1, kernelRun.sl.v745, k0_pay79, k0_pay78, k0_pay77, k0_pay76, k0_pay81, kernelRun.sl.v2174, kernelRun.sl.v2173, kernelRun.sl.cst_969, kernelRun.sl.v2170, kernelRun.sl.v2172]
  simp only [v700_at, v725_at, diag, nw0, word0, word1, word2, word3, word0', word3', ld208, ld756, ld766, ld762, ld2169, ld2171, Nat.zero_add]
  rfl

theorem o0_1 (c : Dev nD) (f0 f1 f2 f3 f4 f5 f6 f7 s0 s1 s2 s3 s4 s5 s6 s7) (g : Fin 8) (d : Fin 64) : kernelRun.sl.v2195 (F := Ideal) c f0 f1 f2 f3 f4 f5 f6 f7 s0 s1 s2 s3 s4 s5 s6 s7 (ix4 0 0 g d)
    = (∑ x : Fin 1152, G8 c f0 f1 f3 f5 f6 f7 (ix3 0 ⟨8 + g.val, by omega⟩ x) * rv c f4 (ix3 0 ⟨64 + d.val, by omega⟩ ⟨st c f7 0 + x, by have := st_le c f7 0; omega⟩))
      + newRow (fun d => rq c f0 (ix4 0 0 ⟨8 + g.val, by omega⟩ d)) (fun j x => rk c f3 (ix3 0 ⟨x.val, by omega⟩ ⟨st c f7 0 + j, by have := st_le c f7 0; omega⟩))
        (fun j => rks c f5 (ix3 0 1 ⟨st c f7 0 + j, by have := st_le c f7 0; omega⟩))
        (8 + g.val) (Cert.Win.start (rl c f7 (ix1 0))) (rl c f7 (ix1 0)) (newW c f0 f1 0 1 g) (Spec.scaleK (vpk c f2 0 1)) * Spec.codeK (vpk c f2 0 1) (rvn c f2 (ix4 0 0 1 d)) := by
  pointwise [kernelRun.sl.v2195, kernelRun.sl.v2192, kernelRun.sl.v2191, kernelRun.sl.v2190, kernelRun.sl.v2188, kernelRun.sl.v2186, kernelRun.sl.r_24, kernelRun.sl.v237, kernelRun.sl.v236, kernelRun.sl.v159, kernelRun.sl.v234, kernelRun.sl.v157, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.r_22, kernelRun.sl.r_18, k0_pay77, kernelRun.sl.r_17, kernelRun.sl.v746, kernelRun.sl.v4, kernelRun.sl.v3, kernelRun.sl.v2, kernelRun.sl.v1, kernelRun.sl.v745, k0_pay76, k0_pay83, k0_pay82, k0_pay86, kernelRun.sl.v2189, kernelRun.sl.v2187, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.r_5, kernelRun.sl.v171, kernelRun.sl.cst_123, kernelRun.sl.v2185, kernelRun.sl.v2173, kernelRun.sl.cst_969, kernelRun.sl.v2170, kernelRun.sl.v2172]
  simp only [v700_at, v725_at, diag, nw0, word0, word1, word2, word3, word0', word3', ld208, ld762, ld756, ld805, ld2169, ld2171, Nat.zero_add]
  rfl

theorem o0_2 (c : Dev nD) (f0 f1 f2 f3 f4 f5 f6 f7 s0 s1 s2 s3 s4 s5 s6 s7) (g : Fin 8) (d : Fin 64) : kernelRun.sl.v2206 (F := Ideal) c f0 f1 f2 f3 f4 f5 f6 f7 s0 s1 s2 s3 s4 s5 s6 s7 (ix4 0 0 g d)
    = (∑ x : Fin 1152, G8 c f0 f1 f3 f5 f6 f7 (ix3 0 ⟨16 + g.val, by omega⟩ x) * rv c f4 (ix3 0 ⟨128 + d.val, by omega⟩ ⟨st c f7 0 + x, by have := st_le c f7 0; omega⟩))
      + newRow (fun d => rq c f0 (ix4 0 0 ⟨16 + g.val, by omega⟩ d)) (fun j x => rk c f3 (ix3 0 ⟨x.val, by omega⟩ ⟨st c f7 0 + j, by have := st_le c f7 0; omega⟩))
        (fun j => rks c f5 (ix3 0 2 ⟨st c f7 0 + j, by have := st_le c f7 0; omega⟩))
        (16 + g.val) (Cert.Win.start (rl c f7 (ix1 0))) (rl c f7 (ix1 0)) (newW c f0 f1 0 2 g) (Spec.scaleK (vpk c f2 0 2)) * Spec.codeK (vpk c f2 0 2) (rvn c f2 (ix4 0 0 2 d)) := by
  pointwise [kernelRun.sl.v2206, kernelRun.sl.v2203, kernelRun.sl.v2202, kernelRun.sl.v2201, kernelRun.sl.v2200, kernelRun.sl.v2198, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v159, kernelRun.sl.r_5, kernelRun.sl.v171, kernelRun.sl.cst_123, kernelRun.sl.v2199, kernelRun.sl.v2197, kernelRun.sl.r_27, k0_pay91, kernelRun.sl.v237, kernelRun.sl.v236, kernelRun.sl.v234, kernelRun.sl.v157, kernelRun.sl.r_25, kernelRun.sl.r_18, k0_pay77, k0_pay88, k0_pay87, kernelRun.sl.r_17, kernelRun.sl.v746, kernelRun.sl.v4, kernelRun.sl.v3, kernelRun.sl.v2, kernelRun.sl.v1, kernelRun.sl.v745, k0_pay76, kernelRun.sl.v2196, kernelRun.sl.v2173, kernelRun.sl.cst_969, kernelRun.sl.v2170, kernelRun.sl.v2172]
  simp only [v700_at, v725_at, diag, nw0, word0, word1, word2, word3, word0', word3', ld208, ld762, ld756, ld844, ld2169, ld2171, Nat.zero_add]
  rfl

theorem o0_3 (c : Dev nD) (f0 f1 f2 f3 f4 f5 f6 f7 s0 s1 s2 s3 s4 s5 s6 s7) (g : Fin 8) (d : Fin 64) : kernelRun.sl.v2217 (F := Ideal) c f0 f1 f2 f3 f4 f5 f6 f7 s0 s1 s2 s3 s4 s5 s6 s7 (ix4 0 0 g d)
    = (∑ x : Fin 1152, G8 c f0 f1 f3 f5 f6 f7 (ix3 0 ⟨24 + g.val, by omega⟩ x) * rv c f4 (ix3 0 ⟨192 + d.val, by omega⟩ ⟨st c f7 0 + x, by have := st_le c f7 0; omega⟩))
      + newRow (fun d => rq c f0 (ix4 0 0 ⟨24 + g.val, by omega⟩ d)) (fun j x => rk c f3 (ix3 0 ⟨x.val, by omega⟩ ⟨st c f7 0 + j, by have := st_le c f7 0; omega⟩))
        (fun j => rks c f5 (ix3 0 3 ⟨st c f7 0 + j, by have := st_le c f7 0; omega⟩))
        (24 + g.val) (Cert.Win.start (rl c f7 (ix1 0))) (rl c f7 (ix1 0)) (newW c f0 f1 0 3 g) (Spec.scaleK (vpk c f2 0 3)) * Spec.codeK (vpk c f2 0 3) (rvn c f2 (ix4 0 0 3 d)) := by
  pointwise [kernelRun.sl.v2217, kernelRun.sl.v2214, kernelRun.sl.v2213, kernelRun.sl.v2212, kernelRun.sl.v2211, kernelRun.sl.v2209, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v159, kernelRun.sl.r_5, kernelRun.sl.v171, kernelRun.sl.cst_123, kernelRun.sl.v2210, kernelRun.sl.v2208, kernelRun.sl.r_30, kernelRun.sl.v237, kernelRun.sl.v236, kernelRun.sl.v234, kernelRun.sl.v157, kernelRun.sl.r_29, k0_pay95, k0_pay96, kernelRun.sl.r_28, kernelRun.sl.r_18, k0_pay77, kernelRun.sl.r_17, kernelRun.sl.v746, kernelRun.sl.v4, kernelRun.sl.v3, kernelRun.sl.v2, kernelRun.sl.v1, kernelRun.sl.v745, k0_pay76, k0_pay93, k0_pay92, kernelRun.sl.v2207, kernelRun.sl.v2173, kernelRun.sl.cst_969, kernelRun.sl.v2170, kernelRun.sl.v2172]
  simp only [v700_at, v725_at, diag, nw0, word0, word1, word2, word3, word0', word3', ld208, ld762, ld756, ld883, ld2169, ld2171, Nat.zero_add]
  rfl

theorem o0_4 (c : Dev nD) (f0 f1 f2 f3 f4 f5 f6 f7 s0 s1 s2 s3 s4 s5 s6 s7) (g : Fin 8) (d : Fin 64) : kernelRun.sl.v2233 (F := Ideal) c f0 f1 f2 f3 f4 f5 f6 f7 s0 s1 s2 s3 s4 s5 s6 s7 (ix4 0 0 g d)
    = (∑ x : Fin 1152, G8 c f0 f1 f3 f5 f6 f7 (ix3 0 ⟨32 + g.val, by omega⟩ x) * rv c f4 (ix3 0 ⟨256 + d.val, by omega⟩ ⟨st c f7 0 + x, by have := st_le c f7 0; omega⟩))
      + newRow (fun d => rq c f0 (ix4 0 0 ⟨32 + g.val, by omega⟩ d)) (fun j x => rk c f3 (ix3 0 ⟨256 + x.val, by omega⟩ ⟨st c f7 0 + j, by have := st_le c f7 0; omega⟩))
        (fun j => rks c f5 (ix3 0 4 ⟨st c f7 0 + j, by have := st_le c f7 0; omega⟩))
        (g.val) (Cert.Win.start (rl c f7 (ix1 0))) (rl c f7 (ix1 0)) (newW c f0 f1 0 4 g) (Spec.scaleK (vpk c f2 0 4)) * Spec.codeK (vpk c f2 0 4) (rvn c f2 (ix4 0 0 4 d)) := by
  pointwise [kernelRun.sl.v2233, kernelRun.sl.v2230, kernelRun.sl.v2229, kernelRun.sl.v2228, kernelRun.sl.v2227, kernelRun.sl.v2225, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v159, kernelRun.sl.r_5, kernelRun.sl.v171, kernelRun.sl.cst_123, kernelRun.sl.v2226, kernelRun.sl.v2224, kernelRun.sl.r_34, kernelRun.sl.v237, kernelRun.sl.v236, kernelRun.sl.v234, kernelRun.sl.v157, k0_pay102, kernelRun.sl.r_32, kernelRun.sl.r_17, kernelRun.sl.v746, kernelRun.sl.v4, kernelRun.sl.v3, kernelRun.sl.v2, kernelRun.sl.v1, kernelRun.sl.v745, k0_pay76, k0_pay99, k0_pay98, k0_pay97, kernelRun.sl.v2223, kernelRun.sl.v2222, kernelRun.sl.cst_969, kernelRun.sl.v2219, kernelRun.sl.v2221]
  simp only [v700_at, v725_at, diag, nw0, word0, word1, word2, word3, word0', word3', ld208, ld921, ld927, ld931, ld2218, ld2220, Nat.zero_add]
  rfl

theorem o0_5 (c : Dev nD) (f0 f1 f2 f3 f4 f5 f6 f7 s0 s1 s2 s3 s4 s5 s6 s7) (g : Fin 8) (d : Fin 64) : kernelRun.sl.v2244 (F := Ideal) c f0 f1 f2 f3 f4 f5 f6 f7 s0 s1 s2 s3 s4 s5 s6 s7 (ix4 0 0 g d)
    = (∑ x : Fin 1152, G8 c f0 f1 f3 f5 f6 f7 (ix3 0 ⟨32 + (8 + g.val), by omega⟩ x) * rv c f4 (ix3 0 ⟨256 + (64 + d.val), by omega⟩ ⟨st c f7 0 + x, by have := st_le c f7 0; omega⟩))
      + newRow (fun d => rq c f0 (ix4 0 0 ⟨32 + (8 + g.val), by omega⟩ d)) (fun j x => rk c f3 (ix3 0 ⟨256 + x.val, by omega⟩ ⟨st c f7 0 + j, by have := st_le c f7 0; omega⟩))
        (fun j => rks c f5 (ix3 0 5 ⟨st c f7 0 + j, by have := st_le c f7 0; omega⟩))
        (8 + g.val) (Cert.Win.start (rl c f7 (ix1 0))) (rl c f7 (ix1 0)) (newW c f0 f1 0 5 g) (Spec.scaleK (vpk c f2 0 5)) * Spec.codeK (vpk c f2 0 5) (rvn c f2 (ix4 0 0 5 d)) := by
  pointwise [kernelRun.sl.v2244, kernelRun.sl.v2241, kernelRun.sl.v2240, kernelRun.sl.v2239, kernelRun.sl.v2238, kernelRun.sl.v2236, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v159, kernelRun.sl.r_5, kernelRun.sl.v171, kernelRun.sl.cst_123, kernelRun.sl.v2237, kernelRun.sl.v2235, kernelRun.sl.r_37, kernelRun.sl.r_35, kernelRun.sl.r_31, k0_pay97, kernelRun.sl.r_17, kernelRun.sl.v746, kernelRun.sl.v4, kernelRun.sl.v3, kernelRun.sl.v2, kernelRun.sl.v1, kernelRun.sl.v745, k0_pay76, k0_pay104, k0_pay103, kernelRun.sl.v237, kernelRun.sl.v236, kernelRun.sl.v234, kernelRun.sl.v157, k0_pay107, kernelRun.sl.v2234, kernelRun.sl.v2222, kernelRun.sl.cst_969, kernelRun.sl.v2219, kernelRun.sl.v2221]
  simp only [v700_at, v725_at, diag, nw0, word0, word1, word2, word3, word0', word3', ld208, ld921, ld927, ld970, ld2218, ld2220, Nat.zero_add]
  rfl

theorem o0_6 (c : Dev nD) (f0 f1 f2 f3 f4 f5 f6 f7 s0 s1 s2 s3 s4 s5 s6 s7) (g : Fin 8) (d : Fin 64) : kernelRun.sl.v2255 (F := Ideal) c f0 f1 f2 f3 f4 f5 f6 f7 s0 s1 s2 s3 s4 s5 s6 s7 (ix4 0 0 g d)
    = (∑ x : Fin 1152, G8 c f0 f1 f3 f5 f6 f7 (ix3 0 ⟨32 + (16 + g.val), by omega⟩ x) * rv c f4 (ix3 0 ⟨256 + (128 + d.val), by omega⟩ ⟨st c f7 0 + x, by have := st_le c f7 0; omega⟩))
      + newRow (fun d => rq c f0 (ix4 0 0 ⟨32 + (16 + g.val), by omega⟩ d)) (fun j x => rk c f3 (ix3 0 ⟨256 + x.val, by omega⟩ ⟨st c f7 0 + j, by have := st_le c f7 0; omega⟩))
        (fun j => rks c f5 (ix3 0 6 ⟨st c f7 0 + j, by have := st_le c f7 0; omega⟩))
        (16 + g.val) (Cert.Win.start (rl c f7 (ix1 0))) (rl c f7 (ix1 0)) (newW c f0 f1 0 6 g) (Spec.scaleK (vpk c f2 0 6)) * Spec.codeK (vpk c f2 0 6) (rvn c f2 (ix4 0 0 6 d)) := by
  pointwise [kernelRun.sl.v2255, kernelRun.sl.v2252, kernelRun.sl.v2251, kernelRun.sl.v2250, kernelRun.sl.v2249, kernelRun.sl.v2247, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v159, kernelRun.sl.r_5, kernelRun.sl.v171, kernelRun.sl.cst_123, kernelRun.sl.v2248, kernelRun.sl.v2246, kernelRun.sl.r_40, kernelRun.sl.v237, kernelRun.sl.v236, kernelRun.sl.v234, kernelRun.sl.v157, k0_pay112, kernelRun.sl.r_38, kernelRun.sl.r_31, k0_pay97, kernelRun.sl.r_17, kernelRun.sl.v746, kernelRun.sl.v4, kernelRun.sl.v3, kernelRun.sl.v2, kernelRun.sl.v1, kernelRun.sl.v745, k0_pay76, k0_pay109, k0_pay108, kernelRun.sl.r_39, k0_pay111, kernelRun.sl.v2245, kernelRun.sl.v2222, kernelRun.sl.cst_969, kernelRun.sl.v2219, kernelRun.sl.v2221]
  simp only [v700_at, v725_at, diag, nw0, word0, word1, word2, word3, word0', word3', ld208, ld921, ld927, ld1009, ld2218, ld2220, Nat.zero_add]
  rfl

theorem o0_7 (c : Dev nD) (f0 f1 f2 f3 f4 f5 f6 f7 s0 s1 s2 s3 s4 s5 s6 s7) (g : Fin 8) (d : Fin 64) : kernelRun.sl.v2266 (F := Ideal) c f0 f1 f2 f3 f4 f5 f6 f7 s0 s1 s2 s3 s4 s5 s6 s7 (ix4 0 0 g d)
    = (∑ x : Fin 1152, G8 c f0 f1 f3 f5 f6 f7 (ix3 0 ⟨32 + (24 + g.val), by omega⟩ x) * rv c f4 (ix3 0 ⟨256 + (192 + d.val), by omega⟩ ⟨st c f7 0 + x, by have := st_le c f7 0; omega⟩))
      + newRow (fun d => rq c f0 (ix4 0 0 ⟨32 + (24 + g.val), by omega⟩ d)) (fun j x => rk c f3 (ix3 0 ⟨256 + x.val, by omega⟩ ⟨st c f7 0 + j, by have := st_le c f7 0; omega⟩))
        (fun j => rks c f5 (ix3 0 7 ⟨st c f7 0 + j, by have := st_le c f7 0; omega⟩))
        (24 + g.val) (Cert.Win.start (rl c f7 (ix1 0))) (rl c f7 (ix1 0)) (newW c f0 f1 0 7 g) (Spec.scaleK (vpk c f2 0 7)) * Spec.codeK (vpk c f2 0 7) (rvn c f2 (ix4 0 0 7 d)) := by
  pointwise [kernelRun.sl.v2266, kernelRun.sl.v2263, kernelRun.sl.v2262, kernelRun.sl.v2256, kernelRun.sl.v2222, kernelRun.sl.cst_969, kernelRun.sl.v2219, kernelRun.sl.v2221, kernelRun.sl.v2261, kernelRun.sl.v2259, kernelRun.sl.v2257, kernelRun.sl.r_41, kernelRun.sl.r_31, k0_pay97, kernelRun.sl.r_17, kernelRun.sl.v746, kernelRun.sl.v4, kernelRun.sl.v3, kernelRun.sl.v2, kernelRun.sl.v1, kernelRun.sl.v745, k0_pay76, k0_pay116, k0_pay114, k0_pay113, kernelRun.sl.v237, kernelRun.sl.v236, kernelRun.sl.v159, kernelRun.sl.v234, kernelRun.sl.v157, kernelRun.sl.v232, kernelRun.sl.v225, kernelRun.sl.r_6, k0_pay13, k0_pay12, kernelRun.sl.v155, kernelRun.sl.v230, kernelRun.sl.v229, kernelRun.sl.v152, kernelRun.sl.v227, kernelRun.sl.v150, kernelRun.sl.v2260, kernelRun.sl.v2258, kernelRun.sl.v250, kernelRun.sl.v249, kernelRun.sl.v248, kernelRun.sl.v246, kernelRun.sl.v169, kernelRun.sl.cst_122, kernelRun.sl.v244, kernelRun.sl.v243, kernelRun.sl.v242, kernelRun.sl.v241, kernelRun.sl.v239, kernelRun.sl.v162, kernelRun.sl.r_5, kernelRun.sl.v171, kernelRun.sl.cst_123]
  simp only [v700_at, v725_at, diag, nw0, word0, word1, word2, word3, word0', word3', ld2218, ld2220, ld921, ld927, ld208, ld1048, Nat.zero_add]
  rfl

end Cert.KernelIdeal.Val

end
-- ==== Proof.PieceO1.lean ====
/-
  The attention's pieces of batch 1.
-/
module

public import proofs.«01_k».proof.Proof.KElem

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem o1_0 (c : Dev nD) (f0 f1 f2 f3 f4 f5 f6 f7 s0 s1 s2 s3 s4 s5 s6 s7) (g : Fin 8) (d : Fin 64) : kernelRun.sl.v2294 (F := Ideal) c f0 f1 f2 f3 f4 f5 f6 f7 s0 s1 s2 s3 s4 s5 s6 s7 (ix4 0 0 g d)
    = (∑ x : Fin 1152, G8 c f0 f1 f3 f5 f6 f7 (ix3 1 ⟨g.val, by omega⟩ x) * rv c f4 (ix3 1 ⟨d.val, by omega⟩ ⟨st c f7 1 + x, by have := st_le c f7 1; omega⟩))
      + newRow (fun d => rq c f0 (ix4 1 0 ⟨g.val, by omega⟩ d)) (fun j x => rk c f3 (ix3 1 ⟨x.val, by omega⟩ ⟨st c f7 1 + j, by have := st_le c f7 1; omega⟩))
        (fun j => rks c f5 (ix3 1 0 ⟨st c f7 1 + j, by have := st_le c f7 1; omega⟩))
        (g.val) (Cert.Win.start (rl c f7 (ix1 1))) (rl c f7 (ix1 1)) (newW c f0 f1 1 0 g) (Spec.scaleK (vpk c f2 1 0)) * Spec.codeK (vpk c f2 1 0) (rvn c f2 (ix4 1 0 0 d)) := by
  pointwise [kernelRun.sl.v2294, kernelRun.sl.v2291, kernelRun.sl.v2290, kernelRun.sl.v2284, kernelRun.sl.v2283, kernelRun.sl.cst_969, kernelRun.sl.v2282, kernelRun.sl.v2280, kernelRun.sl.v2289, kernelRun.sl.v2288, kernelRun.sl.v2286, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2287, kernelRun.sl.v2285, kernelRun.sl.r_45, k0_pay124, kernelRun.sl.r_43, kernelRun.sl.v1117, kernelRun.sl.v1116, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, k0_pay121, k0_pay120, k0_pay119, kernelRun.sl.v371, kernelRun.sl.v370, kernelRun.sl.v368, kernelRun.sl.v157, kernelRun.sl.r_44, k0_pay123]
  simp only [v700_at, v725_at, diag, nw1, word0, word1, word2, word3, word0', word3', ld2281, ld2279, ld342, ld1115, ld1125, ld1121, Nat.zero_add]
  rfl

theorem o1_1 (c : Dev nD) (f0 f1 f2 f3 f4 f5 f6 f7 s0 s1 s2 s3 s4 s5 s6 s7) (g : Fin 8) (d : Fin 64) : kernelRun.sl.v2305 (F := Ideal) c f0 f1 f2 f3 f4 f5 f6 f7 s0 s1 s2 s3 s4 s5 s6 s7 (ix4 0 0 g d)
    = (∑ x : Fin 1152, G8 c f0 f1 f3 f5 f6 f7 (ix3 1 ⟨8 + g.val, by omega⟩ x) * rv c f4 (ix3 1 ⟨64 + d.val, by omega⟩ ⟨st c f7 1 + x, by have := st_le c f7 1; omega⟩))
      + newRow (fun d => rq c f0 (ix4 1 0 ⟨8 + g.val, by omega⟩ d)) (fun j x => rk c f3 (ix3 1 ⟨x.val, by omega⟩ ⟨st c f7 1 + j, by have := st_le c f7 1; omega⟩))
        (fun j => rks c f5 (ix3 1 1 ⟨st c f7 1 + j, by have := st_le c f7 1; omega⟩))
        (8 + g.val) (Cert.Win.start (rl c f7 (ix1 1))) (rl c f7 (ix1 1)) (newW c f0 f1 1 1 g) (Spec.scaleK (vpk c f2 1 1)) * Spec.codeK (vpk c f2 1 1) (rvn c f2 (ix4 1 0 1 d)) := by
  pointwise [kernelRun.sl.v2305, kernelRun.sl.v2302, kernelRun.sl.v2301, kernelRun.sl.v2300, kernelRun.sl.v2299, kernelRun.sl.v2297, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2298, kernelRun.sl.v2296, kernelRun.sl.r_46, k0_pay128, k0_pay126, k0_pay125, kernelRun.sl.r_42, k0_pay119, kernelRun.sl.v1117, kernelRun.sl.v1116, kernelRun.sl.v371, kernelRun.sl.v370, kernelRun.sl.v368, kernelRun.sl.v157, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, kernelRun.sl.v2295, kernelRun.sl.v2283, kernelRun.sl.cst_969, kernelRun.sl.v2282, kernelRun.sl.v2280]
  simp only [v700_at, v725_at, diag, nw1, word0, word1, word2, word3, word0', word3', ld342, ld1115, ld1121, ld1164, ld2281, ld2279, Nat.zero_add]
  rfl

theorem o1_2 (c : Dev nD) (f0 f1 f2 f3 f4 f5 f6 f7 s0 s1 s2 s3 s4 s5 s6 s7) (g : Fin 8) (d : Fin 64) : kernelRun.sl.v2316 (F := Ideal) c f0 f1 f2 f3 f4 f5 f6 f7 s0 s1 s2 s3 s4 s5 s6 s7 (ix4 0 0 g d)
    = (∑ x : Fin 1152, G8 c f0 f1 f3 f5 f6 f7 (ix3 1 ⟨16 + g.val, by omega⟩ x) * rv c f4 (ix3 1 ⟨128 + d.val, by omega⟩ ⟨st c f7 1 + x, by have := st_le c f7 1; omega⟩))
      + newRow (fun d => rq c f0 (ix4 1 0 ⟨16 + g.val, by omega⟩ d)) (fun j x => rk c f3 (ix3 1 ⟨x.val, by omega⟩ ⟨st c f7 1 + j, by have := st_le c f7 1; omega⟩))
        (fun j => rks c f5 (ix3 1 2 ⟨st c f7 1 + j, by have := st_le c f7 1; omega⟩))
        (16 + g.val) (Cert.Win.start (rl c f7 (ix1 1))) (rl c f7 (ix1 1)) (newW c f0 f1 1 2 g) (Spec.scaleK (vpk c f2 1 2)) * Spec.codeK (vpk c f2 1 2) (rvn c f2 (ix4 1 0 2 d)) := by
  pointwise [kernelRun.sl.v2316, kernelRun.sl.v2313, kernelRun.sl.v2312, kernelRun.sl.v2311, kernelRun.sl.v2310, kernelRun.sl.v2308, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2309, kernelRun.sl.v2307, kernelRun.sl.r_48, kernelRun.sl.r_47, kernelRun.sl.r_42, k0_pay119, kernelRun.sl.v1117, kernelRun.sl.v1116, k0_pay129, kernelRun.sl.v371, kernelRun.sl.v370, kernelRun.sl.v368, kernelRun.sl.v157, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, k0_pay133, k0_pay131, k0_pay130, kernelRun.sl.v2306, kernelRun.sl.v2283, kernelRun.sl.cst_969, kernelRun.sl.v2282, kernelRun.sl.v2280]
  simp only [v700_at, v725_at, diag, nw1, word0, word1, word2, word3, word0', word3', ld342, ld1203, ld1115, ld1121, ld2281, ld2279, Nat.zero_add]
  rfl

theorem o1_3 (c : Dev nD) (f0 f1 f2 f3 f4 f5 f6 f7 s0 s1 s2 s3 s4 s5 s6 s7) (g : Fin 8) (d : Fin 64) : kernelRun.sl.v2327 (F := Ideal) c f0 f1 f2 f3 f4 f5 f6 f7 s0 s1 s2 s3 s4 s5 s6 s7 (ix4 0 0 g d)
    = (∑ x : Fin 1152, G8 c f0 f1 f3 f5 f6 f7 (ix3 1 ⟨24 + g.val, by omega⟩ x) * rv c f4 (ix3 1 ⟨192 + d.val, by omega⟩ ⟨st c f7 1 + x, by have := st_le c f7 1; omega⟩))
      + newRow (fun d => rq c f0 (ix4 1 0 ⟨24 + g.val, by omega⟩ d)) (fun j x => rk c f3 (ix3 1 ⟨x.val, by omega⟩ ⟨st c f7 1 + j, by have := st_le c f7 1; omega⟩))
        (fun j => rks c f5 (ix3 1 3 ⟨st c f7 1 + j, by have := st_le c f7 1; omega⟩))
        (24 + g.val) (Cert.Win.start (rl c f7 (ix1 1))) (rl c f7 (ix1 1)) (newW c f0 f1 1 3 g) (Spec.scaleK (vpk c f2 1 3)) * Spec.codeK (vpk c f2 1 3) (rvn c f2 (ix4 1 0 3 d)) := by
  pointwise [kernelRun.sl.v2327, kernelRun.sl.v2324, kernelRun.sl.v2323, kernelRun.sl.v2317, kernelRun.sl.v2283, kernelRun.sl.cst_969, kernelRun.sl.v2282, kernelRun.sl.v2280, kernelRun.sl.v2322, kernelRun.sl.v2321, kernelRun.sl.v2319, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2320, kernelRun.sl.v2318, kernelRun.sl.r_51, kernelRun.sl.v371, kernelRun.sl.v370, kernelRun.sl.v368, kernelRun.sl.v157, kernelRun.sl.r_49, kernelRun.sl.r_42, k0_pay119, kernelRun.sl.v1117, kernelRun.sl.v1116, k0_pay134, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, k0_pay139, k0_pay137, k0_pay136, kernelRun.sl.r_50, k0_pay135]
  simp only [v700_at, v725_at, diag, nw1, word0, word1, word2, word3, word0', word3', ld2281, ld2279, ld342, ld1115, ld1121, ld1242, Nat.zero_add]
  rfl

theorem o1_4 (c : Dev nD) (f0 f1 f2 f3 f4 f5 f6 f7 s0 s1 s2 s3 s4 s5 s6 s7) (g : Fin 8) (d : Fin 64) : kernelRun.sl.v2343 (F := Ideal) c f0 f1 f2 f3 f4 f5 f6 f7 s0 s1 s2 s3 s4 s5 s6 s7 (ix4 0 0 g d)
    = (∑ x : Fin 1152, G8 c f0 f1 f3 f5 f6 f7 (ix3 1 ⟨32 + g.val, by omega⟩ x) * rv c f4 (ix3 1 ⟨256 + d.val, by omega⟩ ⟨st c f7 1 + x, by have := st_le c f7 1; omega⟩))
      + newRow (fun d => rq c f0 (ix4 1 0 ⟨32 + g.val, by omega⟩ d)) (fun j x => rk c f3 (ix3 1 ⟨256 + x.val, by omega⟩ ⟨st c f7 1 + j, by have := st_le c f7 1; omega⟩))
        (fun j => rks c f5 (ix3 1 4 ⟨st c f7 1 + j, by have := st_le c f7 1; omega⟩))
        (g.val) (Cert.Win.start (rl c f7 (ix1 1))) (rl c f7 (ix1 1)) (newW c f0 f1 1 4 g) (Spec.scaleK (vpk c f2 1 4)) * Spec.codeK (vpk c f2 1 4) (rvn c f2 (ix4 1 0 4 d)) := by
  pointwise [kernelRun.sl.v2343, kernelRun.sl.v2340, kernelRun.sl.v2339, kernelRun.sl.v2333, kernelRun.sl.v2332, kernelRun.sl.cst_969, kernelRun.sl.v2331, kernelRun.sl.v2329, kernelRun.sl.v2338, kernelRun.sl.v2337, kernelRun.sl.v2335, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2336, kernelRun.sl.v2334, kernelRun.sl.r_54, kernelRun.sl.r_52, k0_pay140, kernelRun.sl.v371, kernelRun.sl.v370, kernelRun.sl.v368, kernelRun.sl.v157, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, k0_pay145, k0_pay143, k0_pay142, k0_pay141]
  simp only [v700_at, v725_at, diag, nw1, word0, word1, word2, word3, word0', word3', ld2330, ld2328, ld342, ld1280, ld1286, ld1290, Nat.zero_add]
  rfl

theorem o1_5 (c : Dev nD) (f0 f1 f2 f3 f4 f5 f6 f7 s0 s1 s2 s3 s4 s5 s6 s7) (g : Fin 8) (d : Fin 64) : kernelRun.sl.v2354 (F := Ideal) c f0 f1 f2 f3 f4 f5 f6 f7 s0 s1 s2 s3 s4 s5 s6 s7 (ix4 0 0 g d)
    = (∑ x : Fin 1152, G8 c f0 f1 f3 f5 f6 f7 (ix3 1 ⟨32 + (8 + g.val), by omega⟩ x) * rv c f4 (ix3 1 ⟨256 + (64 + d.val), by omega⟩ ⟨st c f7 1 + x, by have := st_le c f7 1; omega⟩))
      + newRow (fun d => rq c f0 (ix4 1 0 ⟨32 + (8 + g.val), by omega⟩ d)) (fun j x => rk c f3 (ix3 1 ⟨256 + x.val, by omega⟩ ⟨st c f7 1 + j, by have := st_le c f7 1; omega⟩))
        (fun j => rks c f5 (ix3 1 5 ⟨st c f7 1 + j, by have := st_le c f7 1; omega⟩))
        (8 + g.val) (Cert.Win.start (rl c f7 (ix1 1))) (rl c f7 (ix1 1)) (newW c f0 f1 1 5 g) (Spec.scaleK (vpk c f2 1 5)) * Spec.codeK (vpk c f2 1 5) (rvn c f2 (ix4 1 0 5 d)) := by
  pointwise [kernelRun.sl.v2354, kernelRun.sl.v2351, kernelRun.sl.v2350, kernelRun.sl.v2344, kernelRun.sl.v2332, kernelRun.sl.cst_969, kernelRun.sl.v2331, kernelRun.sl.v2329, kernelRun.sl.v2349, kernelRun.sl.v2348, kernelRun.sl.v2346, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2347, kernelRun.sl.v2345, kernelRun.sl.r_56, k0_pay150, k0_pay148, k0_pay147, kernelRun.sl.v371, kernelRun.sl.v370, kernelRun.sl.v368, kernelRun.sl.v157, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, kernelRun.sl.r_55, kernelRun.sl.r_52, k0_pay140, k0_pay146, k0_pay141]
  simp only [v700_at, v725_at, diag, nw1, word0, word1, word2, word3, word0', word3', ld2330, ld2328, ld342, ld1329, ld1286, ld1280, Nat.zero_add]
  rfl

theorem o1_6 (c : Dev nD) (f0 f1 f2 f3 f4 f5 f6 f7 s0 s1 s2 s3 s4 s5 s6 s7) (g : Fin 8) (d : Fin 64) : kernelRun.sl.v2365 (F := Ideal) c f0 f1 f2 f3 f4 f5 f6 f7 s0 s1 s2 s3 s4 s5 s6 s7 (ix4 0 0 g d)
    = (∑ x : Fin 1152, G8 c f0 f1 f3 f5 f6 f7 (ix3 1 ⟨32 + (16 + g.val), by omega⟩ x) * rv c f4 (ix3 1 ⟨256 + (128 + d.val), by omega⟩ ⟨st c f7 1 + x, by have := st_le c f7 1; omega⟩))
      + newRow (fun d => rq c f0 (ix4 1 0 ⟨32 + (16 + g.val), by omega⟩ d)) (fun j x => rk c f3 (ix3 1 ⟨256 + x.val, by omega⟩ ⟨st c f7 1 + j, by have := st_le c f7 1; omega⟩))
        (fun j => rks c f5 (ix3 1 6 ⟨st c f7 1 + j, by have := st_le c f7 1; omega⟩))
        (16 + g.val) (Cert.Win.start (rl c f7 (ix1 1))) (rl c f7 (ix1 1)) (newW c f0 f1 1 6 g) (Spec.scaleK (vpk c f2 1 6)) * Spec.codeK (vpk c f2 1 6) (rvn c f2 (ix4 1 0 6 d)) := by
  pointwise [kernelRun.sl.v2365, kernelRun.sl.v2362, kernelRun.sl.v2361, kernelRun.sl.v2355, kernelRun.sl.v2332, kernelRun.sl.cst_969, kernelRun.sl.v2331, kernelRun.sl.v2329, kernelRun.sl.v2360, kernelRun.sl.v2359, kernelRun.sl.v2357, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2358, kernelRun.sl.v2356, kernelRun.sl.r_59, k0_pay156, k0_pay154, k0_pay153, kernelRun.sl.r_57, kernelRun.sl.r_53, k0_pay141, kernelRun.sl.r_52, k0_pay140, k0_pay151, kernelRun.sl.r_58, k0_pay152, kernelRun.sl.v371, kernelRun.sl.v370, kernelRun.sl.v368, kernelRun.sl.v157, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108]
  simp only [v700_at, v725_at, diag, nw1, word0, word1, word2, word3, word0', word3', ld2330, ld2328, ld342, ld1280, ld1286, ld1368, Nat.zero_add]
  rfl

theorem o1_7 (c : Dev nD) (f0 f1 f2 f3 f4 f5 f6 f7 s0 s1 s2 s3 s4 s5 s6 s7) (g : Fin 8) (d : Fin 64) : kernelRun.sl.v2376 (F := Ideal) c f0 f1 f2 f3 f4 f5 f6 f7 s0 s1 s2 s3 s4 s5 s6 s7 (ix4 0 0 g d)
    = (∑ x : Fin 1152, G8 c f0 f1 f3 f5 f6 f7 (ix3 1 ⟨32 + (24 + g.val), by omega⟩ x) * rv c f4 (ix3 1 ⟨256 + (192 + d.val), by omega⟩ ⟨st c f7 1 + x, by have := st_le c f7 1; omega⟩))
      + newRow (fun d => rq c f0 (ix4 1 0 ⟨32 + (24 + g.val), by omega⟩ d)) (fun j x => rk c f3 (ix3 1 ⟨256 + x.val, by omega⟩ ⟨st c f7 1 + j, by have := st_le c f7 1; omega⟩))
        (fun j => rks c f5 (ix3 1 7 ⟨st c f7 1 + j, by have := st_le c f7 1; omega⟩))
        (24 + g.val) (Cert.Win.start (rl c f7 (ix1 1))) (rl c f7 (ix1 1)) (newW c f0 f1 1 7 g) (Spec.scaleK (vpk c f2 1 7)) * Spec.codeK (vpk c f2 1 7) (rvn c f2 (ix4 1 0 7 d)) := by
  pointwise [kernelRun.sl.v2376, kernelRun.sl.v2373, kernelRun.sl.v2372, kernelRun.sl.v2371, kernelRun.sl.v2370, kernelRun.sl.v2368, kernelRun.sl.v384, kernelRun.sl.v383, kernelRun.sl.v382, kernelRun.sl.v380, kernelRun.sl.v378, kernelRun.sl.r_8, k0_pay28, kernelRun.sl.v377, kernelRun.sl.v376, kernelRun.sl.v375, kernelRun.sl.v373, kernelRun.sl.v162, kernelRun.sl.v366, kernelRun.sl.v364, kernelRun.sl.v363, kernelRun.sl.v359, kernelRun.sl.v358, kernelRun.sl.v357, kernelRun.sl.v140, kernelRun.sl.v146, kernelRun.sl.v355, kernelRun.sl.v143, kernelRun.sl.v141, kernelRun.sl.v354, kernelRun.sl.v349, kernelRun.sl.v347, kernelRun.sl.v346, kernelRun.sl.v345, kernelRun.sl.v138, kernelRun.sl.cst_115, kernelRun.sl.v152, kernelRun.sl.v361, kernelRun.sl.v150, kernelRun.sl.v155, kernelRun.sl.v159, kernelRun.sl.v169, kernelRun.sl.cst_122, kernelRun.sl.v171, kernelRun.sl.cst_123, kernelRun.sl.v2369, kernelRun.sl.v2367, kernelRun.sl.v1444, kernelRun.sl.v1443, kernelRun.sl.v1442, kernelRun.sl.v1441, kernelRun.sl.v371, kernelRun.sl.v370, kernelRun.sl.v368, kernelRun.sl.v157, kernelRun.sl.v1440, kernelRun.sl.v1427, kernelRun.sl.v1425, kernelRun.sl.v1422, kernelRun.sl.v1421, kernelRun.sl.v1420, kernelRun.sl.v1419, kernelRun.sl.cst_128, kernelRun.sl.v1418, kernelRun.sl.v1417, kernelRun.sl.v1114, kernelRun.sl.v1113, kernelRun.sl.v1106, kernelRun.sl.v745, kernelRun.sl.v1105, kernelRun.sl.v10, kernelRun.sl.v9, kernelRun.sl.v8, kernelRun.sl.v7, kernelRun.sl.v1112, kernelRun.sl.v1111, kernelRun.sl.v1109, kernelRun.sl.v1108, kernelRun.sl.v1416, kernelRun.sl.v1415, kernelRun.sl.r_60, kernelRun.sl.r_53, k0_pay141, kernelRun.sl.r_52, k0_pay140, k0_pay157, kernelRun.sl.v1414, kernelRun.sl.cst_645, kernelRun.sl.v1424, kernelRun.sl.v1423, kernelRun.sl.v1426, kernelRun.sl.cst_648, kernelRun.sl.v2366, kernelRun.sl.v2332, kernelRun.sl.cst_969, kernelRun.sl.v2331, kernelRun.sl.v2329]
  simp only [v700_at, v725_at, diag, nw1, word0, word1, word2, word3, word0', word3', ld342, ld1407, ld1280, ld1286, ld2330, ld2328, Nat.zero_add]
  rfl

end Cert.KernelIdeal.Val

end
-- ==== Proof.PieceO2.lean ====
/-
  The attention's pieces of batch 2.
-/
module

public import proofs.«01_k».proof.Proof.KElem

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem o2_0 (c : Dev nD) (f0 f1 f2 f3 f4 f5 f6 f7 s0 s1 s2 s3 s4 s5 s6 s7) (g : Fin 8) (d : Fin 64) : kernelRun.sl.v2404 (F := Ideal) c f0 f1 f2 f3 f4 f5 f6 f7 s0 s1 s2 s3 s4 s5 s6 s7 (ix4 0 0 g d)
    = (∑ x : Fin 1152, G8 c f0 f1 f3 f5 f6 f7 (ix3 2 ⟨g.val, by omega⟩ x) * rv c f4 (ix3 2 ⟨d.val, by omega⟩ ⟨st c f7 2 + x, by have := st_le c f7 2; omega⟩))
      + newRow (fun d => rq c f0 (ix4 2 0 ⟨g.val, by omega⟩ d)) (fun j x => rk c f3 (ix3 2 ⟨x.val, by omega⟩ ⟨st c f7 2 + j, by have := st_le c f7 2; omega⟩))
        (fun j => rks c f5 (ix3 2 0 ⟨st c f7 2 + j, by have := st_le c f7 2; omega⟩))
        (g.val) (Cert.Win.start (rl c f7 (ix1 2))) (rl c f7 (ix1 2)) (newW c f0 f1 2 0 g) (Spec.scaleK (vpk c f2 2 0)) * Spec.codeK (vpk c f2 2 0) (rvn c f2 (ix4 2 0 0 d)) := by
  pointwise [kernelRun.sl.v2404, kernelRun.sl.v2401, kernelRun.sl.v2400, kernelRun.sl.v2394, kernelRun.sl.v2393, kernelRun.sl.cst_969, kernelRun.sl.v2392, kernelRun.sl.v2390, kernelRun.sl.v2399, kernelRun.sl.v2398, kernelRun.sl.v2396, kernelRun.sl.v518, kernelRun.sl.v517, kernelRun.sl.v516, kernelRun.sl.v514, kernelRun.sl.v512, kernelRun.sl.v511, kernelRun.sl.v510, kernelRun.sl.v509, kernelRun.sl.r_12, k0_pay47, k0_pay45, k0_pay44, kernelRun.sl.v159, kernelRun.sl.r_10, kernelRun.sl.v169, kernelRun.sl.cst_122, kernelRun.sl.v171, kernelRun.sl.cst_123, kernelRun.sl.v2397, kernelRun.sl.v2395, kernelRun.sl.r_61, kernelRun.sl.r_11, k0_pay46, kernelRun.sl.v1487, kernelRun.sl.v1483, kernelRun.sl.v1482, kernelRun.sl.v1481, kernelRun.sl.cst_684, kernelRun.sl.v1479, kernelRun.sl.v1476, kernelRun.sl.v1475, kernelRun.sl.v1478, kernelRun.sl.v1477, kernelRun.sl.v1486, kernelRun.sl.v1485, k0_pay168, k0_pay166, k0_pay165, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467]
  simp only [v700_at, v725_at, diag, nw2, word0, word1, word2, word3, word0', word3', ld2391, ld2389, ld476, ld1480, ld1474, ld1484, Nat.zero_add]
  rfl

theorem o2_1 (c : Dev nD) (f0 f1 f2 f3 f4 f5 f6 f7 s0 s1 s2 s3 s4 s5 s6 s7) (g : Fin 8) (d : Fin 64) : kernelRun.sl.v2415 (F := Ideal) c f0 f1 f2 f3 f4 f5 f6 f7 s0 s1 s2 s3 s4 s5 s6 s7 (ix4 0 0 g d)
    = (∑ x : Fin 1152, G8 c f0 f1 f3 f5 f6 f7 (ix3 2 ⟨8 + g.val, by omega⟩ x) * rv c f4 (ix3 2 ⟨64 + d.val, by omega⟩ ⟨st c f7 2 + x, by have := st_le c f7 2; omega⟩))
      + newRow (fun d => rq c f0 (ix4 2 0 ⟨8 + g.val, by omega⟩ d)) (fun j x => rk c f3 (ix3 2 ⟨x.val, by omega⟩ ⟨st c f7 2 + j, by have := st_le c f7 2; omega⟩))
        (fun j => rks c f5 (ix3 2 1 ⟨st c f7 2 + j, by have := st_le c f7 2; omega⟩))
        (8 + g.val) (Cert.Win.start (rl c f7 (ix1 2))) (rl c f7 (ix1 2)) (newW c f0 f1 2 1 g) (Spec.scaleK (vpk c f2 2 1)) * Spec.codeK (vpk c f2 2 1) (rvn c f2 (ix4 2 0 1 d)) := by
  pointwise [kernelRun.sl.v2415, kernelRun.sl.v2412, kernelRun.sl.v2411, kernelRun.sl.v2410, kernelRun.sl.v2409, kernelRun.sl.v2407, kernelRun.sl.v518, kernelRun.sl.v517, kernelRun.sl.v516, kernelRun.sl.v514, kernelRun.sl.v512, kernelRun.sl.v511, kernelRun.sl.v510, kernelRun.sl.v509, kernelRun.sl.r_12, k0_pay47, k0_pay45, k0_pay44, kernelRun.sl.v159, kernelRun.sl.r_10, kernelRun.sl.v169, kernelRun.sl.cst_122, kernelRun.sl.v171, kernelRun.sl.cst_123, kernelRun.sl.v2408, kernelRun.sl.v2406, kernelRun.sl.r_63, kernelRun.sl.r_11, k0_pay46, kernelRun.sl.r_62, k0_pay169, kernelRun.sl.v1482, kernelRun.sl.v1481, kernelRun.sl.cst_684, kernelRun.sl.v1479, kernelRun.sl.v1476, kernelRun.sl.v1475, kernelRun.sl.v1478, kernelRun.sl.v1477, k0_pay174, k0_pay172, k0_pay171, k0_pay170, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, kernelRun.sl.v2405, kernelRun.sl.v2393, kernelRun.sl.cst_969, kernelRun.sl.v2392, kernelRun.sl.v2390]
  simp only [v700_at, v725_at, diag, nw2, word0, word1, word2, word3, word0', word3', ld476, ld1480, ld1474, ld1523, ld2391, ld2389, Nat.zero_add]
  rfl

theorem o2_2 (c : Dev nD) (f0 f1 f2 f3 f4 f5 f6 f7 s0 s1 s2 s3 s4 s5 s6 s7) (g : Fin 8) (d : Fin 64) : kernelRun.sl.v2426 (F := Ideal) c f0 f1 f2 f3 f4 f5 f6 f7 s0 s1 s2 s3 s4 s5 s6 s7 (ix4 0 0 g d)
    = (∑ x : Fin 1152, G8 c f0 f1 f3 f5 f6 f7 (ix3 2 ⟨16 + g.val, by omega⟩ x) * rv c f4 (ix3 2 ⟨128 + d.val, by omega⟩ ⟨st c f7 2 + x, by have := st_le c f7 2; omega⟩))
      + newRow (fun d => rq c f0 (ix4 2 0 ⟨16 + g.val, by omega⟩ d)) (fun j x => rk c f3 (ix3 2 ⟨x.val, by omega⟩ ⟨st c f7 2 + j, by have := st_le c f7 2; omega⟩))
        (fun j => rks c f5 (ix3 2 2 ⟨st c f7 2 + j, by have := st_le c f7 2; omega⟩))
        (16 + g.val) (Cert.Win.start (rl c f7 (ix1 2))) (rl c f7 (ix1 2)) (newW c f0 f1 2 2 g) (Spec.scaleK (vpk c f2 2 2)) * Spec.codeK (vpk c f2 2 2) (rvn c f2 (ix4 2 0 2 d)) := by
  pointwise [kernelRun.sl.v2426, kernelRun.sl.v2423, kernelRun.sl.v2422, kernelRun.sl.v2421, kernelRun.sl.v2419, kernelRun.sl.v2417, kernelRun.sl.r_66, kernelRun.sl.r_11, k0_pay46, k0_pay45, k0_pay44, k0_pay177, k0_pay181, k0_pay179, k0_pay178, kernelRun.sl.r_65, k0_pay176, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, kernelRun.sl.r_64, k0_pay175, kernelRun.sl.v1482, kernelRun.sl.v1481, kernelRun.sl.cst_684, kernelRun.sl.v1479, kernelRun.sl.v1476, kernelRun.sl.v1475, kernelRun.sl.v1478, kernelRun.sl.v1477, kernelRun.sl.v2420, kernelRun.sl.v2418, kernelRun.sl.v518, kernelRun.sl.v517, kernelRun.sl.v516, kernelRun.sl.v514, kernelRun.sl.v512, kernelRun.sl.v511, kernelRun.sl.v510, kernelRun.sl.v509, kernelRun.sl.r_12, k0_pay47, kernelRun.sl.v159, kernelRun.sl.r_10, kernelRun.sl.v169, kernelRun.sl.cst_122, kernelRun.sl.v171, kernelRun.sl.cst_123, kernelRun.sl.v2416, kernelRun.sl.v2393, kernelRun.sl.cst_969, kernelRun.sl.v2392, kernelRun.sl.v2390]
  simp only [v700_at, v725_at, diag, nw2, word0, word1, word2, word3, word0', word3', ld476, ld1562, ld1480, ld1474, ld2391, ld2389, Nat.zero_add]
  rfl

theorem o2_3 (c : Dev nD) (f0 f1 f2 f3 f4 f5 f6 f7 s0 s1 s2 s3 s4 s5 s6 s7) (g : Fin 8) (d : Fin 64) : kernelRun.sl.v2437 (F := Ideal) c f0 f1 f2 f3 f4 f5 f6 f7 s0 s1 s2 s3 s4 s5 s6 s7 (ix4 0 0 g d)
    = (∑ x : Fin 1152, G8 c f0 f1 f3 f5 f6 f7 (ix3 2 ⟨24 + g.val, by omega⟩ x) * rv c f4 (ix3 2 ⟨192 + d.val, by omega⟩ ⟨st c f7 2 + x, by have := st_le c f7 2; omega⟩))
      + newRow (fun d => rq c f0 (ix4 2 0 ⟨24 + g.val, by omega⟩ d)) (fun j x => rk c f3 (ix3 2 ⟨x.val, by omega⟩ ⟨st c f7 2 + j, by have := st_le c f7 2; omega⟩))
        (fun j => rks c f5 (ix3 2 3 ⟨st c f7 2 + j, by have := st_le c f7 2; omega⟩))
        (24 + g.val) (Cert.Win.start (rl c f7 (ix1 2))) (rl c f7 (ix1 2)) (newW c f0 f1 2 3 g) (Spec.scaleK (vpk c f2 2 3)) * Spec.codeK (vpk c f2 2 3) (rvn c f2 (ix4 2 0 3 d)) := by
  pointwise [kernelRun.sl.v2437, kernelRun.sl.v2434, kernelRun.sl.v2433, kernelRun.sl.v2432, kernelRun.sl.v2431, kernelRun.sl.v2429, kernelRun.sl.v518, kernelRun.sl.v517, kernelRun.sl.v516, kernelRun.sl.v514, kernelRun.sl.v512, kernelRun.sl.v511, kernelRun.sl.v510, kernelRun.sl.v509, kernelRun.sl.r_12, k0_pay47, k0_pay45, k0_pay44, kernelRun.sl.v159, kernelRun.sl.r_10, kernelRun.sl.v169, kernelRun.sl.cst_122, kernelRun.sl.v171, kernelRun.sl.cst_123, kernelRun.sl.v2430, kernelRun.sl.v2428, kernelRun.sl.r_70, kernelRun.sl.r_68, k0_pay183, k0_pay182, kernelRun.sl.v1482, kernelRun.sl.v1481, kernelRun.sl.cst_684, kernelRun.sl.v1479, kernelRun.sl.v1476, kernelRun.sl.v1475, kernelRun.sl.v1478, kernelRun.sl.v1477, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay187, k0_pay185, kernelRun.sl.r_11, k0_pay46, kernelRun.sl.r_69, k0_pay184, kernelRun.sl.v2427, kernelRun.sl.v2393, kernelRun.sl.cst_969, kernelRun.sl.v2392, kernelRun.sl.v2390]
  simp only [v700_at, v725_at, diag, nw2, word0, word1, word2, word3, word0', word3', ld476, ld1480, ld1474, ld1601, ld2391, ld2389, Nat.zero_add]
  rfl

theorem o2_4 (c : Dev nD) (f0 f1 f2 f3 f4 f5 f6 f7 s0 s1 s2 s3 s4 s5 s6 s7) (g : Fin 8) (d : Fin 64) : kernelRun.sl.v2453 (F := Ideal) c f0 f1 f2 f3 f4 f5 f6 f7 s0 s1 s2 s3 s4 s5 s6 s7 (ix4 0 0 g d)
    = (∑ x : Fin 1152, G8 c f0 f1 f3 f5 f6 f7 (ix3 2 ⟨32 + g.val, by omega⟩ x) * rv c f4 (ix3 2 ⟨256 + d.val, by omega⟩ ⟨st c f7 2 + x, by have := st_le c f7 2; omega⟩))
      + newRow (fun d => rq c f0 (ix4 2 0 ⟨32 + g.val, by omega⟩ d)) (fun j x => rk c f3 (ix3 2 ⟨256 + x.val, by omega⟩ ⟨st c f7 2 + j, by have := st_le c f7 2; omega⟩))
        (fun j => rks c f5 (ix3 2 4 ⟨st c f7 2 + j, by have := st_le c f7 2; omega⟩))
        (g.val) (Cert.Win.start (rl c f7 (ix1 2))) (rl c f7 (ix1 2)) (newW c f0 f1 2 4 g) (Spec.scaleK (vpk c f2 2 4)) * Spec.codeK (vpk c f2 2 4) (rvn c f2 (ix4 2 0 4 d)) := by
  pointwise [kernelRun.sl.v2453, kernelRun.sl.v2450, kernelRun.sl.v2449, kernelRun.sl.v2443, kernelRun.sl.v2442, kernelRun.sl.v2439, kernelRun.sl.v2441, kernelRun.sl.cst_969, kernelRun.sl.v2448, kernelRun.sl.v2447, kernelRun.sl.v2445, kernelRun.sl.v518, kernelRun.sl.v517, kernelRun.sl.v516, kernelRun.sl.v514, kernelRun.sl.v512, kernelRun.sl.v511, kernelRun.sl.v510, kernelRun.sl.v509, kernelRun.sl.r_12, k0_pay47, k0_pay45, k0_pay44, kernelRun.sl.v159, kernelRun.sl.r_10, kernelRun.sl.v169, kernelRun.sl.cst_122, kernelRun.sl.v171, kernelRun.sl.cst_123, kernelRun.sl.v2446, kernelRun.sl.v2444, kernelRun.sl.r_73, k0_pay190, kernelRun.sl.r_11, k0_pay46, kernelRun.sl.r_72, k0_pay189, k0_pay188, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, k0_pay194, k0_pay192, k0_pay191]
  simp only [v700_at, v725_at, diag, nw2, word0, word1, word2, word3, word0', word3', ld2438, ld2440, ld476, ld1639, ld1649, ld1645, Nat.zero_add]
  rfl

theorem o2_5 (c : Dev nD) (f0 f1 f2 f3 f4 f5 f6 f7 s0 s1 s2 s3 s4 s5 s6 s7) (g : Fin 8) (d : Fin 64) : kernelRun.sl.v2464 (F := Ideal) c f0 f1 f2 f3 f4 f5 f6 f7 s0 s1 s2 s3 s4 s5 s6 s7 (ix4 0 0 g d)
    = (∑ x : Fin 1152, G8 c f0 f1 f3 f5 f6 f7 (ix3 2 ⟨32 + (8 + g.val), by omega⟩ x) * rv c f4 (ix3 2 ⟨256 + (64 + d.val), by omega⟩ ⟨st c f7 2 + x, by have := st_le c f7 2; omega⟩))
      + newRow (fun d => rq c f0 (ix4 2 0 ⟨32 + (8 + g.val), by omega⟩ d)) (fun j x => rk c f3 (ix3 2 ⟨256 + x.val, by omega⟩ ⟨st c f7 2 + j, by have := st_le c f7 2; omega⟩))
        (fun j => rks c f5 (ix3 2 5 ⟨st c f7 2 + j, by have := st_le c f7 2; omega⟩))
        (8 + g.val) (Cert.Win.start (rl c f7 (ix1 2))) (rl c f7 (ix1 2)) (newW c f0 f1 2 5 g) (Spec.scaleK (vpk c f2 2 5)) * Spec.codeK (vpk c f2 2 5) (rvn c f2 (ix4 2 0 5 d)) := by
  pointwise [kernelRun.sl.v2464, kernelRun.sl.v2461, kernelRun.sl.v2460, kernelRun.sl.v2459, kernelRun.sl.v2457, kernelRun.sl.v2455, kernelRun.sl.r_76, kernelRun.sl.r_11, k0_pay46, k0_pay45, k0_pay44, kernelRun.sl.r_75, k0_pay196, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, kernelRun.sl.r_74, k0_pay195, kernelRun.sl.r_71, k0_pay188, k0_pay201, k0_pay199, k0_pay198, k0_pay197, kernelRun.sl.v2458, kernelRun.sl.v2456, kernelRun.sl.v518, kernelRun.sl.v517, kernelRun.sl.v516, kernelRun.sl.v514, kernelRun.sl.v512, kernelRun.sl.v511, kernelRun.sl.v510, kernelRun.sl.v509, kernelRun.sl.r_12, k0_pay47, kernelRun.sl.v159, kernelRun.sl.r_10, kernelRun.sl.v169, kernelRun.sl.cst_122, kernelRun.sl.v171, kernelRun.sl.cst_123, kernelRun.sl.v2454, kernelRun.sl.v2442, kernelRun.sl.v2439, kernelRun.sl.v2441, kernelRun.sl.cst_969]
  simp only [v700_at, v725_at, diag, nw2, word0, word1, word2, word3, word0', word3', ld476, ld1688, ld1639, ld1645, ld2438, ld2440, Nat.zero_add]
  rfl

theorem o2_6 (c : Dev nD) (f0 f1 f2 f3 f4 f5 f6 f7 s0 s1 s2 s3 s4 s5 s6 s7) (g : Fin 8) (d : Fin 64) : kernelRun.sl.v2475 (F := Ideal) c f0 f1 f2 f3 f4 f5 f6 f7 s0 s1 s2 s3 s4 s5 s6 s7 (ix4 0 0 g d)
    = (∑ x : Fin 1152, G8 c f0 f1 f3 f5 f6 f7 (ix3 2 ⟨32 + (16 + g.val), by omega⟩ x) * rv c f4 (ix3 2 ⟨256 + (128 + d.val), by omega⟩ ⟨st c f7 2 + x, by have := st_le c f7 2; omega⟩))
      + newRow (fun d => rq c f0 (ix4 2 0 ⟨32 + (16 + g.val), by omega⟩ d)) (fun j x => rk c f3 (ix3 2 ⟨256 + x.val, by omega⟩ ⟨st c f7 2 + j, by have := st_le c f7 2; omega⟩))
        (fun j => rks c f5 (ix3 2 6 ⟨st c f7 2 + j, by have := st_le c f7 2; omega⟩))
        (16 + g.val) (Cert.Win.start (rl c f7 (ix1 2))) (rl c f7 (ix1 2)) (newW c f0 f1 2 6 g) (Spec.scaleK (vpk c f2 2 6)) * Spec.codeK (vpk c f2 2 6) (rvn c f2 (ix4 2 0 6 d)) := by
  pointwise [kernelRun.sl.v2475, kernelRun.sl.v2472, kernelRun.sl.v2471, kernelRun.sl.v2465, kernelRun.sl.v2442, kernelRun.sl.v2439, kernelRun.sl.v2441, kernelRun.sl.cst_969, kernelRun.sl.v2470, kernelRun.sl.v2469, kernelRun.sl.v2467, kernelRun.sl.v518, kernelRun.sl.v517, kernelRun.sl.v516, kernelRun.sl.v514, kernelRun.sl.v512, kernelRun.sl.v511, kernelRun.sl.v510, kernelRun.sl.v509, kernelRun.sl.r_12, k0_pay47, k0_pay45, k0_pay44, kernelRun.sl.v159, kernelRun.sl.r_10, kernelRun.sl.v169, kernelRun.sl.cst_122, kernelRun.sl.v171, kernelRun.sl.cst_123, kernelRun.sl.v2468, kernelRun.sl.v2466, kernelRun.sl.r_80, kernelRun.sl.r_78, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467, kernelRun.sl.r_71, k0_pay188, k0_pay203, k0_pay202, kernelRun.sl.r_11, k0_pay46, kernelRun.sl.r_79, k0_pay204, k0_pay207, k0_pay205]
  simp only [v700_at, v725_at, diag, nw2, word0, word1, word2, word3, word0', word3', ld2438, ld2440, ld476, ld1727, ld1639, ld1645, Nat.zero_add]
  rfl

theorem o2_7 (c : Dev nD) (f0 f1 f2 f3 f4 f5 f6 f7 s0 s1 s2 s3 s4 s5 s6 s7) (g : Fin 8) (d : Fin 64) : kernelRun.sl.v2486 (F := Ideal) c f0 f1 f2 f3 f4 f5 f6 f7 s0 s1 s2 s3 s4 s5 s6 s7 (ix4 0 0 g d)
    = (∑ x : Fin 1152, G8 c f0 f1 f3 f5 f6 f7 (ix3 2 ⟨32 + (24 + g.val), by omega⟩ x) * rv c f4 (ix3 2 ⟨256 + (192 + d.val), by omega⟩ ⟨st c f7 2 + x, by have := st_le c f7 2; omega⟩))
      + newRow (fun d => rq c f0 (ix4 2 0 ⟨32 + (24 + g.val), by omega⟩ d)) (fun j x => rk c f3 (ix3 2 ⟨256 + x.val, by omega⟩ ⟨st c f7 2 + j, by have := st_le c f7 2; omega⟩))
        (fun j => rks c f5 (ix3 2 7 ⟨st c f7 2 + j, by have := st_le c f7 2; omega⟩))
        (24 + g.val) (Cert.Win.start (rl c f7 (ix1 2))) (rl c f7 (ix1 2)) (newW c f0 f1 2 7 g) (Spec.scaleK (vpk c f2 2 7)) * Spec.codeK (vpk c f2 2 7) (rvn c f2 (ix4 2 0 7 d)) := by
  pointwise [kernelRun.sl.v2486, kernelRun.sl.v2483, kernelRun.sl.v2482, kernelRun.sl.v2476, kernelRun.sl.v2442, kernelRun.sl.v2439, kernelRun.sl.v2441, kernelRun.sl.cst_969, kernelRun.sl.v2481, kernelRun.sl.v2480, kernelRun.sl.v2478, kernelRun.sl.v518, kernelRun.sl.v517, kernelRun.sl.v516, kernelRun.sl.v514, kernelRun.sl.v512, kernelRun.sl.v511, kernelRun.sl.v510, kernelRun.sl.v509, kernelRun.sl.r_12, k0_pay47, k0_pay45, k0_pay44, kernelRun.sl.v159, kernelRun.sl.r_10, kernelRun.sl.v169, kernelRun.sl.cst_122, kernelRun.sl.v171, kernelRun.sl.cst_123, kernelRun.sl.v2479, kernelRun.sl.v2477, kernelRun.sl.v1803, kernelRun.sl.v1802, kernelRun.sl.v1801, kernelRun.sl.v1800, kernelRun.sl.r_11, k0_pay46, kernelRun.sl.v1799, kernelRun.sl.v1798, kernelRun.sl.v1797, kernelRun.sl.r_81, k0_pay209, k0_pay208, kernelRun.sl.r_71, k0_pay188, kernelRun.sl.v1473, kernelRun.sl.v1472, kernelRun.sl.v1471, kernelRun.sl.v1470, kernelRun.sl.v1465, kernelRun.sl.v745, kernelRun.sl.v1464, kernelRun.sl.v16, kernelRun.sl.v15, kernelRun.sl.v14, kernelRun.sl.v13, kernelRun.sl.v1468, kernelRun.sl.v1467]
  simp only [v700_at, v725_at, diag, nw2, word0, word1, word2, word3, word0', word3', ld2438, ld2440, ld476, ld1639, ld1645, ld1766, Nat.zero_add]
  rfl

end Cert.KernelIdeal.Val

end
-- ==== Proof.PieceO3.lean ====
/-
  The attention's pieces of batch 3.
-/
module

public import proofs.«01_k».proof.Proof.KElem

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

theorem o3_0 (c : Dev nD) (f0 f1 f2 f3 f4 f5 f6 f7 s0 s1 s2 s3 s4 s5 s6 s7) (g : Fin 8) (d : Fin 64) : kernelRun.sl.v2514 (F := Ideal) c f0 f1 f2 f3 f4 f5 f6 f7 s0 s1 s2 s3 s4 s5 s6 s7 (ix4 0 0 g d)
    = (∑ x : Fin 1152, G8 c f0 f1 f3 f5 f6 f7 (ix3 3 ⟨g.val, by omega⟩ x) * rv c f4 (ix3 3 ⟨d.val, by omega⟩ ⟨st c f7 3 + x, by have := st_le c f7 3; omega⟩))
      + newRow (fun d => rq c f0 (ix4 3 0 ⟨g.val, by omega⟩ d)) (fun j x => rk c f3 (ix3 3 ⟨x.val, by omega⟩ ⟨st c f7 3 + j, by have := st_le c f7 3; omega⟩))
        (fun j => rks c f5 (ix3 3 0 ⟨st c f7 3 + j, by have := st_le c f7 3; omega⟩))
        (g.val) (Cert.Win.start (rl c f7 (ix1 3))) (rl c f7 (ix1 3)) (newW c f0 f1 3 0 g) (Spec.scaleK (vpk c f2 3 0)) * Spec.codeK (vpk c f2 3 0) (rvn c f2 (ix4 3 0 0 d)) := by
  pointwise [kernelRun.sl.v2514, kernelRun.sl.v2511, kernelRun.sl.v2510, kernelRun.sl.v2504, kernelRun.sl.v2503, kernelRun.sl.cst_969, kernelRun.sl.v2500, kernelRun.sl.v2502, kernelRun.sl.v2509, kernelRun.sl.v2508, kernelRun.sl.v2506, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.v634, kernelRun.sl.v632, kernelRun.sl.v631, kernelRun.sl.v152, kernelRun.sl.r_15, k0_pay63, k0_pay62, kernelRun.sl.v629, k0_pay64, kernelRun.sl.v155, kernelRun.sl.v159, kernelRun.sl.r_14, kernelRun.sl.v169, kernelRun.sl.cst_122, kernelRun.sl.v2507, kernelRun.sl.v2505, kernelRun.sl.r_88, kernelRun.sl.v639, kernelRun.sl.v638, kernelRun.sl.v636, kernelRun.sl.v157, k0_pay219, k0_pay217, kernelRun.sl.r_87, k0_pay216, k0_pay215, k0_pay213, k0_pay214, kernelRun.sl.v22, kernelRun.sl.v21, kernelRun.sl.v20, kernelRun.sl.v19]
  simp only [v700_at, v725_at, diag, nw3, word0, word1, word2, word3, word0', word3', ld2499, ld2501, ld610, ld1839, ld1833, ld1843, Nat.zero_add]
  rfl

theorem o3_1 (c : Dev nD) (f0 f1 f2 f3 f4 f5 f6 f7 s0 s1 s2 s3 s4 s5 s6 s7) (g : Fin 8) (d : Fin 64) : kernelRun.sl.v2525 (F := Ideal) c f0 f1 f2 f3 f4 f5 f6 f7 s0 s1 s2 s3 s4 s5 s6 s7 (ix4 0 0 g d)
    = (∑ x : Fin 1152, G8 c f0 f1 f3 f5 f6 f7 (ix3 3 ⟨8 + g.val, by omega⟩ x) * rv c f4 (ix3 3 ⟨64 + d.val, by omega⟩ ⟨st c f7 3 + x, by have := st_le c f7 3; omega⟩))
      + newRow (fun d => rq c f0 (ix4 3 0 ⟨8 + g.val, by omega⟩ d)) (fun j x => rk c f3 (ix3 3 ⟨x.val, by omega⟩ ⟨st c f7 3 + j, by have := st_le c f7 3; omega⟩))
        (fun j => rks c f5 (ix3 3 1 ⟨st c f7 3 + j, by have := st_le c f7 3; omega⟩))
        (8 + g.val) (Cert.Win.start (rl c f7 (ix1 3))) (rl c f7 (ix1 3)) (newW c f0 f1 3 1 g) (Spec.scaleK (vpk c f2 3 1)) * Spec.codeK (vpk c f2 3 1) (rvn c f2 (ix4 3 0 1 d)) := by
  pointwise [kernelRun.sl.v2525, kernelRun.sl.v2522, kernelRun.sl.v2521, kernelRun.sl.v2515, kernelRun.sl.v2503, kernelRun.sl.cst_969, kernelRun.sl.v2500, kernelRun.sl.v2502, kernelRun.sl.v2520, kernelRun.sl.v2519, kernelRun.sl.v2517, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.v634, kernelRun.sl.v632, kernelRun.sl.v631, kernelRun.sl.v152, kernelRun.sl.r_15, k0_pay63, k0_pay62, kernelRun.sl.v629, k0_pay64, kernelRun.sl.v155, kernelRun.sl.v159, kernelRun.sl.r_14, kernelRun.sl.v169, kernelRun.sl.cst_122, kernelRun.sl.v2518, kernelRun.sl.v2516, kernelRun.sl.r_91, k0_pay224, kernelRun.sl.v639, kernelRun.sl.v638, kernelRun.sl.v636, kernelRun.sl.v157, kernelRun.sl.r_89, k0_pay221, k0_pay220, kernelRun.sl.r_85, k0_pay214, kernelRun.sl.r_84, k0_pay213, kernelRun.sl.v22, kernelRun.sl.v21, kernelRun.sl.v20, kernelRun.sl.v19]
  simp only [v700_at, v725_at, diag, nw3, word0, word1, word2, word3, word0', word3', ld2499, ld2501, ld610, ld1839, ld1833, ld1882, Nat.zero_add]
  rfl

theorem o3_2 (c : Dev nD) (f0 f1 f2 f3 f4 f5 f6 f7 s0 s1 s2 s3 s4 s5 s6 s7) (g : Fin 8) (d : Fin 64) : kernelRun.sl.v2536 (F := Ideal) c f0 f1 f2 f3 f4 f5 f6 f7 s0 s1 s2 s3 s4 s5 s6 s7 (ix4 0 0 g d)
    = (∑ x : Fin 1152, G8 c f0 f1 f3 f5 f6 f7 (ix3 3 ⟨16 + g.val, by omega⟩ x) * rv c f4 (ix3 3 ⟨128 + d.val, by omega⟩ ⟨st c f7 3 + x, by have := st_le c f7 3; omega⟩))
      + newRow (fun d => rq c f0 (ix4 3 0 ⟨16 + g.val, by omega⟩ d)) (fun j x => rk c f3 (ix3 3 ⟨x.val, by omega⟩ ⟨st c f7 3 + j, by have := st_le c f7 3; omega⟩))
        (fun j => rks c f5 (ix3 3 2 ⟨st c f7 3 + j, by have := st_le c f7 3; omega⟩))
        (16 + g.val) (Cert.Win.start (rl c f7 (ix1 3))) (rl c f7 (ix1 3)) (newW c f0 f1 3 2 g) (Spec.scaleK (vpk c f2 3 2)) * Spec.codeK (vpk c f2 3 2) (rvn c f2 (ix4 3 0 2 d)) := by
  pointwise [kernelRun.sl.v2536, kernelRun.sl.v2533, kernelRun.sl.v2532, kernelRun.sl.v2526, kernelRun.sl.v2503, kernelRun.sl.cst_969, kernelRun.sl.v2500, kernelRun.sl.v2502, kernelRun.sl.v2531, kernelRun.sl.v2530, kernelRun.sl.v2528, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.v634, kernelRun.sl.v632, kernelRun.sl.v631, kernelRun.sl.v152, kernelRun.sl.r_15, k0_pay63, k0_pay62, kernelRun.sl.v629, k0_pay64, kernelRun.sl.v155, kernelRun.sl.v159, kernelRun.sl.r_14, kernelRun.sl.v169, kernelRun.sl.cst_122, kernelRun.sl.v2529, kernelRun.sl.v2527, kernelRun.sl.r_94, kernelRun.sl.r_92, kernelRun.sl.r_85, k0_pay214, kernelRun.sl.r_84, k0_pay213, kernelRun.sl.v22, kernelRun.sl.v21, kernelRun.sl.v20, kernelRun.sl.v19, k0_pay226, k0_pay225, kernelRun.sl.v639, kernelRun.sl.v638, kernelRun.sl.v636, kernelRun.sl.v157, k0_pay229]
  simp only [v700_at, v725_at, diag, nw3, word0, word1, word2, word3, word0', word3', ld2499, ld2501, ld610, ld1839, ld1833, ld1921, Nat.zero_add]
  rfl

theorem o3_3 (c : Dev nD) (f0 f1 f2 f3 f4 f5 f6 f7 s0 s1 s2 s3 s4 s5 s6 s7) (g : Fin 8) (d : Fin 64) : kernelRun.sl.v2547 (F := Ideal) c f0 f1 f2 f3 f4 f5 f6 f7 s0 s1 s2 s3 s4 s5 s6 s7 (ix4 0 0 g d)
    = (∑ x : Fin 1152, G8 c f0 f1 f3 f5 f6 f7 (ix3 3 ⟨24 + g.val, by omega⟩ x) * rv c f4 (ix3 3 ⟨192 + d.val, by omega⟩ ⟨st c f7 3 + x, by have := st_le c f7 3; omega⟩))
      + newRow (fun d => rq c f0 (ix4 3 0 ⟨24 + g.val, by omega⟩ d)) (fun j x => rk c f3 (ix3 3 ⟨x.val, by omega⟩ ⟨st c f7 3 + j, by have := st_le c f7 3; omega⟩))
        (fun j => rks c f5 (ix3 3 3 ⟨st c f7 3 + j, by have := st_le c f7 3; omega⟩))
        (24 + g.val) (Cert.Win.start (rl c f7 (ix1 3))) (rl c f7 (ix1 3)) (newW c f0 f1 3 3 g) (Spec.scaleK (vpk c f2 3 3)) * Spec.codeK (vpk c f2 3 3) (rvn c f2 (ix4 3 0 3 d)) := by
  pointwise [kernelRun.sl.v2547, kernelRun.sl.v2544, kernelRun.sl.v2543, kernelRun.sl.v2537, kernelRun.sl.v2503, kernelRun.sl.cst_969, kernelRun.sl.v2500, kernelRun.sl.v2502, kernelRun.sl.v2542, kernelRun.sl.v2540, kernelRun.sl.v2538, kernelRun.sl.r_97, kernelRun.sl.r_95, kernelRun.sl.r_85, k0_pay214, k0_pay231, k0_pay230, kernelRun.sl.r_84, k0_pay213, kernelRun.sl.v22, kernelRun.sl.v21, kernelRun.sl.v20, kernelRun.sl.v19, kernelRun.sl.v639, kernelRun.sl.v638, kernelRun.sl.v636, kernelRun.sl.v157, kernelRun.sl.v634, kernelRun.sl.v632, kernelRun.sl.v631, kernelRun.sl.v152, kernelRun.sl.r_15, k0_pay63, k0_pay62, kernelRun.sl.v629, k0_pay64, kernelRun.sl.v155, kernelRun.sl.v159, k0_pay234, kernelRun.sl.v2541, kernelRun.sl.v2539, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.r_14, kernelRun.sl.v169, kernelRun.sl.cst_122]
  simp only [v700_at, v725_at, diag, nw3, word0, word1, word2, word3, word0', word3', ld2499, ld2501, ld1839, ld1833, ld1960, ld610, Nat.zero_add]
  rfl

theorem o3_4 (c : Dev nD) (f0 f1 f2 f3 f4 f5 f6 f7 s0 s1 s2 s3 s4 s5 s6 s7) (g : Fin 8) (d : Fin 64) : kernelRun.sl.v2563 (F := Ideal) c f0 f1 f2 f3 f4 f5 f6 f7 s0 s1 s2 s3 s4 s5 s6 s7 (ix4 0 0 g d)
    = (∑ x : Fin 1152, G8 c f0 f1 f3 f5 f6 f7 (ix3 3 ⟨32 + g.val, by omega⟩ x) * rv c f4 (ix3 3 ⟨256 + d.val, by omega⟩ ⟨st c f7 3 + x, by have := st_le c f7 3; omega⟩))
      + newRow (fun d => rq c f0 (ix4 3 0 ⟨32 + g.val, by omega⟩ d)) (fun j x => rk c f3 (ix3 3 ⟨256 + x.val, by omega⟩ ⟨st c f7 3 + j, by have := st_le c f7 3; omega⟩))
        (fun j => rks c f5 (ix3 3 4 ⟨st c f7 3 + j, by have := st_le c f7 3; omega⟩))
        (g.val) (Cert.Win.start (rl c f7 (ix1 3))) (rl c f7 (ix1 3)) (newW c f0 f1 3 4 g) (Spec.scaleK (vpk c f2 3 4)) * Spec.codeK (vpk c f2 3 4) (rvn c f2 (ix4 3 0 4 d)) := by
  pointwise [kernelRun.sl.v2563, kernelRun.sl.v2560, kernelRun.sl.v2559, kernelRun.sl.v2558, kernelRun.sl.v2556, kernelRun.sl.v2554, kernelRun.sl.r_101, kernelRun.sl.v639, kernelRun.sl.v638, kernelRun.sl.v636, kernelRun.sl.v157, kernelRun.sl.v634, kernelRun.sl.v632, kernelRun.sl.v631, kernelRun.sl.v152, kernelRun.sl.r_15, k0_pay63, k0_pay62, kernelRun.sl.v629, k0_pay64, kernelRun.sl.v155, kernelRun.sl.v159, k0_pay240, kernelRun.sl.r_99, kernelRun.sl.r_84, k0_pay213, kernelRun.sl.v22, kernelRun.sl.v21, kernelRun.sl.v20, kernelRun.sl.v19, k0_pay237, k0_pay236, k0_pay235, kernelRun.sl.v2557, kernelRun.sl.v2555, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.r_14, kernelRun.sl.v169, kernelRun.sl.cst_122, kernelRun.sl.v2553, kernelRun.sl.v2552, kernelRun.sl.cst_969, kernelRun.sl.v2549, kernelRun.sl.v2551]
  simp only [v700_at, v725_at, diag, nw3, word0, word1, word2, word3, word0', word3', ld610, ld2004, ld1998, ld2008, ld2548, ld2550, Nat.zero_add]
  rfl

theorem o3_5 (c : Dev nD) (f0 f1 f2 f3 f4 f5 f6 f7 s0 s1 s2 s3 s4 s5 s6 s7) (g : Fin 8) (d : Fin 64) : kernelRun.sl.v2574 (F := Ideal) c f0 f1 f2 f3 f4 f5 f6 f7 s0 s1 s2 s3 s4 s5 s6 s7 (ix4 0 0 g d)
    = (∑ x : Fin 1152, G8 c f0 f1 f3 f5 f6 f7 (ix3 3 ⟨32 + (8 + g.val), by omega⟩ x) * rv c f4 (ix3 3 ⟨256 + (64 + d.val), by omega⟩ ⟨st c f7 3 + x, by have := st_le c f7 3; omega⟩))
      + newRow (fun d => rq c f0 (ix4 3 0 ⟨32 + (8 + g.val), by omega⟩ d)) (fun j x => rk c f3 (ix3 3 ⟨256 + x.val, by omega⟩ ⟨st c f7 3 + j, by have := st_le c f7 3; omega⟩))
        (fun j => rks c f5 (ix3 3 5 ⟨st c f7 3 + j, by have := st_le c f7 3; omega⟩))
        (8 + g.val) (Cert.Win.start (rl c f7 (ix1 3))) (rl c f7 (ix1 3)) (newW c f0 f1 3 5 g) (Spec.scaleK (vpk c f2 3 5)) * Spec.codeK (vpk c f2 3 5) (rvn c f2 (ix4 3 0 5 d)) := by
  pointwise [kernelRun.sl.v2574, kernelRun.sl.v2571, kernelRun.sl.v2570, kernelRun.sl.v2564, kernelRun.sl.v2552, kernelRun.sl.cst_969, kernelRun.sl.v2549, kernelRun.sl.v2551, kernelRun.sl.v2569, kernelRun.sl.v2568, kernelRun.sl.v2566, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.v634, kernelRun.sl.v632, kernelRun.sl.v631, kernelRun.sl.v152, kernelRun.sl.r_15, k0_pay63, k0_pay62, kernelRun.sl.v629, k0_pay64, kernelRun.sl.v155, kernelRun.sl.v159, kernelRun.sl.r_14, kernelRun.sl.v169, kernelRun.sl.cst_122, kernelRun.sl.v2567, kernelRun.sl.v2565, kernelRun.sl.r_104, kernelRun.sl.r_102, kernelRun.sl.r_84, k0_pay213, kernelRun.sl.v22, kernelRun.sl.v21, kernelRun.sl.v20, kernelRun.sl.v19, kernelRun.sl.r_98, k0_pay235, k0_pay242, k0_pay241, k0_pay245, kernelRun.sl.v639, kernelRun.sl.v638, kernelRun.sl.v636, kernelRun.sl.v157]
  simp only [v700_at, v725_at, diag, nw3, word0, word1, word2, word3, word0', word3', ld2548, ld2550, ld610, ld2004, ld1998, ld2047, Nat.zero_add]
  rfl

theorem o3_6 (c : Dev nD) (f0 f1 f2 f3 f4 f5 f6 f7 s0 s1 s2 s3 s4 s5 s6 s7) (g : Fin 8) (d : Fin 64) : kernelRun.sl.v2585 (F := Ideal) c f0 f1 f2 f3 f4 f5 f6 f7 s0 s1 s2 s3 s4 s5 s6 s7 (ix4 0 0 g d)
    = (∑ x : Fin 1152, G8 c f0 f1 f3 f5 f6 f7 (ix3 3 ⟨32 + (16 + g.val), by omega⟩ x) * rv c f4 (ix3 3 ⟨256 + (128 + d.val), by omega⟩ ⟨st c f7 3 + x, by have := st_le c f7 3; omega⟩))
      + newRow (fun d => rq c f0 (ix4 3 0 ⟨32 + (16 + g.val), by omega⟩ d)) (fun j x => rk c f3 (ix3 3 ⟨256 + x.val, by omega⟩ ⟨st c f7 3 + j, by have := st_le c f7 3; omega⟩))
        (fun j => rks c f5 (ix3 3 6 ⟨st c f7 3 + j, by have := st_le c f7 3; omega⟩))
        (16 + g.val) (Cert.Win.start (rl c f7 (ix1 3))) (rl c f7 (ix1 3)) (newW c f0 f1 3 6 g) (Spec.scaleK (vpk c f2 3 6)) * Spec.codeK (vpk c f2 3 6) (rvn c f2 (ix4 3 0 6 d)) := by
  pointwise [kernelRun.sl.v2585, kernelRun.sl.v2582, kernelRun.sl.v2581, kernelRun.sl.v2580, kernelRun.sl.v2579, kernelRun.sl.v2577, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.v634, kernelRun.sl.v632, kernelRun.sl.v631, kernelRun.sl.v152, kernelRun.sl.r_15, k0_pay63, k0_pay62, kernelRun.sl.v629, k0_pay64, kernelRun.sl.v155, kernelRun.sl.v159, kernelRun.sl.r_14, kernelRun.sl.v169, kernelRun.sl.cst_122, kernelRun.sl.v2578, kernelRun.sl.v2576, kernelRun.sl.r_107, k0_pay250, kernelRun.sl.r_105, kernelRun.sl.r_84, k0_pay213, kernelRun.sl.v22, kernelRun.sl.v21, kernelRun.sl.v20, kernelRun.sl.v19, k0_pay247, k0_pay246, kernelRun.sl.r_98, k0_pay235, kernelRun.sl.v639, kernelRun.sl.v638, kernelRun.sl.v636, kernelRun.sl.v157, kernelRun.sl.v2575, kernelRun.sl.v2552, kernelRun.sl.cst_969, kernelRun.sl.v2549, kernelRun.sl.v2551]
  simp only [v700_at, v725_at, diag, nw3, word0, word1, word2, word3, word0', word3', ld610, ld2086, ld2004, ld1998, ld2548, ld2550, Nat.zero_add]
  rfl

theorem o3_7 (c : Dev nD) (f0 f1 f2 f3 f4 f5 f6 f7 s0 s1 s2 s3 s4 s5 s6 s7) (g : Fin 8) (d : Fin 64) : kernelRun.sl.v2596 (F := Ideal) c f0 f1 f2 f3 f4 f5 f6 f7 s0 s1 s2 s3 s4 s5 s6 s7 (ix4 0 0 g d)
    = (∑ x : Fin 1152, G8 c f0 f1 f3 f5 f6 f7 (ix3 3 ⟨32 + (24 + g.val), by omega⟩ x) * rv c f4 (ix3 3 ⟨256 + (192 + d.val), by omega⟩ ⟨st c f7 3 + x, by have := st_le c f7 3; omega⟩))
      + newRow (fun d => rq c f0 (ix4 3 0 ⟨32 + (24 + g.val), by omega⟩ d)) (fun j x => rk c f3 (ix3 3 ⟨256 + x.val, by omega⟩ ⟨st c f7 3 + j, by have := st_le c f7 3; omega⟩))
        (fun j => rks c f5 (ix3 3 7 ⟨st c f7 3 + j, by have := st_le c f7 3; omega⟩))
        (24 + g.val) (Cert.Win.start (rl c f7 (ix1 3))) (rl c f7 (ix1 3)) (newW c f0 f1 3 7 g) (Spec.scaleK (vpk c f2 3 7)) * Spec.codeK (vpk c f2 3 7) (rvn c f2 (ix4 3 0 7 d)) := by
  pointwise [kernelRun.sl.v2596, kernelRun.sl.v2593, kernelRun.sl.v2592, kernelRun.sl.v2591, kernelRun.sl.v2589, kernelRun.sl.v2587, kernelRun.sl.v2162, kernelRun.sl.v2161, kernelRun.sl.v2160, kernelRun.sl.r_109, kernelRun.sl.v639, kernelRun.sl.v638, kernelRun.sl.v636, kernelRun.sl.v157, kernelRun.sl.v634, kernelRun.sl.v632, kernelRun.sl.v631, kernelRun.sl.v152, kernelRun.sl.r_15, k0_pay63, k0_pay62, kernelRun.sl.v629, k0_pay64, kernelRun.sl.v155, kernelRun.sl.v159, k0_pay255, kernelRun.sl.r_108, kernelRun.sl.r_84, k0_pay213, kernelRun.sl.v22, kernelRun.sl.v21, kernelRun.sl.v20, kernelRun.sl.v19, k0_pay254, k0_pay252, k0_pay251, kernelRun.sl.r_98, k0_pay235, kernelRun.sl.v2590, kernelRun.sl.v2588, kernelRun.sl.v652, kernelRun.sl.v651, kernelRun.sl.v650, kernelRun.sl.v171, kernelRun.sl.cst_123, kernelRun.sl.v648, kernelRun.sl.v646, kernelRun.sl.v645, kernelRun.sl.v644, kernelRun.sl.v643, kernelRun.sl.v641, kernelRun.sl.v162, kernelRun.sl.r_14, kernelRun.sl.v169, kernelRun.sl.cst_122, kernelRun.sl.v2586, kernelRun.sl.v2552, kernelRun.sl.cst_969, kernelRun.sl.v2549, kernelRun.sl.v2551]
  simp only [v700_at, v725_at, diag, nw3, word0, word1, word2, word3, word0', word3', ld610, ld2125, ld2004, ld1998, ld2548, ld2550, Nat.zero_add]
  rfl

end Cert.KernelIdeal.Val

end
-- ==== Proof.KAttn.lean ====
/-
  The attention the kernel leaves.
-/
module

public import proofs.«01_k».proof.Proof.PieceO0
public import proofs.«01_k».proof.Proof.PieceO1
public import proofs.«01_k».proof.Proof.PieceO2
public import proofs.«01_k».proof.Proof.PieceO3

@[expose] public section

set_option maxRecDepth 16384
set_option maxHeartbeats 1000000

noncomputable section

namespace Cert.KernelIdeal.Val

open Cert.KernelIdeal Cert.KernelIdeal.Gen Cert.KernelIdeal.Body
open Idealize.ShloMosaic
open Idealize.ShloMosaic.TcCoe Idealize.ShloMosaic.Tactic

/-- The scratch of results, as the stores leave it. -/
def G9 (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) : S4x1x64x64.Idx → EReal := fun y =>
  orow c f0 f1 f2 f3 f4 f5 f6 f7 (y 0) ⟨(y 2).val / 8, by have h1 : (y 2).val < 64 := (y 2).isLt; omega⟩ ⟨(y 2).val % 8, by omega⟩ (y 3)

theorem G9_emb (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (b : Fin 4) (h : Fin 8) (o : Fin 4 → ℕ) (ho : o = ![b.val, 0, 8 * h.val, 0]) (i) (g : Fin 8) (d : Fin 64) :
    G9 c f0 f1 f2 f3 f4 f5 f6 f7 ((Rect.unit (s := S4x1x64x64) o S1x1x8x64.size i).emb (ix4 0 0 g d)) = orow c f0 f1 f2 f3 f4 f5 f6 f7 b h g d := by
  subst ho
  rw [show (Rect.unit (s := S4x1x64x64) ![b.val, 0, 8 * h.val, 0] S1x1x8x64.size i).emb (ix4 0 0 g d) = ix4 b 0 ⟨8 * h.val + g.val, by omega⟩ d from
    Rect.emb_eq_of_coords _ _ _ fun a => by
      match a with
      | 0 => show b.val = b.val + 1 * 0; omega
      | 1 => rfl
      | 2 => show 8 * h.val + g.val = 8 * h.val + 1 * g.val; omega
      | 3 => show d.val = 0 + 1 * d.val; omega]
  have e1 : (⟨(8 * h.val + g.val) / 8, by omega⟩ : Fin 8) = h := Fin.ext (by show (8 * h.val + g.val) / 8 = h.val; omega)
  have e2 : (⟨(8 * h.val + g.val) % 8, by omega⟩ : Fin 8) = g := Fin.ext (by show (8 * h.val + g.val) % 8 = g.val; omega)
  show orow c f0 f1 f2 f3 f4 f5 f6 f7 b ⟨(8 * h.val + g.val) / 8, _⟩ ⟨(8 * h.val + g.val) % 8, _⟩ d = _
  rw [e1, e2]

theorem hs9_8 (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) :
    ∀ p ∈ kernelRun.sl.HS9_8 (F := Ideal) c f0 f1 f2 f3 f4 f5 f6 f7 s0 s1 s2 s3 s4 s5 s6 s7, ∀ x : p.1.shape.Idx, p.2 x = G9 c f0 f1 f2 f3 f4 f5 f6 f7 (p.1.emb x) := by
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩
  · intro x; obtain ⟨g, d, rfl⟩ := idx4 x; refine Eq.trans ?_ (G9_emb c f0 f1 f2 f3 f4 f5 f6 f7 0 7 ![0, 0, 56, 0] rfl (by decide) g d).symm; refine (o0_7 c f0 f1 f2 f3 f4 f5 f6 f7 s0 s1 s2 s3 s4 s5 s6 s7 g d).trans ?_
    exact orow_of c f0 f1 f2 f3 f4 f5 f6 f7 0 7 g d _ (by show 32 + (24 + g.val) = 8 * 7 + g.val; omega) _ (by show 256 + (192 + d.val) = 64 * 7 + d.val; omega) _ (fun x => by show 256 + x.val = 256 * (7 / 4) + x.val; omega) _ (by show 24 + g.val = 8 * (7 % 4) + g.val; omega)
  · intro x; obtain ⟨g, d, rfl⟩ := idx4 x; refine Eq.trans ?_ (G9_emb c f0 f1 f2 f3 f4 f5 f6 f7 0 6 ![0, 0, 48, 0] rfl (by decide) g d).symm; refine (o0_6 c f0 f1 f2 f3 f4 f5 f6 f7 s0 s1 s2 s3 s4 s5 s6 s7 g d).trans ?_
    exact orow_of c f0 f1 f2 f3 f4 f5 f6 f7 0 6 g d _ (by show 32 + (16 + g.val) = 8 * 6 + g.val; omega) _ (by show 256 + (128 + d.val) = 64 * 6 + d.val; omega) _ (fun x => by show 256 + x.val = 256 * (6 / 4) + x.val; omega) _ (by show 16 + g.val = 8 * (6 % 4) + g.val; omega)
  · intro x; obtain ⟨g, d, rfl⟩ := idx4 x; refine Eq.trans ?_ (G9_emb c f0 f1 f2 f3 f4 f5 f6 f7 0 5 ![0, 0, 40, 0] rfl (by decide) g d).symm; refine (o0_5 c f0 f1 f2 f3 f4 f5 f6 f7 s0 s1 s2 s3 s4 s5 s6 s7 g d).trans ?_
    exact orow_of c f0 f1 f2 f3 f4 f5 f6 f7 0 5 g d _ (by show 32 + (8 + g.val) = 8 * 5 + g.val; omega) _ (by show 256 + (64 + d.val) = 64 * 5 + d.val; omega) _ (fun x => by show 256 + x.val = 256 * (5 / 4) + x.val; omega) _ (by show 8 + g.val = 8 * (5 % 4) + g.val; omega)
  · intro x; obtain ⟨g, d, rfl⟩ := idx4 x; refine Eq.trans ?_ (G9_emb c f0 f1 f2 f3 f4 f5 f6 f7 0 4 ![0, 0, 32, 0] rfl (by decide) g d).symm; refine (o0_4 c f0 f1 f2 f3 f4 f5 f6 f7 s0 s1 s2 s3 s4 s5 s6 s7 g d).trans ?_
    exact orow_of c f0 f1 f2 f3 f4 f5 f6 f7 0 4 g d _ (by show 32 + g.val = 8 * 4 + g.val; omega) _ (by show 256 + d.val = 64 * 4 + d.val; omega) _ (fun x => by show 256 + x.val = 256 * (4 / 4) + x.val; omega) _ (by show g.val = 8 * (4 % 4) + g.val; omega)
  · intro x; obtain ⟨g, d, rfl⟩ := idx4 x; refine Eq.trans ?_ (G9_emb c f0 f1 f2 f3 f4 f5 f6 f7 0 3 ![0, 0, 24, 0] rfl (by decide) g d).symm; refine (o0_3 c f0 f1 f2 f3 f4 f5 f6 f7 s0 s1 s2 s3 s4 s5 s6 s7 g d).trans ?_
    exact orow_of c f0 f1 f2 f3 f4 f5 f6 f7 0 3 g d _ (by show 24 + g.val = 8 * 3 + g.val; omega) _ (by show 192 + d.val = 64 * 3 + d.val; omega) _ (fun x => by show x.val = 256 * (3 / 4) + x.val; omega) _ (by show 24 + g.val = 8 * (3 % 4) + g.val; omega)
  · intro x; obtain ⟨g, d, rfl⟩ := idx4 x; refine Eq.trans ?_ (G9_emb c f0 f1 f2 f3 f4 f5 f6 f7 0 2 ![0, 0, 16, 0] rfl (by decide) g d).symm; refine (o0_2 c f0 f1 f2 f3 f4 f5 f6 f7 s0 s1 s2 s3 s4 s5 s6 s7 g d).trans ?_
    exact orow_of c f0 f1 f2 f3 f4 f5 f6 f7 0 2 g d _ (by show 16 + g.val = 8 * 2 + g.val; omega) _ (by show 128 + d.val = 64 * 2 + d.val; omega) _ (fun x => by show x.val = 256 * (2 / 4) + x.val; omega) _ (by show 16 + g.val = 8 * (2 % 4) + g.val; omega)
  · intro x; obtain ⟨g, d, rfl⟩ := idx4 x; refine Eq.trans ?_ (G9_emb c f0 f1 f2 f3 f4 f5 f6 f7 0 1 ![0, 0, 8, 0] rfl (by decide) g d).symm; refine (o0_1 c f0 f1 f2 f3 f4 f5 f6 f7 s0 s1 s2 s3 s4 s5 s6 s7 g d).trans ?_
    exact orow_of c f0 f1 f2 f3 f4 f5 f6 f7 0 1 g d _ (by show 8 + g.val = 8 * 1 + g.val; omega) _ (by show 64 + d.val = 64 * 1 + d.val; omega) _ (fun x => by show x.val = 256 * (1 / 4) + x.val; omega) _ (by show 8 + g.val = 8 * (1 % 4) + g.val; omega)
  · intro x; obtain ⟨g, d, rfl⟩ := idx4 x; refine Eq.trans ?_ (G9_emb c f0 f1 f2 f3 f4 f5 f6 f7 0 0 ![0, 0, 0, 0] rfl (by decide) g d).symm; refine (o0_0 c f0 f1 f2 f3 f4 f5 f6 f7 s0 s1 s2 s3 s4 s5 s6 s7 g d).trans ?_
    exact orow_of c f0 f1 f2 f3 f4 f5 f6 f7 0 0 g d _ (by show g.val = 8 * 0 + g.val; omega) _ (by show d.val = 64 * 0 + d.val; omega) _ (fun x => by show x.val = 256 * (0 / 4) + x.val; omega) _ (by show g.val = 8 * (0 % 4) + g.val; omega)

theorem hs9_8_covers (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) (y : S4x1x64x64.Idx) (hy : (y 0).val = 0) : ∃ p ∈ kernelRun.sl.HS9_8 (F := Ideal) c f0 f1 f2 f3 f4 f5 f6 f7 s0 s1 s2 s3 s4 s5 s6 s7, y ∈ p.1.set := by
  have key : ∀ (h : Fin 8), (y 2).val / 8 = h.val → ∀ (o : Fin 4 → ℕ) (_ : o = ![0, 0, 8 * h.val, 0]) (i), y ∈ (Rect.unit (s := S4x1x64x64) o S1x1x8x64.size i).set := by
    rintro h h1 o rfl i
    refine mem_unit (s := S4x1x64x64) _ _ _ _ fun a => ?_
    match a with
    | 0 => show 0 ≤ (y 0).val ∧ (y 0).val < 0 + 1; omega
    | 1 => show 0 ≤ (y 1).val ∧ (y 1).val < 0 + 1; exact ⟨Nat.zero_le _, by have h2 : (y 1).val < 1 := (y 1).isLt; omega⟩
    | 2 => show 8 * h.val ≤ (y 2).val ∧ (y 2).val < 8 * h.val + 8; omega
    | 3 => show 0 ≤ (y 3).val ∧ (y 3).val < 0 + 64; exact ⟨Nat.zero_le _, by have h2 : (y 3).val < 64 := (y 3).isLt; omega⟩
  have h1 : (y 2).val < 64 := (y 2).isLt
  obtain ⟨h, hh⟩ : ∃ h : Fin 8, (y 2).val / 8 = h.val := ⟨⟨(y 2).val / 8, by omega⟩, rfl⟩
  match h, hh with
  | 0, hh => exact ⟨_, .tail _ (.tail _ (.tail _ (.tail _ (.tail _ (.tail _ (.tail _ (.head _))))))), key 0 hh ![0, 0, 0, 0] rfl (by decide)⟩
  | 1, hh => exact ⟨_, .tail _ (.tail _ (.tail _ (.tail _ (.tail _ (.tail _ (.head _)))))), key 1 hh ![0, 0, 8, 0] rfl (by decide)⟩
  | 2, hh => exact ⟨_, .tail _ (.tail _ (.tail _ (.tail _ (.tail _ (.head _))))), key 2 hh ![0, 0, 16, 0] rfl (by decide)⟩
  | 3, hh => exact ⟨_, .tail _ (.tail _ (.tail _ (.tail _ (.head _)))), key 3 hh ![0, 0, 24, 0] rfl (by decide)⟩
  | 4, hh => exact ⟨_, .tail _ (.tail _ (.tail _ (.head _))), key 4 hh ![0, 0, 32, 0] rfl (by decide)⟩
  | 5, hh => exact ⟨_, .tail _ (.tail _ (.head _)), key 5 hh ![0, 0, 40, 0] rfl (by decide)⟩
  | 6, hh => exact ⟨_, .tail _ (.head _), key 6 hh ![0, 0, 48, 0] rfl (by decide)⟩
  | 7, hh => exact ⟨_, .head _, key 7 hh ![0, 0, 56, 0] rfl (by decide)⟩

theorem hs9_16 (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) :
    ∀ p ∈ kernelRun.sl.HS9_16 (F := Ideal) c f0 f1 f2 f3 f4 f5 f6 f7 s0 s1 s2 s3 s4 s5 s6 s7, ∀ x : p.1.shape.Idx, p.2 x = G9 c f0 f1 f2 f3 f4 f5 f6 f7 (p.1.emb x) := by
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, hs9_8 c f0 f1 f2 f3 f4 f5 f6 f7 s0 s1 s2 s3 s4 s5 s6 s7⟩⟩⟩⟩⟩⟩⟩⟩
  · intro x; obtain ⟨g, d, rfl⟩ := idx4 x; refine Eq.trans ?_ (G9_emb c f0 f1 f2 f3 f4 f5 f6 f7 1 7 ![1, 0, 56, 0] rfl (by decide) g d).symm; refine (o1_7 c f0 f1 f2 f3 f4 f5 f6 f7 s0 s1 s2 s3 s4 s5 s6 s7 g d).trans ?_
    exact orow_of c f0 f1 f2 f3 f4 f5 f6 f7 1 7 g d _ (by show 32 + (24 + g.val) = 8 * 7 + g.val; omega) _ (by show 256 + (192 + d.val) = 64 * 7 + d.val; omega) _ (fun x => by show 256 + x.val = 256 * (7 / 4) + x.val; omega) _ (by show 24 + g.val = 8 * (7 % 4) + g.val; omega)
  · intro x; obtain ⟨g, d, rfl⟩ := idx4 x; refine Eq.trans ?_ (G9_emb c f0 f1 f2 f3 f4 f5 f6 f7 1 6 ![1, 0, 48, 0] rfl (by decide) g d).symm; refine (o1_6 c f0 f1 f2 f3 f4 f5 f6 f7 s0 s1 s2 s3 s4 s5 s6 s7 g d).trans ?_
    exact orow_of c f0 f1 f2 f3 f4 f5 f6 f7 1 6 g d _ (by show 32 + (16 + g.val) = 8 * 6 + g.val; omega) _ (by show 256 + (128 + d.val) = 64 * 6 + d.val; omega) _ (fun x => by show 256 + x.val = 256 * (6 / 4) + x.val; omega) _ (by show 16 + g.val = 8 * (6 % 4) + g.val; omega)
  · intro x; obtain ⟨g, d, rfl⟩ := idx4 x; refine Eq.trans ?_ (G9_emb c f0 f1 f2 f3 f4 f5 f6 f7 1 5 ![1, 0, 40, 0] rfl (by decide) g d).symm; refine (o1_5 c f0 f1 f2 f3 f4 f5 f6 f7 s0 s1 s2 s3 s4 s5 s6 s7 g d).trans ?_
    exact orow_of c f0 f1 f2 f3 f4 f5 f6 f7 1 5 g d _ (by show 32 + (8 + g.val) = 8 * 5 + g.val; omega) _ (by show 256 + (64 + d.val) = 64 * 5 + d.val; omega) _ (fun x => by show 256 + x.val = 256 * (5 / 4) + x.val; omega) _ (by show 8 + g.val = 8 * (5 % 4) + g.val; omega)
  · intro x; obtain ⟨g, d, rfl⟩ := idx4 x; refine Eq.trans ?_ (G9_emb c f0 f1 f2 f3 f4 f5 f6 f7 1 4 ![1, 0, 32, 0] rfl (by decide) g d).symm; refine (o1_4 c f0 f1 f2 f3 f4 f5 f6 f7 s0 s1 s2 s3 s4 s5 s6 s7 g d).trans ?_
    exact orow_of c f0 f1 f2 f3 f4 f5 f6 f7 1 4 g d _ (by show 32 + g.val = 8 * 4 + g.val; omega) _ (by show 256 + d.val = 64 * 4 + d.val; omega) _ (fun x => by show 256 + x.val = 256 * (4 / 4) + x.val; omega) _ (by show g.val = 8 * (4 % 4) + g.val; omega)
  · intro x; obtain ⟨g, d, rfl⟩ := idx4 x; refine Eq.trans ?_ (G9_emb c f0 f1 f2 f3 f4 f5 f6 f7 1 3 ![1, 0, 24, 0] rfl (by decide) g d).symm; refine (o1_3 c f0 f1 f2 f3 f4 f5 f6 f7 s0 s1 s2 s3 s4 s5 s6 s7 g d).trans ?_
    exact orow_of c f0 f1 f2 f3 f4 f5 f6 f7 1 3 g d _ (by show 24 + g.val = 8 * 3 + g.val; omega) _ (by show 192 + d.val = 64 * 3 + d.val; omega) _ (fun x => by show x.val = 256 * (3 / 4) + x.val; omega) _ (by show 24 + g.val = 8 * (3 % 4) + g.val; omega)
  · intro x; obtain ⟨g, d, rfl⟩ := idx4 x; refine Eq.trans ?_ (G9_emb c f0 f1 f2 f3 f4 f5 f6 f7 1 2 ![1, 0, 16, 0] rfl (by decide) g d).symm; refine (o1_2 c f0 f1 f2 f3 f4 f5 f6 f7 s0 s1 s2 s3 s4 s5 s6 s7 g d).trans ?_
    exact orow_of c f0 f1 f2 f3 f4 f5 f6 f7 1 2 g d _ (by show 16 + g.val = 8 * 2 + g.val; omega) _ (by show 128 + d.val = 64 * 2 + d.val; omega) _ (fun x => by show x.val = 256 * (2 / 4) + x.val; omega) _ (by show 16 + g.val = 8 * (2 % 4) + g.val; omega)
  · intro x; obtain ⟨g, d, rfl⟩ := idx4 x; refine Eq.trans ?_ (G9_emb c f0 f1 f2 f3 f4 f5 f6 f7 1 1 ![1, 0, 8, 0] rfl (by decide) g d).symm; refine (o1_1 c f0 f1 f2 f3 f4 f5 f6 f7 s0 s1 s2 s3 s4 s5 s6 s7 g d).trans ?_
    exact orow_of c f0 f1 f2 f3 f4 f5 f6 f7 1 1 g d _ (by show 8 + g.val = 8 * 1 + g.val; omega) _ (by show 64 + d.val = 64 * 1 + d.val; omega) _ (fun x => by show x.val = 256 * (1 / 4) + x.val; omega) _ (by show 8 + g.val = 8 * (1 % 4) + g.val; omega)
  · intro x; obtain ⟨g, d, rfl⟩ := idx4 x; refine Eq.trans ?_ (G9_emb c f0 f1 f2 f3 f4 f5 f6 f7 1 0 ![1, 0, 0, 0] rfl (by decide) g d).symm; refine (o1_0 c f0 f1 f2 f3 f4 f5 f6 f7 s0 s1 s2 s3 s4 s5 s6 s7 g d).trans ?_
    exact orow_of c f0 f1 f2 f3 f4 f5 f6 f7 1 0 g d _ (by show g.val = 8 * 0 + g.val; omega) _ (by show d.val = 64 * 0 + d.val; omega) _ (fun x => by show x.val = 256 * (0 / 4) + x.val; omega) _ (by show g.val = 8 * (0 % 4) + g.val; omega)

theorem hs9_16_covers (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) (y : S4x1x64x64.Idx) (hy : (y 0).val = 1) : ∃ p ∈ kernelRun.sl.HS9_16 (F := Ideal) c f0 f1 f2 f3 f4 f5 f6 f7 s0 s1 s2 s3 s4 s5 s6 s7, y ∈ p.1.set := by
  have key : ∀ (h : Fin 8), (y 2).val / 8 = h.val → ∀ (o : Fin 4 → ℕ) (_ : o = ![1, 0, 8 * h.val, 0]) (i), y ∈ (Rect.unit (s := S4x1x64x64) o S1x1x8x64.size i).set := by
    rintro h h1 o rfl i
    refine mem_unit (s := S4x1x64x64) _ _ _ _ fun a => ?_
    match a with
    | 0 => show 1 ≤ (y 0).val ∧ (y 0).val < 1 + 1; omega
    | 1 => show 0 ≤ (y 1).val ∧ (y 1).val < 0 + 1; exact ⟨Nat.zero_le _, by have h2 : (y 1).val < 1 := (y 1).isLt; omega⟩
    | 2 => show 8 * h.val ≤ (y 2).val ∧ (y 2).val < 8 * h.val + 8; omega
    | 3 => show 0 ≤ (y 3).val ∧ (y 3).val < 0 + 64; exact ⟨Nat.zero_le _, by have h2 : (y 3).val < 64 := (y 3).isLt; omega⟩
  have h1 : (y 2).val < 64 := (y 2).isLt
  obtain ⟨h, hh⟩ : ∃ h : Fin 8, (y 2).val / 8 = h.val := ⟨⟨(y 2).val / 8, by omega⟩, rfl⟩
  match h, hh with
  | 0, hh => exact ⟨_, .tail _ (.tail _ (.tail _ (.tail _ (.tail _ (.tail _ (.tail _ (.head _))))))), key 0 hh ![1, 0, 0, 0] rfl (by decide)⟩
  | 1, hh => exact ⟨_, .tail _ (.tail _ (.tail _ (.tail _ (.tail _ (.tail _ (.head _)))))), key 1 hh ![1, 0, 8, 0] rfl (by decide)⟩
  | 2, hh => exact ⟨_, .tail _ (.tail _ (.tail _ (.tail _ (.tail _ (.head _))))), key 2 hh ![1, 0, 16, 0] rfl (by decide)⟩
  | 3, hh => exact ⟨_, .tail _ (.tail _ (.tail _ (.tail _ (.head _)))), key 3 hh ![1, 0, 24, 0] rfl (by decide)⟩
  | 4, hh => exact ⟨_, .tail _ (.tail _ (.tail _ (.head _))), key 4 hh ![1, 0, 32, 0] rfl (by decide)⟩
  | 5, hh => exact ⟨_, .tail _ (.tail _ (.head _)), key 5 hh ![1, 0, 40, 0] rfl (by decide)⟩
  | 6, hh => exact ⟨_, .tail _ (.head _), key 6 hh ![1, 0, 48, 0] rfl (by decide)⟩
  | 7, hh => exact ⟨_, .head _, key 7 hh ![1, 0, 56, 0] rfl (by decide)⟩

theorem hs9_24 (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) :
    ∀ p ∈ kernelRun.sl.HS9_24 (F := Ideal) c f0 f1 f2 f3 f4 f5 f6 f7 s0 s1 s2 s3 s4 s5 s6 s7, ∀ x : p.1.shape.Idx, p.2 x = G9 c f0 f1 f2 f3 f4 f5 f6 f7 (p.1.emb x) := by
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, hs9_16 c f0 f1 f2 f3 f4 f5 f6 f7 s0 s1 s2 s3 s4 s5 s6 s7⟩⟩⟩⟩⟩⟩⟩⟩
  · intro x; obtain ⟨g, d, rfl⟩ := idx4 x; refine Eq.trans ?_ (G9_emb c f0 f1 f2 f3 f4 f5 f6 f7 2 7 ![2, 0, 56, 0] rfl (by decide) g d).symm; refine (o2_7 c f0 f1 f2 f3 f4 f5 f6 f7 s0 s1 s2 s3 s4 s5 s6 s7 g d).trans ?_
    exact orow_of c f0 f1 f2 f3 f4 f5 f6 f7 2 7 g d _ (by show 32 + (24 + g.val) = 8 * 7 + g.val; omega) _ (by show 256 + (192 + d.val) = 64 * 7 + d.val; omega) _ (fun x => by show 256 + x.val = 256 * (7 / 4) + x.val; omega) _ (by show 24 + g.val = 8 * (7 % 4) + g.val; omega)
  · intro x; obtain ⟨g, d, rfl⟩ := idx4 x; refine Eq.trans ?_ (G9_emb c f0 f1 f2 f3 f4 f5 f6 f7 2 6 ![2, 0, 48, 0] rfl (by decide) g d).symm; refine (o2_6 c f0 f1 f2 f3 f4 f5 f6 f7 s0 s1 s2 s3 s4 s5 s6 s7 g d).trans ?_
    exact orow_of c f0 f1 f2 f3 f4 f5 f6 f7 2 6 g d _ (by show 32 + (16 + g.val) = 8 * 6 + g.val; omega) _ (by show 256 + (128 + d.val) = 64 * 6 + d.val; omega) _ (fun x => by show 256 + x.val = 256 * (6 / 4) + x.val; omega) _ (by show 16 + g.val = 8 * (6 % 4) + g.val; omega)
  · intro x; obtain ⟨g, d, rfl⟩ := idx4 x; refine Eq.trans ?_ (G9_emb c f0 f1 f2 f3 f4 f5 f6 f7 2 5 ![2, 0, 40, 0] rfl (by decide) g d).symm; refine (o2_5 c f0 f1 f2 f3 f4 f5 f6 f7 s0 s1 s2 s3 s4 s5 s6 s7 g d).trans ?_
    exact orow_of c f0 f1 f2 f3 f4 f5 f6 f7 2 5 g d _ (by show 32 + (8 + g.val) = 8 * 5 + g.val; omega) _ (by show 256 + (64 + d.val) = 64 * 5 + d.val; omega) _ (fun x => by show 256 + x.val = 256 * (5 / 4) + x.val; omega) _ (by show 8 + g.val = 8 * (5 % 4) + g.val; omega)
  · intro x; obtain ⟨g, d, rfl⟩ := idx4 x; refine Eq.trans ?_ (G9_emb c f0 f1 f2 f3 f4 f5 f6 f7 2 4 ![2, 0, 32, 0] rfl (by decide) g d).symm; refine (o2_4 c f0 f1 f2 f3 f4 f5 f6 f7 s0 s1 s2 s3 s4 s5 s6 s7 g d).trans ?_
    exact orow_of c f0 f1 f2 f3 f4 f5 f6 f7 2 4 g d _ (by show 32 + g.val = 8 * 4 + g.val; omega) _ (by show 256 + d.val = 64 * 4 + d.val; omega) _ (fun x => by show 256 + x.val = 256 * (4 / 4) + x.val; omega) _ (by show g.val = 8 * (4 % 4) + g.val; omega)
  · intro x; obtain ⟨g, d, rfl⟩ := idx4 x; refine Eq.trans ?_ (G9_emb c f0 f1 f2 f3 f4 f5 f6 f7 2 3 ![2, 0, 24, 0] rfl (by decide) g d).symm; refine (o2_3 c f0 f1 f2 f3 f4 f5 f6 f7 s0 s1 s2 s3 s4 s5 s6 s7 g d).trans ?_
    exact orow_of c f0 f1 f2 f3 f4 f5 f6 f7 2 3 g d _ (by show 24 + g.val = 8 * 3 + g.val; omega) _ (by show 192 + d.val = 64 * 3 + d.val; omega) _ (fun x => by show x.val = 256 * (3 / 4) + x.val; omega) _ (by show 24 + g.val = 8 * (3 % 4) + g.val; omega)
  · intro x; obtain ⟨g, d, rfl⟩ := idx4 x; refine Eq.trans ?_ (G9_emb c f0 f1 f2 f3 f4 f5 f6 f7 2 2 ![2, 0, 16, 0] rfl (by decide) g d).symm; refine (o2_2 c f0 f1 f2 f3 f4 f5 f6 f7 s0 s1 s2 s3 s4 s5 s6 s7 g d).trans ?_
    exact orow_of c f0 f1 f2 f3 f4 f5 f6 f7 2 2 g d _ (by show 16 + g.val = 8 * 2 + g.val; omega) _ (by show 128 + d.val = 64 * 2 + d.val; omega) _ (fun x => by show x.val = 256 * (2 / 4) + x.val; omega) _ (by show 16 + g.val = 8 * (2 % 4) + g.val; omega)
  · intro x; obtain ⟨g, d, rfl⟩ := idx4 x; refine Eq.trans ?_ (G9_emb c f0 f1 f2 f3 f4 f5 f6 f7 2 1 ![2, 0, 8, 0] rfl (by decide) g d).symm; refine (o2_1 c f0 f1 f2 f3 f4 f5 f6 f7 s0 s1 s2 s3 s4 s5 s6 s7 g d).trans ?_
    exact orow_of c f0 f1 f2 f3 f4 f5 f6 f7 2 1 g d _ (by show 8 + g.val = 8 * 1 + g.val; omega) _ (by show 64 + d.val = 64 * 1 + d.val; omega) _ (fun x => by show x.val = 256 * (1 / 4) + x.val; omega) _ (by show 8 + g.val = 8 * (1 % 4) + g.val; omega)
  · intro x; obtain ⟨g, d, rfl⟩ := idx4 x; refine Eq.trans ?_ (G9_emb c f0 f1 f2 f3 f4 f5 f6 f7 2 0 ![2, 0, 0, 0] rfl (by decide) g d).symm; refine (o2_0 c f0 f1 f2 f3 f4 f5 f6 f7 s0 s1 s2 s3 s4 s5 s6 s7 g d).trans ?_
    exact orow_of c f0 f1 f2 f3 f4 f5 f6 f7 2 0 g d _ (by show g.val = 8 * 0 + g.val; omega) _ (by show d.val = 64 * 0 + d.val; omega) _ (fun x => by show x.val = 256 * (0 / 4) + x.val; omega) _ (by show g.val = 8 * (0 % 4) + g.val; omega)

theorem hs9_24_covers (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) (y : S4x1x64x64.Idx) (hy : (y 0).val = 2) : ∃ p ∈ kernelRun.sl.HS9_24 (F := Ideal) c f0 f1 f2 f3 f4 f5 f6 f7 s0 s1 s2 s3 s4 s5 s6 s7, y ∈ p.1.set := by
  have key : ∀ (h : Fin 8), (y 2).val / 8 = h.val → ∀ (o : Fin 4 → ℕ) (_ : o = ![2, 0, 8 * h.val, 0]) (i), y ∈ (Rect.unit (s := S4x1x64x64) o S1x1x8x64.size i).set := by
    rintro h h1 o rfl i
    refine mem_unit (s := S4x1x64x64) _ _ _ _ fun a => ?_
    match a with
    | 0 => show 2 ≤ (y 0).val ∧ (y 0).val < 2 + 1; omega
    | 1 => show 0 ≤ (y 1).val ∧ (y 1).val < 0 + 1; exact ⟨Nat.zero_le _, by have h2 : (y 1).val < 1 := (y 1).isLt; omega⟩
    | 2 => show 8 * h.val ≤ (y 2).val ∧ (y 2).val < 8 * h.val + 8; omega
    | 3 => show 0 ≤ (y 3).val ∧ (y 3).val < 0 + 64; exact ⟨Nat.zero_le _, by have h2 : (y 3).val < 64 := (y 3).isLt; omega⟩
  have h1 : (y 2).val < 64 := (y 2).isLt
  obtain ⟨h, hh⟩ : ∃ h : Fin 8, (y 2).val / 8 = h.val := ⟨⟨(y 2).val / 8, by omega⟩, rfl⟩
  match h, hh with
  | 0, hh => exact ⟨_, .tail _ (.tail _ (.tail _ (.tail _ (.tail _ (.tail _ (.tail _ (.head _))))))), key 0 hh ![2, 0, 0, 0] rfl (by decide)⟩
  | 1, hh => exact ⟨_, .tail _ (.tail _ (.tail _ (.tail _ (.tail _ (.tail _ (.head _)))))), key 1 hh ![2, 0, 8, 0] rfl (by decide)⟩
  | 2, hh => exact ⟨_, .tail _ (.tail _ (.tail _ (.tail _ (.tail _ (.head _))))), key 2 hh ![2, 0, 16, 0] rfl (by decide)⟩
  | 3, hh => exact ⟨_, .tail _ (.tail _ (.tail _ (.tail _ (.head _)))), key 3 hh ![2, 0, 24, 0] rfl (by decide)⟩
  | 4, hh => exact ⟨_, .tail _ (.tail _ (.tail _ (.head _))), key 4 hh ![2, 0, 32, 0] rfl (by decide)⟩
  | 5, hh => exact ⟨_, .tail _ (.tail _ (.head _)), key 5 hh ![2, 0, 40, 0] rfl (by decide)⟩
  | 6, hh => exact ⟨_, .tail _ (.head _), key 6 hh ![2, 0, 48, 0] rfl (by decide)⟩
  | 7, hh => exact ⟨_, .head _, key 7 hh ![2, 0, 56, 0] rfl (by decide)⟩

theorem hs9_32 (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) :
    ∀ p ∈ kernelRun.sl.HS9_32 (F := Ideal) c f0 f1 f2 f3 f4 f5 f6 f7 s0 s1 s2 s3 s4 s5 s6 s7, ∀ x : p.1.shape.Idx, p.2 x = G9 c f0 f1 f2 f3 f4 f5 f6 f7 (p.1.emb x) := by
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, hs9_24 c f0 f1 f2 f3 f4 f5 f6 f7 s0 s1 s2 s3 s4 s5 s6 s7⟩⟩⟩⟩⟩⟩⟩⟩
  · intro x; obtain ⟨g, d, rfl⟩ := idx4 x; refine Eq.trans ?_ (G9_emb c f0 f1 f2 f3 f4 f5 f6 f7 3 7 ![3, 0, 56, 0] rfl (by decide) g d).symm; refine (o3_7 c f0 f1 f2 f3 f4 f5 f6 f7 s0 s1 s2 s3 s4 s5 s6 s7 g d).trans ?_
    exact orow_of c f0 f1 f2 f3 f4 f5 f6 f7 3 7 g d _ (by show 32 + (24 + g.val) = 8 * 7 + g.val; omega) _ (by show 256 + (192 + d.val) = 64 * 7 + d.val; omega) _ (fun x => by show 256 + x.val = 256 * (7 / 4) + x.val; omega) _ (by show 24 + g.val = 8 * (7 % 4) + g.val; omega)
  · intro x; obtain ⟨g, d, rfl⟩ := idx4 x; refine Eq.trans ?_ (G9_emb c f0 f1 f2 f3 f4 f5 f6 f7 3 6 ![3, 0, 48, 0] rfl (by decide) g d).symm; refine (o3_6 c f0 f1 f2 f3 f4 f5 f6 f7 s0 s1 s2 s3 s4 s5 s6 s7 g d).trans ?_
    exact orow_of c f0 f1 f2 f3 f4 f5 f6 f7 3 6 g d _ (by show 32 + (16 + g.val) = 8 * 6 + g.val; omega) _ (by show 256 + (128 + d.val) = 64 * 6 + d.val; omega) _ (fun x => by show 256 + x.val = 256 * (6 / 4) + x.val; omega) _ (by show 16 + g.val = 8 * (6 % 4) + g.val; omega)
  · intro x; obtain ⟨g, d, rfl⟩ := idx4 x; refine Eq.trans ?_ (G9_emb c f0 f1 f2 f3 f4 f5 f6 f7 3 5 ![3, 0, 40, 0] rfl (by decide) g d).symm; refine (o3_5 c f0 f1 f2 f3 f4 f5 f6 f7 s0 s1 s2 s3 s4 s5 s6 s7 g d).trans ?_
    exact orow_of c f0 f1 f2 f3 f4 f5 f6 f7 3 5 g d _ (by show 32 + (8 + g.val) = 8 * 5 + g.val; omega) _ (by show 256 + (64 + d.val) = 64 * 5 + d.val; omega) _ (fun x => by show 256 + x.val = 256 * (5 / 4) + x.val; omega) _ (by show 8 + g.val = 8 * (5 % 4) + g.val; omega)
  · intro x; obtain ⟨g, d, rfl⟩ := idx4 x; refine Eq.trans ?_ (G9_emb c f0 f1 f2 f3 f4 f5 f6 f7 3 4 ![3, 0, 32, 0] rfl (by decide) g d).symm; refine (o3_4 c f0 f1 f2 f3 f4 f5 f6 f7 s0 s1 s2 s3 s4 s5 s6 s7 g d).trans ?_
    exact orow_of c f0 f1 f2 f3 f4 f5 f6 f7 3 4 g d _ (by show 32 + g.val = 8 * 4 + g.val; omega) _ (by show 256 + d.val = 64 * 4 + d.val; omega) _ (fun x => by show 256 + x.val = 256 * (4 / 4) + x.val; omega) _ (by show g.val = 8 * (4 % 4) + g.val; omega)
  · intro x; obtain ⟨g, d, rfl⟩ := idx4 x; refine Eq.trans ?_ (G9_emb c f0 f1 f2 f3 f4 f5 f6 f7 3 3 ![3, 0, 24, 0] rfl (by decide) g d).symm; refine (o3_3 c f0 f1 f2 f3 f4 f5 f6 f7 s0 s1 s2 s3 s4 s5 s6 s7 g d).trans ?_
    exact orow_of c f0 f1 f2 f3 f4 f5 f6 f7 3 3 g d _ (by show 24 + g.val = 8 * 3 + g.val; omega) _ (by show 192 + d.val = 64 * 3 + d.val; omega) _ (fun x => by show x.val = 256 * (3 / 4) + x.val; omega) _ (by show 24 + g.val = 8 * (3 % 4) + g.val; omega)
  · intro x; obtain ⟨g, d, rfl⟩ := idx4 x; refine Eq.trans ?_ (G9_emb c f0 f1 f2 f3 f4 f5 f6 f7 3 2 ![3, 0, 16, 0] rfl (by decide) g d).symm; refine (o3_2 c f0 f1 f2 f3 f4 f5 f6 f7 s0 s1 s2 s3 s4 s5 s6 s7 g d).trans ?_
    exact orow_of c f0 f1 f2 f3 f4 f5 f6 f7 3 2 g d _ (by show 16 + g.val = 8 * 2 + g.val; omega) _ (by show 128 + d.val = 64 * 2 + d.val; omega) _ (fun x => by show x.val = 256 * (2 / 4) + x.val; omega) _ (by show 16 + g.val = 8 * (2 % 4) + g.val; omega)
  · intro x; obtain ⟨g, d, rfl⟩ := idx4 x; refine Eq.trans ?_ (G9_emb c f0 f1 f2 f3 f4 f5 f6 f7 3 1 ![3, 0, 8, 0] rfl (by decide) g d).symm; refine (o3_1 c f0 f1 f2 f3 f4 f5 f6 f7 s0 s1 s2 s3 s4 s5 s6 s7 g d).trans ?_
    exact orow_of c f0 f1 f2 f3 f4 f5 f6 f7 3 1 g d _ (by show 8 + g.val = 8 * 1 + g.val; omega) _ (by show 64 + d.val = 64 * 1 + d.val; omega) _ (fun x => by show x.val = 256 * (1 / 4) + x.val; omega) _ (by show 8 + g.val = 8 * (1 % 4) + g.val; omega)
  · intro x; obtain ⟨g, d, rfl⟩ := idx4 x; refine Eq.trans ?_ (G9_emb c f0 f1 f2 f3 f4 f5 f6 f7 3 0 ![3, 0, 0, 0] rfl (by decide) g d).symm; refine (o3_0 c f0 f1 f2 f3 f4 f5 f6 f7 s0 s1 s2 s3 s4 s5 s6 s7 g d).trans ?_
    exact orow_of c f0 f1 f2 f3 f4 f5 f6 f7 3 0 g d _ (by show g.val = 8 * 0 + g.val; omega) _ (by show d.val = 64 * 0 + d.val; omega) _ (fun x => by show x.val = 256 * (0 / 4) + x.val; omega) _ (by show g.val = 8 * (0 % 4) + g.val; omega)

theorem hs9_32_covers (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 s1 s2 s3 s4 s5 s6 s7) (y : S4x1x64x64.Idx) (hy : (y 0).val = 3) : ∃ p ∈ kernelRun.sl.HS9_32 (F := Ideal) c f0 f1 f2 f3 f4 f5 f6 f7 s0 s1 s2 s3 s4 s5 s6 s7, y ∈ p.1.set := by
  have key : ∀ (h : Fin 8), (y 2).val / 8 = h.val → ∀ (o : Fin 4 → ℕ) (_ : o = ![3, 0, 8 * h.val, 0]) (i), y ∈ (Rect.unit (s := S4x1x64x64) o S1x1x8x64.size i).set := by
    rintro h h1 o rfl i
    refine mem_unit (s := S4x1x64x64) _ _ _ _ fun a => ?_
    match a with
    | 0 => show 3 ≤ (y 0).val ∧ (y 0).val < 3 + 1; omega
    | 1 => show 0 ≤ (y 1).val ∧ (y 1).val < 0 + 1; exact ⟨Nat.zero_le _, by have h2 : (y 1).val < 1 := (y 1).isLt; omega⟩
    | 2 => show 8 * h.val ≤ (y 2).val ∧ (y 2).val < 8 * h.val + 8; omega
    | 3 => show 0 ≤ (y 3).val ∧ (y 3).val < 0 + 64; exact ⟨Nat.zero_le _, by have h2 : (y 3).val < 64 := (y 3).isLt; omega⟩
  have h1 : (y 2).val < 64 := (y 2).isLt
  obtain ⟨h, hh⟩ : ∃ h : Fin 8, (y 2).val / 8 = h.val := ⟨⟨(y 2).val / 8, by omega⟩, rfl⟩
  match h, hh with
  | 0, hh => exact ⟨_, .tail _ (.tail _ (.tail _ (.tail _ (.tail _ (.tail _ (.tail _ (.head _))))))), key 0 hh ![3, 0, 0, 0] rfl (by decide)⟩
  | 1, hh => exact ⟨_, .tail _ (.tail _ (.tail _ (.tail _ (.tail _ (.tail _ (.head _)))))), key 1 hh ![3, 0, 8, 0] rfl (by decide)⟩
  | 2, hh => exact ⟨_, .tail _ (.tail _ (.tail _ (.tail _ (.tail _ (.head _))))), key 2 hh ![3, 0, 16, 0] rfl (by decide)⟩
  | 3, hh => exact ⟨_, .tail _ (.tail _ (.tail _ (.tail _ (.head _)))), key 3 hh ![3, 0, 24, 0] rfl (by decide)⟩
  | 4, hh => exact ⟨_, .tail _ (.tail _ (.tail _ (.head _))), key 4 hh ![3, 0, 32, 0] rfl (by decide)⟩
  | 5, hh => exact ⟨_, .tail _ (.tail _ (.head _)), key 5 hh ![3, 0, 40, 0] rfl (by decide)⟩
  | 6, hh => exact ⟨_, .tail _ (.head _), key 6 hh ![3, 0, 48, 0] rfl (by decide)⟩
  | 7, hh => exact ⟨_, .head _, key 7 hh ![3, 0, 56, 0] rfl (by decide)⟩

end Cert.KernelIdeal.Val

end
-- ==== Proof.KRes.lean ====
/-
  The attention result, as the body leaves it.
-/
module

public import proofs.«01_k».proof.Proof.KAttn

@[expose] public section

set_option maxRecDepth 16384
set_option maxHeartbeats 8000000

noncomputable section

namespace Cert.KernelIdeal.Val

open Cert.KernelIdeal Cert.KernelIdeal.Gen Cert.KernelIdeal.Body
open Idealize.ShloMosaic
open Idealize.ShloMosaic.TcCoe Idealize.ShloMosaic.Tactic

theorem chain4 {T : Type} {A0 A1 A2 A3 B0 B1 B2 B3 : T → T} (h0 : ∀ f, A0 f = B0 f) (h1 : ∀ f, A1 f = B1 f) (h2 : ∀ f, A2 f = B2 f) (h3 : ∀ f, A3 f = B3 f) (r : T) :
    A3 (A2 (A1 (A0 r))) = B3 (B2 (B1 (B0 r))) := by
  rw [h0, h1, h2, h3]

/-- A write of what a squeezed slice reads through another squeezed slice is a plain write of the slice. -/
theorem squeezed {κ κ' : Kind} {cs cs' : Space} {s t : Shape} {e : EltTy} (M : Memref sig κ cs s e) (N : Memref sig κ' cs' s e) (o n : Fin s.rank → ℕ) (i i') (hr) (hr')
    (h : (Rect.unit (s := s) o n i).shape.Squeezes t) (f : M.view.ty.Contents (Elt Ideal)) (g : N.view.ty.Contents (Elt Ideal)) :
    ((M.slice (Rect.unit (s := s) o n i) hr).squeeze t h).view.write (Elt Ideal) f
      (((N.slice (Rect.unit (s := s) o n i') hr').squeeze t h).view.read (Elt Ideal) g) Finset.univ
    = (M.view.slice (Rect.unit (s := s) o n i)).write (Elt Ideal) f (fun x => N.view.read (Elt Ideal) g ((Rect.unit (s := s) o n i').emb x)) Finset.univ := by
  refine (View.write_reshape_univ (M.view.slice (Rect.unit (s := s) o n i)) h.numel_eq f _).trans (congrArg (fun w => View.write (Elt Ideal) (M.view.slice (Rect.unit (s := s) o n i)) f w Finset.univ) (funext fun x => ?_))
  show N.view.read (Elt Ideal) g ((Rect.unit (s := s) o n i').emb (Shape.reshapeEquiv h.numel_eq ((Shape.reshapeEquiv h.numel_eq).symm x))) = _
  rw [Equiv.apply_symm_apply]

/-- The four blocks the body copies out. -/
def blocks (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3)) (s4 : Bf (F := Ideal) c (Memref.whole cc0_scratch4)) (s5 : Bf (F := Ideal) c (Memref.whole cc0_scratch5)) (s6 : Bf (F := Ideal) c (Memref.whole cc0_scratch6)) (s7 : Bf (F := Ideal) c (Memref.whole cc0_scratch7)) (s9 : Bf (F := Ideal) c (Memref.whole cc0_scratch9)) : List (View.Piece (Elt Ideal) S4x1x64x64 .bf16) :=
    [⟨Rect.unit (s := S4x1x64x64) ![3, 0, 0, 0] S1x1x64x64.size (by decide), fun x => (Memref.whole cc0_scratch9).view.read (Elt Ideal) ((Memref.whole cc0_scratch9).view.writes (Elt Ideal) s9 (kernelRun.sl.HS9_32 c f0 f1 f2 f3 f4 f5 f6 f7 s0 s1 s2 s3 s4 s5 s6 s7)) ((Rect.unit (s := S4x1x64x64) ![3, 0, 0, 0] S1x1x64x64.size (by decide)).emb x)⟩, ⟨Rect.unit (s := S4x1x64x64) ![2, 0, 0, 0] S1x1x64x64.size (by decide), fun x => (Memref.whole cc0_scratch9).view.read (Elt Ideal) ((Memref.whole cc0_scratch9).view.writes (Elt Ideal) s9 (kernelRun.sl.HS9_24 c f0 f1 f2 f3 f4 f5 f6 f7 s0 s1 s2 s3 s4 s5 s6 s7)) ((Rect.unit (s := S4x1x64x64) ![2, 0, 0, 0] S1x1x64x64.size (by decide)).emb x)⟩,
      ⟨Rect.unit (s := S4x1x64x64) ![1, 0, 0, 0] S1x1x64x64.size (by decide), fun x => (Memref.whole cc0_scratch9).view.read (Elt Ideal) ((Memref.whole cc0_scratch9).view.writes (Elt Ideal) s9 (kernelRun.sl.HS9_16 c f0 f1 f2 f3 f4 f5 f6 f7 s0 s1 s2 s3 s4 s5 s6 s7)) ((Rect.unit (s := S4x1x64x64) ![1, 0, 0, 0] S1x1x64x64.size (by decide)).emb x)⟩, ⟨Rect.unit (s := S4x1x64x64) ![0, 0, 0, 0] S1x1x64x64.size (by decide), fun x => (Memref.whole cc0_scratch9).view.read (Elt Ideal) ((Memref.whole cc0_scratch9).view.writes (Elt Ideal) s9 (kernelRun.sl.HS9_8 c f0 f1 f2 f3 f4 f5 f6 f7 s0 s1 s2 s3 s4 s5 s6 s7)) ((Rect.unit (s := S4x1x64x64) ![0, 0, 0, 0] S1x1x64x64.size (by decide)).emb x)⟩]

set_option maxHeartbeats 8000000 in
theorem left_blocks (c : Dev nD) (f0 f1 f2 f3 f4 f5 f6 f7 r0 r1 r2 r3 r4 s0 s1 s2 s3 s4 s5 s6 s7 s8 s9 s10 s11 s12 s13) : (left c f0 f1 f2 f3 f4 f5 f6 f7 r0 r1 r2 r3 r4 s0 s1 s2 s3 s4 s5 s6 s7 s8 s9 s10 s11 s12 s13).1 = (Memref.whole main_v6_0).view.writes (Elt Ideal) r0 (blocks c f0 f1 f2 f3 f4 f5 f6 f7 s0 s1 s2 s3 s4 s5 s6 s7 s9) := by
  have q0 := fun (f : Bf (F := Ideal) c (Memref.whole main_v6_0)) => squeezed (e := .bf16) (s := S4x1x64x64) (Memref.whole main_v6_0) (Memref.whole cc0_scratch9) ![0, 0, 0, 0] S1x1x64x64.size (by decide) (by decide) (fun _ => rfl) (fun _ => rfl) (t := S1x64x64) (by decide : S1x1x64x64.Squeezes S1x64x64) f ((Memref.whole cc0_scratch9).view.writes (Elt Ideal) s9 (kernelRun.sl.HS9_8 c f0 f1 f2 f3 f4 f5 f6 f7 s0 s1 s2 s3 s4 s5 s6 s7))
  have q1 := fun (f : Bf (F := Ideal) c (Memref.whole main_v6_0)) => squeezed (e := .bf16) (s := S4x1x64x64) (Memref.whole main_v6_0) (Memref.whole cc0_scratch9) ![1, 0, 0, 0] S1x1x64x64.size (by decide) (by decide) (fun _ => rfl) (fun _ => rfl) (t := S1x64x64) (by decide : S1x1x64x64.Squeezes S1x64x64) f ((Memref.whole cc0_scratch9).view.writes (Elt Ideal) s9 (kernelRun.sl.HS9_16 c f0 f1 f2 f3 f4 f5 f6 f7 s0 s1 s2 s3 s4 s5 s6 s7))
  have q2 := fun (f : Bf (F := Ideal) c (Memref.whole main_v6_0)) => squeezed (e := .bf16) (s := S4x1x64x64) (Memref.whole main_v6_0) (Memref.whole cc0_scratch9) ![2, 0, 0, 0] S1x1x64x64.size (by decide) (by decide) (fun _ => rfl) (fun _ => rfl) (t := S1x64x64) (by decide : S1x1x64x64.Squeezes S1x64x64) f ((Memref.whole cc0_scratch9).view.writes (Elt Ideal) s9 (kernelRun.sl.HS9_24 c f0 f1 f2 f3 f4 f5 f6 f7 s0 s1 s2 s3 s4 s5 s6 s7))
  have q3 := fun (f : Bf (F := Ideal) c (Memref.whole main_v6_0)) => squeezed (e := .bf16) (s := S4x1x64x64) (Memref.whole main_v6_0) (Memref.whole cc0_scratch9) ![3, 0, 0, 0] S1x1x64x64.size (by decide) (by decide) (fun _ => rfl) (fun _ => rfl) (t := S1x64x64) (by decide : S1x1x64x64.Squeezes S1x64x64) f ((Memref.whole cc0_scratch9).view.writes (Elt Ideal) s9 (kernelRun.sl.HS9_32 c f0 f1 f2 f3 f4 f5 f6 f7 s0 s1 s2 s3 s4 s5 s6 s7))
  refine Eq.trans ?_ ((chain4 q0 q1 q2 q3 r0).trans ?_)
  · rfl
  · rfl

theorem blocks_pieces (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3)) (s4 : Bf (F := Ideal) c (Memref.whole cc0_scratch4)) (s5 : Bf (F := Ideal) c (Memref.whole cc0_scratch5)) (s6 : Bf (F := Ideal) c (Memref.whole cc0_scratch6)) (s7 : Bf (F := Ideal) c (Memref.whole cc0_scratch7)) (s9 : Bf (F := Ideal) c (Memref.whole cc0_scratch9)) : ∀ p ∈ blocks c f0 f1 f2 f3 f4 f5 f6 f7 s0 s1 s2 s3 s4 s5 s6 s7 s9, ∀ x : p.1.shape.Idx, p.2 x = G9 c f0 f1 f2 f3 f4 f5 f6 f7 (p.1.emb x) := by
  have pc : ∀ (b : Fin 4) (L) (hL : ∀ p ∈ L, ∀ x : p.1.shape.Idx, p.2 x = G9 c f0 f1 f2 f3 f4 f5 f6 f7 (p.1.emb x)) (hc : ∀ y : S4x1x64x64.Idx, (y 0).val = b.val → ∃ p ∈ L, y ∈ p.1.set) (i) (x),
      (Memref.whole cc0_scratch9).view.read (Elt Ideal) ((Memref.whole cc0_scratch9).view.writes (Elt Ideal) s9 L) ((Rect.unit (s := S4x1x64x64) ![b.val, 0, 0, 0] S1x1x64x64.size i).emb x)
        = G9 c f0 f1 f2 f3 f4 f5 f6 f7 ((Rect.unit (s := S4x1x64x64) ![b.val, 0, 0, 0] S1x1x64x64.size i).emb x) := by
    intro b L hL hc i x
    refine View.read_writes_apply_of_pieces (Memref.whole cc0_scratch9).view s9 (G9 c f0 f1 f2 f3 f4 f5 f6 f7) L hL _ (hc _ ?_)
    have h0 : (x 0).val < 1 := (x 0).isLt
    show b.val + 1 * (x 0).val = b.val
    omega
  have p0 := pc 0 (kernelRun.sl.HS9_8 c f0 f1 f2 f3 f4 f5 f6 f7 s0 s1 s2 s3 s4 s5 s6 s7) (hs9_8 c f0 f1 f2 f3 f4 f5 f6 f7 s0 s1 s2 s3 s4 s5 s6 s7) (hs9_8_covers c f0 f1 f2 f3 f4 f5 f6 f7 s0 s1 s2 s3 s4 s5 s6 s7) (by decide)
  have p1 := pc 1 (kernelRun.sl.HS9_16 c f0 f1 f2 f3 f4 f5 f6 f7 s0 s1 s2 s3 s4 s5 s6 s7) (hs9_16 c f0 f1 f2 f3 f4 f5 f6 f7 s0 s1 s2 s3 s4 s5 s6 s7) (hs9_16_covers c f0 f1 f2 f3 f4 f5 f6 f7 s0 s1 s2 s3 s4 s5 s6 s7) (by decide)
  have p2 := pc 2 (kernelRun.sl.HS9_24 c f0 f1 f2 f3 f4 f5 f6 f7 s0 s1 s2 s3 s4 s5 s6 s7) (hs9_24 c f0 f1 f2 f3 f4 f5 f6 f7 s0 s1 s2 s3 s4 s5 s6 s7) (hs9_24_covers c f0 f1 f2 f3 f4 f5 f6 f7 s0 s1 s2 s3 s4 s5 s6 s7) (by decide)
  have p3 := pc 3 (kernelRun.sl.HS9_32 c f0 f1 f2 f3 f4 f5 f6 f7 s0 s1 s2 s3 s4 s5 s6 s7) (hs9_32 c f0 f1 f2 f3 f4 f5 f6 f7 s0 s1 s2 s3 s4 s5 s6 s7) (hs9_32_covers c f0 f1 f2 f3 f4 f5 f6 f7 s0 s1 s2 s3 s4 s5 s6 s7) (by decide)
  exact List.forall_mem_cons.mpr ⟨p3, List.forall_mem_cons.mpr ⟨p2, List.forall_mem_cons.mpr ⟨p1, List.forall_mem_cons.mpr ⟨p0, List.forall_mem_nil _⟩⟩⟩⟩

theorem blocks_cover (c : Dev nD) (f0 : Bf (F := Ideal) c (Memref.whole main_arg0)) (f1 : Bf (F := Ideal) c (Memref.whole main_arg1)) (f2 : Bf (F := Ideal) c (Memref.whole main_arg2)) (f3 : Bf (F := Ideal) c (Memref.whole main_v1))
    (f4 : Bf (F := Ideal) c (Memref.whole main_v3)) (f5 : Bf (F := Ideal) c (Memref.whole main_v4)) (f6 : Bf (F := Ideal) c (Memref.whole main_v5)) (f7 : Bf (F := Ideal) c (Memref.whole main_arg7)) (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3)) (s4 : Bf (F := Ideal) c (Memref.whole cc0_scratch4)) (s5 : Bf (F := Ideal) c (Memref.whole cc0_scratch5)) (s6 : Bf (F := Ideal) c (Memref.whole cc0_scratch6)) (s7 : Bf (F := Ideal) c (Memref.whole cc0_scratch7)) (s9 : Bf (F := Ideal) c (Memref.whole cc0_scratch9)) (y : S4x1x64x64.Idx) : ∃ p ∈ blocks c f0 f1 f2 f3 f4 f5 f6 f7 s0 s1 s2 s3 s4 s5 s6 s7 s9, y ∈ p.1.set := by
  · have key : ∀ (b : Fin 4), (y 0).val = b.val → ∀ (o : Fin 4 → ℕ) (_ : o = ![b.val, 0, 0, 0]) (i), y ∈ (Rect.unit (s := S4x1x64x64) o S1x1x64x64.size i).set := by
      rintro b h1 o rfl i
      refine mem_unit (s := S4x1x64x64) _ _ _ _ fun a => ?_
      match a with
      | 0 => show b.val ≤ (y 0).val ∧ (y 0).val < b.val + 1; omega
      | 1 => show 0 ≤ (y 1).val ∧ (y 1).val < 0 + 1; exact ⟨Nat.zero_le _, by have h2 : (y 1).val < 1 := (y 1).isLt; omega⟩
      | 2 => show 0 ≤ (y 2).val ∧ (y 2).val < 0 + 64; exact ⟨Nat.zero_le _, by have h2 : (y 2).val < 64 := (y 2).isLt; omega⟩
      | 3 => show 0 ≤ (y 3).val ∧ (y 3).val < 0 + 64; exact ⟨Nat.zero_le _, by have h2 : (y 3).val < 64 := (y 3).isLt; omega⟩
    obtain ⟨b, hb⟩ : ∃ b : Fin 4, (y 0).val = b.val := ⟨y 0, rfl⟩
    match b, hb with
    | 3, hb => exact ⟨_, .head _, key 3 hb ![3, 0, 0, 0] rfl (by decide)⟩
    | 2, hb => exact ⟨_, .tail _ (.head _), key 2 hb ![2, 0, 0, 0] rfl (by decide)⟩
    | 1, hb => exact ⟨_, .tail _ (.tail _ (.head _)), key 1 hb ![1, 0, 0, 0] rfl (by decide)⟩
    | 0, hb => exact ⟨_, .tail _ (.tail _ (.tail _ (.head _))), key 0 hb ![0, 0, 0, 0] rfl (by decide)⟩

theorem res0 (c : Dev nD) (f0 f1 f2 f3 f4 f5 f6 f7 r0 r1 r2 r3 r4 s0 s1 s2 s3 s4 s5 s6 s7 s8 s9 s10 s11 s12 s13) : (left c f0 f1 f2 f3 f4 f5 f6 f7 r0 r1 r2 r3 r4 s0 s1 s2 s3 s4 s5 s6 s7 s8 s9 s10 s11 s12 s13).1 = G9 c f0 f1 f2 f3 f4 f5 f6 f7 := by
  rw [left_blocks]
  funext y
  exact View.read_writes_apply_of_pieces (Memref.whole main_v6_0).view r0 (G9 c f0 f1 f2 f3 f4 f5 f6 f7) _ (blocks_pieces c f0 f1 f2 f3 f4 f5 f6 f7 s0 s1 s2 s3 s4 s5 s6 s7 s9) y (blocks_cover c f0 f1 f2 f3 f4 f5 f6 f7 s0 s1 s2 s3 s4 s5 s6 s7 s9 y)

end Cert.KernelIdeal.Val

end
-- ==== Proof.RefBlk.lean ====
/-
  The reference's windows: what the host operations hand the body, at an index.
-/
module

public import proofs.«01_k».proof.Proof.RefRun
public import Idealize.ShloMosaic.Lib.Pipeline.ValueKit.Point
public import Idealize.ShloMosaic.Lib.StableHlo.RunRead

@[expose] public section

set_option maxRecDepth 16384
set_option maxHeartbeats 4000000

noncomputable section

namespace Cert.ReferenceIdeal.Value

open Cert.ReferenceIdeal Cert.ReferenceIdeal.Gen
open Idealize.ShloMosaic
open Idealize.ShloMosaic.TcCoe Idealize.ShloMosaic.Tactic

variable (m : (ℓ : Loc nD τ sig) → Buf (Elt Ideal) ℓ)

theorem blk0 (c : Dev nD) (t : Fin cfg0.N) : iblk m c 0 t = V m c main_v146 := by
  funext y
  have idx : ∀ (t : Fin cfg0.N) (a : Fin 3), win0_0.index t a = 0 := by decide +kernel
  show V m c main_v146 (((cfg0.win 0).rect t).emb y) = _
  refine congrArg _ (funext fun a => Fin.ext ?_)
  exact Pipeline.Window.rect_emb_val_of_index_zero (cfg0.win 0) t a (idx t a) y

theorem blk3 (c : Dev nD) (t : Fin cfg0.N) : iblk m c 3 t = V m c main_v33 := by
  funext y
  have idx : ∀ (t : Fin cfg0.N) (a : Fin 3), win0_3.index t a = 0 := by decide +kernel
  show V m c main_v33 (((cfg0.win 3).rect t).emb y) = _
  refine congrArg _ (funext fun a => Fin.ext ?_)
  exact Pipeline.Window.rect_emb_val_of_index_zero (cfg0.win 3) t a (idx t a) y

theorem blk4 (c : Dev nD) (t : Fin cfg0.N) : iblk m c 4 t = V m c main_v64 := by
  funext y
  have idx : ∀ (t : Fin cfg0.N) (a : Fin 3), win0_4.index t a = 0 := by decide +kernel
  show V m c main_v64 (((cfg0.win 4).rect t).emb y) = _
  refine congrArg _ (funext fun a => Fin.ext ?_)
  exact Pipeline.Window.rect_emb_val_of_index_zero (cfg0.win 4) t a (idx t a) y

theorem blk5 (c : Dev nD) (t : Fin cfg0.N) : iblk m c 5 t = V m c main_v95 := by
  funext y
  have idx : ∀ (t : Fin cfg0.N) (a : Fin 3), win0_5.index t a = 0 := by decide +kernel
  show V m c main_v95 (((cfg0.win 5).rect t).emb y) = _
  refine congrArg _ (funext fun a => Fin.ext ?_)
  exact Pipeline.Window.rect_emb_val_of_index_zero (cfg0.win 5) t a (idx t a) y

theorem blk6 (c : Dev nD) (t : Fin cfg0.N) : iblk m c 6 t = V m c main_v126 := by
  funext y
  have idx : ∀ (t : Fin cfg0.N) (a : Fin 3), win0_6.index t a = 0 := by decide +kernel
  show V m c main_v126 (((cfg0.win 6).rect t).emb y) = _
  refine congrArg _ (funext fun a => Fin.ext ?_)
  exact Pipeline.Window.rect_emb_val_of_index_zero (cfg0.win 6) t a (idx t a) y

theorem blk7 (c : Dev nD) (t : Fin cfg0.N) : iblk m c 7 t = V m c main_v145 := by
  funext y
  have idx : ∀ (t : Fin cfg0.N) (a : Fin 3), win0_7.index t a = 0 := by decide +kernel
  show V m c main_v145 (((cfg0.win 7).rect t).emb y) = _
  refine congrArg _ (funext fun a => Fin.ext ?_)
  exact Pipeline.Window.rect_emb_val_of_index_zero (cfg0.win 7) t a (idx t a) y

/-- The one grid point writes result window 8's whole array. -/
theorem arr8 (c : Dev nD) (t : Fin cfg0.N) : (dats m 0 c).arrAt 8 cfg0.N
    = out0_8 (iblk m c 0 t) (iblk m c 1 t) (iblk m c 2 t) (iblk m c 3 t) (iblk m c 4 t) (iblk m c 5 t) (iblk m c 6 t) (iblk m c 7 t) := by
  funext y
  have idx : ∀ (t : Fin cfg0.N) (a : Fin 4), win0_8.index t a = 0 := by decide +kernel
  have hf : ∀ t : Fin cfg0.N, (cfg0.win 8).flush t = true := by decide +kernel
  have h := congrFun ((blocks8 m c t (hf t)).trans (flushed8 m c t)) y
  have e : ((cfg0.win 8).rect t).emb y = y := funext fun a => Fin.ext (Pipeline.Window.rect_emb_val_of_index_zero (cfg0.win 8) t a (idx t a) y)
  have h' : (dats m 0 c).arrAt 8 cfg0.N (((cfg0.win 8).rect t).emb y) = _ := h
  rw [e] at h'
  exact h'

end Cert.ReferenceIdeal.Value

end
-- ==== Proof.Attn.lean ====
/-
  The attention result on both sides, at the launch memory.
-/
module

public import proofs.«01_k».proof.Proof.AttnRow
public import proofs.«01_k».proof.Proof.KHost
public import proofs.«01_k».proof.Proof.KRes
public import proofs.«01_k».proof.Proof.RefBlk
public import proofs.«01_k».proof.Proof.RefNew
public import proofs.«01_k».proof.Proof.PreBound

@[expose] public section

set_option maxRecDepth 16384
set_option maxHeartbeats 4000000

noncomputable section

namespace Cert.ReferenceIdeal.Value

open Cert.ReferenceIdeal Cert.ReferenceIdeal.Gen
open Idealize.ShloMosaic
open Idealize.ShloMosaic.TcCoe

variable (m : (ℓ : Loc nD τ sig) → Buf (Elt Ideal) ℓ)

theorem v33_at (c : Dev nD) (b : Fin 4) (h : Fin 8) (j : Fin 1024) (d : Fin 64) : V m c main_v33 (ix3 ⟨b.val * 8 + h.val, by omega⟩ j d) = m ((c : Thread nD τ).loc main_arg3) (ix4 b ⟨(rstart (len m c b)).toNat + j.val, rlt _ j⟩ h d) := by
  match b with
  | 0 => exact v33_0 m c h j d
  | 1 => exact v33_1 m c h j d
  | 2 => exact v33_2 m c h j d
  | 3 => exact v33_3 m c h j d
theorem v64_at (c : Dev nD) (b : Fin 4) (h : Fin 8) (j : Fin 1024) (d : Fin 64) : V m c main_v64 (ix3 ⟨b.val * 8 + h.val, by omega⟩ j d) = m ((c : Thread nD τ).loc main_arg4) (ix4 b ⟨(rstart (len m c b)).toNat + j.val, rlt _ j⟩ h d) := by
  match b with
  | 0 => exact v64_0 m c h j d
  | 1 => exact v64_1 m c h j d
  | 2 => exact v64_2 m c h j d
  | 3 => exact v64_3 m c h j d
theorem v95_at (c : Dev nD) (b : Fin 4) (h : Fin 8) (j : Fin 1024) : V m c main_v95 (ix3 ⟨b.val * 8 + h.val, by omega⟩ 0 j) = m ((c : Thread nD τ).loc main_arg5) (ix3 b ⟨(rstart (len m c b)).toNat + j.val, rlt _ j⟩ h) := by
  match b with
  | 0 => exact v95_0 m c h j
  | 1 => exact v95_1 m c h j
  | 2 => exact v95_2 m c h j
  | 3 => exact v95_3 m c h j
theorem v126_at (c : Dev nD) (b : Fin 4) (h : Fin 8) (j : Fin 1024) : V m c main_v126 (ix3 ⟨b.val * 8 + h.val, by omega⟩ 0 j) = m ((c : Thread nD τ).loc main_arg6) (ix3 b ⟨(rstart (len m c b)).toNat + j.val, rlt _ j⟩ h) := by
  match b with
  | 0 => exact v126_0 m c h j
  | 1 => exact v126_1 m c h j
  | 2 => exact v126_2 m c h j
  | 3 => exact v126_3 m c h j

theorem attn_congr {q q' kn kn' vn vn' : Fin 64 → EReal} {k k' v v' : Fin 1024 → Fin 64 → EReal} {ks ks' vs vs' : Fin 1024 → EReal} {w w' : Fin 1024 → BitVec 32} (d : Fin 64)
    (h0 : q = q') (h1 : kn = kn') (h2 : vn = vn') (h3 : k = k') (h4 : v = v') (h5 : ks = ks') (h6 : vs = vs') (h7 : w = w') : attn q kn vn k v ks vs w d = attn q' kn' vn' k' v' ks' vs' w' d := by
  subst h0 h1 h2 h3 h4 h5 h6 h7; rfl

/-- The reference's attention at an index. -/
theorem ref8 (c : Dev nD) (t : Fin cfg0.N) (b : Fin 4) (h g : Fin 8) (d : Fin 64) : (dats m 0 c).arrAt 8 cfg0.N (ix4 b 0 ⟨8 * h.val + g.val, by omega⟩ d)
    = Cert.Attn.attnAt (fun x => m ((c : Thread nD τ).loc main_arg0) (ix4 b 0 ⟨8 * h.val + g.val, by omega⟩ x)) (fun x => m ((c : Thread nD τ).loc main_arg1) (ix4 b 0 h x)) (fun x => m ((c : Thread nD τ).loc main_arg2) (ix4 b 0 h x))
        (fun p x => m ((c : Thread nD τ).loc main_arg3) (ix4 b p h x)) (fun p x => m ((c : Thread nD τ).loc main_arg4) (ix4 b p h x))
        (fun p => m ((c : Thread nD τ).loc main_arg5) (ix3 b p h)) (fun p => m ((c : Thread nD τ).loc main_arg6) (ix3 b p h)) (m ((c : Thread nD τ).loc main_arg7) (ix1 b)) d := by
  rw [arr8 m c t]
  refine (out8_at _ _ _ _ _ _ _ _ b h g d).trans ?_
  rw [blk0, blk1, blk2, blk3, blk4, blk5, blk6, blk7]
  exact attn_congr d (funext fun x => v146_at m c b h g x) (funext fun x => v147_at m c b h x) (funext fun x => v148_at m c b h x)
    (funext fun j => funext fun x => v33_at m c b h j x) (funext fun j => funext fun x => v64_at m c b h j x) (funext fun j => v95_at m c b h j) (funext fun j => v126_at m c b h j)
    (funext fun j => v145_at m c b h j)

end Cert.ReferenceIdeal.Value

namespace Cert.Proof

open Idealize.ShloMosaic Idealize.SL.Sem
open Cert.KernelIdeal

abbrev RefMem : Type := (ℓ : Loc Cert.ReferenceIdeal.nD Cert.ReferenceIdeal.τ Cert.ReferenceIdeal.sig) → Buf (Elt Ideal) ℓ
abbrev KerMem : Type := (ℓ : Loc nD τ sig) → Buf (Elt Ideal) ℓ

section
variable [hP : Cert.Pre_finite_token.Facts] (m : KerMem) (hm : Cert.Pre_KernelIdeal_finite_token m) (c : Dev nD)

abbrev argK : S4x1x8x64.Idx → EReal := m ((c.tc : Thread nD τ).loc main_arg1)
abbrev argV : S4x1x8x64.Idx → EReal := m ((c.tc : Thread nD τ).loc main_arg2)

include hm in
theorem boundK (b : Fin 4) (h : Fin 8) : 0 ≤ Spec.peak (fun d => argK m c (ix4 b 0 h d)) ∧ Spec.peak (fun d => argK m c (ix4 b 0 h d)) < (((2 : ℝ) ^ (120 : ℤ) : ℝ) : EReal) := Spec.peak_bound (fun d => argK m c (ix4 b 0 h d)) fun d => pre_k m hm c (ix4 b 0 h d)
include hm in
theorem boundV (b : Fin 4) (h : Fin 8) : 0 ≤ Spec.peak (fun d => argV m c (ix4 b 0 h d)) ∧ Spec.peak (fun d => argV m c (ix4 b 0 h d)) < (((2 : ℝ) ^ (120 : ℤ) : ℝ) : EReal) := Spec.peak_bound (fun d => argV m c (ix4 b 0 h d)) fun d => pre_v m hm c (ix4 b 0 h d)

/-- The attention of batch row `b`, head `h`, query `g` of the head, at a lane. -/
def attnV (b : Fin 4) (h g : Fin 8) (d : Fin 64) : EReal :=
  Cert.Attn.attnAt (fun x => m ((c.tc : Thread nD τ).loc main_arg0) (ix4 b 0 ⟨8 * h.val + g.val, by omega⟩ x)) (fun x => argK m c (ix4 b 0 h x)) (fun x => argV m c (ix4 b 0 h x))
    (fun p x => m ((c.tc : Thread nD τ).loc main_arg3) (ix4 b p h x)) (fun p x => m ((c.tc : Thread nD τ).loc main_arg4) (ix4 b p h x))
    (fun p => m ((c.tc : Thread nD τ).loc main_arg5) (ix3 b p h)) (fun p => m ((c.tc : Thread nD τ).loc main_arg6) (ix3 b p h)) (m ((c.tc : Thread nD τ).loc main_arg7) (ix1 b)) d

include hm in
theorem ker_row (b : Fin 4) (h g : Fin 8) (d : Fin 64) :
    Val.orow c (Gen.V m c main_arg0) (Gen.V m c main_arg1) (Gen.V m c main_arg2) (Gen.V m c main_v1) (Gen.V m c main_v3) (Gen.V m c main_v4) (Gen.V m c main_v5) (Gen.V m c main_arg7) b h g d = attnV m c b h g d := by
  have e0 := Cert.KernelIdeal.Gen.V_main_arg0 m c
  have e1 := Cert.KernelIdeal.Gen.V_main_arg1 m c
  have e2 := Cert.KernelIdeal.Gen.V_main_arg2 m c
  have e7 := Cert.KernelIdeal.Gen.V_main_arg7 m c
  rw [e0, e1, e2, e7]
  unfold Val.orow Val.prow
  refine Cert.Attn.row_eq _ (fun x => argK m c (ix4 b 0 h x)) (fun x => argV m c (ix4 b 0 h x)) (fun p x => m ((c.tc : Thread nD τ).loc main_arg3) (ix4 b p h x)) (fun p x => m ((c.tc : Thread nD τ).loc main_arg4) (ix4 b p h x))
    (fun p => m ((c.tc : Thread nD τ).loc main_arg5) (ix3 b p h)) (fun p => m ((c.tc : Thread nD τ).loc main_arg6) (ix3 b p h)) (m ((c.tc : Thread nD τ).loc main_arg7) (ix1 b)) d ⟨h.val % 4, by omega⟩ g
    _ _ _ _ _ (fun j x => ?_) (fun j => Val.V_v4 m c b h _) (fun j => Val.V_v5 m c b h _) (fun j => Val.V_v3 m c b h d _) ?_ (boundK m hm c b h) (boundV m hm c b h)
  · refine Eq.trans (congrArg (fun i : Fin 512 => Gen.V m c main_v1 (ix3 b i _)) (Fin.ext ?_)) (Val.V_v1 m c b h x _)
    show 256 * (h.val / 4) + (64 * (h.val % 4) + x.val) = 64 * h.val + x.val
    omega
  · unfold Val.newW
    have e : (⟨h.val * 8 + g.val, by omega⟩ : Fin 64) = ⟨8 * h.val + g.val, by omega⟩ := Fin.ext (by show h.val * 8 + g.val = 8 * h.val + g.val; omega)
    rw [e]
    rfl

include hm in
/-- The kernel's attention, at the launch memory. -/
theorem ker0 (R : Body.Results (F := Ideal) c) (hR : Body.Left m c R) :
    R.1 = (fun y : S4x1x64x64.Idx => attnV m c (y 0) ⟨(y 2).val / 8, by have h2 : (y 2).val < 64 := (y 2).isLt; omega⟩ ⟨(y 2).val % 8, by omega⟩ (y 3)) := by
  obtain ⟨r0, r1, r2, r3, r4, s0, s1, s2, s3, s4, s5, s6, s7, s8, s9, s10, s11, s12, s13, rfl⟩ := hR
  refine (Val.res0 c _ _ _ _ _ _ _ _ r0 r1 r2 r3 r4 s0 s1 s2 s3 s4 s5 s6 s7 s8 s9 s10 s11 s12 s13).trans ?_
  funext y
  exact ker_row m hm c (y 0) ⟨(y 2).val / 8, by have h2 : (y 2).val < 64 := (y 2).isLt; omega⟩ ⟨(y 2).val % 8, by omega⟩ (y 3)
end

theorem idx64 (y : S4x1x64x64.Idx) (h2 : (y 2).val < 64) : y = ix4 (y 0) 0 ⟨8 * ((y 2).val / 8) + (y 2).val % 8, by omega⟩ (y 3) := funext fun a => by
  match a with
  | 0 => rfl
  | 1 => exact Fin.ext (by have h0 : (y 1).val < 1 := (y 1).isLt; show (y 1).val = 0; omega)
  | 2 => exact Fin.ext (by show (y 2).val = 8 * ((y 2).val / 8) + (y 2).val % 8; omega)
  | 3 => rfl

end Cert.Proof

end
-- ==== Proof.Codes.lean ====
/-
  The five results: the kernel's attention, codes and scales are the reference's.
-/
module

public import proofs.«01_k».proof.Defs
public import proofs.«01_k».proof.Proof.RunI
public import proofs.«01_k».proof.Proof.KQuant
public import proofs.«01_k».proof.Proof.RefElt
public import proofs.«01_k».proof.Proof.RefNew
public import proofs.«01_k».proof.Proof.MathQ
public import proofs.«01_k».proof.Proof.PreBound
public import proofs.«01_k».proof.Proof.Attn

@[expose] public section

set_option maxRecDepth 16384
set_option maxHeartbeats 4000000

noncomputable section

namespace Cert.ReferenceIdeal.Value

open Cert.ReferenceIdeal Cert.ReferenceIdeal.Gen
open Idealize.ShloMosaic
open Idealize.ShloMosaic.TcCoe

variable (m : (ℓ : Loc nD τ sig) → Buf (Elt Ideal) ℓ)

/-- The one grid point. -/
def point : Fin cfg0.N := ⟨0, by decide⟩

/-- The reference's codes and scale of one row of the new keys. -/
theorem ref9 (c : Dev nD) (t : Fin cfg0.N) (b : Fin 4) (h : Fin 8) (d : Fin 64) : (dats m 0 c).arrAt 9 cfg0.N (ix4 b 0 h d)
    = Spec.codeR (Spec.peak fun d => m ((c : Thread nD τ).loc main_arg1) (ix4 b 0 h d)) (m ((c : Thread nD τ).loc main_arg1) (ix4 b 0 h d)) := by
  rw [arr9 m c t]
  refine (out9_at _ _ _ _ _ _ _ _ b h d).trans ?_
  simp only [blk1]
  have e : ∀ d, V m c main_v147 (ix2 ⟨b.val * 8 + h.val, by omega⟩ d) = m ((c : Thread nD τ).loc main_arg1) (ix4 b 0 h d) := fun d => v147_at m c b h d
  exact congrArg₂ Spec.codeR (congrArg Spec.peak (funext e)) (e d)
theorem ref10 (c : Dev nD) (t : Fin cfg0.N) (b : Fin 4) (h : Fin 8) : (dats m 0 c).arrAt 10 cfg0.N (ix3 b 0 h)
    = Spec.scaleR (Spec.peak fun d => m ((c : Thread nD τ).loc main_arg1) (ix4 b 0 h d)) := by
  rw [arr10 m c t]
  refine (out10_at _ _ _ _ _ _ _ _ b h).trans ?_
  simp only [blk1]
  have e : ∀ d, V m c main_v147 (ix2 ⟨b.val * 8 + h.val, by omega⟩ d) = m ((c : Thread nD τ).loc main_arg1) (ix4 b 0 h d) := fun d => v147_at m c b h d
  exact congrArg Spec.scaleR (congrArg Spec.peak (funext e))
/-- And of the new values. -/
theorem ref11 (c : Dev nD) (t : Fin cfg0.N) (b : Fin 4) (h : Fin 8) (d : Fin 64) : (dats m 0 c).arrAt 11 cfg0.N (ix4 b 0 h d)
    = Spec.codeR (Spec.peak fun d => m ((c : Thread nD τ).loc main_arg2) (ix4 b 0 h d)) (m ((c : Thread nD τ).loc main_arg2) (ix4 b 0 h d)) := by
  rw [arr11 m c t]
  refine (out11_at _ _ _ _ _ _ _ _ b h d).trans ?_
  simp only [blk2]
  have e : ∀ d, V m c main_v148 (ix2 ⟨b.val * 8 + h.val, by omega⟩ d) = m ((c : Thread nD τ).loc main_arg2) (ix4 b 0 h d) := fun d => v148_at m c b h d
  exact congrArg₂ Spec.codeR (congrArg Spec.peak (funext e)) (e d)
theorem ref12 (c : Dev nD) (t : Fin cfg0.N) (b : Fin 4) (h : Fin 8) : (dats m 0 c).arrAt 12 cfg0.N (ix3 b 0 h)
    = Spec.scaleR (Spec.peak fun d => m ((c : Thread nD τ).loc main_arg2) (ix4 b 0 h d)) := by
  rw [arr12 m c t]
  refine (out12_at _ _ _ _ _ _ _ _ b h).trans ?_
  simp only [blk2]
  have e : ∀ d, V m c main_v148 (ix2 ⟨b.val * 8 + h.val, by omega⟩ d) = m ((c : Thread nD τ).loc main_arg2) (ix4 b 0 h d) := fun d => v148_at m c b h d
  exact congrArg Spec.scaleR (congrArg Spec.peak (funext e))

end Cert.ReferenceIdeal.Value

namespace Cert.Proof

open Idealize.ShloMosaic Idealize.SL.Sem
open Cert.KernelIdeal

theorem idx4 (y : S4x1x8x64.Idx) : y = ix4 (y 0) 0 (y 2) (y 3) := funext fun a => by
  match a with
  | 0 => rfl
  | 1 => exact Fin.ext (by have h0 : (y 1).val < 1 := (y 1).isLt; show (y 1).val = 0; omega)
  | 2 => rfl
  | 3 => rfl
theorem idx3 (y : S4x1x8.Idx) : y = ix3 (y 0) 0 (y 2) := funext fun a => by
  match a with
  | 0 => rfl
  | 1 => exact Fin.ext (by have h0 : (y 1).val < 1 := (y 1).isLt; show (y 1).val = 0; omega)
  | 2 => rfl

section
variable (m : KerMem) (c : Dev nD)

/-- The kernel's four small results, at the launch memory. -/
theorem ker (R : Body.Results (F := Ideal) c) (hR : Body.Left m c R) :
    R.2.1 = (fun y : S4x1x8x64.Idx => Spec.codeK (Spec.peak fun d => argK m c (ix4 (y 0) 0 (y 2) d)) (argK m c (ix4 (y 0) 0 (y 2) (y 3))))
    ∧ R.2.2.1 = (fun y : S4x1x8.Idx => Spec.scaleK (Spec.peak fun d => argK m c (ix4 (y 0) 0 (y 2) d)))
    ∧ R.2.2.2.1 = (fun y : S4x1x8x64.Idx => Spec.codeK (Spec.peak fun d => argV m c (ix4 (y 0) 0 (y 2) d)) (argV m c (ix4 (y 0) 0 (y 2) (y 3))))
    ∧ R.2.2.2.2 = (fun y : S4x1x8.Idx => Spec.scaleK (Spec.peak fun d => argV m c (ix4 (y 0) 0 (y 2) d))) := by
  obtain ⟨r0, r1, r2, r3, r4, s0, s1, s2, s3, s4, s5, s6, s7, s8, s9, s10, s11, s12, s13, rfl⟩ := hR
  have e1 := Cert.KernelIdeal.Gen.V_main_arg1 m c
  have e2 := Cert.KernelIdeal.Gen.V_main_arg2 m c
  refine ⟨?_, ?_, ?_, ?_⟩
  · refine (Val.res1 c _ _ _ _ _ _ _ _ r0 r1 r2 r3 r4 s0 s1 s2 s3 s4 s5 s6 s7 s8 s9 s10 s11 s12 s13).trans ?_
    rw [e1]; rfl
  · refine (Val.res2 c _ _ _ _ _ _ _ _ r0 r1 r2 r3 r4 s0 s1 s2 s3 s4 s5 s6 s7 s8 s9 s10 s11 s12 s13).trans ?_
    rw [e1]; rfl
  · refine (Val.res3 c _ _ _ _ _ _ _ _ r0 r1 r2 r3 r4 s0 s1 s2 s3 s4 s5 s6 s7 s8 s9 s10 s11 s12 s13).trans ?_
    rw [e2]; rfl
  · refine (Val.res4 c _ _ _ _ _ _ _ _ r0 r1 r2 r3 r4 s0 s1 s2 s3 s4 s5 s6 s7 s8 s9 s10 s11 s12 s13).trans ?_
    rw [e2]; rfl
end

theorem algebraic [hP : Cert.Pre_finite_token.Facts] :
    Cert.algebraic_KernelIdeal_ReferenceIdeal_pre_finite_token (hKernelIdeal := Cert.KernelIdeal.Gen.facts) (hReferenceIdeal := Cert.ReferenceIdeal.Gen.facts) := by
  intro m g m' g' hm hargs
  have t := Cert.ReferenceIdeal.Value.point
  refine ⟨fun c => fun y : S4x1x64x64.Idx => attnV m c (y 0) ⟨(y 2).val / 8, by have h2 : (y 2).val < 64 := (y 2).isLt; omega⟩ ⟨(y 2).val % 8, by omega⟩ (y 3), fun c => fun y : S4x1x8x64.Idx => Spec.codeK (Spec.peak fun d => argK m c (ix4 (y 0) 0 (y 2) d)) (argK m c (ix4 (y 0) 0 (y 2) (y 3))),
    fun c => fun y : S4x1x8.Idx => Spec.scaleK (Spec.peak fun d => argK m c (ix4 (y 0) 0 (y 2) d)),
    fun c => fun y : S4x1x8x64.Idx => Spec.codeK (Spec.peak fun d => argV m c (ix4 (y 0) 0 (y 2) d)) (argV m c (ix4 (y 0) 0 (y 2) (y 3))),
    fun c => fun y : S4x1x8.Idx => Spec.scaleK (Spec.peak fun d => argV m c (ix4 (y 0) 0 (y 2) d)), ?_, ?_⟩
  · refine (θ_run Cert.KernelIdeal.defs _ _).mono (fun r h c => ?_) (Cert.KernelIdeal.Body.run_main (F := Ideal) m g)
    obtain ⟨⟨a0, a1, a2, a3, a4, a5, a6, a7⟩, R, hR, q0, q1, q2, q3, q4⟩ := h.1 c
    obtain ⟨k1, k2, k3, k4⟩ := ker m c R hR
    exact ⟨by rw [q0, ker0 m hm c R hR], by rw [q1, k1], by rw [q2, k2], by rw [q3, k3], by rw [q4, k4],
      a0, a1, a2, a3, a4, a5, a6, a7⟩
  · refine (θ_run Cert.ReferenceIdeal.defs _ _).mono (fun r h c => ?_) (Cert.ReferenceIdeal.Value.run_blocks (F := Ideal) m' g')
    obtain ⟨q0, q1, q2, q3, q4, a0, a1, a2, a3, a4, a5, a6, a7⟩ := h c
    obtain ⟨e0, e1, e2, e3, e4, e5, e6, e7⟩ := hargs c
    refine ⟨funext fun i => ?_, funext fun i => ?_, funext fun i => ?_, funext fun i => ?_, funext fun i => ?_, a0, a1, a2, a3, a4, a5, a6, a7⟩
    · have h2 : (i 2).val < 64 := (i 2).isLt
      rw [q0]
      refine (congrArg _ (idx64 i h2)).trans ((Cert.ReferenceIdeal.Value.ref8 m' c t (i 0) ⟨(i 2).val / 8, by omega⟩ ⟨(i 2).val % 8, by omega⟩ (i 3)).trans ?_)
      rw [e0, e1, e2, e3, e4, e5, e6, e7]
      rfl
    · rw [q1, idx4 i]
      refine (Cert.ReferenceIdeal.Value.ref9 m' c t (i 0) (i 2) (i 3)).trans ?_
      rw [e1]
      exact (Spec.code_eq _ _ (boundK m hm c (i 0) (i 2)).1 (boundK m hm c (i 0) (i 2)).2).symm
    · rw [q2, idx3 i]
      refine (Cert.ReferenceIdeal.Value.ref10 m' c t (i 0) (i 2)).trans ?_
      rw [e1]
      exact (Spec.scale_eq _ (boundK m hm c (i 0) (i 2)).1 (boundK m hm c (i 0) (i 2)).2).symm
    · rw [q3, idx4 i]
      refine (Cert.ReferenceIdeal.Value.ref11 m' c t (i 0) (i 2) (i 3)).trans ?_
      rw [e2]
      exact (Spec.code_eq _ _ (boundV m hm c (i 0) (i 2)).1 (boundV m hm c (i 0) (i 2)).2).symm
    · rw [q4, idx3 i]
      refine (Cert.ReferenceIdeal.Value.ref12 m' c t (i 0) (i 2)).trans ?_
      rw [e2]
      exact (Spec.scale_eq _ (boundV m hm c (i 0) (i 2)).1 (boundV m hm c (i 0) (i 2)).2).symm

end Cert.Proof

end
-- ==== Proof.lean ====
/-
  The claims, assembled: the kernel's frames from `Body.quiescent`, the reference's from its generated frame, the values from `algebraic`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.RunK
public import proofs.«01_k».proof.Proof.RunI
public import proofs.«01_k».proof.Proof.Codes
public import Idealize.ShloMosaic.Adequacy
public import Idealize.ShloMosaic.Init

@[expose] public section

noncomputable section

namespace Cert.Proof

open Idealize.ShloMosaic Idealize.SL.Sem

theorem preserves : Cert.preserves_Kernel_KernelIdeal :=
  ⟨IdealRules.named_const.statement Cert.KernelIdeal.κ "scale_over_softcap" .f32 0x3B23D70A#32 ((1 / 400 : ℝ) : EReal) rfl,
    IdealRules.named_const.statement Cert.KernelIdeal.κ "softcap_log2e" .f32 0x429044FE#32 ((50 * (Real.log 2)⁻¹ : ℝ) : EReal) rfl⟩

theorem pre_facts : Cert.Pre_finite_token.Facts := ⟨by decide⟩

theorem claim : Cert.Claim := ⟨Cert.Kernel.Gen.facts, Cert.KernelIdeal.Gen.facts, Cert.ReferenceIdeal.Gen.facts, pre_facts,
  fun m g _ => Cert.Kernel.Body.quiescent m g, fun m g _ => Cert.KernelIdeal.Body.quiescent m g, fun m g _ => Cert.KernelIdeal.Body.quiescent m g,
  fun m g _ => Cert.ReferenceIdeal.Gen.frame m g, fun m g _ => Cert.ReferenceIdeal.Gen.frame m g, preserves, algebraic (hP := pre_facts)⟩

end Cert.Proof

end
